-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_448" .f32 0x3B124925#32 ((448⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "qk_log2e" .f32 0x3E38AA3B#32 ((8⁻¹ * (Real.log 2)⁻¹ : ℝ) : EReal)
  ∧ IdealRules.named_const.Statement Cert.KernelIdeal.κ "log2_448" .f32 0x410CEAED#32 (((Real.log 448) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2048 : Shape := ⟨3, ![8, 4096, 2048]⟩
abbrev S8x8x4096x64 : Shape := ⟨4, ![8, 8, 4096, 64]⟩
abbrev S8x8x4096 : Shape := ⟨3, ![8, 8, 4096]⟩
abbrev S8x8x32x64x128 : Shape := ⟨5, ![8, 8, 32, 64, 128]⟩
abbrev S8x1x512 : Shape := ⟨3, ![8, 1, 512]⟩
abbrev S8x32x4096 : Shape := ⟨3, ![8, 32, 4096]⟩
abbrev S1x512x2048 : Shape := ⟨3, ![1, 512, 2048]⟩
abbrev S1x8x4096x64 : Shape := ⟨4, ![1, 8, 4096, 64]⟩
abbrev S1x8x4096 : Shape := ⟨3, ![1, 8, 4096]⟩
abbrev S1x8x32x64x128 : Shape := ⟨5, ![1, 8, 32, 64, 128]⟩
abbrev S1x1x512 : Shape := ⟨3, ![1, 1, 512]⟩
abbrev S1x32x512 : Shape := ⟨3, ![1, 32, 512]⟩
abbrev S8x4096x128 : Shape := ⟨3, ![8, 4096, 128]⟩
abbrev S8x64x256 : Shape := ⟨3, ![8, 64, 256]⟩
abbrev S8x128x256 : Shape := ⟨3, ![8, 128, 256]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x1x64 : Shape := ⟨3, ![1, 1, 64]⟩
abbrev S1x64 : Shape := ⟨2, ![1, 64]⟩
abbrev S256x64 : Shape := ⟨2, ![256, 64]⟩
abbrev S64x256 : Shape := ⟨2, ![64, 256]⟩
abbrev S1x64x256 : Shape := ⟨3, ![1, 64, 256]⟩
abbrev S128x256 : Shape := ⟨2, ![128, 256]⟩
abbrev S1x128x256 : Shape := ⟨3, ![1, 128, 256]⟩
abbrev S256x128 : Shape := ⟨2, ![256, 128]⟩
abbrev S4x64x128 : Shape := ⟨3, ![4, 64, 128]⟩
abbrev S4x128 : Shape := ⟨2, ![4, 128]⟩
abbrev S1x4x128 : Shape := ⟨3, ![1, 4, 128]⟩
abbrev S4x1x128 : Shape := ⟨3, ![4, 1, 128]⟩
abbrev S1x64x128 : Shape := ⟨3, ![1, 64, 128]⟩
abbrev S64x128 : Shape := ⟨2, ![64, 128]⟩
abbrev S1x256 : Shape := ⟨2, ![1, 256]⟩
abbrev S1x1x128x64 : Shape := ⟨4, ![1, 1, 128, 64]⟩
abbrev S128x64 : Shape := ⟨2, ![128, 64]⟩
abbrev S8x256 : Shape := ⟨2, ![8, 256]⟩
abbrev S16x8x256 : Shape := ⟨3, ![16, 8, 256]⟩
abbrev S256 : Shape := ⟨1, ![256]⟩
abbrev S1x1x1x64x128 : Shape := ⟨5, ![1, 1, 1, 64, 128]⟩

abbrev nBuf : Space → Nat
  | .hbm => 8
  | .vmem => 19
  | .smem => 0
  | _ => 0

abbrev bufTy : (tb : Table) → Fin (tcTables nBuf tb) → BufTy
  | .hbm, ⟨0, _⟩ => ⟨S8x4096x2048, .bf16⟩
  | .hbm, ⟨1, _⟩ => ⟨S8x8x4096x64, .fp8e4m3⟩
  | .hbm, ⟨2, _⟩ => ⟨S8x8x4096, .f32⟩
  | .hbm, ⟨3, _⟩ => ⟨S8x8x32x64x128, .fp8e4m3⟩
  | .hbm, ⟨4, _⟩ => ⟨S8x1x512, .f32⟩
  | .hbm, ⟨5, _⟩ => ⟨S8x4096x2048, .bf16⟩
  | .hbm, ⟨6, _⟩ => ⟨S8x4096x2048, .fp8e4m3⟩
  | .hbm, ⟨7, _⟩ => ⟨S8x32x4096, .f32⟩
  | .local _ .vmem, ⟨0, _⟩ => ⟨S1x512x2048, .bf16⟩
  | .local _ .vmem, ⟨1, _⟩ => ⟨S1x512x2048, .bf16⟩
  | .local _ .vmem, ⟨2, _⟩ => ⟨S1x8x4096x64, .fp8e4m3⟩
  | .local _ .vmem, ⟨3, _⟩ => ⟨S1x8x4096x64, .fp8e4m3⟩
  | .local _ .vmem, ⟨4, _⟩ => ⟨S1x8x4096, .f32⟩
  | .local _ .vmem, ⟨5, _⟩ => ⟨S1x8x4096, .f32⟩
  | .local _ .vmem, ⟨6, _⟩ => ⟨S1x8x32x64x128, .fp8e4m3⟩
  | .local _ .vmem, ⟨7, _⟩ => ⟨S1x8x32x64x128, .fp8e4m3⟩
  | .local _ .vmem, ⟨8, _⟩ => ⟨S1x1x512, .f32⟩
  | .local _ .vmem, ⟨9, _⟩ => ⟨S1x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .fp8e4m3⟩
  | .local _ .vmem, ⟨13, _⟩ => ⟨S1x512x2048, .fp8e4m3⟩
  | .local _ .vmem, ⟨14, _⟩ => ⟨S1x32x512, .f32⟩
  | .local _ .vmem, ⟨15, _⟩ => ⟨S1x32x512, .f32⟩
  | .local _ .vmem, ⟨16, _⟩ => ⟨S8x4096x128, .f32⟩
  | .local _ .vmem, ⟨17, _⟩ => ⟨S8x64x256, .f32⟩
  | .local _ .vmem, ⟨18, _⟩ => ⟨S8x128x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k0_off1 (k0_t1 : Fin k0_t1_loop.trips) : Fin 3 → Nat :=
  let c0 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v18 : Index := Scalar.indexCast v9
  let c0_8 : Index := 0#32
  ![0, v18.toNat, 0]
def k0_off2 (k0_t1 : Fin k0_t1_loop.trips) : Fin 3 → Nat :=
  let c0_15 : Index := 0#32
  let c0_16 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v42 : Index := Scalar.indexCast v9
  ![0, 0, v42.toNat]
def k0_off3 (i : grid0.Coords) (k0_t1 : Fin k0_t1_loop.trips) : Fin 4 → Nat :=
  let c0_23 : Index := 0#32
  let c0_24 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_22 : BitVec 32 := 128#32
  let v71 : BitVec 32 := Scalar.muli v11 c128_i32_22
  let v72 : Index := Scalar.indexCast v71
  let c0_25 : Index := 0#32
  ![0, 0, v72.toNat, 0]
def k0_off4 (i : grid0.Coords) (k0_t1 : Fin k0_t1_loop.trips) : Fin 3 → Nat :=
  let c0_27 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_22 : BitVec 32 := 128#32
  let v71 : BitVec 32 := Scalar.muli v11 c128_i32_22
  let v76 : Index := Scalar.indexCast v71
  let c0_28 : Index := 0#32
  ![0, v76.toNat, 0]
def k0_off5 (i : grid0.Coords) (k0_t1 : Fin k0_t1_loop.trips) : Fin 4 → Nat :=
  let c0_30 : Index := 0#32
  let c0_31 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_29 : BitVec 32 := 128#32
  let v80 : BitVec 32 := Scalar.muli v13 c128_i32_29
  let v81 : Index := Scalar.indexCast v80
  let c0_32 : Index := 0#32
  ![0, 0, v81.toNat, 0]
def k0_off6 (i : grid0.Coords) (k0_t1 : Fin k0_t1_loop.trips) : Fin 3 → Nat :=
  let c0_34 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_29 : BitVec 32 := 128#32
  let v80 : BitVec 32 := Scalar.muli v13 c128_i32_29
  let v85 : Index := Scalar.indexCast v80
  let c0_35 : Index := 0#32
  ![0, v85.toNat, 0]
@[reducible] def k0_t2_loop (i : grid0.Coords) (k0_t1 : Fin k0_t1_loop.trips) : Scf.Loop 32 :=
  let c0_i32_45 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v107 : BitVec 32 := Scalar.subi v17 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_47 : BitVec 32 := 1#32
  ⟨c0_i32_45, v111, c1_i32_47⟩
def k0_off7 (i : grid0.Coords) (k0_t1 : Fin k0_t1_loop.trips) (k0_t2 : Fin (k0_t2_loop i k0_t1).trips) : Fin 4 → Nat :=
  let c0_987 : Index := 0#32
  let c0_988 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_45 : BitVec 32 := 0#32
  let c1_i32_47 : BitVec 32 := 1#32
  let arg14 : BitVec 32 := Scf.iv c0_i32_45 c1_i32_47 k0_t2
  let v1986 : BitVec 32 := Scalar.addi v106 arg14
  let c128_i32_986 : BitVec 32 := 128#32
  let v1987 : BitVec 32 := Scalar.muli v1986 c128_i32_986
  let v1988 : Index := Scalar.indexCast v1987
  let c0_989 : Index := 0#32
  ![0, 0, v1988.toNat, 0]
def k0_off8 (i : grid0.Coords) (k0_t1 : Fin k0_t1_loop.trips) (k0_t2 : Fin (k0_t2_loop i k0_t1).trips) : Fin 3 → Nat :=
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_45 : BitVec 32 := 0#32
  let c1_i32_47 : BitVec 32 := 1#32
  let arg14 : BitVec 32 := Scf.iv c0_i32_45 c1_i32_47 k0_t2
  let v1986 : BitVec 32 := Scalar.addi v106 arg14
  let c128_i32_986 : BitVec 32 := 128#32
  let v1987 : BitVec 32 := Scalar.muli v1986 c128_i32_986
  let v1992 : Index := Scalar.indexCast v1987
  let c0_992 : Index := 0#32
  ![0, v1992.toNat, 0]
def k0_off9 (i : grid0.Coords) (k0_t1 : Fin k0_t1_loop.trips) (k0_t2 : Fin (k0_t2_loop i k0_t1).trips) : Fin 3 → Nat :=
  let c1_i32_993 : BitVec 32 := 1#32
  let c0_i32_45 : BitVec 32 := 0#32
  let c1_i32_47 : BitVec 32 := 1#32
  let arg14 : BitVec 32 := Scf.iv c0_i32_45 c1_i32_47 k0_t2
  let v1997 : BitVec 32 := Scalar.addi c1_i32_993 arg14
  let v1998 : Index := Scalar.indexCast v1997
  let c0_994 : Index := 0#32
  let c0_995 : Index := 0#32
  ![v1998.toNat, 0, 0]
@[reducible] def k0_t3_loop (i : grid0.Coords) (k0_t1 : Fin k0_t1_loop.trips) : Scf.Loop 32 :=
  let c0_i32_45 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v107 : BitVec 32 := Scalar.subi v17 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let v108 : BitVec 32 := Scalar.addi c0_i32_45 v107
  let c1_i32_48 : BitVec 32 := 1#32
  ⟨v111, v108, c1_i32_48⟩
def k0_off10 (i : grid0.Coords) (k0_t1 : Fin k0_t1_loop.trips) (k0_t3 : Fin (k0_t3_loop i k0_t1).trips) : Fin 4 → Nat :=
  let c0_987 : Index := 0#32
  let c0_988 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_45 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v107 : BitVec 32 := Scalar.subi v17 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_48 : BitVec 32 := 1#32
  let arg14 : BitVec 32 := Scf.iv v111 c1_i32_48 k0_t3
  let v1986 : BitVec 32 := Scalar.addi v106 arg14
  let c128_i32_986 : BitVec 32 := 128#32
  let v1987 : BitVec 32 := Scalar.muli v1986 c128_i32_986
  let v1988 : Index := Scalar.indexCast v1987
  let c0_989 : Index := 0#32
  ![0, 0, v1988.toNat, 0]
def k0_off11 (i : grid0.Coords) (k0_t1 : Fin k0_t1_loop.trips) (k0_t3 : Fin (k0_t3_loop i k0_t1).trips) : Fin 3 → Nat :=
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_45 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v107 : BitVec 32 := Scalar.subi v17 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_48 : BitVec 32 := 1#32
  let arg14 : BitVec 32 := Scf.iv v111 c1_i32_48 k0_t3
  let v1986 : BitVec 32 := Scalar.addi v106 arg14
  let c128_i32_986 : BitVec 32 := 128#32
  let v1987 : BitVec 32 := Scalar.muli v1986 c128_i32_986
  let v1992 : Index := Scalar.indexCast v1987
  let c0_992 : Index := 0#32
  ![0, v1992.toNat, 0]
def k0_off12 (i : grid0.Coords) (k0_t1 : Fin k0_t1_loop.trips) (k0_t3 : Fin (k0_t3_loop i k0_t1).trips) : Fin 3 → Nat :=
  let c1_i32_993 : BitVec 32 := 1#32
  let c0_i32_45 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v107 : BitVec 32 := Scalar.subi v17 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_48 : BitVec 32 := 1#32
  let arg14 : BitVec 32 := Scf.iv v111 c1_i32_48 k0_t3
  let v1997 : BitVec 32 := Scalar.addi c1_i32_993 arg14
  let v1998 : Index := Scalar.indexCast v1997
  let c0_994 : Index := 0#32
  let c0_995 : Index := 0#32
  ![v1998.toNat, 0, 0]
def k0_off13 (i : grid0.Coords) (k0_t1 : Fin k0_t1_loop.trips) : Fin 5 → Nat :=
  let c0_57 : Index := 0#32
  let c0_58 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v134 : Index := Scalar.indexCast v11
  let c0_59 : Index := 0#32
  let c0_60 : Index := 0#32
  ![0, 0, v134.toNat, 0, 0]
def k0_off14 (i : grid0.Coords) (k0_t1 : Fin k0_t1_loop.trips) : Fin 5 → Nat :=
  let c0_62 : Index := 0#32
  let c0_63 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v138 : Index := Scalar.indexCast v13
  let c0_64 : Index := 0#32
  let c0_65 : Index := 0#32
  ![0, 0, v138.toNat, 0, 0]
@[reducible] def k0_t4_loop (i : grid0.Coords) (k0_t1 : Fin k0_t1_loop.trips) : Scf.Loop 32 :=
  let c0_i32_67 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v143 : BitVec 32 := Scalar.subi v17 c0_i32_67
  let c1_i32_68 : BitVec 32 := 1#32
  let v145 : BitVec 32 := Scalar.divsi v143 c1_i32_68
  let v146 : BitVec 32 := Scalar.muli v145 c1_i32_68
  let v147 : BitVec 32 := Scalar.addi c0_i32_67 v146
  let c1_i32_69 : BitVec 32 := 1#32
  ⟨c0_i32_67, v147, c1_i32_69⟩
def k0_off15 (i : grid0.Coords) (k0_t1 : Fin k0_t1_loop.trips) (k0_t4 : Fin (k0_t4_loop i k0_t1).trips) : Fin 3 → Nat :=
  let c1_i32_986 : BitVec 32 := 1#32
  let c0_i32_67 : BitVec 32 := 0#32
  let c1_i32_69 : BitVec 32 := 1#32
  let arg14 : BitVec 32 := Scf.iv c0_i32_67 c1_i32_69 k0_t4
  let v1986 : BitVec 32 := Scalar.addi c1_i32_986 arg14
  let v1987 : Index := Scalar.indexCast v1986
  let c0_987 : Index := 0#32
  let c0_988 : Index := 0#32
  ![v1987.toNat, 0, 0]
def k0_off16 (i : grid0.Coords) (k0_t1 : Fin k0_t1_loop.trips) (k0_t4 : Fin (k0_t4_loop i k0_t1).trips) : Fin 5 → Nat :=
  let c0_990 : Index := 0#32
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_67 : BitVec 32 := 0#32
  let c1_i32_69 : BitVec 32 := 1#32
  let arg14 : BitVec 32 := Scf.iv c0_i32_67 c1_i32_69 k0_t4
  let v1998 : BitVec 32 := Scalar.addi v106 arg14
  let v1999 : Index := Scalar.indexCast v1998
  let c0_992 : Index := 0#32
  let c0_993 : Index := 0#32
  ![0, 0, v1999.toNat, 0, 0]
@[reducible] def k0_t5_loop (i : grid0.Coords) (k0_t1 : Fin k0_t1_loop.trips) : Scf.Loop 32 :=
  let c0_i32_67 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v143 : BitVec 32 := Scalar.subi v17 c0_i32_67
  let c1_i32_68 : BitVec 32 := 1#32
  let v145 : BitVec 32 := Scalar.divsi v143 c1_i32_68
  let v146 : BitVec 32 := Scalar.muli v145 c1_i32_68
  let v147 : BitVec 32 := Scalar.addi c0_i32_67 v146
  let v144 : BitVec 32 := Scalar.addi c0_i32_67 v143
  let c1_i32_70 : BitVec 32 := 1#32
  ⟨v147, v144, c1_i32_70⟩
def k0_off17 (i : grid0.Coords) (k0_t1 : Fin k0_t1_loop.trips) (k0_t5 : Fin (k0_t5_loop i k0_t1).trips) : Fin 3 → Nat :=
  let c1_i32_986 : BitVec 32 := 1#32
  let c0_i32_67 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v143 : BitVec 32 := Scalar.subi v17 c0_i32_67
  let c1_i32_68 : BitVec 32 := 1#32
  let v145 : BitVec 32 := Scalar.divsi v143 c1_i32_68
  let v146 : BitVec 32 := Scalar.muli v145 c1_i32_68
  let v147 : BitVec 32 := Scalar.addi c0_i32_67 v146
  let c1_i32_70 : BitVec 32 := 1#32
  let arg14 : BitVec 32 := Scf.iv v147 c1_i32_70 k0_t5
  let v1986 : BitVec 32 := Scalar.addi c1_i32_986 arg14
  let v1987 : Index := Scalar.indexCast v1986
  let c0_987 : Index := 0#32
  let c0_988 : Index := 0#32
  ![v1987.toNat, 0, 0]
def k0_off18 (i : grid0.Coords) (k0_t1 : Fin k0_t1_loop.trips) (k0_t5 : Fin (k0_t5_loop i k0_t1).trips) : Fin 5 → Nat :=
  let c0_990 : Index := 0#32
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_43 : BitVec 32 := 8#32
  let v104 : BitVec 1 := Scalar.cmpi .sge v11 c8_i32_43
  let c8_i32 : BitVec 32 := 8#32
  let v12 : BitVec 32 := Scalar.subi v11 c8_i32
  let c0_i32_4 : BitVec 32 := 0#32
  let v13 : BitVec 32 := Scalar.maxsi v12 c0_i32_4
  let c1_i32_44 : BitVec 32 := 1#32
  let v105 : BitVec 32 := Scalar.addi v13 c1_i32_44
  let v106 : BitVec 32 := Scalar.select v104 v105 v13
  let c0_i32_67 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v143 : BitVec 32 := Scalar.subi v17 c0_i32_67
  let c1_i32_68 : BitVec 32 := 1#32
  let v145 : BitVec 32 := Scalar.divsi v143 c1_i32_68
  let v146 : BitVec 32 := Scalar.muli v145 c1_i32_68
  let v147 : BitVec 32 := Scalar.addi c0_i32_67 v146
  let c1_i32_70 : BitVec 32 := 1#32
  let arg14 : BitVec 32 := Scf.iv v147 c1_i32_70 k0_t5
  let v1998 : BitVec 32 := Scalar.addi v106 arg14
  let v1999 : Index := Scalar.indexCast v1998
  let c0_992 : Index := 0#32
  let c0_993 : Index := 0#32
  ![0, 0, v1999.toNat, 0, 0]
@[reducible] def k0_t6_loop (i : grid0.Coords) (k0_t1 : Fin k0_t1_loop.trips) : Scf.Loop 32 :=
  let c0_i32_99 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v205 : BitVec 32 := Scalar.subi v17 c0_i32_99
  let c1_i32_100 : BitVec 32 := 1#32
  let v207 : BitVec 32 := Scalar.divsi v205 c1_i32_100
  let v208 : BitVec 32 := Scalar.muli v207 c1_i32_100
  let v209 : BitVec 32 := Scalar.addi c0_i32_99 v208
  let c1_i32_101 : BitVec 32 := 1#32
  ⟨c0_i32_99, v209, c1_i32_101⟩
def k0_off19 (i : grid0.Coords) (k0_t1 : Fin k0_t1_loop.trips) (k0_t6 : Fin (k0_t6_loop i k0_t1).trips) : Fin 4 → Nat :=
  let c0_987 : Index := 0#32
  let c0_988 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_99 : BitVec 32 := 0#32
  let c1_i32_101 : BitVec 32 := 1#32
  let arg14 : BitVec 32 := Scf.iv c0_i32_99 c1_i32_101 k0_t6
  let v1986 : BitVec 32 := Scalar.addi v204 arg14
  let c128_i32_986 : BitVec 32 := 128#32
  let v1987 : BitVec 32 := Scalar.muli v1986 c128_i32_986
  let v1988 : Index := Scalar.indexCast v1987
  let c0_989 : Index := 0#32
  ![0, 0, v1988.toNat, 0]
def k0_off20 (i : grid0.Coords) (k0_t1 : Fin k0_t1_loop.trips) (k0_t6 : Fin (k0_t6_loop i k0_t1).trips) : Fin 3 → Nat :=
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_99 : BitVec 32 := 0#32
  let c1_i32_101 : BitVec 32 := 1#32
  let arg14 : BitVec 32 := Scf.iv c0_i32_99 c1_i32_101 k0_t6
  let v1986 : BitVec 32 := Scalar.addi v204 arg14
  let c128_i32_986 : BitVec 32 := 128#32
  let v1987 : BitVec 32 := Scalar.muli v1986 c128_i32_986
  let v1992 : Index := Scalar.indexCast v1987
  let c0_992 : Index := 0#32
  ![0, v1992.toNat, 0]
def k0_off21 (i : grid0.Coords) (k0_t1 : Fin k0_t1_loop.trips) (k0_t6 : Fin (k0_t6_loop i k0_t1).trips) : Fin 3 → Nat :=
  let c1_i32_993 : BitVec 32 := 1#32
  let c0_i32_99 : BitVec 32 := 0#32
  let c1_i32_101 : BitVec 32 := 1#32
  let arg14 : BitVec 32 := Scf.iv c0_i32_99 c1_i32_101 k0_t6
  let v1997 : BitVec 32 := Scalar.addi c1_i32_993 arg14
  let v1998 : Index := Scalar.indexCast v1997
  let c0_994 : Index := 0#32
  let c0_995 : Index := 0#32
  ![v1998.toNat, 0, 0]
@[reducible] def k0_t7_loop (i : grid0.Coords) (k0_t1 : Fin k0_t1_loop.trips) : Scf.Loop 32 :=
  let c0_i32_99 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v205 : BitVec 32 := Scalar.subi v17 c0_i32_99
  let c1_i32_100 : BitVec 32 := 1#32
  let v207 : BitVec 32 := Scalar.divsi v205 c1_i32_100
  let v208 : BitVec 32 := Scalar.muli v207 c1_i32_100
  let v209 : BitVec 32 := Scalar.addi c0_i32_99 v208
  let v206 : BitVec 32 := Scalar.addi c0_i32_99 v205
  let c1_i32_102 : BitVec 32 := 1#32
  ⟨v209, v206, c1_i32_102⟩
def k0_off22 (i : grid0.Coords) (k0_t1 : Fin k0_t1_loop.trips) (k0_t7 : Fin (k0_t7_loop i k0_t1).trips) : Fin 4 → Nat :=
  let c0_987 : Index := 0#32
  let c0_988 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_99 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v205 : BitVec 32 := Scalar.subi v17 c0_i32_99
  let c1_i32_100 : BitVec 32 := 1#32
  let v207 : BitVec 32 := Scalar.divsi v205 c1_i32_100
  let v208 : BitVec 32 := Scalar.muli v207 c1_i32_100
  let v209 : BitVec 32 := Scalar.addi c0_i32_99 v208
  let c1_i32_102 : BitVec 32 := 1#32
  let arg14 : BitVec 32 := Scf.iv v209 c1_i32_102 k0_t7
  let v1986 : BitVec 32 := Scalar.addi v204 arg14
  let c128_i32_986 : BitVec 32 := 128#32
  let v1987 : BitVec 32 := Scalar.muli v1986 c128_i32_986
  let v1988 : Index := Scalar.indexCast v1987
  let c0_989 : Index := 0#32
  ![0, 0, v1988.toNat, 0]
def k0_off23 (i : grid0.Coords) (k0_t1 : Fin k0_t1_loop.trips) (k0_t7 : Fin (k0_t7_loop i k0_t1).trips) : Fin 3 → Nat :=
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_99 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v205 : BitVec 32 := Scalar.subi v17 c0_i32_99
  let c1_i32_100 : BitVec 32 := 1#32
  let v207 : BitVec 32 := Scalar.divsi v205 c1_i32_100
  let v208 : BitVec 32 := Scalar.muli v207 c1_i32_100
  let v209 : BitVec 32 := Scalar.addi c0_i32_99 v208
  let c1_i32_102 : BitVec 32 := 1#32
  let arg14 : BitVec 32 := Scf.iv v209 c1_i32_102 k0_t7
  let v1986 : BitVec 32 := Scalar.addi v204 arg14
  let c128_i32_986 : BitVec 32 := 128#32
  let v1987 : BitVec 32 := Scalar.muli v1986 c128_i32_986
  let v1992 : Index := Scalar.indexCast v1987
  let c0_992 : Index := 0#32
  ![0, v1992.toNat, 0]
def k0_off24 (i : grid0.Coords) (k0_t1 : Fin k0_t1_loop.trips) (k0_t7 : Fin (k0_t7_loop i k0_t1).trips) : Fin 3 → Nat :=
  let c1_i32_993 : BitVec 32 := 1#32
  let c0_i32_99 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v205 : BitVec 32 := Scalar.subi v17 c0_i32_99
  let c1_i32_100 : BitVec 32 := 1#32
  let v207 : BitVec 32 := Scalar.divsi v205 c1_i32_100
  let v208 : BitVec 32 := Scalar.muli v207 c1_i32_100
  let v209 : BitVec 32 := Scalar.addi c0_i32_99 v208
  let c1_i32_102 : BitVec 32 := 1#32
  let arg14 : BitVec 32 := Scf.iv v209 c1_i32_102 k0_t7
  let v1997 : BitVec 32 := Scalar.addi c1_i32_993 arg14
  let v1998 : Index := Scalar.indexCast v1997
  let c0_994 : Index := 0#32
  let c0_995 : Index := 0#32
  ![v1998.toNat, 0, 0]
@[reducible] def k0_t8_loop (i : grid0.Coords) (k0_t1 : Fin k0_t1_loop.trips) : Scf.Loop 32 :=
  let c0_i32_121 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v241 : BitVec 32 := Scalar.subi v17 c0_i32_121
  let c1_i32_122 : BitVec 32 := 1#32
  let v243 : BitVec 32 := Scalar.divsi v241 c1_i32_122
  let v244 : BitVec 32 := Scalar.muli v243 c1_i32_122
  let v245 : BitVec 32 := Scalar.addi c0_i32_121 v244
  let c1_i32_123 : BitVec 32 := 1#32
  ⟨c0_i32_121, v245, c1_i32_123⟩
def k0_off25 (i : grid0.Coords) (k0_t1 : Fin k0_t1_loop.trips) (k0_t8 : Fin (k0_t8_loop i k0_t1).trips) : Fin 3 → Nat :=
  let c1_i32_986 : BitVec 32 := 1#32
  let c0_i32_121 : BitVec 32 := 0#32
  let c1_i32_123 : BitVec 32 := 1#32
  let arg14 : BitVec 32 := Scf.iv c0_i32_121 c1_i32_123 k0_t8
  let v1986 : BitVec 32 := Scalar.addi c1_i32_986 arg14
  let v1987 : Index := Scalar.indexCast v1986
  let c0_987 : Index := 0#32
  let c0_988 : Index := 0#32
  ![v1987.toNat, 0, 0]
def k0_off26 (i : grid0.Coords) (k0_t1 : Fin k0_t1_loop.trips) (k0_t8 : Fin (k0_t8_loop i k0_t1).trips) : Fin 5 → Nat :=
  let c0_990 : Index := 0#32
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_121 : BitVec 32 := 0#32
  let c1_i32_123 : BitVec 32 := 1#32
  let arg14 : BitVec 32 := Scf.iv c0_i32_121 c1_i32_123 k0_t8
  let v1998 : BitVec 32 := Scalar.addi v204 arg14
  let v1999 : Index := Scalar.indexCast v1998
  let c0_992 : Index := 0#32
  let c0_993 : Index := 0#32
  ![0, 0, v1999.toNat, 0, 0]
@[reducible] def k0_t9_loop (i : grid0.Coords) (k0_t1 : Fin k0_t1_loop.trips) : Scf.Loop 32 :=
  let c0_i32_121 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v241 : BitVec 32 := Scalar.subi v17 c0_i32_121
  let c1_i32_122 : BitVec 32 := 1#32
  let v243 : BitVec 32 := Scalar.divsi v241 c1_i32_122
  let v244 : BitVec 32 := Scalar.muli v243 c1_i32_122
  let v245 : BitVec 32 := Scalar.addi c0_i32_121 v244
  let v242 : BitVec 32 := Scalar.addi c0_i32_121 v241
  let c1_i32_124 : BitVec 32 := 1#32
  ⟨v245, v242, c1_i32_124⟩
def k0_off27 (i : grid0.Coords) (k0_t1 : Fin k0_t1_loop.trips) (k0_t9 : Fin (k0_t9_loop i k0_t1).trips) : Fin 3 → Nat :=
  let c1_i32_986 : BitVec 32 := 1#32
  let c0_i32_121 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v241 : BitVec 32 := Scalar.subi v17 c0_i32_121
  let c1_i32_122 : BitVec 32 := 1#32
  let v243 : BitVec 32 := Scalar.divsi v241 c1_i32_122
  let v244 : BitVec 32 := Scalar.muli v243 c1_i32_122
  let v245 : BitVec 32 := Scalar.addi c0_i32_121 v244
  let c1_i32_124 : BitVec 32 := 1#32
  let arg14 : BitVec 32 := Scf.iv v245 c1_i32_124 k0_t9
  let v1986 : BitVec 32 := Scalar.addi c1_i32_986 arg14
  let v1987 : Index := Scalar.indexCast v1986
  let c0_987 : Index := 0#32
  let c0_988 : Index := 0#32
  ![v1987.toNat, 0, 0]
def k0_off28 (i : grid0.Coords) (k0_t1 : Fin k0_t1_loop.trips) (k0_t9 : Fin (k0_t9_loop i k0_t1).trips) : Fin 5 → Nat :=
  let c0_990 : Index := 0#32
  let c0_991 : Index := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_97 : BitVec 32 := 8#32
  let v202 : BitVec 1 := Scalar.cmpi .sge v11 c8_i32_97
  let c8_i32 : BitVec 32 := 8#32
  let v12 : BitVec 32 := Scalar.subi v11 c8_i32
  let c0_i32_4 : BitVec 32 := 0#32
  let v13 : BitVec 32 := Scalar.maxsi v12 c0_i32_4
  let c1_i32_98 : BitVec 32 := 1#32
  let v203 : BitVec 32 := Scalar.addi v13 c1_i32_98
  let v204 : BitVec 32 := Scalar.select v202 v203 v13
  let c0_i32_121 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v241 : BitVec 32 := Scalar.subi v17 c0_i32_121
  let c1_i32_122 : BitVec 32 := 1#32
  let v243 : BitVec 32 := Scalar.divsi v241 c1_i32_122
  let v244 : BitVec 32 := Scalar.muli v243 c1_i32_122
  let v245 : BitVec 32 := Scalar.addi c0_i32_121 v244
  let c1_i32_124 : BitVec 32 := 1#32
  let arg14 : BitVec 32 := Scf.iv v245 c1_i32_124 k0_t9
  let v1998 : BitVec 32 := Scalar.addi v204 arg14
  let v1999 : Index := Scalar.indexCast v1998
  let c0_992 : Index := 0#32
  let c0_993 : Index := 0#32
  ![0, 0, v1999.toNat, 0, 0]
def k0_off29 (k0_t1 : Fin k0_t1_loop.trips) : Fin 3 → Nat :=
  let c0_131 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v264 : Index := Scalar.indexCast v9
  let c256 : Index := 256#32
  ![0, v264.toNat, 256]
def k0_off30 (k0_t1 : Fin k0_t1_loop.trips) : Fin 3 → Nat :=
  let c0_139 : Index := 0#32
  let c4 : Index := 4#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v288 : Index := Scalar.indexCast v9
  ![0, 4, v288.toNat]
def k0_off31 (i : grid0.Coords) (k0_t1 : Fin k0_t1_loop.trips) : Fin 4 → Nat :=
  let c0_146 : Index := 0#32
  let c1 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_145 : BitVec 32 := 128#32
  let v317 : BitVec 32 := Scalar.muli v11 c128_i32_145
  let v318 : Index := Scalar.indexCast v317
  let c0_147 : Index := 0#32
  ![0, 1, v318.toNat, 0]
def k0_off32 (i : grid0.Coords) (k0_t1 : Fin k0_t1_loop.trips) : Fin 3 → Nat :=
  let c1_149 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_145 : BitVec 32 := 128#32
  let v317 : BitVec 32 := Scalar.muli v11 c128_i32_145
  let v322 : Index := Scalar.indexCast v317
  let c0_150 : Index := 0#32
  ![1, v322.toNat, 0]
def k0_off33 (i : grid0.Coords) (k0_t1 : Fin k0_t1_loop.trips) : Fin 4 → Nat :=
  let c0_152 : Index := 0#32
  let c1_153 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_151 : BitVec 32 := 128#32
  let v326 : BitVec 32 := Scalar.muli v13 c128_i32_151
  let v327 : Index := Scalar.indexCast v326
  let c0_154 : Index := 0#32
  ![0, 1, v327.toNat, 0]
def k0_off34 (i : grid0.Coords) (k0_t1 : Fin k0_t1_loop.trips) : Fin 3 → Nat :=
  let c1_156 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_151 : BitVec 32 := 128#32
  let v326 : BitVec 32 := Scalar.muli v13 c128_i32_151
  let v331 : Index := Scalar.indexCast v326
  let c0_157 : Index := 0#32
  ![1, v331.toNat, 0]
@[reducible] def k0_t10_loop (i : grid0.Coords) (k0_t1 : Fin k0_t1_loop.trips) : Scf.Loop 32 :=
  let c0_i32_167 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v353 : BitVec 32 := Scalar.subi v17 c0_i32_167
  let c1_i32_168 : BitVec 32 := 1#32
  let v355 : BitVec 32 := Scalar.divsi v353 c1_i32_168
  let v356 : BitVec 32 := Scalar.muli v355 c1_i32_168
  let v357 : BitVec 32 := Scalar.addi c0_i32_167 v356
  let c1_i32_169 : BitVec 32 := 1#32
  ⟨c0_i32_167, v357, c1_i32_169⟩
def k0_off35 (i : grid0.Coords) (k0_t1 : Fin k0_t1_loop.trips) (k0_t10 : Fin (k0_t10_loop i k0_t1).trips) : Fin 4 → Nat :=
  let c0_987 : Index := 0#32
  let c1_988 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_167 : BitVec 32 := 0#32
  let c1_i32_169 : BitVec 32 := 1#32
  let arg14 : BitVec 32 := Scf.iv c0_i32_167 c1_i32_169 k0_t10
  let v1986 : BitVec 32 := Scalar.addi v352 arg14
  let c128_i32_986 : BitVec 32 := 128#32
  let v1987 : BitVec 32 := Scalar.muli v1986 c128_i32_986
  let v1988 : Index := Scalar.indexCast v1987
  let c0_989 : Index := 0#32
  ![0, 1, v1988.toNat, 0]
def k0_off36 (i : grid0.Coords) (k0_t1 : Fin k0_t1_loop.trips) (k0_t10 : Fin (k0_t10_loop i k0_t1).trips) : Fin 3 → Nat :=
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_167 : BitVec 32 := 0#32
  let c1_i32_169 : BitVec 32 := 1#32
  let arg14 : BitVec 32 := Scf.iv c0_i32_167 c1_i32_169 k0_t10
  let v1986 : BitVec 32 := Scalar.addi v352 arg14
  let c128_i32_986 : BitVec 32 := 128#32
  let v1987 : BitVec 32 := Scalar.muli v1986 c128_i32_986
  let v1992 : Index := Scalar.indexCast v1987
  let c0_992 : Index := 0#32
  ![1, v1992.toNat, 0]
def k0_off37 (i : grid0.Coords) (k0_t1 : Fin k0_t1_loop.trips) (k0_t10 : Fin (k0_t10_loop i k0_t1).trips) : Fin 3 → Nat :=
  let c1_i32_993 : BitVec 32 := 1#32
  let c0_i32_167 : BitVec 32 := 0#32
  let c1_i32_169 : BitVec 32 := 1#32
  let arg14 : BitVec 32 := Scf.iv c0_i32_167 c1_i32_169 k0_t10
  let v1997 : BitVec 32 := Scalar.addi c1_i32_993 arg14
  let v1998 : Index := Scalar.indexCast v1997
  let c0_994 : Index := 0#32
  let c0_995 : Index := 0#32
  ![v1998.toNat, 0, 0]
@[reducible] def k0_t11_loop (i : grid0.Coords) (k0_t1 : Fin k0_t1_loop.trips) : Scf.Loop 32 :=
  let c0_i32_167 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v353 : BitVec 32 := Scalar.subi v17 c0_i32_167
  let c1_i32_168 : BitVec 32 := 1#32
  let v355 : BitVec 32 := Scalar.divsi v353 c1_i32_168
  let v356 : BitVec 32 := Scalar.muli v355 c1_i32_168
  let v357 : BitVec 32 := Scalar.addi c0_i32_167 v356
  let v354 : BitVec 32 := Scalar.addi c0_i32_167 v353
  let c1_i32_170 : BitVec 32 := 1#32
  ⟨v357, v354, c1_i32_170⟩
def k0_off38 (i : grid0.Coords) (k0_t1 : Fin k0_t1_loop.trips) (k0_t11 : Fin (k0_t11_loop i k0_t1).trips) : Fin 4 → Nat :=
  let c0_987 : Index := 0#32
  let c1_988 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_167 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v353 : BitVec 32 := Scalar.subi v17 c0_i32_167
  let c1_i32_168 : BitVec 32 := 1#32
  let v355 : BitVec 32 := Scalar.divsi v353 c1_i32_168
  let v356 : BitVec 32 := Scalar.muli v355 c1_i32_168
  let v357 : BitVec 32 := Scalar.addi c0_i32_167 v356
  let c1_i32_170 : BitVec 32 := 1#32
  let arg14 : BitVec 32 := Scf.iv v357 c1_i32_170 k0_t11
  let v1986 : BitVec 32 := Scalar.addi v352 arg14
  let c128_i32_986 : BitVec 32 := 128#32
  let v1987 : BitVec 32 := Scalar.muli v1986 c128_i32_986
  let v1988 : Index := Scalar.indexCast v1987
  let c0_989 : Index := 0#32
  ![0, 1, v1988.toNat, 0]
def k0_off39 (i : grid0.Coords) (k0_t1 : Fin k0_t1_loop.trips) (k0_t11 : Fin (k0_t11_loop i k0_t1).trips) : Fin 3 → Nat :=
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_167 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v353 : BitVec 32 := Scalar.subi v17 c0_i32_167
  let c1_i32_168 : BitVec 32 := 1#32
  let v355 : BitVec 32 := Scalar.divsi v353 c1_i32_168
  let v356 : BitVec 32 := Scalar.muli v355 c1_i32_168
  let v357 : BitVec 32 := Scalar.addi c0_i32_167 v356
  let c1_i32_170 : BitVec 32 := 1#32
  let arg14 : BitVec 32 := Scf.iv v357 c1_i32_170 k0_t11
  let v1986 : BitVec 32 := Scalar.addi v352 arg14
  let c128_i32_986 : BitVec 32 := 128#32
  let v1987 : BitVec 32 := Scalar.muli v1986 c128_i32_986
  let v1992 : Index := Scalar.indexCast v1987
  let c0_992 : Index := 0#32
  ![1, v1992.toNat, 0]
def k0_off40 (i : grid0.Coords) (k0_t1 : Fin k0_t1_loop.trips) (k0_t11 : Fin (k0_t11_loop i k0_t1).trips) : Fin 3 → Nat :=
  let c1_i32_993 : BitVec 32 := 1#32
  let c0_i32_167 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v353 : BitVec 32 := Scalar.subi v17 c0_i32_167
  let c1_i32_168 : BitVec 32 := 1#32
  let v355 : BitVec 32 := Scalar.divsi v353 c1_i32_168
  let v356 : BitVec 32 := Scalar.muli v355 c1_i32_168
  let v357 : BitVec 32 := Scalar.addi c0_i32_167 v356
  let c1_i32_170 : BitVec 32 := 1#32
  let arg14 : BitVec 32 := Scf.iv v357 c1_i32_170 k0_t11
  let v1997 : BitVec 32 := Scalar.addi c1_i32_993 arg14
  let v1998 : Index := Scalar.indexCast v1997
  let c0_994 : Index := 0#32
  let c0_995 : Index := 0#32
  ![v1998.toNat, 0, 0]
def k0_off41 (i : grid0.Coords) (k0_t1 : Fin k0_t1_loop.trips) : Fin 5 → Nat :=
  let c0_179 : Index := 0#32
  let c1_180 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v380 : Index := Scalar.indexCast v11
  let c0_181 : Index := 0#32
  let c0_182 : Index := 0#32
  ![0, 1, v380.toNat, 0, 0]
def k0_off42 (i : grid0.Coords) (k0_t1 : Fin k0_t1_loop.trips) : Fin 5 → Nat :=
  let c0_184 : Index := 0#32
  let c1_185 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v384 : Index := Scalar.indexCast v13
  let c0_186 : Index := 0#32
  let c0_187 : Index := 0#32
  ![0, 1, v384.toNat, 0, 0]
@[reducible] def k0_t12_loop (i : grid0.Coords) (k0_t1 : Fin k0_t1_loop.trips) : Scf.Loop 32 :=
  let c0_i32_189 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v389 : BitVec 32 := Scalar.subi v17 c0_i32_189
  let c1_i32_190 : BitVec 32 := 1#32
  let v391 : BitVec 32 := Scalar.divsi v389 c1_i32_190
  let v392 : BitVec 32 := Scalar.muli v391 c1_i32_190
  let v393 : BitVec 32 := Scalar.addi c0_i32_189 v392
  let c1_i32_191 : BitVec 32 := 1#32
  ⟨c0_i32_189, v393, c1_i32_191⟩
def k0_off43 (i : grid0.Coords) (k0_t1 : Fin k0_t1_loop.trips) (k0_t12 : Fin (k0_t12_loop i k0_t1).trips) : Fin 3 → Nat :=
  let c1_i32_986 : BitVec 32 := 1#32
  let c0_i32_189 : BitVec 32 := 0#32
  let c1_i32_191 : BitVec 32 := 1#32
  let arg14 : BitVec 32 := Scf.iv c0_i32_189 c1_i32_191 k0_t12
  let v1986 : BitVec 32 := Scalar.addi c1_i32_986 arg14
  let v1987 : Index := Scalar.indexCast v1986
  let c0_987 : Index := 0#32
  let c0_988 : Index := 0#32
  ![v1987.toNat, 0, 0]
def k0_off44 (i : grid0.Coords) (k0_t1 : Fin k0_t1_loop.trips) (k0_t12 : Fin (k0_t12_loop i k0_t1).trips) : Fin 5 → Nat :=
  let c0_990 : Index := 0#32
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_189 : BitVec 32 := 0#32
  let c1_i32_191 : BitVec 32 := 1#32
  let arg14 : BitVec 32 := Scf.iv c0_i32_189 c1_i32_191 k0_t12
  let v1998 : BitVec 32 := Scalar.addi v352 arg14
  let v1999 : Index := Scalar.indexCast v1998
  let c0_992 : Index := 0#32
  let c0_993 : Index := 0#32
  ![0, 1, v1999.toNat, 0, 0]
@[reducible] def k0_t13_loop (i : grid0.Coords) (k0_t1 : Fin k0_t1_loop.trips) : Scf.Loop 32 :=
  let c0_i32_189 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v389 : BitVec 32 := Scalar.subi v17 c0_i32_189
  let c1_i32_190 : BitVec 32 := 1#32
  let v391 : BitVec 32 := Scalar.divsi v389 c1_i32_190
  let v392 : BitVec 32 := Scalar.muli v391 c1_i32_190
  let v393 : BitVec 32 := Scalar.addi c0_i32_189 v392
  let v390 : BitVec 32 := Scalar.addi c0_i32_189 v389
  let c1_i32_192 : BitVec 32 := 1#32
  ⟨v393, v390, c1_i32_192⟩
def k0_off45 (i : grid0.Coords) (k0_t1 : Fin k0_t1_loop.trips) (k0_t13 : Fin (k0_t13_loop i k0_t1).trips) : Fin 3 → Nat :=
  let c1_i32_986 : BitVec 32 := 1#32
  let c0_i32_189 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v389 : BitVec 32 := Scalar.subi v17 c0_i32_189
  let c1_i32_190 : BitVec 32 := 1#32
  let v391 : BitVec 32 := Scalar.divsi v389 c1_i32_190
  let v392 : BitVec 32 := Scalar.muli v391 c1_i32_190
  let v393 : BitVec 32 := Scalar.addi c0_i32_189 v392
  let c1_i32_192 : BitVec 32 := 1#32
  let arg14 : BitVec 32 := Scf.iv v393 c1_i32_192 k0_t13
  let v1986 : BitVec 32 := Scalar.addi c1_i32_986 arg14
  let v1987 : Index := Scalar.indexCast v1986
  let c0_987 : Index := 0#32
  let c0_988 : Index := 0#32
  ![v1987.toNat, 0, 0]
def k0_off46 (i : grid0.Coords) (k0_t1 : Fin k0_t1_loop.trips) (k0_t13 : Fin (k0_t13_loop i k0_t1).trips) : Fin 5 → Nat :=
  let c0_990 : Index := 0#32
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_165 : BitVec 32 := 8#32
  let v350 : BitVec 1 := Scalar.cmpi .sge v11 c8_i32_165
  let c8_i32 : BitVec 32 := 8#32
  let v12 : BitVec 32 := Scalar.subi v11 c8_i32
  let c0_i32_4 : BitVec 32 := 0#32
  let v13 : BitVec 32 := Scalar.maxsi v12 c0_i32_4
  let c1_i32_166 : BitVec 32 := 1#32
  let v351 : BitVec 32 := Scalar.addi v13 c1_i32_166
  let v352 : BitVec 32 := Scalar.select v350 v351 v13
  let c0_i32_189 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v389 : BitVec 32 := Scalar.subi v17 c0_i32_189
  let c1_i32_190 : BitVec 32 := 1#32
  let v391 : BitVec 32 := Scalar.divsi v389 c1_i32_190
  let v392 : BitVec 32 := Scalar.muli v391 c1_i32_190
  let v393 : BitVec 32 := Scalar.addi c0_i32_189 v392
  let c1_i32_192 : BitVec 32 := 1#32
  let arg14 : BitVec 32 := Scf.iv v393 c1_i32_192 k0_t13
  let v1998 : BitVec 32 := Scalar.addi v352 arg14
  let v1999 : Index := Scalar.indexCast v1998
  let c0_992 : Index := 0#32
  let c0_993 : Index := 0#32
  ![0, 1, v1999.toNat, 0, 0]
@[reducible] def k0_t14_loop (i : grid0.Coords) (k0_t1 : Fin k0_t1_loop.trips) : Scf.Loop 32 :=
  let c0_i32_221 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v451 : BitVec 32 := Scalar.subi v17 c0_i32_221
  let c1_i32_222 : BitVec 32 := 1#32
  let v453 : BitVec 32 := Scalar.divsi v451 c1_i32_222
  let v454 : BitVec 32 := Scalar.muli v453 c1_i32_222
  let v455 : BitVec 32 := Scalar.addi c0_i32_221 v454
  let c1_i32_223 : BitVec 32 := 1#32
  ⟨c0_i32_221, v455, c1_i32_223⟩
def k0_off47 (i : grid0.Coords) (k0_t1 : Fin k0_t1_loop.trips) (k0_t14 : Fin (k0_t14_loop i k0_t1).trips) : Fin 4 → Nat :=
  let c0_987 : Index := 0#32
  let c1_988 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_221 : BitVec 32 := 0#32
  let c1_i32_223 : BitVec 32 := 1#32
  let arg14 : BitVec 32 := Scf.iv c0_i32_221 c1_i32_223 k0_t14
  let v1986 : BitVec 32 := Scalar.addi v450 arg14
  let c128_i32_986 : BitVec 32 := 128#32
  let v1987 : BitVec 32 := Scalar.muli v1986 c128_i32_986
  let v1988 : Index := Scalar.indexCast v1987
  let c0_989 : Index := 0#32
  ![0, 1, v1988.toNat, 0]
def k0_off48 (i : grid0.Coords) (k0_t1 : Fin k0_t1_loop.trips) (k0_t14 : Fin (k0_t14_loop i k0_t1).trips) : Fin 3 → Nat :=
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_221 : BitVec 32 := 0#32
  let c1_i32_223 : BitVec 32 := 1#32
  let arg14 : BitVec 32 := Scf.iv c0_i32_221 c1_i32_223 k0_t14
  let v1986 : BitVec 32 := Scalar.addi v450 arg14
  let c128_i32_986 : BitVec 32 := 128#32
  let v1987 : BitVec 32 := Scalar.muli v1986 c128_i32_986
  let v1992 : Index := Scalar.indexCast v1987
  let c0_992 : Index := 0#32
  ![1, v1992.toNat, 0]
def k0_off49 (i : grid0.Coords) (k0_t1 : Fin k0_t1_loop.trips) (k0_t14 : Fin (k0_t14_loop i k0_t1).trips) : Fin 3 → Nat :=
  let c1_i32_993 : BitVec 32 := 1#32
  let c0_i32_221 : BitVec 32 := 0#32
  let c1_i32_223 : BitVec 32 := 1#32
  let arg14 : BitVec 32 := Scf.iv c0_i32_221 c1_i32_223 k0_t14
  let v1997 : BitVec 32 := Scalar.addi c1_i32_993 arg14
  let v1998 : Index := Scalar.indexCast v1997
  let c0_994 : Index := 0#32
  let c0_995 : Index := 0#32
  ![v1998.toNat, 0, 0]
@[reducible] def k0_t15_loop (i : grid0.Coords) (k0_t1 : Fin k0_t1_loop.trips) : Scf.Loop 32 :=
  let c0_i32_221 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v451 : BitVec 32 := Scalar.subi v17 c0_i32_221
  let c1_i32_222 : BitVec 32 := 1#32
  let v453 : BitVec 32 := Scalar.divsi v451 c1_i32_222
  let v454 : BitVec 32 := Scalar.muli v453 c1_i32_222
  let v455 : BitVec 32 := Scalar.addi c0_i32_221 v454
  let v452 : BitVec 32 := Scalar.addi c0_i32_221 v451
  let c1_i32_224 : BitVec 32 := 1#32
  ⟨v455, v452, c1_i32_224⟩
def k0_off50 (i : grid0.Coords) (k0_t1 : Fin k0_t1_loop.trips) (k0_t15 : Fin (k0_t15_loop i k0_t1).trips) : Fin 4 → Nat :=
  let c0_987 : Index := 0#32
  let c1_988 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_221 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v451 : BitVec 32 := Scalar.subi v17 c0_i32_221
  let c1_i32_222 : BitVec 32 := 1#32
  let v453 : BitVec 32 := Scalar.divsi v451 c1_i32_222
  let v454 : BitVec 32 := Scalar.muli v453 c1_i32_222
  let v455 : BitVec 32 := Scalar.addi c0_i32_221 v454
  let c1_i32_224 : BitVec 32 := 1#32
  let arg14 : BitVec 32 := Scf.iv v455 c1_i32_224 k0_t15
  let v1986 : BitVec 32 := Scalar.addi v450 arg14
  let c128_i32_986 : BitVec 32 := 128#32
  let v1987 : BitVec 32 := Scalar.muli v1986 c128_i32_986
  let v1988 : Index := Scalar.indexCast v1987
  let c0_989 : Index := 0#32
  ![0, 1, v1988.toNat, 0]
def k0_off51 (i : grid0.Coords) (k0_t1 : Fin k0_t1_loop.trips) (k0_t15 : Fin (k0_t15_loop i k0_t1).trips) : Fin 3 → Nat :=
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_221 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v451 : BitVec 32 := Scalar.subi v17 c0_i32_221
  let c1_i32_222 : BitVec 32 := 1#32
  let v453 : BitVec 32 := Scalar.divsi v451 c1_i32_222
  let v454 : BitVec 32 := Scalar.muli v453 c1_i32_222
  let v455 : BitVec 32 := Scalar.addi c0_i32_221 v454
  let c1_i32_224 : BitVec 32 := 1#32
  let arg14 : BitVec 32 := Scf.iv v455 c1_i32_224 k0_t15
  let v1986 : BitVec 32 := Scalar.addi v450 arg14
  let c128_i32_986 : BitVec 32 := 128#32
  let v1987 : BitVec 32 := Scalar.muli v1986 c128_i32_986
  let v1992 : Index := Scalar.indexCast v1987
  let c0_992 : Index := 0#32
  ![1, v1992.toNat, 0]
def k0_off52 (i : grid0.Coords) (k0_t1 : Fin k0_t1_loop.trips) (k0_t15 : Fin (k0_t15_loop i k0_t1).trips) : Fin 3 → Nat :=
  let c1_i32_993 : BitVec 32 := 1#32
  let c0_i32_221 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v451 : BitVec 32 := Scalar.subi v17 c0_i32_221
  let c1_i32_222 : BitVec 32 := 1#32
  let v453 : BitVec 32 := Scalar.divsi v451 c1_i32_222
  let v454 : BitVec 32 := Scalar.muli v453 c1_i32_222
  let v455 : BitVec 32 := Scalar.addi c0_i32_221 v454
  let c1_i32_224 : BitVec 32 := 1#32
  let arg14 : BitVec 32 := Scf.iv v455 c1_i32_224 k0_t15
  let v1997 : BitVec 32 := Scalar.addi c1_i32_993 arg14
  let v1998 : Index := Scalar.indexCast v1997
  let c0_994 : Index := 0#32
  let c0_995 : Index := 0#32
  ![v1998.toNat, 0, 0]
@[reducible] def k0_t16_loop (i : grid0.Coords) (k0_t1 : Fin k0_t1_loop.trips) : Scf.Loop 32 :=
  let c0_i32_243 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v487 : BitVec 32 := Scalar.subi v17 c0_i32_243
  let c1_i32_244 : BitVec 32 := 1#32
  let v489 : BitVec 32 := Scalar.divsi v487 c1_i32_244
  let v490 : BitVec 32 := Scalar.muli v489 c1_i32_244
  let v491 : BitVec 32 := Scalar.addi c0_i32_243 v490
  let c1_i32_245 : BitVec 32 := 1#32
  ⟨c0_i32_243, v491, c1_i32_245⟩
def k0_off53 (i : grid0.Coords) (k0_t1 : Fin k0_t1_loop.trips) (k0_t16 : Fin (k0_t16_loop i k0_t1).trips) : Fin 3 → Nat :=
  let c1_i32_986 : BitVec 32 := 1#32
  let c0_i32_243 : BitVec 32 := 0#32
  let c1_i32_245 : BitVec 32 := 1#32
  let arg14 : BitVec 32 := Scf.iv c0_i32_243 c1_i32_245 k0_t16
  let v1986 : BitVec 32 := Scalar.addi c1_i32_986 arg14
  let v1987 : Index := Scalar.indexCast v1986
  let c0_987 : Index := 0#32
  let c0_988 : Index := 0#32
  ![v1987.toNat, 0, 0]
def k0_off54 (i : grid0.Coords) (k0_t1 : Fin k0_t1_loop.trips) (k0_t16 : Fin (k0_t16_loop i k0_t1).trips) : Fin 5 → Nat :=
  let c0_990 : Index := 0#32
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_243 : BitVec 32 := 0#32
  let c1_i32_245 : BitVec 32 := 1#32
  let arg14 : BitVec 32 := Scf.iv c0_i32_243 c1_i32_245 k0_t16
  let v1998 : BitVec 32 := Scalar.addi v450 arg14
  let v1999 : Index := Scalar.indexCast v1998
  let c0_992 : Index := 0#32
  let c0_993 : Index := 0#32
  ![0, 1, v1999.toNat, 0, 0]
@[reducible] def k0_t17_loop (i : grid0.Coords) (k0_t1 : Fin k0_t1_loop.trips) : Scf.Loop 32 :=
  let c0_i32_243 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v487 : BitVec 32 := Scalar.subi v17 c0_i32_243
  let c1_i32_244 : BitVec 32 := 1#32
  let v489 : BitVec 32 := Scalar.divsi v487 c1_i32_244
  let v490 : BitVec 32 := Scalar.muli v489 c1_i32_244
  let v491 : BitVec 32 := Scalar.addi c0_i32_243 v490
  let v488 : BitVec 32 := Scalar.addi c0_i32_243 v487
  let c1_i32_246 : BitVec 32 := 1#32
  ⟨v491, v488, c1_i32_246⟩
def k0_off55 (i : grid0.Coords) (k0_t1 : Fin k0_t1_loop.trips) (k0_t17 : Fin (k0_t17_loop i k0_t1).trips) : Fin 3 → Nat :=
  let c1_i32_986 : BitVec 32 := 1#32
  let c0_i32_243 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v487 : BitVec 32 := Scalar.subi v17 c0_i32_243
  let c1_i32_244 : BitVec 32 := 1#32
  let v489 : BitVec 32 := Scalar.divsi v487 c1_i32_244
  let v490 : BitVec 32 := Scalar.muli v489 c1_i32_244
  let v491 : BitVec 32 := Scalar.addi c0_i32_243 v490
  let c1_i32_246 : BitVec 32 := 1#32
  let arg14 : BitVec 32 := Scf.iv v491 c1_i32_246 k0_t17
  let v1986 : BitVec 32 := Scalar.addi c1_i32_986 arg14
  let v1987 : Index := Scalar.indexCast v1986
  let c0_987 : Index := 0#32
  let c0_988 : Index := 0#32
  ![v1987.toNat, 0, 0]
def k0_off56 (i : grid0.Coords) (k0_t1 : Fin k0_t1_loop.trips) (k0_t17 : Fin (k0_t17_loop i k0_t1).trips) : Fin 5 → Nat :=
  let c0_990 : Index := 0#32
  let c1_991 : Index := 1#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_219 : BitVec 32 := 8#32
  let v448 : BitVec 1 := Scalar.cmpi .sge v11 c8_i32_219
  let c8_i32 : BitVec 32 := 8#32
  let v12 : BitVec 32 := Scalar.subi v11 c8_i32
  let c0_i32_4 : BitVec 32 := 0#32
  let v13 : BitVec 32 := Scalar.maxsi v12 c0_i32_4
  let c1_i32_220 : BitVec 32 := 1#32
  let v449 : BitVec 32 := Scalar.addi v13 c1_i32_220
  let v450 : BitVec 32 := Scalar.select v448 v449 v13
  let c0_i32_243 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v487 : BitVec 32 := Scalar.subi v17 c0_i32_243
  let c1_i32_244 : BitVec 32 := 1#32
  let v489 : BitVec 32 := Scalar.divsi v487 c1_i32_244
  let v490 : BitVec 32 := Scalar.muli v489 c1_i32_244
  let v491 : BitVec 32 := Scalar.addi c0_i32_243 v490
  let c1_i32_246 : BitVec 32 := 1#32
  let arg14 : BitVec 32 := Scf.iv v491 c1_i32_246 k0_t17
  let v1998 : BitVec 32 := Scalar.addi v450 arg14
  let v1999 : Index := Scalar.indexCast v1998
  let c0_992 : Index := 0#32
  let c0_993 : Index := 0#32
  ![0, 1, v1999.toNat, 0, 0]
def k0_off57 (k0_t1 : Fin k0_t1_loop.trips) : Fin 3 → Nat :=
  let c0_253 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v510 : Index := Scalar.indexCast v9
  let c512 : Index := 512#32
  ![0, v510.toNat, 512]
def k0_off58 (k0_t1 : Fin k0_t1_loop.trips) : Fin 3 → Nat :=
  let c0_261 : Index := 0#32
  let c8 : Index := 8#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v534 : Index := Scalar.indexCast v9
  ![0, 8, v534.toNat]
def k0_off59 (i : grid0.Coords) (k0_t1 : Fin k0_t1_loop.trips) : Fin 4 → Nat :=
  let c0_268 : Index := 0#32
  let c2 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_267 : BitVec 32 := 128#32
  let v563 : BitVec 32 := Scalar.muli v11 c128_i32_267
  let v564 : Index := Scalar.indexCast v563
  let c0_269 : Index := 0#32
  ![0, 2, v564.toNat, 0]
def k0_off60 (i : grid0.Coords) (k0_t1 : Fin k0_t1_loop.trips) : Fin 3 → Nat :=
  let c2_271 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_267 : BitVec 32 := 128#32
  let v563 : BitVec 32 := Scalar.muli v11 c128_i32_267
  let v568 : Index := Scalar.indexCast v563
  let c0_272 : Index := 0#32
  ![2, v568.toNat, 0]
def k0_off61 (i : grid0.Coords) (k0_t1 : Fin k0_t1_loop.trips) : Fin 4 → Nat :=
  let c0_274 : Index := 0#32
  let c2_275 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_273 : BitVec 32 := 128#32
  let v572 : BitVec 32 := Scalar.muli v13 c128_i32_273
  let v573 : Index := Scalar.indexCast v572
  let c0_276 : Index := 0#32
  ![0, 2, v573.toNat, 0]
def k0_off62 (i : grid0.Coords) (k0_t1 : Fin k0_t1_loop.trips) : Fin 3 → Nat :=
  let c2_278 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_273 : BitVec 32 := 128#32
  let v572 : BitVec 32 := Scalar.muli v13 c128_i32_273
  let v577 : Index := Scalar.indexCast v572
  let c0_279 : Index := 0#32
  ![2, v577.toNat, 0]
@[reducible] def k0_t18_loop (i : grid0.Coords) (k0_t1 : Fin k0_t1_loop.trips) : Scf.Loop 32 :=
  let c0_i32_289 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v599 : BitVec 32 := Scalar.subi v17 c0_i32_289
  let c1_i32_290 : BitVec 32 := 1#32
  let v601 : BitVec 32 := Scalar.divsi v599 c1_i32_290
  let v602 : BitVec 32 := Scalar.muli v601 c1_i32_290
  let v603 : BitVec 32 := Scalar.addi c0_i32_289 v602
  let c1_i32_291 : BitVec 32 := 1#32
  ⟨c0_i32_289, v603, c1_i32_291⟩
def k0_off63 (i : grid0.Coords) (k0_t1 : Fin k0_t1_loop.trips) (k0_t18 : Fin (k0_t18_loop i k0_t1).trips) : Fin 4 → Nat :=
  let c0_987 : Index := 0#32
  let c2_988 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_289 : BitVec 32 := 0#32
  let c1_i32_291 : BitVec 32 := 1#32
  let arg14 : BitVec 32 := Scf.iv c0_i32_289 c1_i32_291 k0_t18
  let v1986 : BitVec 32 := Scalar.addi v598 arg14
  let c128_i32_986 : BitVec 32 := 128#32
  let v1987 : BitVec 32 := Scalar.muli v1986 c128_i32_986
  let v1988 : Index := Scalar.indexCast v1987
  let c0_989 : Index := 0#32
  ![0, 2, v1988.toNat, 0]
def k0_off64 (i : grid0.Coords) (k0_t1 : Fin k0_t1_loop.trips) (k0_t18 : Fin (k0_t18_loop i k0_t1).trips) : Fin 3 → Nat :=
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_289 : BitVec 32 := 0#32
  let c1_i32_291 : BitVec 32 := 1#32
  let arg14 : BitVec 32 := Scf.iv c0_i32_289 c1_i32_291 k0_t18
  let v1986 : BitVec 32 := Scalar.addi v598 arg14
  let c128_i32_986 : BitVec 32 := 128#32
  let v1987 : BitVec 32 := Scalar.muli v1986 c128_i32_986
  let v1992 : Index := Scalar.indexCast v1987
  let c0_992 : Index := 0#32
  ![2, v1992.toNat, 0]
def k0_off65 (i : grid0.Coords) (k0_t1 : Fin k0_t1_loop.trips) (k0_t18 : Fin (k0_t18_loop i k0_t1).trips) : Fin 3 → Nat :=
  let c1_i32_993 : BitVec 32 := 1#32
  let c0_i32_289 : BitVec 32 := 0#32
  let c1_i32_291 : BitVec 32 := 1#32
  let arg14 : BitVec 32 := Scf.iv c0_i32_289 c1_i32_291 k0_t18
  let v1997 : BitVec 32 := Scalar.addi c1_i32_993 arg14
  let v1998 : Index := Scalar.indexCast v1997
  let c0_994 : Index := 0#32
  let c0_995 : Index := 0#32
  ![v1998.toNat, 0, 0]
@[reducible] def k0_t19_loop (i : grid0.Coords) (k0_t1 : Fin k0_t1_loop.trips) : Scf.Loop 32 :=
  let c0_i32_289 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v599 : BitVec 32 := Scalar.subi v17 c0_i32_289
  let c1_i32_290 : BitVec 32 := 1#32
  let v601 : BitVec 32 := Scalar.divsi v599 c1_i32_290
  let v602 : BitVec 32 := Scalar.muli v601 c1_i32_290
  let v603 : BitVec 32 := Scalar.addi c0_i32_289 v602
  let v600 : BitVec 32 := Scalar.addi c0_i32_289 v599
  let c1_i32_292 : BitVec 32 := 1#32
  ⟨v603, v600, c1_i32_292⟩
def k0_off66 (i : grid0.Coords) (k0_t1 : Fin k0_t1_loop.trips) (k0_t19 : Fin (k0_t19_loop i k0_t1).trips) : Fin 4 → Nat :=
  let c0_987 : Index := 0#32
  let c2_988 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_289 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v599 : BitVec 32 := Scalar.subi v17 c0_i32_289
  let c1_i32_290 : BitVec 32 := 1#32
  let v601 : BitVec 32 := Scalar.divsi v599 c1_i32_290
  let v602 : BitVec 32 := Scalar.muli v601 c1_i32_290
  let v603 : BitVec 32 := Scalar.addi c0_i32_289 v602
  let c1_i32_292 : BitVec 32 := 1#32
  let arg14 : BitVec 32 := Scf.iv v603 c1_i32_292 k0_t19
  let v1986 : BitVec 32 := Scalar.addi v598 arg14
  let c128_i32_986 : BitVec 32 := 128#32
  let v1987 : BitVec 32 := Scalar.muli v1986 c128_i32_986
  let v1988 : Index := Scalar.indexCast v1987
  let c0_989 : Index := 0#32
  ![0, 2, v1988.toNat, 0]
def k0_off67 (i : grid0.Coords) (k0_t1 : Fin k0_t1_loop.trips) (k0_t19 : Fin (k0_t19_loop i k0_t1).trips) : Fin 3 → Nat :=
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_289 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v599 : BitVec 32 := Scalar.subi v17 c0_i32_289
  let c1_i32_290 : BitVec 32 := 1#32
  let v601 : BitVec 32 := Scalar.divsi v599 c1_i32_290
  let v602 : BitVec 32 := Scalar.muli v601 c1_i32_290
  let v603 : BitVec 32 := Scalar.addi c0_i32_289 v602
  let c1_i32_292 : BitVec 32 := 1#32
  let arg14 : BitVec 32 := Scf.iv v603 c1_i32_292 k0_t19
  let v1986 : BitVec 32 := Scalar.addi v598 arg14
  let c128_i32_986 : BitVec 32 := 128#32
  let v1987 : BitVec 32 := Scalar.muli v1986 c128_i32_986
  let v1992 : Index := Scalar.indexCast v1987
  let c0_992 : Index := 0#32
  ![2, v1992.toNat, 0]
def k0_off68 (i : grid0.Coords) (k0_t1 : Fin k0_t1_loop.trips) (k0_t19 : Fin (k0_t19_loop i k0_t1).trips) : Fin 3 → Nat :=
  let c1_i32_993 : BitVec 32 := 1#32
  let c0_i32_289 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v599 : BitVec 32 := Scalar.subi v17 c0_i32_289
  let c1_i32_290 : BitVec 32 := 1#32
  let v601 : BitVec 32 := Scalar.divsi v599 c1_i32_290
  let v602 : BitVec 32 := Scalar.muli v601 c1_i32_290
  let v603 : BitVec 32 := Scalar.addi c0_i32_289 v602
  let c1_i32_292 : BitVec 32 := 1#32
  let arg14 : BitVec 32 := Scf.iv v603 c1_i32_292 k0_t19
  let v1997 : BitVec 32 := Scalar.addi c1_i32_993 arg14
  let v1998 : Index := Scalar.indexCast v1997
  let c0_994 : Index := 0#32
  let c0_995 : Index := 0#32
  ![v1998.toNat, 0, 0]
def k0_off69 (i : grid0.Coords) (k0_t1 : Fin k0_t1_loop.trips) : Fin 5 → Nat :=
  let c0_301 : Index := 0#32
  let c2_302 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v626 : Index := Scalar.indexCast v11
  let c0_303 : Index := 0#32
  let c0_304 : Index := 0#32
  ![0, 2, v626.toNat, 0, 0]
def k0_off70 (i : grid0.Coords) (k0_t1 : Fin k0_t1_loop.trips) : Fin 5 → Nat :=
  let c0_306 : Index := 0#32
  let c2_307 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v630 : Index := Scalar.indexCast v13
  let c0_308 : Index := 0#32
  let c0_309 : Index := 0#32
  ![0, 2, v630.toNat, 0, 0]
@[reducible] def k0_t20_loop (i : grid0.Coords) (k0_t1 : Fin k0_t1_loop.trips) : Scf.Loop 32 :=
  let c0_i32_311 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v635 : BitVec 32 := Scalar.subi v17 c0_i32_311
  let c1_i32_312 : BitVec 32 := 1#32
  let v637 : BitVec 32 := Scalar.divsi v635 c1_i32_312
  let v638 : BitVec 32 := Scalar.muli v637 c1_i32_312
  let v639 : BitVec 32 := Scalar.addi c0_i32_311 v638
  let c1_i32_313 : BitVec 32 := 1#32
  ⟨c0_i32_311, v639, c1_i32_313⟩
def k0_off71 (i : grid0.Coords) (k0_t1 : Fin k0_t1_loop.trips) (k0_t20 : Fin (k0_t20_loop i k0_t1).trips) : Fin 3 → Nat :=
  let c1_i32_986 : BitVec 32 := 1#32
  let c0_i32_311 : BitVec 32 := 0#32
  let c1_i32_313 : BitVec 32 := 1#32
  let arg14 : BitVec 32 := Scf.iv c0_i32_311 c1_i32_313 k0_t20
  let v1986 : BitVec 32 := Scalar.addi c1_i32_986 arg14
  let v1987 : Index := Scalar.indexCast v1986
  let c0_987 : Index := 0#32
  let c0_988 : Index := 0#32
  ![v1987.toNat, 0, 0]
def k0_off72 (i : grid0.Coords) (k0_t1 : Fin k0_t1_loop.trips) (k0_t20 : Fin (k0_t20_loop i k0_t1).trips) : Fin 5 → Nat :=
  let c0_990 : Index := 0#32
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_311 : BitVec 32 := 0#32
  let c1_i32_313 : BitVec 32 := 1#32
  let arg14 : BitVec 32 := Scf.iv c0_i32_311 c1_i32_313 k0_t20
  let v1998 : BitVec 32 := Scalar.addi v598 arg14
  let v1999 : Index := Scalar.indexCast v1998
  let c0_992 : Index := 0#32
  let c0_993 : Index := 0#32
  ![0, 2, v1999.toNat, 0, 0]
@[reducible] def k0_t21_loop (i : grid0.Coords) (k0_t1 : Fin k0_t1_loop.trips) : Scf.Loop 32 :=
  let c0_i32_311 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v635 : BitVec 32 := Scalar.subi v17 c0_i32_311
  let c1_i32_312 : BitVec 32 := 1#32
  let v637 : BitVec 32 := Scalar.divsi v635 c1_i32_312
  let v638 : BitVec 32 := Scalar.muli v637 c1_i32_312
  let v639 : BitVec 32 := Scalar.addi c0_i32_311 v638
  let v636 : BitVec 32 := Scalar.addi c0_i32_311 v635
  let c1_i32_314 : BitVec 32 := 1#32
  ⟨v639, v636, c1_i32_314⟩
def k0_off73 (i : grid0.Coords) (k0_t1 : Fin k0_t1_loop.trips) (k0_t21 : Fin (k0_t21_loop i k0_t1).trips) : Fin 3 → Nat :=
  let c1_i32_986 : BitVec 32 := 1#32
  let c0_i32_311 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v635 : BitVec 32 := Scalar.subi v17 c0_i32_311
  let c1_i32_312 : BitVec 32 := 1#32
  let v637 : BitVec 32 := Scalar.divsi v635 c1_i32_312
  let v638 : BitVec 32 := Scalar.muli v637 c1_i32_312
  let v639 : BitVec 32 := Scalar.addi c0_i32_311 v638
  let c1_i32_314 : BitVec 32 := 1#32
  let arg14 : BitVec 32 := Scf.iv v639 c1_i32_314 k0_t21
  let v1986 : BitVec 32 := Scalar.addi c1_i32_986 arg14
  let v1987 : Index := Scalar.indexCast v1986
  let c0_987 : Index := 0#32
  let c0_988 : Index := 0#32
  ![v1987.toNat, 0, 0]
def k0_off74 (i : grid0.Coords) (k0_t1 : Fin k0_t1_loop.trips) (k0_t21 : Fin (k0_t21_loop i k0_t1).trips) : Fin 5 → Nat :=
  let c0_990 : Index := 0#32
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_287 : BitVec 32 := 8#32
  let v596 : BitVec 1 := Scalar.cmpi .sge v11 c8_i32_287
  let c8_i32 : BitVec 32 := 8#32
  let v12 : BitVec 32 := Scalar.subi v11 c8_i32
  let c0_i32_4 : BitVec 32 := 0#32
  let v13 : BitVec 32 := Scalar.maxsi v12 c0_i32_4
  let c1_i32_288 : BitVec 32 := 1#32
  let v597 : BitVec 32 := Scalar.addi v13 c1_i32_288
  let v598 : BitVec 32 := Scalar.select v596 v597 v13
  let c0_i32_311 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v635 : BitVec 32 := Scalar.subi v17 c0_i32_311
  let c1_i32_312 : BitVec 32 := 1#32
  let v637 : BitVec 32 := Scalar.divsi v635 c1_i32_312
  let v638 : BitVec 32 := Scalar.muli v637 c1_i32_312
  let v639 : BitVec 32 := Scalar.addi c0_i32_311 v638
  let c1_i32_314 : BitVec 32 := 1#32
  let arg14 : BitVec 32 := Scf.iv v639 c1_i32_314 k0_t21
  let v1998 : BitVec 32 := Scalar.addi v598 arg14
  let v1999 : Index := Scalar.indexCast v1998
  let c0_992 : Index := 0#32
  let c0_993 : Index := 0#32
  ![0, 2, v1999.toNat, 0, 0]
@[reducible] def k0_t22_loop (i : grid0.Coords) (k0_t1 : Fin k0_t1_loop.trips) : Scf.Loop 32 :=
  let c0_i32_343 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v697 : BitVec 32 := Scalar.subi v17 c0_i32_343
  let c1_i32_344 : BitVec 32 := 1#32
  let v699 : BitVec 32 := Scalar.divsi v697 c1_i32_344
  let v700 : BitVec 32 := Scalar.muli v699 c1_i32_344
  let v701 : BitVec 32 := Scalar.addi c0_i32_343 v700
  let c1_i32_345 : BitVec 32 := 1#32
  ⟨c0_i32_343, v701, c1_i32_345⟩
def k0_off75 (i : grid0.Coords) (k0_t1 : Fin k0_t1_loop.trips) (k0_t22 : Fin (k0_t22_loop i k0_t1).trips) : Fin 4 → Nat :=
  let c0_987 : Index := 0#32
  let c2_988 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_343 : BitVec 32 := 0#32
  let c1_i32_345 : BitVec 32 := 1#32
  let arg14 : BitVec 32 := Scf.iv c0_i32_343 c1_i32_345 k0_t22
  let v1986 : BitVec 32 := Scalar.addi v696 arg14
  let c128_i32_986 : BitVec 32 := 128#32
  let v1987 : BitVec 32 := Scalar.muli v1986 c128_i32_986
  let v1988 : Index := Scalar.indexCast v1987
  let c0_989 : Index := 0#32
  ![0, 2, v1988.toNat, 0]
def k0_off76 (i : grid0.Coords) (k0_t1 : Fin k0_t1_loop.trips) (k0_t22 : Fin (k0_t22_loop i k0_t1).trips) : Fin 3 → Nat :=
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_343 : BitVec 32 := 0#32
  let c1_i32_345 : BitVec 32 := 1#32
  let arg14 : BitVec 32 := Scf.iv c0_i32_343 c1_i32_345 k0_t22
  let v1986 : BitVec 32 := Scalar.addi v696 arg14
  let c128_i32_986 : BitVec 32 := 128#32
  let v1987 : BitVec 32 := Scalar.muli v1986 c128_i32_986
  let v1992 : Index := Scalar.indexCast v1987
  let c0_992 : Index := 0#32
  ![2, v1992.toNat, 0]
def k0_off77 (i : grid0.Coords) (k0_t1 : Fin k0_t1_loop.trips) (k0_t22 : Fin (k0_t22_loop i k0_t1).trips) : Fin 3 → Nat :=
  let c1_i32_993 : BitVec 32 := 1#32
  let c0_i32_343 : BitVec 32 := 0#32
  let c1_i32_345 : BitVec 32 := 1#32
  let arg14 : BitVec 32 := Scf.iv c0_i32_343 c1_i32_345 k0_t22
  let v1997 : BitVec 32 := Scalar.addi c1_i32_993 arg14
  let v1998 : Index := Scalar.indexCast v1997
  let c0_994 : Index := 0#32
  let c0_995 : Index := 0#32
  ![v1998.toNat, 0, 0]
@[reducible] def k0_t23_loop (i : grid0.Coords) (k0_t1 : Fin k0_t1_loop.trips) : Scf.Loop 32 :=
  let c0_i32_343 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v697 : BitVec 32 := Scalar.subi v17 c0_i32_343
  let c1_i32_344 : BitVec 32 := 1#32
  let v699 : BitVec 32 := Scalar.divsi v697 c1_i32_344
  let v700 : BitVec 32 := Scalar.muli v699 c1_i32_344
  let v701 : BitVec 32 := Scalar.addi c0_i32_343 v700
  let v698 : BitVec 32 := Scalar.addi c0_i32_343 v697
  let c1_i32_346 : BitVec 32 := 1#32
  ⟨v701, v698, c1_i32_346⟩
def k0_off78 (i : grid0.Coords) (k0_t1 : Fin k0_t1_loop.trips) (k0_t23 : Fin (k0_t23_loop i k0_t1).trips) : Fin 4 → Nat :=
  let c0_987 : Index := 0#32
  let c2_988 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_343 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v697 : BitVec 32 := Scalar.subi v17 c0_i32_343
  let c1_i32_344 : BitVec 32 := 1#32
  let v699 : BitVec 32 := Scalar.divsi v697 c1_i32_344
  let v700 : BitVec 32 := Scalar.muli v699 c1_i32_344
  let v701 : BitVec 32 := Scalar.addi c0_i32_343 v700
  let c1_i32_346 : BitVec 32 := 1#32
  let arg14 : BitVec 32 := Scf.iv v701 c1_i32_346 k0_t23
  let v1986 : BitVec 32 := Scalar.addi v696 arg14
  let c128_i32_986 : BitVec 32 := 128#32
  let v1987 : BitVec 32 := Scalar.muli v1986 c128_i32_986
  let v1988 : Index := Scalar.indexCast v1987
  let c0_989 : Index := 0#32
  ![0, 2, v1988.toNat, 0]
def k0_off79 (i : grid0.Coords) (k0_t1 : Fin k0_t1_loop.trips) (k0_t23 : Fin (k0_t23_loop i k0_t1).trips) : Fin 3 → Nat :=
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_343 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v697 : BitVec 32 := Scalar.subi v17 c0_i32_343
  let c1_i32_344 : BitVec 32 := 1#32
  let v699 : BitVec 32 := Scalar.divsi v697 c1_i32_344
  let v700 : BitVec 32 := Scalar.muli v699 c1_i32_344
  let v701 : BitVec 32 := Scalar.addi c0_i32_343 v700
  let c1_i32_346 : BitVec 32 := 1#32
  let arg14 : BitVec 32 := Scf.iv v701 c1_i32_346 k0_t23
  let v1986 : BitVec 32 := Scalar.addi v696 arg14
  let c128_i32_986 : BitVec 32 := 128#32
  let v1987 : BitVec 32 := Scalar.muli v1986 c128_i32_986
  let v1992 : Index := Scalar.indexCast v1987
  let c0_992 : Index := 0#32
  ![2, v1992.toNat, 0]
def k0_off80 (i : grid0.Coords) (k0_t1 : Fin k0_t1_loop.trips) (k0_t23 : Fin (k0_t23_loop i k0_t1).trips) : Fin 3 → Nat :=
  let c1_i32_993 : BitVec 32 := 1#32
  let c0_i32_343 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v697 : BitVec 32 := Scalar.subi v17 c0_i32_343
  let c1_i32_344 : BitVec 32 := 1#32
  let v699 : BitVec 32 := Scalar.divsi v697 c1_i32_344
  let v700 : BitVec 32 := Scalar.muli v699 c1_i32_344
  let v701 : BitVec 32 := Scalar.addi c0_i32_343 v700
  let c1_i32_346 : BitVec 32 := 1#32
  let arg14 : BitVec 32 := Scf.iv v701 c1_i32_346 k0_t23
  let v1997 : BitVec 32 := Scalar.addi c1_i32_993 arg14
  let v1998 : Index := Scalar.indexCast v1997
  let c0_994 : Index := 0#32
  let c0_995 : Index := 0#32
  ![v1998.toNat, 0, 0]
@[reducible] def k0_t24_loop (i : grid0.Coords) (k0_t1 : Fin k0_t1_loop.trips) : Scf.Loop 32 :=
  let c0_i32_365 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v733 : BitVec 32 := Scalar.subi v17 c0_i32_365
  let c1_i32_366 : BitVec 32 := 1#32
  let v735 : BitVec 32 := Scalar.divsi v733 c1_i32_366
  let v736 : BitVec 32 := Scalar.muli v735 c1_i32_366
  let v737 : BitVec 32 := Scalar.addi c0_i32_365 v736
  let c1_i32_367 : BitVec 32 := 1#32
  ⟨c0_i32_365, v737, c1_i32_367⟩
def k0_off81 (i : grid0.Coords) (k0_t1 : Fin k0_t1_loop.trips) (k0_t24 : Fin (k0_t24_loop i k0_t1).trips) : Fin 3 → Nat :=
  let c1_i32_986 : BitVec 32 := 1#32
  let c0_i32_365 : BitVec 32 := 0#32
  let c1_i32_367 : BitVec 32 := 1#32
  let arg14 : BitVec 32 := Scf.iv c0_i32_365 c1_i32_367 k0_t24
  let v1986 : BitVec 32 := Scalar.addi c1_i32_986 arg14
  let v1987 : Index := Scalar.indexCast v1986
  let c0_987 : Index := 0#32
  let c0_988 : Index := 0#32
  ![v1987.toNat, 0, 0]
def k0_off82 (i : grid0.Coords) (k0_t1 : Fin k0_t1_loop.trips) (k0_t24 : Fin (k0_t24_loop i k0_t1).trips) : Fin 5 → Nat :=
  let c0_990 : Index := 0#32
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_365 : BitVec 32 := 0#32
  let c1_i32_367 : BitVec 32 := 1#32
  let arg14 : BitVec 32 := Scf.iv c0_i32_365 c1_i32_367 k0_t24
  let v1998 : BitVec 32 := Scalar.addi v696 arg14
  let v1999 : Index := Scalar.indexCast v1998
  let c0_992 : Index := 0#32
  let c0_993 : Index := 0#32
  ![0, 2, v1999.toNat, 0, 0]
@[reducible] def k0_t25_loop (i : grid0.Coords) (k0_t1 : Fin k0_t1_loop.trips) : Scf.Loop 32 :=
  let c0_i32_365 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v733 : BitVec 32 := Scalar.subi v17 c0_i32_365
  let c1_i32_366 : BitVec 32 := 1#32
  let v735 : BitVec 32 := Scalar.divsi v733 c1_i32_366
  let v736 : BitVec 32 := Scalar.muli v735 c1_i32_366
  let v737 : BitVec 32 := Scalar.addi c0_i32_365 v736
  let v734 : BitVec 32 := Scalar.addi c0_i32_365 v733
  let c1_i32_368 : BitVec 32 := 1#32
  ⟨v737, v734, c1_i32_368⟩
def k0_off83 (i : grid0.Coords) (k0_t1 : Fin k0_t1_loop.trips) (k0_t25 : Fin (k0_t25_loop i k0_t1).trips) : Fin 3 → Nat :=
  let c1_i32_986 : BitVec 32 := 1#32
  let c0_i32_365 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v733 : BitVec 32 := Scalar.subi v17 c0_i32_365
  let c1_i32_366 : BitVec 32 := 1#32
  let v735 : BitVec 32 := Scalar.divsi v733 c1_i32_366
  let v736 : BitVec 32 := Scalar.muli v735 c1_i32_366
  let v737 : BitVec 32 := Scalar.addi c0_i32_365 v736
  let c1_i32_368 : BitVec 32 := 1#32
  let arg14 : BitVec 32 := Scf.iv v737 c1_i32_368 k0_t25
  let v1986 : BitVec 32 := Scalar.addi c1_i32_986 arg14
  let v1987 : Index := Scalar.indexCast v1986
  let c0_987 : Index := 0#32
  let c0_988 : Index := 0#32
  ![v1987.toNat, 0, 0]
def k0_off84 (i : grid0.Coords) (k0_t1 : Fin k0_t1_loop.trips) (k0_t25 : Fin (k0_t25_loop i k0_t1).trips) : Fin 5 → Nat :=
  let c0_990 : Index := 0#32
  let c2_991 : Index := 2#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_341 : BitVec 32 := 8#32
  let v694 : BitVec 1 := Scalar.cmpi .sge v11 c8_i32_341
  let c8_i32 : BitVec 32 := 8#32
  let v12 : BitVec 32 := Scalar.subi v11 c8_i32
  let c0_i32_4 : BitVec 32 := 0#32
  let v13 : BitVec 32 := Scalar.maxsi v12 c0_i32_4
  let c1_i32_342 : BitVec 32 := 1#32
  let v695 : BitVec 32 := Scalar.addi v13 c1_i32_342
  let v696 : BitVec 32 := Scalar.select v694 v695 v13
  let c0_i32_365 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v733 : BitVec 32 := Scalar.subi v17 c0_i32_365
  let c1_i32_366 : BitVec 32 := 1#32
  let v735 : BitVec 32 := Scalar.divsi v733 c1_i32_366
  let v736 : BitVec 32 := Scalar.muli v735 c1_i32_366
  let v737 : BitVec 32 := Scalar.addi c0_i32_365 v736
  let c1_i32_368 : BitVec 32 := 1#32
  let arg14 : BitVec 32 := Scf.iv v737 c1_i32_368 k0_t25
  let v1998 : BitVec 32 := Scalar.addi v696 arg14
  let v1999 : Index := Scalar.indexCast v1998
  let c0_992 : Index := 0#32
  let c0_993 : Index := 0#32
  ![0, 2, v1999.toNat, 0, 0]
def k0_off85 (k0_t1 : Fin k0_t1_loop.trips) : Fin 3 → Nat :=
  let c0_375 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v756 : Index := Scalar.indexCast v9
  let c768 : Index := 768#32
  ![0, v756.toNat, 768]
def k0_off86 (k0_t1 : Fin k0_t1_loop.trips) : Fin 3 → Nat :=
  let c0_383 : Index := 0#32
  let c12 : Index := 12#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v780 : Index := Scalar.indexCast v9
  ![0, 12, v780.toNat]
def k0_off87 (i : grid0.Coords) (k0_t1 : Fin k0_t1_loop.trips) : Fin 4 → Nat :=
  let c0_390 : Index := 0#32
  let c3 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_389 : BitVec 32 := 128#32
  let v809 : BitVec 32 := Scalar.muli v11 c128_i32_389
  let v810 : Index := Scalar.indexCast v809
  let c0_391 : Index := 0#32
  ![0, 3, v810.toNat, 0]
def k0_off88 (i : grid0.Coords) (k0_t1 : Fin k0_t1_loop.trips) : Fin 3 → Nat :=
  let c3_393 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_389 : BitVec 32 := 128#32
  let v809 : BitVec 32 := Scalar.muli v11 c128_i32_389
  let v814 : Index := Scalar.indexCast v809
  let c0_394 : Index := 0#32
  ![3, v814.toNat, 0]
def k0_off89 (i : grid0.Coords) (k0_t1 : Fin k0_t1_loop.trips) : Fin 4 → Nat :=
  let c0_396 : Index := 0#32
  let c3_397 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_395 : BitVec 32 := 128#32
  let v818 : BitVec 32 := Scalar.muli v13 c128_i32_395
  let v819 : Index := Scalar.indexCast v818
  let c0_398 : Index := 0#32
  ![0, 3, v819.toNat, 0]
def k0_off90 (i : grid0.Coords) (k0_t1 : Fin k0_t1_loop.trips) : Fin 3 → Nat :=
  let c3_400 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_395 : BitVec 32 := 128#32
  let v818 : BitVec 32 := Scalar.muli v13 c128_i32_395
  let v823 : Index := Scalar.indexCast v818
  let c0_401 : Index := 0#32
  ![3, v823.toNat, 0]
@[reducible] def k0_t26_loop (i : grid0.Coords) (k0_t1 : Fin k0_t1_loop.trips) : Scf.Loop 32 :=
  let c0_i32_411 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v845 : BitVec 32 := Scalar.subi v17 c0_i32_411
  let c1_i32_412 : BitVec 32 := 1#32
  let v847 : BitVec 32 := Scalar.divsi v845 c1_i32_412
  let v848 : BitVec 32 := Scalar.muli v847 c1_i32_412
  let v849 : BitVec 32 := Scalar.addi c0_i32_411 v848
  let c1_i32_413 : BitVec 32 := 1#32
  ⟨c0_i32_411, v849, c1_i32_413⟩
def k0_off91 (i : grid0.Coords) (k0_t1 : Fin k0_t1_loop.trips) (k0_t26 : Fin (k0_t26_loop i k0_t1).trips) : Fin 4 → Nat :=
  let c0_987 : Index := 0#32
  let c3_988 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_411 : BitVec 32 := 0#32
  let c1_i32_413 : BitVec 32 := 1#32
  let arg14 : BitVec 32 := Scf.iv c0_i32_411 c1_i32_413 k0_t26
  let v1986 : BitVec 32 := Scalar.addi v844 arg14
  let c128_i32_986 : BitVec 32 := 128#32
  let v1987 : BitVec 32 := Scalar.muli v1986 c128_i32_986
  let v1988 : Index := Scalar.indexCast v1987
  let c0_989 : Index := 0#32
  ![0, 3, v1988.toNat, 0]
def k0_off92 (i : grid0.Coords) (k0_t1 : Fin k0_t1_loop.trips) (k0_t26 : Fin (k0_t26_loop i k0_t1).trips) : Fin 3 → Nat :=
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_411 : BitVec 32 := 0#32
  let c1_i32_413 : BitVec 32 := 1#32
  let arg14 : BitVec 32 := Scf.iv c0_i32_411 c1_i32_413 k0_t26
  let v1986 : BitVec 32 := Scalar.addi v844 arg14
  let c128_i32_986 : BitVec 32 := 128#32
  let v1987 : BitVec 32 := Scalar.muli v1986 c128_i32_986
  let v1992 : Index := Scalar.indexCast v1987
  let c0_992 : Index := 0#32
  ![3, v1992.toNat, 0]
def k0_off93 (i : grid0.Coords) (k0_t1 : Fin k0_t1_loop.trips) (k0_t26 : Fin (k0_t26_loop i k0_t1).trips) : Fin 3 → Nat :=
  let c1_i32_993 : BitVec 32 := 1#32
  let c0_i32_411 : BitVec 32 := 0#32
  let c1_i32_413 : BitVec 32 := 1#32
  let arg14 : BitVec 32 := Scf.iv c0_i32_411 c1_i32_413 k0_t26
  let v1997 : BitVec 32 := Scalar.addi c1_i32_993 arg14
  let v1998 : Index := Scalar.indexCast v1997
  let c0_994 : Index := 0#32
  let c0_995 : Index := 0#32
  ![v1998.toNat, 0, 0]
@[reducible] def k0_t27_loop (i : grid0.Coords) (k0_t1 : Fin k0_t1_loop.trips) : Scf.Loop 32 :=
  let c0_i32_411 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v845 : BitVec 32 := Scalar.subi v17 c0_i32_411
  let c1_i32_412 : BitVec 32 := 1#32
  let v847 : BitVec 32 := Scalar.divsi v845 c1_i32_412
  let v848 : BitVec 32 := Scalar.muli v847 c1_i32_412
  let v849 : BitVec 32 := Scalar.addi c0_i32_411 v848
  let v846 : BitVec 32 := Scalar.addi c0_i32_411 v845
  let c1_i32_414 : BitVec 32 := 1#32
  ⟨v849, v846, c1_i32_414⟩
def k0_off94 (i : grid0.Coords) (k0_t1 : Fin k0_t1_loop.trips) (k0_t27 : Fin (k0_t27_loop i k0_t1).trips) : Fin 4 → Nat :=
  let c0_987 : Index := 0#32
  let c3_988 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_411 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v845 : BitVec 32 := Scalar.subi v17 c0_i32_411
  let c1_i32_412 : BitVec 32 := 1#32
  let v847 : BitVec 32 := Scalar.divsi v845 c1_i32_412
  let v848 : BitVec 32 := Scalar.muli v847 c1_i32_412
  let v849 : BitVec 32 := Scalar.addi c0_i32_411 v848
  let c1_i32_414 : BitVec 32 := 1#32
  let arg14 : BitVec 32 := Scf.iv v849 c1_i32_414 k0_t27
  let v1986 : BitVec 32 := Scalar.addi v844 arg14
  let c128_i32_986 : BitVec 32 := 128#32
  let v1987 : BitVec 32 := Scalar.muli v1986 c128_i32_986
  let v1988 : Index := Scalar.indexCast v1987
  let c0_989 : Index := 0#32
  ![0, 3, v1988.toNat, 0]
def k0_off95 (i : grid0.Coords) (k0_t1 : Fin k0_t1_loop.trips) (k0_t27 : Fin (k0_t27_loop i k0_t1).trips) : Fin 3 → Nat :=
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_411 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v845 : BitVec 32 := Scalar.subi v17 c0_i32_411
  let c1_i32_412 : BitVec 32 := 1#32
  let v847 : BitVec 32 := Scalar.divsi v845 c1_i32_412
  let v848 : BitVec 32 := Scalar.muli v847 c1_i32_412
  let v849 : BitVec 32 := Scalar.addi c0_i32_411 v848
  let c1_i32_414 : BitVec 32 := 1#32
  let arg14 : BitVec 32 := Scf.iv v849 c1_i32_414 k0_t27
  let v1986 : BitVec 32 := Scalar.addi v844 arg14
  let c128_i32_986 : BitVec 32 := 128#32
  let v1987 : BitVec 32 := Scalar.muli v1986 c128_i32_986
  let v1992 : Index := Scalar.indexCast v1987
  let c0_992 : Index := 0#32
  ![3, v1992.toNat, 0]
def k0_off96 (i : grid0.Coords) (k0_t1 : Fin k0_t1_loop.trips) (k0_t27 : Fin (k0_t27_loop i k0_t1).trips) : Fin 3 → Nat :=
  let c1_i32_993 : BitVec 32 := 1#32
  let c0_i32_411 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v845 : BitVec 32 := Scalar.subi v17 c0_i32_411
  let c1_i32_412 : BitVec 32 := 1#32
  let v847 : BitVec 32 := Scalar.divsi v845 c1_i32_412
  let v848 : BitVec 32 := Scalar.muli v847 c1_i32_412
  let v849 : BitVec 32 := Scalar.addi c0_i32_411 v848
  let c1_i32_414 : BitVec 32 := 1#32
  let arg14 : BitVec 32 := Scf.iv v849 c1_i32_414 k0_t27
  let v1997 : BitVec 32 := Scalar.addi c1_i32_993 arg14
  let v1998 : Index := Scalar.indexCast v1997
  let c0_994 : Index := 0#32
  let c0_995 : Index := 0#32
  ![v1998.toNat, 0, 0]
def k0_off97 (i : grid0.Coords) (k0_t1 : Fin k0_t1_loop.trips) : Fin 5 → Nat :=
  let c0_423 : Index := 0#32
  let c3_424 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v872 : Index := Scalar.indexCast v11
  let c0_425 : Index := 0#32
  let c0_426 : Index := 0#32
  ![0, 3, v872.toNat, 0, 0]
def k0_off98 (i : grid0.Coords) (k0_t1 : Fin k0_t1_loop.trips) : Fin 5 → Nat :=
  let c0_428 : Index := 0#32
  let c3_429 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v876 : Index := Scalar.indexCast v13
  let c0_430 : Index := 0#32
  let c0_431 : Index := 0#32
  ![0, 3, v876.toNat, 0, 0]
@[reducible] def k0_t28_loop (i : grid0.Coords) (k0_t1 : Fin k0_t1_loop.trips) : Scf.Loop 32 :=
  let c0_i32_433 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v881 : BitVec 32 := Scalar.subi v17 c0_i32_433
  let c1_i32_434 : BitVec 32 := 1#32
  let v883 : BitVec 32 := Scalar.divsi v881 c1_i32_434
  let v884 : BitVec 32 := Scalar.muli v883 c1_i32_434
  let v885 : BitVec 32 := Scalar.addi c0_i32_433 v884
  let c1_i32_435 : BitVec 32 := 1#32
  ⟨c0_i32_433, v885, c1_i32_435⟩
def k0_off99 (i : grid0.Coords) (k0_t1 : Fin k0_t1_loop.trips) (k0_t28 : Fin (k0_t28_loop i k0_t1).trips) : Fin 3 → Nat :=
  let c1_i32_986 : BitVec 32 := 1#32
  let c0_i32_433 : BitVec 32 := 0#32
  let c1_i32_435 : BitVec 32 := 1#32
  let arg14 : BitVec 32 := Scf.iv c0_i32_433 c1_i32_435 k0_t28
  let v1986 : BitVec 32 := Scalar.addi c1_i32_986 arg14
  let v1987 : Index := Scalar.indexCast v1986
  let c0_987 : Index := 0#32
  let c0_988 : Index := 0#32
  ![v1987.toNat, 0, 0]
def k0_off100 (i : grid0.Coords) (k0_t1 : Fin k0_t1_loop.trips) (k0_t28 : Fin (k0_t28_loop i k0_t1).trips) : Fin 5 → Nat :=
  let c0_990 : Index := 0#32
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_433 : BitVec 32 := 0#32
  let c1_i32_435 : BitVec 32 := 1#32
  let arg14 : BitVec 32 := Scf.iv c0_i32_433 c1_i32_435 k0_t28
  let v1998 : BitVec 32 := Scalar.addi v844 arg14
  let v1999 : Index := Scalar.indexCast v1998
  let c0_992 : Index := 0#32
  let c0_993 : Index := 0#32
  ![0, 3, v1999.toNat, 0, 0]
@[reducible] def k0_t29_loop (i : grid0.Coords) (k0_t1 : Fin k0_t1_loop.trips) : Scf.Loop 32 :=
  let c0_i32_433 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v881 : BitVec 32 := Scalar.subi v17 c0_i32_433
  let c1_i32_434 : BitVec 32 := 1#32
  let v883 : BitVec 32 := Scalar.divsi v881 c1_i32_434
  let v884 : BitVec 32 := Scalar.muli v883 c1_i32_434
  let v885 : BitVec 32 := Scalar.addi c0_i32_433 v884
  let v882 : BitVec 32 := Scalar.addi c0_i32_433 v881
  let c1_i32_436 : BitVec 32 := 1#32
  ⟨v885, v882, c1_i32_436⟩
def k0_off101 (i : grid0.Coords) (k0_t1 : Fin k0_t1_loop.trips) (k0_t29 : Fin (k0_t29_loop i k0_t1).trips) : Fin 3 → Nat :=
  let c1_i32_986 : BitVec 32 := 1#32
  let c0_i32_433 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v881 : BitVec 32 := Scalar.subi v17 c0_i32_433
  let c1_i32_434 : BitVec 32 := 1#32
  let v883 : BitVec 32 := Scalar.divsi v881 c1_i32_434
  let v884 : BitVec 32 := Scalar.muli v883 c1_i32_434
  let v885 : BitVec 32 := Scalar.addi c0_i32_433 v884
  let c1_i32_436 : BitVec 32 := 1#32
  let arg14 : BitVec 32 := Scf.iv v885 c1_i32_436 k0_t29
  let v1986 : BitVec 32 := Scalar.addi c1_i32_986 arg14
  let v1987 : Index := Scalar.indexCast v1986
  let c0_987 : Index := 0#32
  let c0_988 : Index := 0#32
  ![v1987.toNat, 0, 0]
def k0_off102 (i : grid0.Coords) (k0_t1 : Fin k0_t1_loop.trips) (k0_t29 : Fin (k0_t29_loop i k0_t1).trips) : Fin 5 → Nat :=
  let c0_990 : Index := 0#32
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_409 : BitVec 32 := 8#32
  let v842 : BitVec 1 := Scalar.cmpi .sge v11 c8_i32_409
  let c8_i32 : BitVec 32 := 8#32
  let v12 : BitVec 32 := Scalar.subi v11 c8_i32
  let c0_i32_4 : BitVec 32 := 0#32
  let v13 : BitVec 32 := Scalar.maxsi v12 c0_i32_4
  let c1_i32_410 : BitVec 32 := 1#32
  let v843 : BitVec 32 := Scalar.addi v13 c1_i32_410
  let v844 : BitVec 32 := Scalar.select v842 v843 v13
  let c0_i32_433 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v881 : BitVec 32 := Scalar.subi v17 c0_i32_433
  let c1_i32_434 : BitVec 32 := 1#32
  let v883 : BitVec 32 := Scalar.divsi v881 c1_i32_434
  let v884 : BitVec 32 := Scalar.muli v883 c1_i32_434
  let v885 : BitVec 32 := Scalar.addi c0_i32_433 v884
  let c1_i32_436 : BitVec 32 := 1#32
  let arg14 : BitVec 32 := Scf.iv v885 c1_i32_436 k0_t29
  let v1998 : BitVec 32 := Scalar.addi v844 arg14
  let v1999 : Index := Scalar.indexCast v1998
  let c0_992 : Index := 0#32
  let c0_993 : Index := 0#32
  ![0, 3, v1999.toNat, 0, 0]
@[reducible] def k0_t30_loop (i : grid0.Coords) (k0_t1 : Fin k0_t1_loop.trips) : Scf.Loop 32 :=
  let c0_i32_465 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v943 : BitVec 32 := Scalar.subi v17 c0_i32_465
  let c1_i32_466 : BitVec 32 := 1#32
  let v945 : BitVec 32 := Scalar.divsi v943 c1_i32_466
  let v946 : BitVec 32 := Scalar.muli v945 c1_i32_466
  let v947 : BitVec 32 := Scalar.addi c0_i32_465 v946
  let c1_i32_467 : BitVec 32 := 1#32
  ⟨c0_i32_465, v947, c1_i32_467⟩
def k0_off103 (i : grid0.Coords) (k0_t1 : Fin k0_t1_loop.trips) (k0_t30 : Fin (k0_t30_loop i k0_t1).trips) : Fin 4 → Nat :=
  let c0_987 : Index := 0#32
  let c3_988 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_465 : BitVec 32 := 0#32
  let c1_i32_467 : BitVec 32 := 1#32
  let arg14 : BitVec 32 := Scf.iv c0_i32_465 c1_i32_467 k0_t30
  let v1986 : BitVec 32 := Scalar.addi v942 arg14
  let c128_i32_986 : BitVec 32 := 128#32
  let v1987 : BitVec 32 := Scalar.muli v1986 c128_i32_986
  let v1988 : Index := Scalar.indexCast v1987
  let c0_989 : Index := 0#32
  ![0, 3, v1988.toNat, 0]
def k0_off104 (i : grid0.Coords) (k0_t1 : Fin k0_t1_loop.trips) (k0_t30 : Fin (k0_t30_loop i k0_t1).trips) : Fin 3 → Nat :=
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_465 : BitVec 32 := 0#32
  let c1_i32_467 : BitVec 32 := 1#32
  let arg14 : BitVec 32 := Scf.iv c0_i32_465 c1_i32_467 k0_t30
  let v1986 : BitVec 32 := Scalar.addi v942 arg14
  let c128_i32_986 : BitVec 32 := 128#32
  let v1987 : BitVec 32 := Scalar.muli v1986 c128_i32_986
  let v1992 : Index := Scalar.indexCast v1987
  let c0_992 : Index := 0#32
  ![3, v1992.toNat, 0]
def k0_off105 (i : grid0.Coords) (k0_t1 : Fin k0_t1_loop.trips) (k0_t30 : Fin (k0_t30_loop i k0_t1).trips) : Fin 3 → Nat :=
  let c1_i32_993 : BitVec 32 := 1#32
  let c0_i32_465 : BitVec 32 := 0#32
  let c1_i32_467 : BitVec 32 := 1#32
  let arg14 : BitVec 32 := Scf.iv c0_i32_465 c1_i32_467 k0_t30
  let v1997 : BitVec 32 := Scalar.addi c1_i32_993 arg14
  let v1998 : Index := Scalar.indexCast v1997
  let c0_994 : Index := 0#32
  let c0_995 : Index := 0#32
  ![v1998.toNat, 0, 0]
@[reducible] def k0_t31_loop (i : grid0.Coords) (k0_t1 : Fin k0_t1_loop.trips) : Scf.Loop 32 :=
  let c0_i32_465 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v943 : BitVec 32 := Scalar.subi v17 c0_i32_465
  let c1_i32_466 : BitVec 32 := 1#32
  let v945 : BitVec 32 := Scalar.divsi v943 c1_i32_466
  let v946 : BitVec 32 := Scalar.muli v945 c1_i32_466
  let v947 : BitVec 32 := Scalar.addi c0_i32_465 v946
  let v944 : BitVec 32 := Scalar.addi c0_i32_465 v943
  let c1_i32_468 : BitVec 32 := 1#32
  ⟨v947, v944, c1_i32_468⟩
def k0_off106 (i : grid0.Coords) (k0_t1 : Fin k0_t1_loop.trips) (k0_t31 : Fin (k0_t31_loop i k0_t1).trips) : Fin 4 → Nat :=
  let c0_987 : Index := 0#32
  let c3_988 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_465 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v943 : BitVec 32 := Scalar.subi v17 c0_i32_465
  let c1_i32_466 : BitVec 32 := 1#32
  let v945 : BitVec 32 := Scalar.divsi v943 c1_i32_466
  let v946 : BitVec 32 := Scalar.muli v945 c1_i32_466
  let v947 : BitVec 32 := Scalar.addi c0_i32_465 v946
  let c1_i32_468 : BitVec 32 := 1#32
  let arg14 : BitVec 32 := Scf.iv v947 c1_i32_468 k0_t31
  let v1986 : BitVec 32 := Scalar.addi v942 arg14
  let c128_i32_986 : BitVec 32 := 128#32
  let v1987 : BitVec 32 := Scalar.muli v1986 c128_i32_986
  let v1988 : Index := Scalar.indexCast v1987
  let c0_989 : Index := 0#32
  ![0, 3, v1988.toNat, 0]
def k0_off107 (i : grid0.Coords) (k0_t1 : Fin k0_t1_loop.trips) (k0_t31 : Fin (k0_t31_loop i k0_t1).trips) : Fin 3 → Nat :=
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_465 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v943 : BitVec 32 := Scalar.subi v17 c0_i32_465
  let c1_i32_466 : BitVec 32 := 1#32
  let v945 : BitVec 32 := Scalar.divsi v943 c1_i32_466
  let v946 : BitVec 32 := Scalar.muli v945 c1_i32_466
  let v947 : BitVec 32 := Scalar.addi c0_i32_465 v946
  let c1_i32_468 : BitVec 32 := 1#32
  let arg14 : BitVec 32 := Scf.iv v947 c1_i32_468 k0_t31
  let v1986 : BitVec 32 := Scalar.addi v942 arg14
  let c128_i32_986 : BitVec 32 := 128#32
  let v1987 : BitVec 32 := Scalar.muli v1986 c128_i32_986
  let v1992 : Index := Scalar.indexCast v1987
  let c0_992 : Index := 0#32
  ![3, v1992.toNat, 0]
def k0_off108 (i : grid0.Coords) (k0_t1 : Fin k0_t1_loop.trips) (k0_t31 : Fin (k0_t31_loop i k0_t1).trips) : Fin 3 → Nat :=
  let c1_i32_993 : BitVec 32 := 1#32
  let c0_i32_465 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v943 : BitVec 32 := Scalar.subi v17 c0_i32_465
  let c1_i32_466 : BitVec 32 := 1#32
  let v945 : BitVec 32 := Scalar.divsi v943 c1_i32_466
  let v946 : BitVec 32 := Scalar.muli v945 c1_i32_466
  let v947 : BitVec 32 := Scalar.addi c0_i32_465 v946
  let c1_i32_468 : BitVec 32 := 1#32
  let arg14 : BitVec 32 := Scf.iv v947 c1_i32_468 k0_t31
  let v1997 : BitVec 32 := Scalar.addi c1_i32_993 arg14
  let v1998 : Index := Scalar.indexCast v1997
  let c0_994 : Index := 0#32
  let c0_995 : Index := 0#32
  ![v1998.toNat, 0, 0]
@[reducible] def k0_t32_loop (i : grid0.Coords) (k0_t1 : Fin k0_t1_loop.trips) : Scf.Loop 32 :=
  let c0_i32_487 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v979 : BitVec 32 := Scalar.subi v17 c0_i32_487
  let c1_i32_488 : BitVec 32 := 1#32
  let v981 : BitVec 32 := Scalar.divsi v979 c1_i32_488
  let v982 : BitVec 32 := Scalar.muli v981 c1_i32_488
  let v983 : BitVec 32 := Scalar.addi c0_i32_487 v982
  let c1_i32_489 : BitVec 32 := 1#32
  ⟨c0_i32_487, v983, c1_i32_489⟩
def k0_off109 (i : grid0.Coords) (k0_t1 : Fin k0_t1_loop.trips) (k0_t32 : Fin (k0_t32_loop i k0_t1).trips) : Fin 3 → Nat :=
  let c1_i32_986 : BitVec 32 := 1#32
  let c0_i32_487 : BitVec 32 := 0#32
  let c1_i32_489 : BitVec 32 := 1#32
  let arg14 : BitVec 32 := Scf.iv c0_i32_487 c1_i32_489 k0_t32
  let v1986 : BitVec 32 := Scalar.addi c1_i32_986 arg14
  let v1987 : Index := Scalar.indexCast v1986
  let c0_987 : Index := 0#32
  let c0_988 : Index := 0#32
  ![v1987.toNat, 0, 0]
def k0_off110 (i : grid0.Coords) (k0_t1 : Fin k0_t1_loop.trips) (k0_t32 : Fin (k0_t32_loop i k0_t1).trips) : Fin 5 → Nat :=
  let c0_990 : Index := 0#32
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_487 : BitVec 32 := 0#32
  let c1_i32_489 : BitVec 32 := 1#32
  let arg14 : BitVec 32 := Scf.iv c0_i32_487 c1_i32_489 k0_t32
  let v1998 : BitVec 32 := Scalar.addi v942 arg14
  let v1999 : Index := Scalar.indexCast v1998
  let c0_992 : Index := 0#32
  let c0_993 : Index := 0#32
  ![0, 3, v1999.toNat, 0, 0]
@[reducible] def k0_t33_loop (i : grid0.Coords) (k0_t1 : Fin k0_t1_loop.trips) : Scf.Loop 32 :=
  let c0_i32_487 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v979 : BitVec 32 := Scalar.subi v17 c0_i32_487
  let c1_i32_488 : BitVec 32 := 1#32
  let v981 : BitVec 32 := Scalar.divsi v979 c1_i32_488
  let v982 : BitVec 32 := Scalar.muli v981 c1_i32_488
  let v983 : BitVec 32 := Scalar.addi c0_i32_487 v982
  let v980 : BitVec 32 := Scalar.addi c0_i32_487 v979
  let c1_i32_490 : BitVec 32 := 1#32
  ⟨v983, v980, c1_i32_490⟩
def k0_off111 (i : grid0.Coords) (k0_t1 : Fin k0_t1_loop.trips) (k0_t33 : Fin (k0_t33_loop i k0_t1).trips) : Fin 3 → Nat :=
  let c1_i32_986 : BitVec 32 := 1#32
  let c0_i32_487 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v979 : BitVec 32 := Scalar.subi v17 c0_i32_487
  let c1_i32_488 : BitVec 32 := 1#32
  let v981 : BitVec 32 := Scalar.divsi v979 c1_i32_488
  let v982 : BitVec 32 := Scalar.muli v981 c1_i32_488
  let v983 : BitVec 32 := Scalar.addi c0_i32_487 v982
  let c1_i32_490 : BitVec 32 := 1#32
  let arg14 : BitVec 32 := Scf.iv v983 c1_i32_490 k0_t33
  let v1986 : BitVec 32 := Scalar.addi c1_i32_986 arg14
  let v1987 : Index := Scalar.indexCast v1986
  let c0_987 : Index := 0#32
  let c0_988 : Index := 0#32
  ![v1987.toNat, 0, 0]
def k0_off112 (i : grid0.Coords) (k0_t1 : Fin k0_t1_loop.trips) (k0_t33 : Fin (k0_t33_loop i k0_t1).trips) : Fin 5 → Nat :=
  let c0_990 : Index := 0#32
  let c3_991 : Index := 3#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_463 : BitVec 32 := 8#32
  let v940 : BitVec 1 := Scalar.cmpi .sge v11 c8_i32_463
  let c8_i32 : BitVec 32 := 8#32
  let v12 : BitVec 32 := Scalar.subi v11 c8_i32
  let c0_i32_4 : BitVec 32 := 0#32
  let v13 : BitVec 32 := Scalar.maxsi v12 c0_i32_4
  let c1_i32_464 : BitVec 32 := 1#32
  let v941 : BitVec 32 := Scalar.addi v13 c1_i32_464
  let v942 : BitVec 32 := Scalar.select v940 v941 v13
  let c0_i32_487 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v979 : BitVec 32 := Scalar.subi v17 c0_i32_487
  let c1_i32_488 : BitVec 32 := 1#32
  let v981 : BitVec 32 := Scalar.divsi v979 c1_i32_488
  let v982 : BitVec 32 := Scalar.muli v981 c1_i32_488
  let v983 : BitVec 32 := Scalar.addi c0_i32_487 v982
  let c1_i32_490 : BitVec 32 := 1#32
  let arg14 : BitVec 32 := Scf.iv v983 c1_i32_490 k0_t33
  let v1998 : BitVec 32 := Scalar.addi v942 arg14
  let v1999 : Index := Scalar.indexCast v1998
  let c0_992 : Index := 0#32
  let c0_993 : Index := 0#32
  ![0, 3, v1999.toNat, 0, 0]
def k0_off113 (k0_t1 : Fin k0_t1_loop.trips) : Fin 3 → Nat :=
  let c0_497 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1002 : Index := Scalar.indexCast v9
  let c1024 : Index := 1024#32
  ![0, v1002.toNat, 1024]
def k0_off114 (k0_t1 : Fin k0_t1_loop.trips) : Fin 3 → Nat :=
  let c0_505 : Index := 0#32
  let c16 : Index := 16#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1026 : Index := Scalar.indexCast v9
  ![0, 16, v1026.toNat]
def k0_off115 (i : grid0.Coords) (k0_t1 : Fin k0_t1_loop.trips) : Fin 4 → Nat :=
  let c0_512 : Index := 0#32
  let c4_513 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_511 : BitVec 32 := 128#32
  let v1055 : BitVec 32 := Scalar.muli v11 c128_i32_511
  let v1056 : Index := Scalar.indexCast v1055
  let c0_514 : Index := 0#32
  ![0, 4, v1056.toNat, 0]
def k0_off116 (i : grid0.Coords) (k0_t1 : Fin k0_t1_loop.trips) : Fin 3 → Nat :=
  let c4_516 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_511 : BitVec 32 := 128#32
  let v1055 : BitVec 32 := Scalar.muli v11 c128_i32_511
  let v1060 : Index := Scalar.indexCast v1055
  let c0_517 : Index := 0#32
  ![4, v1060.toNat, 0]
def k0_off117 (i : grid0.Coords) (k0_t1 : Fin k0_t1_loop.trips) : Fin 4 → Nat :=
  let c0_519 : Index := 0#32
  let c4_520 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_518 : BitVec 32 := 128#32
  let v1064 : BitVec 32 := Scalar.muli v13 c128_i32_518
  let v1065 : Index := Scalar.indexCast v1064
  let c0_521 : Index := 0#32
  ![0, 4, v1065.toNat, 0]
def k0_off118 (i : grid0.Coords) (k0_t1 : Fin k0_t1_loop.trips) : Fin 3 → Nat :=
  let c4_523 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_518 : BitVec 32 := 128#32
  let v1064 : BitVec 32 := Scalar.muli v13 c128_i32_518
  let v1069 : Index := Scalar.indexCast v1064
  let c0_524 : Index := 0#32
  ![4, v1069.toNat, 0]
@[reducible] def k0_t34_loop (i : grid0.Coords) (k0_t1 : Fin k0_t1_loop.trips) : Scf.Loop 32 :=
  let c0_i32_534 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1091 : BitVec 32 := Scalar.subi v17 c0_i32_534
  let c1_i32_535 : BitVec 32 := 1#32
  let v1093 : BitVec 32 := Scalar.divsi v1091 c1_i32_535
  let v1094 : BitVec 32 := Scalar.muli v1093 c1_i32_535
  let v1095 : BitVec 32 := Scalar.addi c0_i32_534 v1094
  let c1_i32_536 : BitVec 32 := 1#32
  ⟨c0_i32_534, v1095, c1_i32_536⟩
def k0_off119 (i : grid0.Coords) (k0_t1 : Fin k0_t1_loop.trips) (k0_t34 : Fin (k0_t34_loop i k0_t1).trips) : Fin 4 → Nat :=
  let c0_987 : Index := 0#32
  let c4_988 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_534 : BitVec 32 := 0#32
  let c1_i32_536 : BitVec 32 := 1#32
  let arg14 : BitVec 32 := Scf.iv c0_i32_534 c1_i32_536 k0_t34
  let v1986 : BitVec 32 := Scalar.addi v1090 arg14
  let c128_i32_986 : BitVec 32 := 128#32
  let v1987 : BitVec 32 := Scalar.muli v1986 c128_i32_986
  let v1988 : Index := Scalar.indexCast v1987
  let c0_989 : Index := 0#32
  ![0, 4, v1988.toNat, 0]
def k0_off120 (i : grid0.Coords) (k0_t1 : Fin k0_t1_loop.trips) (k0_t34 : Fin (k0_t34_loop i k0_t1).trips) : Fin 3 → Nat :=
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_534 : BitVec 32 := 0#32
  let c1_i32_536 : BitVec 32 := 1#32
  let arg14 : BitVec 32 := Scf.iv c0_i32_534 c1_i32_536 k0_t34
  let v1986 : BitVec 32 := Scalar.addi v1090 arg14
  let c128_i32_986 : BitVec 32 := 128#32
  let v1987 : BitVec 32 := Scalar.muli v1986 c128_i32_986
  let v1992 : Index := Scalar.indexCast v1987
  let c0_992 : Index := 0#32
  ![4, v1992.toNat, 0]
def k0_off121 (i : grid0.Coords) (k0_t1 : Fin k0_t1_loop.trips) (k0_t34 : Fin (k0_t34_loop i k0_t1).trips) : Fin 3 → Nat :=
  let c1_i32_993 : BitVec 32 := 1#32
  let c0_i32_534 : BitVec 32 := 0#32
  let c1_i32_536 : BitVec 32 := 1#32
  let arg14 : BitVec 32 := Scf.iv c0_i32_534 c1_i32_536 k0_t34
  let v1997 : BitVec 32 := Scalar.addi c1_i32_993 arg14
  let v1998 : Index := Scalar.indexCast v1997
  let c0_994 : Index := 0#32
  let c0_995 : Index := 0#32
  ![v1998.toNat, 0, 0]
@[reducible] def k0_t35_loop (i : grid0.Coords) (k0_t1 : Fin k0_t1_loop.trips) : Scf.Loop 32 :=
  let c0_i32_534 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1091 : BitVec 32 := Scalar.subi v17 c0_i32_534
  let c1_i32_535 : BitVec 32 := 1#32
  let v1093 : BitVec 32 := Scalar.divsi v1091 c1_i32_535
  let v1094 : BitVec 32 := Scalar.muli v1093 c1_i32_535
  let v1095 : BitVec 32 := Scalar.addi c0_i32_534 v1094
  let v1092 : BitVec 32 := Scalar.addi c0_i32_534 v1091
  let c1_i32_537 : BitVec 32 := 1#32
  ⟨v1095, v1092, c1_i32_537⟩
def k0_off122 (i : grid0.Coords) (k0_t1 : Fin k0_t1_loop.trips) (k0_t35 : Fin (k0_t35_loop i k0_t1).trips) : Fin 4 → Nat :=
  let c0_987 : Index := 0#32
  let c4_988 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_534 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1091 : BitVec 32 := Scalar.subi v17 c0_i32_534
  let c1_i32_535 : BitVec 32 := 1#32
  let v1093 : BitVec 32 := Scalar.divsi v1091 c1_i32_535
  let v1094 : BitVec 32 := Scalar.muli v1093 c1_i32_535
  let v1095 : BitVec 32 := Scalar.addi c0_i32_534 v1094
  let c1_i32_537 : BitVec 32 := 1#32
  let arg14 : BitVec 32 := Scf.iv v1095 c1_i32_537 k0_t35
  let v1986 : BitVec 32 := Scalar.addi v1090 arg14
  let c128_i32_986 : BitVec 32 := 128#32
  let v1987 : BitVec 32 := Scalar.muli v1986 c128_i32_986
  let v1988 : Index := Scalar.indexCast v1987
  let c0_989 : Index := 0#32
  ![0, 4, v1988.toNat, 0]
def k0_off123 (i : grid0.Coords) (k0_t1 : Fin k0_t1_loop.trips) (k0_t35 : Fin (k0_t35_loop i k0_t1).trips) : Fin 3 → Nat :=
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_534 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1091 : BitVec 32 := Scalar.subi v17 c0_i32_534
  let c1_i32_535 : BitVec 32 := 1#32
  let v1093 : BitVec 32 := Scalar.divsi v1091 c1_i32_535
  let v1094 : BitVec 32 := Scalar.muli v1093 c1_i32_535
  let v1095 : BitVec 32 := Scalar.addi c0_i32_534 v1094
  let c1_i32_537 : BitVec 32 := 1#32
  let arg14 : BitVec 32 := Scf.iv v1095 c1_i32_537 k0_t35
  let v1986 : BitVec 32 := Scalar.addi v1090 arg14
  let c128_i32_986 : BitVec 32 := 128#32
  let v1987 : BitVec 32 := Scalar.muli v1986 c128_i32_986
  let v1992 : Index := Scalar.indexCast v1987
  let c0_992 : Index := 0#32
  ![4, v1992.toNat, 0]
def k0_off124 (i : grid0.Coords) (k0_t1 : Fin k0_t1_loop.trips) (k0_t35 : Fin (k0_t35_loop i k0_t1).trips) : Fin 3 → Nat :=
  let c1_i32_993 : BitVec 32 := 1#32
  let c0_i32_534 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1091 : BitVec 32 := Scalar.subi v17 c0_i32_534
  let c1_i32_535 : BitVec 32 := 1#32
  let v1093 : BitVec 32 := Scalar.divsi v1091 c1_i32_535
  let v1094 : BitVec 32 := Scalar.muli v1093 c1_i32_535
  let v1095 : BitVec 32 := Scalar.addi c0_i32_534 v1094
  let c1_i32_537 : BitVec 32 := 1#32
  let arg14 : BitVec 32 := Scf.iv v1095 c1_i32_537 k0_t35
  let v1997 : BitVec 32 := Scalar.addi c1_i32_993 arg14
  let v1998 : Index := Scalar.indexCast v1997
  let c0_994 : Index := 0#32
  let c0_995 : Index := 0#32
  ![v1998.toNat, 0, 0]
def k0_off125 (i : grid0.Coords) (k0_t1 : Fin k0_t1_loop.trips) : Fin 5 → Nat :=
  let c0_546 : Index := 0#32
  let c4_547 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v1118 : Index := Scalar.indexCast v11
  let c0_548 : Index := 0#32
  let c0_549 : Index := 0#32
  ![0, 4, v1118.toNat, 0, 0]
def k0_off126 (i : grid0.Coords) (k0_t1 : Fin k0_t1_loop.trips) : Fin 5 → Nat :=
  let c0_551 : Index := 0#32
  let c4_552 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v1122 : Index := Scalar.indexCast v13
  let c0_553 : Index := 0#32
  let c0_554 : Index := 0#32
  ![0, 4, v1122.toNat, 0, 0]
@[reducible] def k0_t36_loop (i : grid0.Coords) (k0_t1 : Fin k0_t1_loop.trips) : Scf.Loop 32 :=
  let c0_i32_556 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1127 : BitVec 32 := Scalar.subi v17 c0_i32_556
  let c1_i32_557 : BitVec 32 := 1#32
  let v1129 : BitVec 32 := Scalar.divsi v1127 c1_i32_557
  let v1130 : BitVec 32 := Scalar.muli v1129 c1_i32_557
  let v1131 : BitVec 32 := Scalar.addi c0_i32_556 v1130
  let c1_i32_558 : BitVec 32 := 1#32
  ⟨c0_i32_556, v1131, c1_i32_558⟩
def k0_off127 (i : grid0.Coords) (k0_t1 : Fin k0_t1_loop.trips) (k0_t36 : Fin (k0_t36_loop i k0_t1).trips) : Fin 3 → Nat :=
  let c1_i32_986 : BitVec 32 := 1#32
  let c0_i32_556 : BitVec 32 := 0#32
  let c1_i32_558 : BitVec 32 := 1#32
  let arg14 : BitVec 32 := Scf.iv c0_i32_556 c1_i32_558 k0_t36
  let v1986 : BitVec 32 := Scalar.addi c1_i32_986 arg14
  let v1987 : Index := Scalar.indexCast v1986
  let c0_987 : Index := 0#32
  let c0_988 : Index := 0#32
  ![v1987.toNat, 0, 0]
def k0_off128 (i : grid0.Coords) (k0_t1 : Fin k0_t1_loop.trips) (k0_t36 : Fin (k0_t36_loop i k0_t1).trips) : Fin 5 → Nat :=
  let c0_990 : Index := 0#32
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_556 : BitVec 32 := 0#32
  let c1_i32_558 : BitVec 32 := 1#32
  let arg14 : BitVec 32 := Scf.iv c0_i32_556 c1_i32_558 k0_t36
  let v1998 : BitVec 32 := Scalar.addi v1090 arg14
  let v1999 : Index := Scalar.indexCast v1998
  let c0_992 : Index := 0#32
  let c0_993 : Index := 0#32
  ![0, 4, v1999.toNat, 0, 0]
@[reducible] def k0_t37_loop (i : grid0.Coords) (k0_t1 : Fin k0_t1_loop.trips) : Scf.Loop 32 :=
  let c0_i32_556 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1127 : BitVec 32 := Scalar.subi v17 c0_i32_556
  let c1_i32_557 : BitVec 32 := 1#32
  let v1129 : BitVec 32 := Scalar.divsi v1127 c1_i32_557
  let v1130 : BitVec 32 := Scalar.muli v1129 c1_i32_557
  let v1131 : BitVec 32 := Scalar.addi c0_i32_556 v1130
  let v1128 : BitVec 32 := Scalar.addi c0_i32_556 v1127
  let c1_i32_559 : BitVec 32 := 1#32
  ⟨v1131, v1128, c1_i32_559⟩
def k0_off129 (i : grid0.Coords) (k0_t1 : Fin k0_t1_loop.trips) (k0_t37 : Fin (k0_t37_loop i k0_t1).trips) : Fin 3 → Nat :=
  let c1_i32_986 : BitVec 32 := 1#32
  let c0_i32_556 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1127 : BitVec 32 := Scalar.subi v17 c0_i32_556
  let c1_i32_557 : BitVec 32 := 1#32
  let v1129 : BitVec 32 := Scalar.divsi v1127 c1_i32_557
  let v1130 : BitVec 32 := Scalar.muli v1129 c1_i32_557
  let v1131 : BitVec 32 := Scalar.addi c0_i32_556 v1130
  let c1_i32_559 : BitVec 32 := 1#32
  let arg14 : BitVec 32 := Scf.iv v1131 c1_i32_559 k0_t37
  let v1986 : BitVec 32 := Scalar.addi c1_i32_986 arg14
  let v1987 : Index := Scalar.indexCast v1986
  let c0_987 : Index := 0#32
  let c0_988 : Index := 0#32
  ![v1987.toNat, 0, 0]
def k0_off130 (i : grid0.Coords) (k0_t1 : Fin k0_t1_loop.trips) (k0_t37 : Fin (k0_t37_loop i k0_t1).trips) : Fin 5 → Nat :=
  let c0_990 : Index := 0#32
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_532 : BitVec 32 := 8#32
  let v1088 : BitVec 1 := Scalar.cmpi .sge v11 c8_i32_532
  let c8_i32 : BitVec 32 := 8#32
  let v12 : BitVec 32 := Scalar.subi v11 c8_i32
  let c0_i32_4 : BitVec 32 := 0#32
  let v13 : BitVec 32 := Scalar.maxsi v12 c0_i32_4
  let c1_i32_533 : BitVec 32 := 1#32
  let v1089 : BitVec 32 := Scalar.addi v13 c1_i32_533
  let v1090 : BitVec 32 := Scalar.select v1088 v1089 v13
  let c0_i32_556 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1127 : BitVec 32 := Scalar.subi v17 c0_i32_556
  let c1_i32_557 : BitVec 32 := 1#32
  let v1129 : BitVec 32 := Scalar.divsi v1127 c1_i32_557
  let v1130 : BitVec 32 := Scalar.muli v1129 c1_i32_557
  let v1131 : BitVec 32 := Scalar.addi c0_i32_556 v1130
  let c1_i32_559 : BitVec 32 := 1#32
  let arg14 : BitVec 32 := Scf.iv v1131 c1_i32_559 k0_t37
  let v1998 : BitVec 32 := Scalar.addi v1090 arg14
  let v1999 : Index := Scalar.indexCast v1998
  let c0_992 : Index := 0#32
  let c0_993 : Index := 0#32
  ![0, 4, v1999.toNat, 0, 0]
@[reducible] def k0_t38_loop (i : grid0.Coords) (k0_t1 : Fin k0_t1_loop.trips) : Scf.Loop 32 :=
  let c0_i32_588 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1189 : BitVec 32 := Scalar.subi v17 c0_i32_588
  let c1_i32_589 : BitVec 32 := 1#32
  let v1191 : BitVec 32 := Scalar.divsi v1189 c1_i32_589
  let v1192 : BitVec 32 := Scalar.muli v1191 c1_i32_589
  let v1193 : BitVec 32 := Scalar.addi c0_i32_588 v1192
  let c1_i32_590 : BitVec 32 := 1#32
  ⟨c0_i32_588, v1193, c1_i32_590⟩
def k0_off131 (i : grid0.Coords) (k0_t1 : Fin k0_t1_loop.trips) (k0_t38 : Fin (k0_t38_loop i k0_t1).trips) : Fin 4 → Nat :=
  let c0_987 : Index := 0#32
  let c4_988 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_588 : BitVec 32 := 0#32
  let c1_i32_590 : BitVec 32 := 1#32
  let arg14 : BitVec 32 := Scf.iv c0_i32_588 c1_i32_590 k0_t38
  let v1986 : BitVec 32 := Scalar.addi v1188 arg14
  let c128_i32_986 : BitVec 32 := 128#32
  let v1987 : BitVec 32 := Scalar.muli v1986 c128_i32_986
  let v1988 : Index := Scalar.indexCast v1987
  let c0_989 : Index := 0#32
  ![0, 4, v1988.toNat, 0]
def k0_off132 (i : grid0.Coords) (k0_t1 : Fin k0_t1_loop.trips) (k0_t38 : Fin (k0_t38_loop i k0_t1).trips) : Fin 3 → Nat :=
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_588 : BitVec 32 := 0#32
  let c1_i32_590 : BitVec 32 := 1#32
  let arg14 : BitVec 32 := Scf.iv c0_i32_588 c1_i32_590 k0_t38
  let v1986 : BitVec 32 := Scalar.addi v1188 arg14
  let c128_i32_986 : BitVec 32 := 128#32
  let v1987 : BitVec 32 := Scalar.muli v1986 c128_i32_986
  let v1992 : Index := Scalar.indexCast v1987
  let c0_992 : Index := 0#32
  ![4, v1992.toNat, 0]
def k0_off133 (i : grid0.Coords) (k0_t1 : Fin k0_t1_loop.trips) (k0_t38 : Fin (k0_t38_loop i k0_t1).trips) : Fin 3 → Nat :=
  let c1_i32_993 : BitVec 32 := 1#32
  let c0_i32_588 : BitVec 32 := 0#32
  let c1_i32_590 : BitVec 32 := 1#32
  let arg14 : BitVec 32 := Scf.iv c0_i32_588 c1_i32_590 k0_t38
  let v1997 : BitVec 32 := Scalar.addi c1_i32_993 arg14
  let v1998 : Index := Scalar.indexCast v1997
  let c0_994 : Index := 0#32
  let c0_995 : Index := 0#32
  ![v1998.toNat, 0, 0]
@[reducible] def k0_t39_loop (i : grid0.Coords) (k0_t1 : Fin k0_t1_loop.trips) : Scf.Loop 32 :=
  let c0_i32_588 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1189 : BitVec 32 := Scalar.subi v17 c0_i32_588
  let c1_i32_589 : BitVec 32 := 1#32
  let v1191 : BitVec 32 := Scalar.divsi v1189 c1_i32_589
  let v1192 : BitVec 32 := Scalar.muli v1191 c1_i32_589
  let v1193 : BitVec 32 := Scalar.addi c0_i32_588 v1192
  let v1190 : BitVec 32 := Scalar.addi c0_i32_588 v1189
  let c1_i32_591 : BitVec 32 := 1#32
  ⟨v1193, v1190, c1_i32_591⟩
def k0_off134 (i : grid0.Coords) (k0_t1 : Fin k0_t1_loop.trips) (k0_t39 : Fin (k0_t39_loop i k0_t1).trips) : Fin 4 → Nat :=
  let c0_987 : Index := 0#32
  let c4_988 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_588 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1189 : BitVec 32 := Scalar.subi v17 c0_i32_588
  let c1_i32_589 : BitVec 32 := 1#32
  let v1191 : BitVec 32 := Scalar.divsi v1189 c1_i32_589
  let v1192 : BitVec 32 := Scalar.muli v1191 c1_i32_589
  let v1193 : BitVec 32 := Scalar.addi c0_i32_588 v1192
  let c1_i32_591 : BitVec 32 := 1#32
  let arg14 : BitVec 32 := Scf.iv v1193 c1_i32_591 k0_t39
  let v1986 : BitVec 32 := Scalar.addi v1188 arg14
  let c128_i32_986 : BitVec 32 := 128#32
  let v1987 : BitVec 32 := Scalar.muli v1986 c128_i32_986
  let v1988 : Index := Scalar.indexCast v1987
  let c0_989 : Index := 0#32
  ![0, 4, v1988.toNat, 0]
def k0_off135 (i : grid0.Coords) (k0_t1 : Fin k0_t1_loop.trips) (k0_t39 : Fin (k0_t39_loop i k0_t1).trips) : Fin 3 → Nat :=
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_588 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1189 : BitVec 32 := Scalar.subi v17 c0_i32_588
  let c1_i32_589 : BitVec 32 := 1#32
  let v1191 : BitVec 32 := Scalar.divsi v1189 c1_i32_589
  let v1192 : BitVec 32 := Scalar.muli v1191 c1_i32_589
  let v1193 : BitVec 32 := Scalar.addi c0_i32_588 v1192
  let c1_i32_591 : BitVec 32 := 1#32
  let arg14 : BitVec 32 := Scf.iv v1193 c1_i32_591 k0_t39
  let v1986 : BitVec 32 := Scalar.addi v1188 arg14
  let c128_i32_986 : BitVec 32 := 128#32
  let v1987 : BitVec 32 := Scalar.muli v1986 c128_i32_986
  let v1992 : Index := Scalar.indexCast v1987
  let c0_992 : Index := 0#32
  ![4, v1992.toNat, 0]
def k0_off136 (i : grid0.Coords) (k0_t1 : Fin k0_t1_loop.trips) (k0_t39 : Fin (k0_t39_loop i k0_t1).trips) : Fin 3 → Nat :=
  let c1_i32_993 : BitVec 32 := 1#32
  let c0_i32_588 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1189 : BitVec 32 := Scalar.subi v17 c0_i32_588
  let c1_i32_589 : BitVec 32 := 1#32
  let v1191 : BitVec 32 := Scalar.divsi v1189 c1_i32_589
  let v1192 : BitVec 32 := Scalar.muli v1191 c1_i32_589
  let v1193 : BitVec 32 := Scalar.addi c0_i32_588 v1192
  let c1_i32_591 : BitVec 32 := 1#32
  let arg14 : BitVec 32 := Scf.iv v1193 c1_i32_591 k0_t39
  let v1997 : BitVec 32 := Scalar.addi c1_i32_993 arg14
  let v1998 : Index := Scalar.indexCast v1997
  let c0_994 : Index := 0#32
  let c0_995 : Index := 0#32
  ![v1998.toNat, 0, 0]
@[reducible] def k0_t40_loop (i : grid0.Coords) (k0_t1 : Fin k0_t1_loop.trips) : Scf.Loop 32 :=
  let c0_i32_610 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1225 : BitVec 32 := Scalar.subi v17 c0_i32_610
  let c1_i32_611 : BitVec 32 := 1#32
  let v1227 : BitVec 32 := Scalar.divsi v1225 c1_i32_611
  let v1228 : BitVec 32 := Scalar.muli v1227 c1_i32_611
  let v1229 : BitVec 32 := Scalar.addi c0_i32_610 v1228
  let c1_i32_612 : BitVec 32 := 1#32
  ⟨c0_i32_610, v1229, c1_i32_612⟩
def k0_off137 (i : grid0.Coords) (k0_t1 : Fin k0_t1_loop.trips) (k0_t40 : Fin (k0_t40_loop i k0_t1).trips) : Fin 3 → Nat :=
  let c1_i32_986 : BitVec 32 := 1#32
  let c0_i32_610 : BitVec 32 := 0#32
  let c1_i32_612 : BitVec 32 := 1#32
  let arg14 : BitVec 32 := Scf.iv c0_i32_610 c1_i32_612 k0_t40
  let v1986 : BitVec 32 := Scalar.addi c1_i32_986 arg14
  let v1987 : Index := Scalar.indexCast v1986
  let c0_987 : Index := 0#32
  let c0_988 : Index := 0#32
  ![v1987.toNat, 0, 0]
def k0_off138 (i : grid0.Coords) (k0_t1 : Fin k0_t1_loop.trips) (k0_t40 : Fin (k0_t40_loop i k0_t1).trips) : Fin 5 → Nat :=
  let c0_990 : Index := 0#32
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_610 : BitVec 32 := 0#32
  let c1_i32_612 : BitVec 32 := 1#32
  let arg14 : BitVec 32 := Scf.iv c0_i32_610 c1_i32_612 k0_t40
  let v1998 : BitVec 32 := Scalar.addi v1188 arg14
  let v1999 : Index := Scalar.indexCast v1998
  let c0_992 : Index := 0#32
  let c0_993 : Index := 0#32
  ![0, 4, v1999.toNat, 0, 0]
@[reducible] def k0_t41_loop (i : grid0.Coords) (k0_t1 : Fin k0_t1_loop.trips) : Scf.Loop 32 :=
  let c0_i32_610 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1225 : BitVec 32 := Scalar.subi v17 c0_i32_610
  let c1_i32_611 : BitVec 32 := 1#32
  let v1227 : BitVec 32 := Scalar.divsi v1225 c1_i32_611
  let v1228 : BitVec 32 := Scalar.muli v1227 c1_i32_611
  let v1229 : BitVec 32 := Scalar.addi c0_i32_610 v1228
  let v1226 : BitVec 32 := Scalar.addi c0_i32_610 v1225
  let c1_i32_613 : BitVec 32 := 1#32
  ⟨v1229, v1226, c1_i32_613⟩
def k0_off139 (i : grid0.Coords) (k0_t1 : Fin k0_t1_loop.trips) (k0_t41 : Fin (k0_t41_loop i k0_t1).trips) : Fin 3 → Nat :=
  let c1_i32_986 : BitVec 32 := 1#32
  let c0_i32_610 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1225 : BitVec 32 := Scalar.subi v17 c0_i32_610
  let c1_i32_611 : BitVec 32 := 1#32
  let v1227 : BitVec 32 := Scalar.divsi v1225 c1_i32_611
  let v1228 : BitVec 32 := Scalar.muli v1227 c1_i32_611
  let v1229 : BitVec 32 := Scalar.addi c0_i32_610 v1228
  let c1_i32_613 : BitVec 32 := 1#32
  let arg14 : BitVec 32 := Scf.iv v1229 c1_i32_613 k0_t41
  let v1986 : BitVec 32 := Scalar.addi c1_i32_986 arg14
  let v1987 : Index := Scalar.indexCast v1986
  let c0_987 : Index := 0#32
  let c0_988 : Index := 0#32
  ![v1987.toNat, 0, 0]
def k0_off140 (i : grid0.Coords) (k0_t1 : Fin k0_t1_loop.trips) (k0_t41 : Fin (k0_t41_loop i k0_t1).trips) : Fin 5 → Nat :=
  let c0_990 : Index := 0#32
  let c4_991 : Index := 4#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_586 : BitVec 32 := 8#32
  let v1186 : BitVec 1 := Scalar.cmpi .sge v11 c8_i32_586
  let c8_i32 : BitVec 32 := 8#32
  let v12 : BitVec 32 := Scalar.subi v11 c8_i32
  let c0_i32_4 : BitVec 32 := 0#32
  let v13 : BitVec 32 := Scalar.maxsi v12 c0_i32_4
  let c1_i32_587 : BitVec 32 := 1#32
  let v1187 : BitVec 32 := Scalar.addi v13 c1_i32_587
  let v1188 : BitVec 32 := Scalar.select v1186 v1187 v13
  let c0_i32_610 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1225 : BitVec 32 := Scalar.subi v17 c0_i32_610
  let c1_i32_611 : BitVec 32 := 1#32
  let v1227 : BitVec 32 := Scalar.divsi v1225 c1_i32_611
  let v1228 : BitVec 32 := Scalar.muli v1227 c1_i32_611
  let v1229 : BitVec 32 := Scalar.addi c0_i32_610 v1228
  let c1_i32_613 : BitVec 32 := 1#32
  let arg14 : BitVec 32 := Scf.iv v1229 c1_i32_613 k0_t41
  let v1998 : BitVec 32 := Scalar.addi v1188 arg14
  let v1999 : Index := Scalar.indexCast v1998
  let c0_992 : Index := 0#32
  let c0_993 : Index := 0#32
  ![0, 4, v1999.toNat, 0, 0]
def k0_off141 (k0_t1 : Fin k0_t1_loop.trips) : Fin 3 → Nat :=
  let c0_620 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1248 : Index := Scalar.indexCast v9
  let c1280 : Index := 1280#32
  ![0, v1248.toNat, 1280]
def k0_off142 (k0_t1 : Fin k0_t1_loop.trips) : Fin 3 → Nat :=
  let c0_628 : Index := 0#32
  let c20 : Index := 20#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1272 : Index := Scalar.indexCast v9
  ![0, 20, v1272.toNat]
def k0_off143 (i : grid0.Coords) (k0_t1 : Fin k0_t1_loop.trips) : Fin 4 → Nat :=
  let c0_635 : Index := 0#32
  let c5 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_634 : BitVec 32 := 128#32
  let v1301 : BitVec 32 := Scalar.muli v11 c128_i32_634
  let v1302 : Index := Scalar.indexCast v1301
  let c0_636 : Index := 0#32
  ![0, 5, v1302.toNat, 0]
def k0_off144 (i : grid0.Coords) (k0_t1 : Fin k0_t1_loop.trips) : Fin 3 → Nat :=
  let c5_638 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_634 : BitVec 32 := 128#32
  let v1301 : BitVec 32 := Scalar.muli v11 c128_i32_634
  let v1306 : Index := Scalar.indexCast v1301
  let c0_639 : Index := 0#32
  ![5, v1306.toNat, 0]
def k0_off145 (i : grid0.Coords) (k0_t1 : Fin k0_t1_loop.trips) : Fin 4 → Nat :=
  let c0_641 : Index := 0#32
  let c5_642 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_640 : BitVec 32 := 128#32
  let v1310 : BitVec 32 := Scalar.muli v13 c128_i32_640
  let v1311 : Index := Scalar.indexCast v1310
  let c0_643 : Index := 0#32
  ![0, 5, v1311.toNat, 0]
def k0_off146 (i : grid0.Coords) (k0_t1 : Fin k0_t1_loop.trips) : Fin 3 → Nat :=
  let c5_645 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_640 : BitVec 32 := 128#32
  let v1310 : BitVec 32 := Scalar.muli v13 c128_i32_640
  let v1315 : Index := Scalar.indexCast v1310
  let c0_646 : Index := 0#32
  ![5, v1315.toNat, 0]
@[reducible] def k0_t42_loop (i : grid0.Coords) (k0_t1 : Fin k0_t1_loop.trips) : Scf.Loop 32 :=
  let c0_i32_656 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1337 : BitVec 32 := Scalar.subi v17 c0_i32_656
  let c1_i32_657 : BitVec 32 := 1#32
  let v1339 : BitVec 32 := Scalar.divsi v1337 c1_i32_657
  let v1340 : BitVec 32 := Scalar.muli v1339 c1_i32_657
  let v1341 : BitVec 32 := Scalar.addi c0_i32_656 v1340
  let c1_i32_658 : BitVec 32 := 1#32
  ⟨c0_i32_656, v1341, c1_i32_658⟩
def k0_off147 (i : grid0.Coords) (k0_t1 : Fin k0_t1_loop.trips) (k0_t42 : Fin (k0_t42_loop i k0_t1).trips) : Fin 4 → Nat :=
  let c0_987 : Index := 0#32
  let c5_988 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_656 : BitVec 32 := 0#32
  let c1_i32_658 : BitVec 32 := 1#32
  let arg14 : BitVec 32 := Scf.iv c0_i32_656 c1_i32_658 k0_t42
  let v1986 : BitVec 32 := Scalar.addi v1336 arg14
  let c128_i32_986 : BitVec 32 := 128#32
  let v1987 : BitVec 32 := Scalar.muli v1986 c128_i32_986
  let v1988 : Index := Scalar.indexCast v1987
  let c0_989 : Index := 0#32
  ![0, 5, v1988.toNat, 0]
def k0_off148 (i : grid0.Coords) (k0_t1 : Fin k0_t1_loop.trips) (k0_t42 : Fin (k0_t42_loop i k0_t1).trips) : Fin 3 → Nat :=
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_656 : BitVec 32 := 0#32
  let c1_i32_658 : BitVec 32 := 1#32
  let arg14 : BitVec 32 := Scf.iv c0_i32_656 c1_i32_658 k0_t42
  let v1986 : BitVec 32 := Scalar.addi v1336 arg14
  let c128_i32_986 : BitVec 32 := 128#32
  let v1987 : BitVec 32 := Scalar.muli v1986 c128_i32_986
  let v1992 : Index := Scalar.indexCast v1987
  let c0_992 : Index := 0#32
  ![5, v1992.toNat, 0]
def k0_off149 (i : grid0.Coords) (k0_t1 : Fin k0_t1_loop.trips) (k0_t42 : Fin (k0_t42_loop i k0_t1).trips) : Fin 3 → Nat :=
  let c1_i32_993 : BitVec 32 := 1#32
  let c0_i32_656 : BitVec 32 := 0#32
  let c1_i32_658 : BitVec 32 := 1#32
  let arg14 : BitVec 32 := Scf.iv c0_i32_656 c1_i32_658 k0_t42
  let v1997 : BitVec 32 := Scalar.addi c1_i32_993 arg14
  let v1998 : Index := Scalar.indexCast v1997
  let c0_994 : Index := 0#32
  let c0_995 : Index := 0#32
  ![v1998.toNat, 0, 0]
@[reducible] def k0_t43_loop (i : grid0.Coords) (k0_t1 : Fin k0_t1_loop.trips) : Scf.Loop 32 :=
  let c0_i32_656 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1337 : BitVec 32 := Scalar.subi v17 c0_i32_656
  let c1_i32_657 : BitVec 32 := 1#32
  let v1339 : BitVec 32 := Scalar.divsi v1337 c1_i32_657
  let v1340 : BitVec 32 := Scalar.muli v1339 c1_i32_657
  let v1341 : BitVec 32 := Scalar.addi c0_i32_656 v1340
  let v1338 : BitVec 32 := Scalar.addi c0_i32_656 v1337
  let c1_i32_659 : BitVec 32 := 1#32
  ⟨v1341, v1338, c1_i32_659⟩
def k0_off150 (i : grid0.Coords) (k0_t1 : Fin k0_t1_loop.trips) (k0_t43 : Fin (k0_t43_loop i k0_t1).trips) : Fin 4 → Nat :=
  let c0_987 : Index := 0#32
  let c5_988 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_656 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1337 : BitVec 32 := Scalar.subi v17 c0_i32_656
  let c1_i32_657 : BitVec 32 := 1#32
  let v1339 : BitVec 32 := Scalar.divsi v1337 c1_i32_657
  let v1340 : BitVec 32 := Scalar.muli v1339 c1_i32_657
  let v1341 : BitVec 32 := Scalar.addi c0_i32_656 v1340
  let c1_i32_659 : BitVec 32 := 1#32
  let arg14 : BitVec 32 := Scf.iv v1341 c1_i32_659 k0_t43
  let v1986 : BitVec 32 := Scalar.addi v1336 arg14
  let c128_i32_986 : BitVec 32 := 128#32
  let v1987 : BitVec 32 := Scalar.muli v1986 c128_i32_986
  let v1988 : Index := Scalar.indexCast v1987
  let c0_989 : Index := 0#32
  ![0, 5, v1988.toNat, 0]
def k0_off151 (i : grid0.Coords) (k0_t1 : Fin k0_t1_loop.trips) (k0_t43 : Fin (k0_t43_loop i k0_t1).trips) : Fin 3 → Nat :=
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_656 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1337 : BitVec 32 := Scalar.subi v17 c0_i32_656
  let c1_i32_657 : BitVec 32 := 1#32
  let v1339 : BitVec 32 := Scalar.divsi v1337 c1_i32_657
  let v1340 : BitVec 32 := Scalar.muli v1339 c1_i32_657
  let v1341 : BitVec 32 := Scalar.addi c0_i32_656 v1340
  let c1_i32_659 : BitVec 32 := 1#32
  let arg14 : BitVec 32 := Scf.iv v1341 c1_i32_659 k0_t43
  let v1986 : BitVec 32 := Scalar.addi v1336 arg14
  let c128_i32_986 : BitVec 32 := 128#32
  let v1987 : BitVec 32 := Scalar.muli v1986 c128_i32_986
  let v1992 : Index := Scalar.indexCast v1987
  let c0_992 : Index := 0#32
  ![5, v1992.toNat, 0]
def k0_off152 (i : grid0.Coords) (k0_t1 : Fin k0_t1_loop.trips) (k0_t43 : Fin (k0_t43_loop i k0_t1).trips) : Fin 3 → Nat :=
  let c1_i32_993 : BitVec 32 := 1#32
  let c0_i32_656 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1337 : BitVec 32 := Scalar.subi v17 c0_i32_656
  let c1_i32_657 : BitVec 32 := 1#32
  let v1339 : BitVec 32 := Scalar.divsi v1337 c1_i32_657
  let v1340 : BitVec 32 := Scalar.muli v1339 c1_i32_657
  let v1341 : BitVec 32 := Scalar.addi c0_i32_656 v1340
  let c1_i32_659 : BitVec 32 := 1#32
  let arg14 : BitVec 32 := Scf.iv v1341 c1_i32_659 k0_t43
  let v1997 : BitVec 32 := Scalar.addi c1_i32_993 arg14
  let v1998 : Index := Scalar.indexCast v1997
  let c0_994 : Index := 0#32
  let c0_995 : Index := 0#32
  ![v1998.toNat, 0, 0]
def k0_off153 (i : grid0.Coords) (k0_t1 : Fin k0_t1_loop.trips) : Fin 5 → Nat :=
  let c0_668 : Index := 0#32
  let c5_669 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v1364 : Index := Scalar.indexCast v11
  let c0_670 : Index := 0#32
  let c0_671 : Index := 0#32
  ![0, 5, v1364.toNat, 0, 0]
def k0_off154 (i : grid0.Coords) (k0_t1 : Fin k0_t1_loop.trips) : Fin 5 → Nat :=
  let c0_673 : Index := 0#32
  let c5_674 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v1368 : Index := Scalar.indexCast v13
  let c0_675 : Index := 0#32
  let c0_676 : Index := 0#32
  ![0, 5, v1368.toNat, 0, 0]
@[reducible] def k0_t44_loop (i : grid0.Coords) (k0_t1 : Fin k0_t1_loop.trips) : Scf.Loop 32 :=
  let c0_i32_678 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1373 : BitVec 32 := Scalar.subi v17 c0_i32_678
  let c1_i32_679 : BitVec 32 := 1#32
  let v1375 : BitVec 32 := Scalar.divsi v1373 c1_i32_679
  let v1376 : BitVec 32 := Scalar.muli v1375 c1_i32_679
  let v1377 : BitVec 32 := Scalar.addi c0_i32_678 v1376
  let c1_i32_680 : BitVec 32 := 1#32
  ⟨c0_i32_678, v1377, c1_i32_680⟩
def k0_off155 (i : grid0.Coords) (k0_t1 : Fin k0_t1_loop.trips) (k0_t44 : Fin (k0_t44_loop i k0_t1).trips) : Fin 3 → Nat :=
  let c1_i32_986 : BitVec 32 := 1#32
  let c0_i32_678 : BitVec 32 := 0#32
  let c1_i32_680 : BitVec 32 := 1#32
  let arg14 : BitVec 32 := Scf.iv c0_i32_678 c1_i32_680 k0_t44
  let v1986 : BitVec 32 := Scalar.addi c1_i32_986 arg14
  let v1987 : Index := Scalar.indexCast v1986
  let c0_987 : Index := 0#32
  let c0_988 : Index := 0#32
  ![v1987.toNat, 0, 0]
def k0_off156 (i : grid0.Coords) (k0_t1 : Fin k0_t1_loop.trips) (k0_t44 : Fin (k0_t44_loop i k0_t1).trips) : Fin 5 → Nat :=
  let c0_990 : Index := 0#32
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_678 : BitVec 32 := 0#32
  let c1_i32_680 : BitVec 32 := 1#32
  let arg14 : BitVec 32 := Scf.iv c0_i32_678 c1_i32_680 k0_t44
  let v1998 : BitVec 32 := Scalar.addi v1336 arg14
  let v1999 : Index := Scalar.indexCast v1998
  let c0_992 : Index := 0#32
  let c0_993 : Index := 0#32
  ![0, 5, v1999.toNat, 0, 0]
@[reducible] def k0_t45_loop (i : grid0.Coords) (k0_t1 : Fin k0_t1_loop.trips) : Scf.Loop 32 :=
  let c0_i32_678 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1373 : BitVec 32 := Scalar.subi v17 c0_i32_678
  let c1_i32_679 : BitVec 32 := 1#32
  let v1375 : BitVec 32 := Scalar.divsi v1373 c1_i32_679
  let v1376 : BitVec 32 := Scalar.muli v1375 c1_i32_679
  let v1377 : BitVec 32 := Scalar.addi c0_i32_678 v1376
  let v1374 : BitVec 32 := Scalar.addi c0_i32_678 v1373
  let c1_i32_681 : BitVec 32 := 1#32
  ⟨v1377, v1374, c1_i32_681⟩
def k0_off157 (i : grid0.Coords) (k0_t1 : Fin k0_t1_loop.trips) (k0_t45 : Fin (k0_t45_loop i k0_t1).trips) : Fin 3 → Nat :=
  let c1_i32_986 : BitVec 32 := 1#32
  let c0_i32_678 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1373 : BitVec 32 := Scalar.subi v17 c0_i32_678
  let c1_i32_679 : BitVec 32 := 1#32
  let v1375 : BitVec 32 := Scalar.divsi v1373 c1_i32_679
  let v1376 : BitVec 32 := Scalar.muli v1375 c1_i32_679
  let v1377 : BitVec 32 := Scalar.addi c0_i32_678 v1376
  let c1_i32_681 : BitVec 32 := 1#32
  let arg14 : BitVec 32 := Scf.iv v1377 c1_i32_681 k0_t45
  let v1986 : BitVec 32 := Scalar.addi c1_i32_986 arg14
  let v1987 : Index := Scalar.indexCast v1986
  let c0_987 : Index := 0#32
  let c0_988 : Index := 0#32
  ![v1987.toNat, 0, 0]
def k0_off158 (i : grid0.Coords) (k0_t1 : Fin k0_t1_loop.trips) (k0_t45 : Fin (k0_t45_loop i k0_t1).trips) : Fin 5 → Nat :=
  let c0_990 : Index := 0#32
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_654 : BitVec 32 := 8#32
  let v1334 : BitVec 1 := Scalar.cmpi .sge v11 c8_i32_654
  let c8_i32 : BitVec 32 := 8#32
  let v12 : BitVec 32 := Scalar.subi v11 c8_i32
  let c0_i32_4 : BitVec 32 := 0#32
  let v13 : BitVec 32 := Scalar.maxsi v12 c0_i32_4
  let c1_i32_655 : BitVec 32 := 1#32
  let v1335 : BitVec 32 := Scalar.addi v13 c1_i32_655
  let v1336 : BitVec 32 := Scalar.select v1334 v1335 v13
  let c0_i32_678 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1373 : BitVec 32 := Scalar.subi v17 c0_i32_678
  let c1_i32_679 : BitVec 32 := 1#32
  let v1375 : BitVec 32 := Scalar.divsi v1373 c1_i32_679
  let v1376 : BitVec 32 := Scalar.muli v1375 c1_i32_679
  let v1377 : BitVec 32 := Scalar.addi c0_i32_678 v1376
  let c1_i32_681 : BitVec 32 := 1#32
  let arg14 : BitVec 32 := Scf.iv v1377 c1_i32_681 k0_t45
  let v1998 : BitVec 32 := Scalar.addi v1336 arg14
  let v1999 : Index := Scalar.indexCast v1998
  let c0_992 : Index := 0#32
  let c0_993 : Index := 0#32
  ![0, 5, v1999.toNat, 0, 0]
@[reducible] def k0_t46_loop (i : grid0.Coords) (k0_t1 : Fin k0_t1_loop.trips) : Scf.Loop 32 :=
  let c0_i32_710 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1435 : BitVec 32 := Scalar.subi v17 c0_i32_710
  let c1_i32_711 : BitVec 32 := 1#32
  let v1437 : BitVec 32 := Scalar.divsi v1435 c1_i32_711
  let v1438 : BitVec 32 := Scalar.muli v1437 c1_i32_711
  let v1439 : BitVec 32 := Scalar.addi c0_i32_710 v1438
  let c1_i32_712 : BitVec 32 := 1#32
  ⟨c0_i32_710, v1439, c1_i32_712⟩
def k0_off159 (i : grid0.Coords) (k0_t1 : Fin k0_t1_loop.trips) (k0_t46 : Fin (k0_t46_loop i k0_t1).trips) : Fin 4 → Nat :=
  let c0_987 : Index := 0#32
  let c5_988 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_710 : BitVec 32 := 0#32
  let c1_i32_712 : BitVec 32 := 1#32
  let arg14 : BitVec 32 := Scf.iv c0_i32_710 c1_i32_712 k0_t46
  let v1986 : BitVec 32 := Scalar.addi v1434 arg14
  let c128_i32_986 : BitVec 32 := 128#32
  let v1987 : BitVec 32 := Scalar.muli v1986 c128_i32_986
  let v1988 : Index := Scalar.indexCast v1987
  let c0_989 : Index := 0#32
  ![0, 5, v1988.toNat, 0]
def k0_off160 (i : grid0.Coords) (k0_t1 : Fin k0_t1_loop.trips) (k0_t46 : Fin (k0_t46_loop i k0_t1).trips) : Fin 3 → Nat :=
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_710 : BitVec 32 := 0#32
  let c1_i32_712 : BitVec 32 := 1#32
  let arg14 : BitVec 32 := Scf.iv c0_i32_710 c1_i32_712 k0_t46
  let v1986 : BitVec 32 := Scalar.addi v1434 arg14
  let c128_i32_986 : BitVec 32 := 128#32
  let v1987 : BitVec 32 := Scalar.muli v1986 c128_i32_986
  let v1992 : Index := Scalar.indexCast v1987
  let c0_992 : Index := 0#32
  ![5, v1992.toNat, 0]
def k0_off161 (i : grid0.Coords) (k0_t1 : Fin k0_t1_loop.trips) (k0_t46 : Fin (k0_t46_loop i k0_t1).trips) : Fin 3 → Nat :=
  let c1_i32_993 : BitVec 32 := 1#32
  let c0_i32_710 : BitVec 32 := 0#32
  let c1_i32_712 : BitVec 32 := 1#32
  let arg14 : BitVec 32 := Scf.iv c0_i32_710 c1_i32_712 k0_t46
  let v1997 : BitVec 32 := Scalar.addi c1_i32_993 arg14
  let v1998 : Index := Scalar.indexCast v1997
  let c0_994 : Index := 0#32
  let c0_995 : Index := 0#32
  ![v1998.toNat, 0, 0]
@[reducible] def k0_t47_loop (i : grid0.Coords) (k0_t1 : Fin k0_t1_loop.trips) : Scf.Loop 32 :=
  let c0_i32_710 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1435 : BitVec 32 := Scalar.subi v17 c0_i32_710
  let c1_i32_711 : BitVec 32 := 1#32
  let v1437 : BitVec 32 := Scalar.divsi v1435 c1_i32_711
  let v1438 : BitVec 32 := Scalar.muli v1437 c1_i32_711
  let v1439 : BitVec 32 := Scalar.addi c0_i32_710 v1438
  let v1436 : BitVec 32 := Scalar.addi c0_i32_710 v1435
  let c1_i32_713 : BitVec 32 := 1#32
  ⟨v1439, v1436, c1_i32_713⟩
def k0_off162 (i : grid0.Coords) (k0_t1 : Fin k0_t1_loop.trips) (k0_t47 : Fin (k0_t47_loop i k0_t1).trips) : Fin 4 → Nat :=
  let c0_987 : Index := 0#32
  let c5_988 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_710 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1435 : BitVec 32 := Scalar.subi v17 c0_i32_710
  let c1_i32_711 : BitVec 32 := 1#32
  let v1437 : BitVec 32 := Scalar.divsi v1435 c1_i32_711
  let v1438 : BitVec 32 := Scalar.muli v1437 c1_i32_711
  let v1439 : BitVec 32 := Scalar.addi c0_i32_710 v1438
  let c1_i32_713 : BitVec 32 := 1#32
  let arg14 : BitVec 32 := Scf.iv v1439 c1_i32_713 k0_t47
  let v1986 : BitVec 32 := Scalar.addi v1434 arg14
  let c128_i32_986 : BitVec 32 := 128#32
  let v1987 : BitVec 32 := Scalar.muli v1986 c128_i32_986
  let v1988 : Index := Scalar.indexCast v1987
  let c0_989 : Index := 0#32
  ![0, 5, v1988.toNat, 0]
def k0_off163 (i : grid0.Coords) (k0_t1 : Fin k0_t1_loop.trips) (k0_t47 : Fin (k0_t47_loop i k0_t1).trips) : Fin 3 → Nat :=
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_710 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1435 : BitVec 32 := Scalar.subi v17 c0_i32_710
  let c1_i32_711 : BitVec 32 := 1#32
  let v1437 : BitVec 32 := Scalar.divsi v1435 c1_i32_711
  let v1438 : BitVec 32 := Scalar.muli v1437 c1_i32_711
  let v1439 : BitVec 32 := Scalar.addi c0_i32_710 v1438
  let c1_i32_713 : BitVec 32 := 1#32
  let arg14 : BitVec 32 := Scf.iv v1439 c1_i32_713 k0_t47
  let v1986 : BitVec 32 := Scalar.addi v1434 arg14
  let c128_i32_986 : BitVec 32 := 128#32
  let v1987 : BitVec 32 := Scalar.muli v1986 c128_i32_986
  let v1992 : Index := Scalar.indexCast v1987
  let c0_992 : Index := 0#32
  ![5, v1992.toNat, 0]
def k0_off164 (i : grid0.Coords) (k0_t1 : Fin k0_t1_loop.trips) (k0_t47 : Fin (k0_t47_loop i k0_t1).trips) : Fin 3 → Nat :=
  let c1_i32_993 : BitVec 32 := 1#32
  let c0_i32_710 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1435 : BitVec 32 := Scalar.subi v17 c0_i32_710
  let c1_i32_711 : BitVec 32 := 1#32
  let v1437 : BitVec 32 := Scalar.divsi v1435 c1_i32_711
  let v1438 : BitVec 32 := Scalar.muli v1437 c1_i32_711
  let v1439 : BitVec 32 := Scalar.addi c0_i32_710 v1438
  let c1_i32_713 : BitVec 32 := 1#32
  let arg14 : BitVec 32 := Scf.iv v1439 c1_i32_713 k0_t47
  let v1997 : BitVec 32 := Scalar.addi c1_i32_993 arg14
  let v1998 : Index := Scalar.indexCast v1997
  let c0_994 : Index := 0#32
  let c0_995 : Index := 0#32
  ![v1998.toNat, 0, 0]
@[reducible] def k0_t48_loop (i : grid0.Coords) (k0_t1 : Fin k0_t1_loop.trips) : Scf.Loop 32 :=
  let c0_i32_732 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1471 : BitVec 32 := Scalar.subi v17 c0_i32_732
  let c1_i32_733 : BitVec 32 := 1#32
  let v1473 : BitVec 32 := Scalar.divsi v1471 c1_i32_733
  let v1474 : BitVec 32 := Scalar.muli v1473 c1_i32_733
  let v1475 : BitVec 32 := Scalar.addi c0_i32_732 v1474
  let c1_i32_734 : BitVec 32 := 1#32
  ⟨c0_i32_732, v1475, c1_i32_734⟩
def k0_off165 (i : grid0.Coords) (k0_t1 : Fin k0_t1_loop.trips) (k0_t48 : Fin (k0_t48_loop i k0_t1).trips) : Fin 3 → Nat :=
  let c1_i32_986 : BitVec 32 := 1#32
  let c0_i32_732 : BitVec 32 := 0#32
  let c1_i32_734 : BitVec 32 := 1#32
  let arg14 : BitVec 32 := Scf.iv c0_i32_732 c1_i32_734 k0_t48
  let v1986 : BitVec 32 := Scalar.addi c1_i32_986 arg14
  let v1987 : Index := Scalar.indexCast v1986
  let c0_987 : Index := 0#32
  let c0_988 : Index := 0#32
  ![v1987.toNat, 0, 0]
def k0_off166 (i : grid0.Coords) (k0_t1 : Fin k0_t1_loop.trips) (k0_t48 : Fin (k0_t48_loop i k0_t1).trips) : Fin 5 → Nat :=
  let c0_990 : Index := 0#32
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_732 : BitVec 32 := 0#32
  let c1_i32_734 : BitVec 32 := 1#32
  let arg14 : BitVec 32 := Scf.iv c0_i32_732 c1_i32_734 k0_t48
  let v1998 : BitVec 32 := Scalar.addi v1434 arg14
  let v1999 : Index := Scalar.indexCast v1998
  let c0_992 : Index := 0#32
  let c0_993 : Index := 0#32
  ![0, 5, v1999.toNat, 0, 0]
@[reducible] def k0_t49_loop (i : grid0.Coords) (k0_t1 : Fin k0_t1_loop.trips) : Scf.Loop 32 :=
  let c0_i32_732 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1471 : BitVec 32 := Scalar.subi v17 c0_i32_732
  let c1_i32_733 : BitVec 32 := 1#32
  let v1473 : BitVec 32 := Scalar.divsi v1471 c1_i32_733
  let v1474 : BitVec 32 := Scalar.muli v1473 c1_i32_733
  let v1475 : BitVec 32 := Scalar.addi c0_i32_732 v1474
  let v1472 : BitVec 32 := Scalar.addi c0_i32_732 v1471
  let c1_i32_735 : BitVec 32 := 1#32
  ⟨v1475, v1472, c1_i32_735⟩
def k0_off167 (i : grid0.Coords) (k0_t1 : Fin k0_t1_loop.trips) (k0_t49 : Fin (k0_t49_loop i k0_t1).trips) : Fin 3 → Nat :=
  let c1_i32_986 : BitVec 32 := 1#32
  let c0_i32_732 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1471 : BitVec 32 := Scalar.subi v17 c0_i32_732
  let c1_i32_733 : BitVec 32 := 1#32
  let v1473 : BitVec 32 := Scalar.divsi v1471 c1_i32_733
  let v1474 : BitVec 32 := Scalar.muli v1473 c1_i32_733
  let v1475 : BitVec 32 := Scalar.addi c0_i32_732 v1474
  let c1_i32_735 : BitVec 32 := 1#32
  let arg14 : BitVec 32 := Scf.iv v1475 c1_i32_735 k0_t49
  let v1986 : BitVec 32 := Scalar.addi c1_i32_986 arg14
  let v1987 : Index := Scalar.indexCast v1986
  let c0_987 : Index := 0#32
  let c0_988 : Index := 0#32
  ![v1987.toNat, 0, 0]
def k0_off168 (i : grid0.Coords) (k0_t1 : Fin k0_t1_loop.trips) (k0_t49 : Fin (k0_t49_loop i k0_t1).trips) : Fin 5 → Nat :=
  let c0_990 : Index := 0#32
  let c5_991 : Index := 5#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_708 : BitVec 32 := 8#32
  let v1432 : BitVec 1 := Scalar.cmpi .sge v11 c8_i32_708
  let c8_i32 : BitVec 32 := 8#32
  let v12 : BitVec 32 := Scalar.subi v11 c8_i32
  let c0_i32_4 : BitVec 32 := 0#32
  let v13 : BitVec 32 := Scalar.maxsi v12 c0_i32_4
  let c1_i32_709 : BitVec 32 := 1#32
  let v1433 : BitVec 32 := Scalar.addi v13 c1_i32_709
  let v1434 : BitVec 32 := Scalar.select v1432 v1433 v13
  let c0_i32_732 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1471 : BitVec 32 := Scalar.subi v17 c0_i32_732
  let c1_i32_733 : BitVec 32 := 1#32
  let v1473 : BitVec 32 := Scalar.divsi v1471 c1_i32_733
  let v1474 : BitVec 32 := Scalar.muli v1473 c1_i32_733
  let v1475 : BitVec 32 := Scalar.addi c0_i32_732 v1474
  let c1_i32_735 : BitVec 32 := 1#32
  let arg14 : BitVec 32 := Scf.iv v1475 c1_i32_735 k0_t49
  let v1998 : BitVec 32 := Scalar.addi v1434 arg14
  let v1999 : Index := Scalar.indexCast v1998
  let c0_992 : Index := 0#32
  let c0_993 : Index := 0#32
  ![0, 5, v1999.toNat, 0, 0]
def k0_off169 (k0_t1 : Fin k0_t1_loop.trips) : Fin 3 → Nat :=
  let c0_742 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1494 : Index := Scalar.indexCast v9
  let c1536 : Index := 1536#32
  ![0, v1494.toNat, 1536]
def k0_off170 (k0_t1 : Fin k0_t1_loop.trips) : Fin 3 → Nat :=
  let c0_750 : Index := 0#32
  let c24 : Index := 24#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1518 : Index := Scalar.indexCast v9
  ![0, 24, v1518.toNat]
def k0_off171 (i : grid0.Coords) (k0_t1 : Fin k0_t1_loop.trips) : Fin 4 → Nat :=
  let c0_757 : Index := 0#32
  let c6 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_756 : BitVec 32 := 128#32
  let v1547 : BitVec 32 := Scalar.muli v11 c128_i32_756
  let v1548 : Index := Scalar.indexCast v1547
  let c0_758 : Index := 0#32
  ![0, 6, v1548.toNat, 0]
def k0_off172 (i : grid0.Coords) (k0_t1 : Fin k0_t1_loop.trips) : Fin 3 → Nat :=
  let c6_760 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_756 : BitVec 32 := 128#32
  let v1547 : BitVec 32 := Scalar.muli v11 c128_i32_756
  let v1552 : Index := Scalar.indexCast v1547
  let c0_761 : Index := 0#32
  ![6, v1552.toNat, 0]
def k0_off173 (i : grid0.Coords) (k0_t1 : Fin k0_t1_loop.trips) : Fin 4 → Nat :=
  let c0_763 : Index := 0#32
  let c6_764 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_762 : BitVec 32 := 128#32
  let v1556 : BitVec 32 := Scalar.muli v13 c128_i32_762
  let v1557 : Index := Scalar.indexCast v1556
  let c0_765 : Index := 0#32
  ![0, 6, v1557.toNat, 0]
def k0_off174 (i : grid0.Coords) (k0_t1 : Fin k0_t1_loop.trips) : Fin 3 → Nat :=
  let c6_767 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_762 : BitVec 32 := 128#32
  let v1556 : BitVec 32 := Scalar.muli v13 c128_i32_762
  let v1561 : Index := Scalar.indexCast v1556
  let c0_768 : Index := 0#32
  ![6, v1561.toNat, 0]
@[reducible] def k0_t50_loop (i : grid0.Coords) (k0_t1 : Fin k0_t1_loop.trips) : Scf.Loop 32 :=
  let c0_i32_778 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1583 : BitVec 32 := Scalar.subi v17 c0_i32_778
  let c1_i32_779 : BitVec 32 := 1#32
  let v1585 : BitVec 32 := Scalar.divsi v1583 c1_i32_779
  let v1586 : BitVec 32 := Scalar.muli v1585 c1_i32_779
  let v1587 : BitVec 32 := Scalar.addi c0_i32_778 v1586
  let c1_i32_780 : BitVec 32 := 1#32
  ⟨c0_i32_778, v1587, c1_i32_780⟩
def k0_off175 (i : grid0.Coords) (k0_t1 : Fin k0_t1_loop.trips) (k0_t50 : Fin (k0_t50_loop i k0_t1).trips) : Fin 4 → Nat :=
  let c0_987 : Index := 0#32
  let c6_988 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_778 : BitVec 32 := 0#32
  let c1_i32_780 : BitVec 32 := 1#32
  let arg14 : BitVec 32 := Scf.iv c0_i32_778 c1_i32_780 k0_t50
  let v1986 : BitVec 32 := Scalar.addi v1582 arg14
  let c128_i32_986 : BitVec 32 := 128#32
  let v1987 : BitVec 32 := Scalar.muli v1986 c128_i32_986
  let v1988 : Index := Scalar.indexCast v1987
  let c0_989 : Index := 0#32
  ![0, 6, v1988.toNat, 0]
def k0_off176 (i : grid0.Coords) (k0_t1 : Fin k0_t1_loop.trips) (k0_t50 : Fin (k0_t50_loop i k0_t1).trips) : Fin 3 → Nat :=
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_778 : BitVec 32 := 0#32
  let c1_i32_780 : BitVec 32 := 1#32
  let arg14 : BitVec 32 := Scf.iv c0_i32_778 c1_i32_780 k0_t50
  let v1986 : BitVec 32 := Scalar.addi v1582 arg14
  let c128_i32_986 : BitVec 32 := 128#32
  let v1987 : BitVec 32 := Scalar.muli v1986 c128_i32_986
  let v1992 : Index := Scalar.indexCast v1987
  let c0_992 : Index := 0#32
  ![6, v1992.toNat, 0]
def k0_off177 (i : grid0.Coords) (k0_t1 : Fin k0_t1_loop.trips) (k0_t50 : Fin (k0_t50_loop i k0_t1).trips) : Fin 3 → Nat :=
  let c1_i32_993 : BitVec 32 := 1#32
  let c0_i32_778 : BitVec 32 := 0#32
  let c1_i32_780 : BitVec 32 := 1#32
  let arg14 : BitVec 32 := Scf.iv c0_i32_778 c1_i32_780 k0_t50
  let v1997 : BitVec 32 := Scalar.addi c1_i32_993 arg14
  let v1998 : Index := Scalar.indexCast v1997
  let c0_994 : Index := 0#32
  let c0_995 : Index := 0#32
  ![v1998.toNat, 0, 0]
@[reducible] def k0_t51_loop (i : grid0.Coords) (k0_t1 : Fin k0_t1_loop.trips) : Scf.Loop 32 :=
  let c0_i32_778 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1583 : BitVec 32 := Scalar.subi v17 c0_i32_778
  let c1_i32_779 : BitVec 32 := 1#32
  let v1585 : BitVec 32 := Scalar.divsi v1583 c1_i32_779
  let v1586 : BitVec 32 := Scalar.muli v1585 c1_i32_779
  let v1587 : BitVec 32 := Scalar.addi c0_i32_778 v1586
  let v1584 : BitVec 32 := Scalar.addi c0_i32_778 v1583
  let c1_i32_781 : BitVec 32 := 1#32
  ⟨v1587, v1584, c1_i32_781⟩
def k0_off178 (i : grid0.Coords) (k0_t1 : Fin k0_t1_loop.trips) (k0_t51 : Fin (k0_t51_loop i k0_t1).trips) : Fin 4 → Nat :=
  let c0_987 : Index := 0#32
  let c6_988 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_778 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1583 : BitVec 32 := Scalar.subi v17 c0_i32_778
  let c1_i32_779 : BitVec 32 := 1#32
  let v1585 : BitVec 32 := Scalar.divsi v1583 c1_i32_779
  let v1586 : BitVec 32 := Scalar.muli v1585 c1_i32_779
  let v1587 : BitVec 32 := Scalar.addi c0_i32_778 v1586
  let c1_i32_781 : BitVec 32 := 1#32
  let arg14 : BitVec 32 := Scf.iv v1587 c1_i32_781 k0_t51
  let v1986 : BitVec 32 := Scalar.addi v1582 arg14
  let c128_i32_986 : BitVec 32 := 128#32
  let v1987 : BitVec 32 := Scalar.muli v1986 c128_i32_986
  let v1988 : Index := Scalar.indexCast v1987
  let c0_989 : Index := 0#32
  ![0, 6, v1988.toNat, 0]
def k0_off179 (i : grid0.Coords) (k0_t1 : Fin k0_t1_loop.trips) (k0_t51 : Fin (k0_t51_loop i k0_t1).trips) : Fin 3 → Nat :=
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_778 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1583 : BitVec 32 := Scalar.subi v17 c0_i32_778
  let c1_i32_779 : BitVec 32 := 1#32
  let v1585 : BitVec 32 := Scalar.divsi v1583 c1_i32_779
  let v1586 : BitVec 32 := Scalar.muli v1585 c1_i32_779
  let v1587 : BitVec 32 := Scalar.addi c0_i32_778 v1586
  let c1_i32_781 : BitVec 32 := 1#32
  let arg14 : BitVec 32 := Scf.iv v1587 c1_i32_781 k0_t51
  let v1986 : BitVec 32 := Scalar.addi v1582 arg14
  let c128_i32_986 : BitVec 32 := 128#32
  let v1987 : BitVec 32 := Scalar.muli v1986 c128_i32_986
  let v1992 : Index := Scalar.indexCast v1987
  let c0_992 : Index := 0#32
  ![6, v1992.toNat, 0]
def k0_off180 (i : grid0.Coords) (k0_t1 : Fin k0_t1_loop.trips) (k0_t51 : Fin (k0_t51_loop i k0_t1).trips) : Fin 3 → Nat :=
  let c1_i32_993 : BitVec 32 := 1#32
  let c0_i32_778 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1583 : BitVec 32 := Scalar.subi v17 c0_i32_778
  let c1_i32_779 : BitVec 32 := 1#32
  let v1585 : BitVec 32 := Scalar.divsi v1583 c1_i32_779
  let v1586 : BitVec 32 := Scalar.muli v1585 c1_i32_779
  let v1587 : BitVec 32 := Scalar.addi c0_i32_778 v1586
  let c1_i32_781 : BitVec 32 := 1#32
  let arg14 : BitVec 32 := Scf.iv v1587 c1_i32_781 k0_t51
  let v1997 : BitVec 32 := Scalar.addi c1_i32_993 arg14
  let v1998 : Index := Scalar.indexCast v1997
  let c0_994 : Index := 0#32
  let c0_995 : Index := 0#32
  ![v1998.toNat, 0, 0]
def k0_off181 (i : grid0.Coords) (k0_t1 : Fin k0_t1_loop.trips) : Fin 5 → Nat :=
  let c0_790 : Index := 0#32
  let c6_791 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v1610 : Index := Scalar.indexCast v11
  let c0_792 : Index := 0#32
  let c0_793 : Index := 0#32
  ![0, 6, v1610.toNat, 0, 0]
def k0_off182 (i : grid0.Coords) (k0_t1 : Fin k0_t1_loop.trips) : Fin 5 → Nat :=
  let c0_795 : Index := 0#32
  let c6_796 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v1614 : Index := Scalar.indexCast v13
  let c0_797 : Index := 0#32
  let c0_798 : Index := 0#32
  ![0, 6, v1614.toNat, 0, 0]
@[reducible] def k0_t52_loop (i : grid0.Coords) (k0_t1 : Fin k0_t1_loop.trips) : Scf.Loop 32 :=
  let c0_i32_800 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1619 : BitVec 32 := Scalar.subi v17 c0_i32_800
  let c1_i32_801 : BitVec 32 := 1#32
  let v1621 : BitVec 32 := Scalar.divsi v1619 c1_i32_801
  let v1622 : BitVec 32 := Scalar.muli v1621 c1_i32_801
  let v1623 : BitVec 32 := Scalar.addi c0_i32_800 v1622
  let c1_i32_802 : BitVec 32 := 1#32
  ⟨c0_i32_800, v1623, c1_i32_802⟩
def k0_off183 (i : grid0.Coords) (k0_t1 : Fin k0_t1_loop.trips) (k0_t52 : Fin (k0_t52_loop i k0_t1).trips) : Fin 3 → Nat :=
  let c1_i32_986 : BitVec 32 := 1#32
  let c0_i32_800 : BitVec 32 := 0#32
  let c1_i32_802 : BitVec 32 := 1#32
  let arg14 : BitVec 32 := Scf.iv c0_i32_800 c1_i32_802 k0_t52
  let v1986 : BitVec 32 := Scalar.addi c1_i32_986 arg14
  let v1987 : Index := Scalar.indexCast v1986
  let c0_987 : Index := 0#32
  let c0_988 : Index := 0#32
  ![v1987.toNat, 0, 0]
def k0_off184 (i : grid0.Coords) (k0_t1 : Fin k0_t1_loop.trips) (k0_t52 : Fin (k0_t52_loop i k0_t1).trips) : Fin 5 → Nat :=
  let c0_990 : Index := 0#32
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_800 : BitVec 32 := 0#32
  let c1_i32_802 : BitVec 32 := 1#32
  let arg14 : BitVec 32 := Scf.iv c0_i32_800 c1_i32_802 k0_t52
  let v1998 : BitVec 32 := Scalar.addi v1582 arg14
  let v1999 : Index := Scalar.indexCast v1998
  let c0_992 : Index := 0#32
  let c0_993 : Index := 0#32
  ![0, 6, v1999.toNat, 0, 0]
@[reducible] def k0_t53_loop (i : grid0.Coords) (k0_t1 : Fin k0_t1_loop.trips) : Scf.Loop 32 :=
  let c0_i32_800 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1619 : BitVec 32 := Scalar.subi v17 c0_i32_800
  let c1_i32_801 : BitVec 32 := 1#32
  let v1621 : BitVec 32 := Scalar.divsi v1619 c1_i32_801
  let v1622 : BitVec 32 := Scalar.muli v1621 c1_i32_801
  let v1623 : BitVec 32 := Scalar.addi c0_i32_800 v1622
  let v1620 : BitVec 32 := Scalar.addi c0_i32_800 v1619
  let c1_i32_803 : BitVec 32 := 1#32
  ⟨v1623, v1620, c1_i32_803⟩
def k0_off185 (i : grid0.Coords) (k0_t1 : Fin k0_t1_loop.trips) (k0_t53 : Fin (k0_t53_loop i k0_t1).trips) : Fin 3 → Nat :=
  let c1_i32_986 : BitVec 32 := 1#32
  let c0_i32_800 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1619 : BitVec 32 := Scalar.subi v17 c0_i32_800
  let c1_i32_801 : BitVec 32 := 1#32
  let v1621 : BitVec 32 := Scalar.divsi v1619 c1_i32_801
  let v1622 : BitVec 32 := Scalar.muli v1621 c1_i32_801
  let v1623 : BitVec 32 := Scalar.addi c0_i32_800 v1622
  let c1_i32_803 : BitVec 32 := 1#32
  let arg14 : BitVec 32 := Scf.iv v1623 c1_i32_803 k0_t53
  let v1986 : BitVec 32 := Scalar.addi c1_i32_986 arg14
  let v1987 : Index := Scalar.indexCast v1986
  let c0_987 : Index := 0#32
  let c0_988 : Index := 0#32
  ![v1987.toNat, 0, 0]
def k0_off186 (i : grid0.Coords) (k0_t1 : Fin k0_t1_loop.trips) (k0_t53 : Fin (k0_t53_loop i k0_t1).trips) : Fin 5 → Nat :=
  let c0_990 : Index := 0#32
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_776 : BitVec 32 := 8#32
  let v1580 : BitVec 1 := Scalar.cmpi .sge v11 c8_i32_776
  let c8_i32 : BitVec 32 := 8#32
  let v12 : BitVec 32 := Scalar.subi v11 c8_i32
  let c0_i32_4 : BitVec 32 := 0#32
  let v13 : BitVec 32 := Scalar.maxsi v12 c0_i32_4
  let c1_i32_777 : BitVec 32 := 1#32
  let v1581 : BitVec 32 := Scalar.addi v13 c1_i32_777
  let v1582 : BitVec 32 := Scalar.select v1580 v1581 v13
  let c0_i32_800 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1619 : BitVec 32 := Scalar.subi v17 c0_i32_800
  let c1_i32_801 : BitVec 32 := 1#32
  let v1621 : BitVec 32 := Scalar.divsi v1619 c1_i32_801
  let v1622 : BitVec 32 := Scalar.muli v1621 c1_i32_801
  let v1623 : BitVec 32 := Scalar.addi c0_i32_800 v1622
  let c1_i32_803 : BitVec 32 := 1#32
  let arg14 : BitVec 32 := Scf.iv v1623 c1_i32_803 k0_t53
  let v1998 : BitVec 32 := Scalar.addi v1582 arg14
  let v1999 : Index := Scalar.indexCast v1998
  let c0_992 : Index := 0#32
  let c0_993 : Index := 0#32
  ![0, 6, v1999.toNat, 0, 0]
@[reducible] def k0_t54_loop (i : grid0.Coords) (k0_t1 : Fin k0_t1_loop.trips) : Scf.Loop 32 :=
  let c0_i32_832 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1681 : BitVec 32 := Scalar.subi v17 c0_i32_832
  let c1_i32_833 : BitVec 32 := 1#32
  let v1683 : BitVec 32 := Scalar.divsi v1681 c1_i32_833
  let v1684 : BitVec 32 := Scalar.muli v1683 c1_i32_833
  let v1685 : BitVec 32 := Scalar.addi c0_i32_832 v1684
  let c1_i32_834 : BitVec 32 := 1#32
  ⟨c0_i32_832, v1685, c1_i32_834⟩
def k0_off187 (i : grid0.Coords) (k0_t1 : Fin k0_t1_loop.trips) (k0_t54 : Fin (k0_t54_loop i k0_t1).trips) : Fin 4 → Nat :=
  let c0_987 : Index := 0#32
  let c6_988 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_832 : BitVec 32 := 0#32
  let c1_i32_834 : BitVec 32 := 1#32
  let arg14 : BitVec 32 := Scf.iv c0_i32_832 c1_i32_834 k0_t54
  let v1986 : BitVec 32 := Scalar.addi v1680 arg14
  let c128_i32_986 : BitVec 32 := 128#32
  let v1987 : BitVec 32 := Scalar.muli v1986 c128_i32_986
  let v1988 : Index := Scalar.indexCast v1987
  let c0_989 : Index := 0#32
  ![0, 6, v1988.toNat, 0]
def k0_off188 (i : grid0.Coords) (k0_t1 : Fin k0_t1_loop.trips) (k0_t54 : Fin (k0_t54_loop i k0_t1).trips) : Fin 3 → Nat :=
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_832 : BitVec 32 := 0#32
  let c1_i32_834 : BitVec 32 := 1#32
  let arg14 : BitVec 32 := Scf.iv c0_i32_832 c1_i32_834 k0_t54
  let v1986 : BitVec 32 := Scalar.addi v1680 arg14
  let c128_i32_986 : BitVec 32 := 128#32
  let v1987 : BitVec 32 := Scalar.muli v1986 c128_i32_986
  let v1992 : Index := Scalar.indexCast v1987
  let c0_992 : Index := 0#32
  ![6, v1992.toNat, 0]
def k0_off189 (i : grid0.Coords) (k0_t1 : Fin k0_t1_loop.trips) (k0_t54 : Fin (k0_t54_loop i k0_t1).trips) : Fin 3 → Nat :=
  let c1_i32_993 : BitVec 32 := 1#32
  let c0_i32_832 : BitVec 32 := 0#32
  let c1_i32_834 : BitVec 32 := 1#32
  let arg14 : BitVec 32 := Scf.iv c0_i32_832 c1_i32_834 k0_t54
  let v1997 : BitVec 32 := Scalar.addi c1_i32_993 arg14
  let v1998 : Index := Scalar.indexCast v1997
  let c0_994 : Index := 0#32
  let c0_995 : Index := 0#32
  ![v1998.toNat, 0, 0]
@[reducible] def k0_t55_loop (i : grid0.Coords) (k0_t1 : Fin k0_t1_loop.trips) : Scf.Loop 32 :=
  let c0_i32_832 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1681 : BitVec 32 := Scalar.subi v17 c0_i32_832
  let c1_i32_833 : BitVec 32 := 1#32
  let v1683 : BitVec 32 := Scalar.divsi v1681 c1_i32_833
  let v1684 : BitVec 32 := Scalar.muli v1683 c1_i32_833
  let v1685 : BitVec 32 := Scalar.addi c0_i32_832 v1684
  let v1682 : BitVec 32 := Scalar.addi c0_i32_832 v1681
  let c1_i32_835 : BitVec 32 := 1#32
  ⟨v1685, v1682, c1_i32_835⟩
def k0_off190 (i : grid0.Coords) (k0_t1 : Fin k0_t1_loop.trips) (k0_t55 : Fin (k0_t55_loop i k0_t1).trips) : Fin 4 → Nat :=
  let c0_987 : Index := 0#32
  let c6_988 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_832 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1681 : BitVec 32 := Scalar.subi v17 c0_i32_832
  let c1_i32_833 : BitVec 32 := 1#32
  let v1683 : BitVec 32 := Scalar.divsi v1681 c1_i32_833
  let v1684 : BitVec 32 := Scalar.muli v1683 c1_i32_833
  let v1685 : BitVec 32 := Scalar.addi c0_i32_832 v1684
  let c1_i32_835 : BitVec 32 := 1#32
  let arg14 : BitVec 32 := Scf.iv v1685 c1_i32_835 k0_t55
  let v1986 : BitVec 32 := Scalar.addi v1680 arg14
  let c128_i32_986 : BitVec 32 := 128#32
  let v1987 : BitVec 32 := Scalar.muli v1986 c128_i32_986
  let v1988 : Index := Scalar.indexCast v1987
  let c0_989 : Index := 0#32
  ![0, 6, v1988.toNat, 0]
def k0_off191 (i : grid0.Coords) (k0_t1 : Fin k0_t1_loop.trips) (k0_t55 : Fin (k0_t55_loop i k0_t1).trips) : Fin 3 → Nat :=
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_832 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1681 : BitVec 32 := Scalar.subi v17 c0_i32_832
  let c1_i32_833 : BitVec 32 := 1#32
  let v1683 : BitVec 32 := Scalar.divsi v1681 c1_i32_833
  let v1684 : BitVec 32 := Scalar.muli v1683 c1_i32_833
  let v1685 : BitVec 32 := Scalar.addi c0_i32_832 v1684
  let c1_i32_835 : BitVec 32 := 1#32
  let arg14 : BitVec 32 := Scf.iv v1685 c1_i32_835 k0_t55
  let v1986 : BitVec 32 := Scalar.addi v1680 arg14
  let c128_i32_986 : BitVec 32 := 128#32
  let v1987 : BitVec 32 := Scalar.muli v1986 c128_i32_986
  let v1992 : Index := Scalar.indexCast v1987
  let c0_992 : Index := 0#32
  ![6, v1992.toNat, 0]
def k0_off192 (i : grid0.Coords) (k0_t1 : Fin k0_t1_loop.trips) (k0_t55 : Fin (k0_t55_loop i k0_t1).trips) : Fin 3 → Nat :=
  let c1_i32_993 : BitVec 32 := 1#32
  let c0_i32_832 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1681 : BitVec 32 := Scalar.subi v17 c0_i32_832
  let c1_i32_833 : BitVec 32 := 1#32
  let v1683 : BitVec 32 := Scalar.divsi v1681 c1_i32_833
  let v1684 : BitVec 32 := Scalar.muli v1683 c1_i32_833
  let v1685 : BitVec 32 := Scalar.addi c0_i32_832 v1684
  let c1_i32_835 : BitVec 32 := 1#32
  let arg14 : BitVec 32 := Scf.iv v1685 c1_i32_835 k0_t55
  let v1997 : BitVec 32 := Scalar.addi c1_i32_993 arg14
  let v1998 : Index := Scalar.indexCast v1997
  let c0_994 : Index := 0#32
  let c0_995 : Index := 0#32
  ![v1998.toNat, 0, 0]
@[reducible] def k0_t56_loop (i : grid0.Coords) (k0_t1 : Fin k0_t1_loop.trips) : Scf.Loop 32 :=
  let c0_i32_854 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1717 : BitVec 32 := Scalar.subi v17 c0_i32_854
  let c1_i32_855 : BitVec 32 := 1#32
  let v1719 : BitVec 32 := Scalar.divsi v1717 c1_i32_855
  let v1720 : BitVec 32 := Scalar.muli v1719 c1_i32_855
  let v1721 : BitVec 32 := Scalar.addi c0_i32_854 v1720
  let c1_i32_856 : BitVec 32 := 1#32
  ⟨c0_i32_854, v1721, c1_i32_856⟩
def k0_off193 (i : grid0.Coords) (k0_t1 : Fin k0_t1_loop.trips) (k0_t56 : Fin (k0_t56_loop i k0_t1).trips) : Fin 3 → Nat :=
  let c1_i32_986 : BitVec 32 := 1#32
  let c0_i32_854 : BitVec 32 := 0#32
  let c1_i32_856 : BitVec 32 := 1#32
  let arg14 : BitVec 32 := Scf.iv c0_i32_854 c1_i32_856 k0_t56
  let v1986 : BitVec 32 := Scalar.addi c1_i32_986 arg14
  let v1987 : Index := Scalar.indexCast v1986
  let c0_987 : Index := 0#32
  let c0_988 : Index := 0#32
  ![v1987.toNat, 0, 0]
def k0_off194 (i : grid0.Coords) (k0_t1 : Fin k0_t1_loop.trips) (k0_t56 : Fin (k0_t56_loop i k0_t1).trips) : Fin 5 → Nat :=
  let c0_990 : Index := 0#32
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_854 : BitVec 32 := 0#32
  let c1_i32_856 : BitVec 32 := 1#32
  let arg14 : BitVec 32 := Scf.iv c0_i32_854 c1_i32_856 k0_t56
  let v1998 : BitVec 32 := Scalar.addi v1680 arg14
  let v1999 : Index := Scalar.indexCast v1998
  let c0_992 : Index := 0#32
  let c0_993 : Index := 0#32
  ![0, 6, v1999.toNat, 0, 0]
@[reducible] def k0_t57_loop (i : grid0.Coords) (k0_t1 : Fin k0_t1_loop.trips) : Scf.Loop 32 :=
  let c0_i32_854 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1717 : BitVec 32 := Scalar.subi v17 c0_i32_854
  let c1_i32_855 : BitVec 32 := 1#32
  let v1719 : BitVec 32 := Scalar.divsi v1717 c1_i32_855
  let v1720 : BitVec 32 := Scalar.muli v1719 c1_i32_855
  let v1721 : BitVec 32 := Scalar.addi c0_i32_854 v1720
  let v1718 : BitVec 32 := Scalar.addi c0_i32_854 v1717
  let c1_i32_857 : BitVec 32 := 1#32
  ⟨v1721, v1718, c1_i32_857⟩
def k0_off195 (i : grid0.Coords) (k0_t1 : Fin k0_t1_loop.trips) (k0_t57 : Fin (k0_t57_loop i k0_t1).trips) : Fin 3 → Nat :=
  let c1_i32_986 : BitVec 32 := 1#32
  let c0_i32_854 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1717 : BitVec 32 := Scalar.subi v17 c0_i32_854
  let c1_i32_855 : BitVec 32 := 1#32
  let v1719 : BitVec 32 := Scalar.divsi v1717 c1_i32_855
  let v1720 : BitVec 32 := Scalar.muli v1719 c1_i32_855
  let v1721 : BitVec 32 := Scalar.addi c0_i32_854 v1720
  let c1_i32_857 : BitVec 32 := 1#32
  let arg14 : BitVec 32 := Scf.iv v1721 c1_i32_857 k0_t57
  let v1986 : BitVec 32 := Scalar.addi c1_i32_986 arg14
  let v1987 : Index := Scalar.indexCast v1986
  let c0_987 : Index := 0#32
  let c0_988 : Index := 0#32
  ![v1987.toNat, 0, 0]
def k0_off196 (i : grid0.Coords) (k0_t1 : Fin k0_t1_loop.trips) (k0_t57 : Fin (k0_t57_loop i k0_t1).trips) : Fin 5 → Nat :=
  let c0_990 : Index := 0#32
  let c6_991 : Index := 6#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_830 : BitVec 32 := 8#32
  let v1678 : BitVec 1 := Scalar.cmpi .sge v11 c8_i32_830
  let c8_i32 : BitVec 32 := 8#32
  let v12 : BitVec 32 := Scalar.subi v11 c8_i32
  let c0_i32_4 : BitVec 32 := 0#32
  let v13 : BitVec 32 := Scalar.maxsi v12 c0_i32_4
  let c1_i32_831 : BitVec 32 := 1#32
  let v1679 : BitVec 32 := Scalar.addi v13 c1_i32_831
  let v1680 : BitVec 32 := Scalar.select v1678 v1679 v13
  let c0_i32_854 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1717 : BitVec 32 := Scalar.subi v17 c0_i32_854
  let c1_i32_855 : BitVec 32 := 1#32
  let v1719 : BitVec 32 := Scalar.divsi v1717 c1_i32_855
  let v1720 : BitVec 32 := Scalar.muli v1719 c1_i32_855
  let v1721 : BitVec 32 := Scalar.addi c0_i32_854 v1720
  let c1_i32_857 : BitVec 32 := 1#32
  let arg14 : BitVec 32 := Scf.iv v1721 c1_i32_857 k0_t57
  let v1998 : BitVec 32 := Scalar.addi v1680 arg14
  let v1999 : Index := Scalar.indexCast v1998
  let c0_992 : Index := 0#32
  let c0_993 : Index := 0#32
  ![0, 6, v1999.toNat, 0, 0]
def k0_off197 (k0_t1 : Fin k0_t1_loop.trips) : Fin 3 → Nat :=
  let c0_864 : Index := 0#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1740 : Index := Scalar.indexCast v9
  let c1792 : Index := 1792#32
  ![0, v1740.toNat, 1792]
def k0_off198 (k0_t1 : Fin k0_t1_loop.trips) : Fin 3 → Nat :=
  let c0_872 : Index := 0#32
  let c28 : Index := 28#32
  let c0_i32_1 : BitVec 32 := 0#32
  let c1_i32 : BitVec 32 := 1#32
  let arg13 : BitVec 32 := Scf.iv c0_i32_1 c1_i32 k0_t1
  let c128_i32 : BitVec 32 := 128#32
  let v9 : BitVec 32 := Scalar.muli arg13 c128_i32
  let v1764 : Index := Scalar.indexCast v9
  ![0, 28, v1764.toNat]
def k0_off199 (i : grid0.Coords) (k0_t1 : Fin k0_t1_loop.trips) : Fin 4 → Nat :=
  let c0_879 : Index := 0#32
  let c7 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_878 : BitVec 32 := 128#32
  let v1793 : BitVec 32 := Scalar.muli v11 c128_i32_878
  let v1794 : Index := Scalar.indexCast v1793
  let c0_880 : Index := 0#32
  ![0, 7, v1794.toNat, 0]
def k0_off200 (i : grid0.Coords) (k0_t1 : Fin k0_t1_loop.trips) : Fin 3 → Nat :=
  let c7_882 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c128_i32_878 : BitVec 32 := 128#32
  let v1793 : BitVec 32 := Scalar.muli v11 c128_i32_878
  let v1798 : Index := Scalar.indexCast v1793
  let c0_883 : Index := 0#32
  ![7, v1798.toNat, 0]
def k0_off201 (i : grid0.Coords) (k0_t1 : Fin k0_t1_loop.trips) : Fin 4 → Nat :=
  let c0_885 : Index := 0#32
  let c7_886 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_884 : BitVec 32 := 128#32
  let v1802 : BitVec 32 := Scalar.muli v13 c128_i32_884
  let v1803 : Index := Scalar.indexCast v1802
  let c0_887 : Index := 0#32
  ![0, 7, v1803.toNat, 0]
def k0_off202 (i : grid0.Coords) (k0_t1 : Fin k0_t1_loop.trips) : Fin 3 → Nat :=
  let c7_889 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let c128_i32_884 : BitVec 32 := 128#32
  let v1802 : BitVec 32 := Scalar.muli v13 c128_i32_884
  let v1807 : Index := Scalar.indexCast v1802
  let c0_890 : Index := 0#32
  ![7, v1807.toNat, 0]
@[reducible] def k0_t58_loop (i : grid0.Coords) (k0_t1 : Fin k0_t1_loop.trips) : Scf.Loop 32 :=
  let c0_i32_900 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1829 : BitVec 32 := Scalar.subi v17 c0_i32_900
  let c1_i32_901 : BitVec 32 := 1#32
  let v1831 : BitVec 32 := Scalar.divsi v1829 c1_i32_901
  let v1832 : BitVec 32 := Scalar.muli v1831 c1_i32_901
  let v1833 : BitVec 32 := Scalar.addi c0_i32_900 v1832
  let c1_i32_902 : BitVec 32 := 1#32
  ⟨c0_i32_900, v1833, c1_i32_902⟩
def k0_off203 (i : grid0.Coords) (k0_t1 : Fin k0_t1_loop.trips) (k0_t58 : Fin (k0_t58_loop i k0_t1).trips) : Fin 4 → Nat :=
  let c0_987 : Index := 0#32
  let c7_988 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_900 : BitVec 32 := 0#32
  let c1_i32_902 : BitVec 32 := 1#32
  let arg14 : BitVec 32 := Scf.iv c0_i32_900 c1_i32_902 k0_t58
  let v1986 : BitVec 32 := Scalar.addi v1828 arg14
  let c128_i32_986 : BitVec 32 := 128#32
  let v1987 : BitVec 32 := Scalar.muli v1986 c128_i32_986
  let v1988 : Index := Scalar.indexCast v1987
  let c0_989 : Index := 0#32
  ![0, 7, v1988.toNat, 0]
def k0_off204 (i : grid0.Coords) (k0_t1 : Fin k0_t1_loop.trips) (k0_t58 : Fin (k0_t58_loop i k0_t1).trips) : Fin 3 → Nat :=
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_900 : BitVec 32 := 0#32
  let c1_i32_902 : BitVec 32 := 1#32
  let arg14 : BitVec 32 := Scf.iv c0_i32_900 c1_i32_902 k0_t58
  let v1986 : BitVec 32 := Scalar.addi v1828 arg14
  let c128_i32_986 : BitVec 32 := 128#32
  let v1987 : BitVec 32 := Scalar.muli v1986 c128_i32_986
  let v1992 : Index := Scalar.indexCast v1987
  let c0_992 : Index := 0#32
  ![7, v1992.toNat, 0]
def k0_off205 (i : grid0.Coords) (k0_t1 : Fin k0_t1_loop.trips) (k0_t58 : Fin (k0_t58_loop i k0_t1).trips) : Fin 3 → Nat :=
  let c1_i32_993 : BitVec 32 := 1#32
  let c0_i32_900 : BitVec 32 := 0#32
  let c1_i32_902 : BitVec 32 := 1#32
  let arg14 : BitVec 32 := Scf.iv c0_i32_900 c1_i32_902 k0_t58
  let v1997 : BitVec 32 := Scalar.addi c1_i32_993 arg14
  let v1998 : Index := Scalar.indexCast v1997
  let c0_994 : Index := 0#32
  let c0_995 : Index := 0#32
  ![v1998.toNat, 0, 0]
@[reducible] def k0_t59_loop (i : grid0.Coords) (k0_t1 : Fin k0_t1_loop.trips) : Scf.Loop 32 :=
  let c0_i32_900 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1829 : BitVec 32 := Scalar.subi v17 c0_i32_900
  let c1_i32_901 : BitVec 32 := 1#32
  let v1831 : BitVec 32 := Scalar.divsi v1829 c1_i32_901
  let v1832 : BitVec 32 := Scalar.muli v1831 c1_i32_901
  let v1833 : BitVec 32 := Scalar.addi c0_i32_900 v1832
  let v1830 : BitVec 32 := Scalar.addi c0_i32_900 v1829
  let c1_i32_903 : BitVec 32 := 1#32
  ⟨v1833, v1830, c1_i32_903⟩
def k0_off206 (i : grid0.Coords) (k0_t1 : Fin k0_t1_loop.trips) (k0_t59 : Fin (k0_t59_loop i k0_t1).trips) : Fin 4 → Nat :=
  let c0_987 : Index := 0#32
  let c7_988 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_900 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1829 : BitVec 32 := Scalar.subi v17 c0_i32_900
  let c1_i32_901 : BitVec 32 := 1#32
  let v1831 : BitVec 32 := Scalar.divsi v1829 c1_i32_901
  let v1832 : BitVec 32 := Scalar.muli v1831 c1_i32_901
  let v1833 : BitVec 32 := Scalar.addi c0_i32_900 v1832
  let c1_i32_903 : BitVec 32 := 1#32
  let arg14 : BitVec 32 := Scf.iv v1833 c1_i32_903 k0_t59
  let v1986 : BitVec 32 := Scalar.addi v1828 arg14
  let c128_i32_986 : BitVec 32 := 128#32
  let v1987 : BitVec 32 := Scalar.muli v1986 c128_i32_986
  let v1988 : Index := Scalar.indexCast v1987
  let c0_989 : Index := 0#32
  ![0, 7, v1988.toNat, 0]
def k0_off207 (i : grid0.Coords) (k0_t1 : Fin k0_t1_loop.trips) (k0_t59 : Fin (k0_t59_loop i k0_t1).trips) : Fin 3 → Nat :=
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_900 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1829 : BitVec 32 := Scalar.subi v17 c0_i32_900
  let c1_i32_901 : BitVec 32 := 1#32
  let v1831 : BitVec 32 := Scalar.divsi v1829 c1_i32_901
  let v1832 : BitVec 32 := Scalar.muli v1831 c1_i32_901
  let v1833 : BitVec 32 := Scalar.addi c0_i32_900 v1832
  let c1_i32_903 : BitVec 32 := 1#32
  let arg14 : BitVec 32 := Scf.iv v1833 c1_i32_903 k0_t59
  let v1986 : BitVec 32 := Scalar.addi v1828 arg14
  let c128_i32_986 : BitVec 32 := 128#32
  let v1987 : BitVec 32 := Scalar.muli v1986 c128_i32_986
  let v1992 : Index := Scalar.indexCast v1987
  let c0_992 : Index := 0#32
  ![7, v1992.toNat, 0]
def k0_off208 (i : grid0.Coords) (k0_t1 : Fin k0_t1_loop.trips) (k0_t59 : Fin (k0_t59_loop i k0_t1).trips) : Fin 3 → Nat :=
  let c1_i32_993 : BitVec 32 := 1#32
  let c0_i32_900 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1829 : BitVec 32 := Scalar.subi v17 c0_i32_900
  let c1_i32_901 : BitVec 32 := 1#32
  let v1831 : BitVec 32 := Scalar.divsi v1829 c1_i32_901
  let v1832 : BitVec 32 := Scalar.muli v1831 c1_i32_901
  let v1833 : BitVec 32 := Scalar.addi c0_i32_900 v1832
  let c1_i32_903 : BitVec 32 := 1#32
  let arg14 : BitVec 32 := Scf.iv v1833 c1_i32_903 k0_t59
  let v1997 : BitVec 32 := Scalar.addi c1_i32_993 arg14
  let v1998 : Index := Scalar.indexCast v1997
  let c0_994 : Index := 0#32
  let c0_995 : Index := 0#32
  ![v1998.toNat, 0, 0]
def k0_off209 (i : grid0.Coords) (k0_t1 : Fin k0_t1_loop.trips) : Fin 5 → Nat :=
  let c0_912 : Index := 0#32
  let c7_913 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let v1856 : Index := Scalar.indexCast v11
  let c0_914 : Index := 0#32
  let c0_915 : Index := 0#32
  ![0, 7, v1856.toNat, 0, 0]
def k0_off210 (i : grid0.Coords) (k0_t1 : Fin k0_t1_loop.trips) : Fin 5 → Nat :=
  let c0_917 : Index := 0#32
  let c7_918 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v1860 : Index := Scalar.indexCast v13
  let c0_919 : Index := 0#32
  let c0_920 : Index := 0#32
  ![0, 7, v1860.toNat, 0, 0]
@[reducible] def k0_t60_loop (i : grid0.Coords) (k0_t1 : Fin k0_t1_loop.trips) : Scf.Loop 32 :=
  let c0_i32_922 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1865 : BitVec 32 := Scalar.subi v17 c0_i32_922
  let c1_i32_923 : BitVec 32 := 1#32
  let v1867 : BitVec 32 := Scalar.divsi v1865 c1_i32_923
  let v1868 : BitVec 32 := Scalar.muli v1867 c1_i32_923
  let v1869 : BitVec 32 := Scalar.addi c0_i32_922 v1868
  let c1_i32_924 : BitVec 32 := 1#32
  ⟨c0_i32_922, v1869, c1_i32_924⟩
def k0_off211 (i : grid0.Coords) (k0_t1 : Fin k0_t1_loop.trips) (k0_t60 : Fin (k0_t60_loop i k0_t1).trips) : Fin 3 → Nat :=
  let c1_i32_986 : BitVec 32 := 1#32
  let c0_i32_922 : BitVec 32 := 0#32
  let c1_i32_924 : BitVec 32 := 1#32
  let arg14 : BitVec 32 := Scf.iv c0_i32_922 c1_i32_924 k0_t60
  let v1986 : BitVec 32 := Scalar.addi c1_i32_986 arg14
  let v1987 : Index := Scalar.indexCast v1986
  let c0_987 : Index := 0#32
  let c0_988 : Index := 0#32
  ![v1987.toNat, 0, 0]
def k0_off212 (i : grid0.Coords) (k0_t1 : Fin k0_t1_loop.trips) (k0_t60 : Fin (k0_t60_loop i k0_t1).trips) : Fin 5 → Nat :=
  let c0_990 : Index := 0#32
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_922 : BitVec 32 := 0#32
  let c1_i32_924 : BitVec 32 := 1#32
  let arg14 : BitVec 32 := Scf.iv c0_i32_922 c1_i32_924 k0_t60
  let v1998 : BitVec 32 := Scalar.addi v1828 arg14
  let v1999 : Index := Scalar.indexCast v1998
  let c0_992 : Index := 0#32
  let c0_993 : Index := 0#32
  ![0, 7, v1999.toNat, 0, 0]
@[reducible] def k0_t61_loop (i : grid0.Coords) (k0_t1 : Fin k0_t1_loop.trips) : Scf.Loop 32 :=
  let c0_i32_922 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1865 : BitVec 32 := Scalar.subi v17 c0_i32_922
  let c1_i32_923 : BitVec 32 := 1#32
  let v1867 : BitVec 32 := Scalar.divsi v1865 c1_i32_923
  let v1868 : BitVec 32 := Scalar.muli v1867 c1_i32_923
  let v1869 : BitVec 32 := Scalar.addi c0_i32_922 v1868
  let v1866 : BitVec 32 := Scalar.addi c0_i32_922 v1865
  let c1_i32_925 : BitVec 32 := 1#32
  ⟨v1869, v1866, c1_i32_925⟩
def k0_off213 (i : grid0.Coords) (k0_t1 : Fin k0_t1_loop.trips) (k0_t61 : Fin (k0_t61_loop i k0_t1).trips) : Fin 3 → Nat :=
  let c1_i32_986 : BitVec 32 := 1#32
  let c0_i32_922 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1865 : BitVec 32 := Scalar.subi v17 c0_i32_922
  let c1_i32_923 : BitVec 32 := 1#32
  let v1867 : BitVec 32 := Scalar.divsi v1865 c1_i32_923
  let v1868 : BitVec 32 := Scalar.muli v1867 c1_i32_923
  let v1869 : BitVec 32 := Scalar.addi c0_i32_922 v1868
  let c1_i32_925 : BitVec 32 := 1#32
  let arg14 : BitVec 32 := Scf.iv v1869 c1_i32_925 k0_t61
  let v1986 : BitVec 32 := Scalar.addi c1_i32_986 arg14
  let v1987 : Index := Scalar.indexCast v1986
  let c0_987 : Index := 0#32
  let c0_988 : Index := 0#32
  ![v1987.toNat, 0, 0]
def k0_off214 (i : grid0.Coords) (k0_t1 : Fin k0_t1_loop.trips) (k0_t61 : Fin (k0_t61_loop i k0_t1).trips) : Fin 5 → Nat :=
  let c0_990 : Index := 0#32
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_898 : BitVec 32 := 8#32
  let v1826 : BitVec 1 := Scalar.cmpi .sge v11 c8_i32_898
  let c8_i32 : BitVec 32 := 8#32
  let v12 : BitVec 32 := Scalar.subi v11 c8_i32
  let c0_i32_4 : BitVec 32 := 0#32
  let v13 : BitVec 32 := Scalar.maxsi v12 c0_i32_4
  let c1_i32_899 : BitVec 32 := 1#32
  let v1827 : BitVec 32 := Scalar.addi v13 c1_i32_899
  let v1828 : BitVec 32 := Scalar.select v1826 v1827 v13
  let c0_i32_922 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1865 : BitVec 32 := Scalar.subi v17 c0_i32_922
  let c1_i32_923 : BitVec 32 := 1#32
  let v1867 : BitVec 32 := Scalar.divsi v1865 c1_i32_923
  let v1868 : BitVec 32 := Scalar.muli v1867 c1_i32_923
  let v1869 : BitVec 32 := Scalar.addi c0_i32_922 v1868
  let c1_i32_925 : BitVec 32 := 1#32
  let arg14 : BitVec 32 := Scf.iv v1869 c1_i32_925 k0_t61
  let v1998 : BitVec 32 := Scalar.addi v1828 arg14
  let v1999 : Index := Scalar.indexCast v1998
  let c0_992 : Index := 0#32
  let c0_993 : Index := 0#32
  ![0, 7, v1999.toNat, 0, 0]
@[reducible] def k0_t62_loop (i : grid0.Coords) (k0_t1 : Fin k0_t1_loop.trips) : Scf.Loop 32 :=
  let c0_i32_954 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1927 : BitVec 32 := Scalar.subi v17 c0_i32_954
  let c1_i32_955 : BitVec 32 := 1#32
  let v1929 : BitVec 32 := Scalar.divsi v1927 c1_i32_955
  let v1930 : BitVec 32 := Scalar.muli v1929 c1_i32_955
  let v1931 : BitVec 32 := Scalar.addi c0_i32_954 v1930
  let c1_i32_956 : BitVec 32 := 1#32
  ⟨c0_i32_954, v1931, c1_i32_956⟩
def k0_off215 (i : grid0.Coords) (k0_t1 : Fin k0_t1_loop.trips) (k0_t62 : Fin (k0_t62_loop i k0_t1).trips) : Fin 4 → Nat :=
  let c0_987 : Index := 0#32
  let c7_988 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_954 : BitVec 32 := 0#32
  let c1_i32_956 : BitVec 32 := 1#32
  let arg14 : BitVec 32 := Scf.iv c0_i32_954 c1_i32_956 k0_t62
  let v1986 : BitVec 32 := Scalar.addi v1926 arg14
  let c128_i32_986 : BitVec 32 := 128#32
  let v1987 : BitVec 32 := Scalar.muli v1986 c128_i32_986
  let v1988 : Index := Scalar.indexCast v1987
  let c0_989 : Index := 0#32
  ![0, 7, v1988.toNat, 0]
def k0_off216 (i : grid0.Coords) (k0_t1 : Fin k0_t1_loop.trips) (k0_t62 : Fin (k0_t62_loop i k0_t1).trips) : Fin 3 → Nat :=
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_954 : BitVec 32 := 0#32
  let c1_i32_956 : BitVec 32 := 1#32
  let arg14 : BitVec 32 := Scf.iv c0_i32_954 c1_i32_956 k0_t62
  let v1986 : BitVec 32 := Scalar.addi v1926 arg14
  let c128_i32_986 : BitVec 32 := 128#32
  let v1987 : BitVec 32 := Scalar.muli v1986 c128_i32_986
  let v1992 : Index := Scalar.indexCast v1987
  let c0_992 : Index := 0#32
  ![7, v1992.toNat, 0]
def k0_off217 (i : grid0.Coords) (k0_t1 : Fin k0_t1_loop.trips) (k0_t62 : Fin (k0_t62_loop i k0_t1).trips) : Fin 3 → Nat :=
  let c1_i32_993 : BitVec 32 := 1#32
  let c0_i32_954 : BitVec 32 := 0#32
  let c1_i32_956 : BitVec 32 := 1#32
  let arg14 : BitVec 32 := Scf.iv c0_i32_954 c1_i32_956 k0_t62
  let v1997 : BitVec 32 := Scalar.addi c1_i32_993 arg14
  let v1998 : Index := Scalar.indexCast v1997
  let c0_994 : Index := 0#32
  let c0_995 : Index := 0#32
  ![v1998.toNat, 0, 0]
@[reducible] def k0_t63_loop (i : grid0.Coords) (k0_t1 : Fin k0_t1_loop.trips) : Scf.Loop 32 :=
  let c0_i32_954 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1927 : BitVec 32 := Scalar.subi v17 c0_i32_954
  let c1_i32_955 : BitVec 32 := 1#32
  let v1929 : BitVec 32 := Scalar.divsi v1927 c1_i32_955
  let v1930 : BitVec 32 := Scalar.muli v1929 c1_i32_955
  let v1931 : BitVec 32 := Scalar.addi c0_i32_954 v1930
  let v1928 : BitVec 32 := Scalar.addi c0_i32_954 v1927
  let c1_i32_957 : BitVec 32 := 1#32
  ⟨v1931, v1928, c1_i32_957⟩
def k0_off218 (i : grid0.Coords) (k0_t1 : Fin k0_t1_loop.trips) (k0_t63 : Fin (k0_t63_loop i k0_t1).trips) : Fin 4 → Nat :=
  let c0_987 : Index := 0#32
  let c7_988 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_954 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1927 : BitVec 32 := Scalar.subi v17 c0_i32_954
  let c1_i32_955 : BitVec 32 := 1#32
  let v1929 : BitVec 32 := Scalar.divsi v1927 c1_i32_955
  let v1930 : BitVec 32 := Scalar.muli v1929 c1_i32_955
  let v1931 : BitVec 32 := Scalar.addi c0_i32_954 v1930
  let c1_i32_957 : BitVec 32 := 1#32
  let arg14 : BitVec 32 := Scf.iv v1931 c1_i32_957 k0_t63
  let v1986 : BitVec 32 := Scalar.addi v1926 arg14
  let c128_i32_986 : BitVec 32 := 128#32
  let v1987 : BitVec 32 := Scalar.muli v1986 c128_i32_986
  let v1988 : Index := Scalar.indexCast v1987
  let c0_989 : Index := 0#32
  ![0, 7, v1988.toNat, 0]
def k0_off219 (i : grid0.Coords) (k0_t1 : Fin k0_t1_loop.trips) (k0_t63 : Fin (k0_t63_loop i k0_t1).trips) : Fin 3 → Nat :=
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_954 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1927 : BitVec 32 := Scalar.subi v17 c0_i32_954
  let c1_i32_955 : BitVec 32 := 1#32
  let v1929 : BitVec 32 := Scalar.divsi v1927 c1_i32_955
  let v1930 : BitVec 32 := Scalar.muli v1929 c1_i32_955
  let v1931 : BitVec 32 := Scalar.addi c0_i32_954 v1930
  let c1_i32_957 : BitVec 32 := 1#32
  let arg14 : BitVec 32 := Scf.iv v1931 c1_i32_957 k0_t63
  let v1986 : BitVec 32 := Scalar.addi v1926 arg14
  let c128_i32_986 : BitVec 32 := 128#32
  let v1987 : BitVec 32 := Scalar.muli v1986 c128_i32_986
  let v1992 : Index := Scalar.indexCast v1987
  let c0_992 : Index := 0#32
  ![7, v1992.toNat, 0]
def k0_off220 (i : grid0.Coords) (k0_t1 : Fin k0_t1_loop.trips) (k0_t63 : Fin (k0_t63_loop i k0_t1).trips) : Fin 3 → Nat :=
  let c1_i32_993 : BitVec 32 := 1#32
  let c0_i32_954 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1927 : BitVec 32 := Scalar.subi v17 c0_i32_954
  let c1_i32_955 : BitVec 32 := 1#32
  let v1929 : BitVec 32 := Scalar.divsi v1927 c1_i32_955
  let v1930 : BitVec 32 := Scalar.muli v1929 c1_i32_955
  let v1931 : BitVec 32 := Scalar.addi c0_i32_954 v1930
  let c1_i32_957 : BitVec 32 := 1#32
  let arg14 : BitVec 32 := Scf.iv v1931 c1_i32_957 k0_t63
  let v1997 : BitVec 32 := Scalar.addi c1_i32_993 arg14
  let v1998 : Index := Scalar.indexCast v1997
  let c0_994 : Index := 0#32
  let c0_995 : Index := 0#32
  ![v1998.toNat, 0, 0]
@[reducible] def k0_t64_loop (i : grid0.Coords) (k0_t1 : Fin k0_t1_loop.trips) : Scf.Loop 32 :=
  let c0_i32_976 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1963 : BitVec 32 := Scalar.subi v17 c0_i32_976
  let c1_i32_977 : BitVec 32 := 1#32
  let v1965 : BitVec 32 := Scalar.divsi v1963 c1_i32_977
  let v1966 : BitVec 32 := Scalar.muli v1965 c1_i32_977
  let v1967 : BitVec 32 := Scalar.addi c0_i32_976 v1966
  let c1_i32_978 : BitVec 32 := 1#32
  ⟨c0_i32_976, v1967, c1_i32_978⟩
def k0_off221 (i : grid0.Coords) (k0_t1 : Fin k0_t1_loop.trips) (k0_t64 : Fin (k0_t64_loop i k0_t1).trips) : Fin 3 → Nat :=
  let c1_i32_986 : BitVec 32 := 1#32
  let c0_i32_976 : BitVec 32 := 0#32
  let c1_i32_978 : BitVec 32 := 1#32
  let arg14 : BitVec 32 := Scf.iv c0_i32_976 c1_i32_978 k0_t64
  let v1986 : BitVec 32 := Scalar.addi c1_i32_986 arg14
  let v1987 : Index := Scalar.indexCast v1986
  let c0_987 : Index := 0#32
  let c0_988 : Index := 0#32
  ![v1987.toNat, 0, 0]
def k0_off222 (i : grid0.Coords) (k0_t1 : Fin k0_t1_loop.trips) (k0_t64 : Fin (k0_t64_loop i k0_t1).trips) : Fin 5 → Nat :=
  let c0_990 : Index := 0#32
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_976 : BitVec 32 := 0#32
  let c1_i32_978 : BitVec 32 := 1#32
  let arg14 : BitVec 32 := Scf.iv c0_i32_976 c1_i32_978 k0_t64
  let v1998 : BitVec 32 := Scalar.addi v1926 arg14
  let v1999 : Index := Scalar.indexCast v1998
  let c0_992 : Index := 0#32
  let c0_993 : Index := 0#32
  ![0, 7, v1999.toNat, 0, 0]
@[reducible] def k0_t65_loop (i : grid0.Coords) (k0_t1 : Fin k0_t1_loop.trips) : Scf.Loop 32 :=
  let c0_i32_976 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1963 : BitVec 32 := Scalar.subi v17 c0_i32_976
  let c1_i32_977 : BitVec 32 := 1#32
  let v1965 : BitVec 32 := Scalar.divsi v1963 c1_i32_977
  let v1966 : BitVec 32 := Scalar.muli v1965 c1_i32_977
  let v1967 : BitVec 32 := Scalar.addi c0_i32_976 v1966
  let v1964 : BitVec 32 := Scalar.addi c0_i32_976 v1963
  let c1_i32_979 : BitVec 32 := 1#32
  ⟨v1967, v1964, c1_i32_979⟩
def k0_off223 (i : grid0.Coords) (k0_t1 : Fin k0_t1_loop.trips) (k0_t65 : Fin (k0_t65_loop i k0_t1).trips) : Fin 3 → Nat :=
  let c1_i32_986 : BitVec 32 := 1#32
  let c0_i32_976 : BitVec 32 := 0#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32 : BitVec 32 := 8#32
  let v12 : BitVec 32 := Scalar.subi v11 c8_i32
  let c0_i32_4 : BitVec 32 := 0#32
  let v13 : BitVec 32 := Scalar.maxsi v12 c0_i32_4
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1963 : BitVec 32 := Scalar.subi v17 c0_i32_976
  let c1_i32_977 : BitVec 32 := 1#32
  let v1965 : BitVec 32 := Scalar.divsi v1963 c1_i32_977
  let v1966 : BitVec 32 := Scalar.muli v1965 c1_i32_977
  let v1967 : BitVec 32 := Scalar.addi c0_i32_976 v1966
  let c1_i32_979 : BitVec 32 := 1#32
  let arg14 : BitVec 32 := Scf.iv v1967 c1_i32_979 k0_t65
  let v1986 : BitVec 32 := Scalar.addi c1_i32_986 arg14
  let v1987 : Index := Scalar.indexCast v1986
  let c0_987 : Index := 0#32
  let c0_988 : Index := 0#32
  ![v1987.toNat, 0, 0]
def k0_off224 (i : grid0.Coords) (k0_t1 : Fin k0_t1_loop.trips) (k0_t65 : Fin (k0_t65_loop i k0_t1).trips) : Fin 5 → Nat :=
  let c0_990 : Index := 0#32
  let c7_991 : Index := 7#32
  let arg1 : BitVec 32 := BitVec.ofNat 32 (i 1).val
  let c4_i32_3 : BitVec 32 := 4#32
  let v10 : BitVec 32 := Scalar.muli arg1 c4_i32_3
  let c0_i32_1 : BitVec 32 := 0#32
  let c1_i32 : BitVec 32 := 1#32
  let arg13 : BitVec 32 := Scf.iv c0_i32_1 c1_i32 k0_t1
  let v11 : BitVec 32 := Scalar.addi v10 arg13
  let c8_i32_952 : BitVec 32 := 8#32
  let v1924 : BitVec 1 := Scalar.cmpi .sge v11 c8_i32_952
  let c8_i32 : BitVec 32 := 8#32
  let v12 : BitVec 32 := Scalar.subi v11 c8_i32
  let c0_i32_4 : BitVec 32 := 0#32
  let v13 : BitVec 32 := Scalar.maxsi v12 c0_i32_4
  let c1_i32_953 : BitVec 32 := 1#32
  let v1925 : BitVec 32 := Scalar.addi v13 c1_i32_953
  let v1926 : BitVec 32 := Scalar.select v1924 v1925 v13
  let c0_i32_976 : BitVec 32 := 0#32
  let v14 : BitVec 32 := Scalar.subi v11 v13
  let c8_i32_5 : BitVec 32 := 8#32
  let v15 : BitVec 1 := Scalar.cmpi .sge v11 c8_i32_5
  let c1_i32_6 : BitVec 32 := 1#32
  let c0_i32_7 : BitVec 32 := 0#32
  let v16 : BitVec 32 := Scalar.select v15 c1_i32_6 c0_i32_7
  let v17 : BitVec 32 := Scalar.subi v14 v16
  let v1963 : BitVec 32 := Scalar.subi v17 c0_i32_976
  let c1_i32_977 : BitVec 32 := 1#32
  let v1965 : BitVec 32 := Scalar.divsi v1963 c1_i32_977
  let v1966 : BitVec 32 := Scalar.muli v1965 c1_i32_977
  let v1967 : BitVec 32 := Scalar.addi c0_i32_976 v1966
  let c1_i32_979 : BitVec 32 := 1#32
  let arg14 : BitVec 32 := Scf.iv v1967 c1_i32_979 k0_t65
  let v1998 : BitVec 32 := Scalar.addi v1926 arg14
  let v1999 : Index := Scalar.indexCast v1998
  let c0_992 : Index := 0#32
  let c0_993 : Index := 0#32
  ![0, 7, v1999.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x32x64x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_448" => some ((448⁻¹ : ℝ) : EReal)
  | "inv_ln2" => some (((Real.log 2)⁻¹ : ℝ) : EReal)
  | "log2_448" => some (((Real.log 448) * (Real.log 2)⁻¹ : ℝ) : EReal)
  | "qk_log2e" => some ((8⁻¹ * (Real.log 2)⁻¹ : ℝ) : EReal)
  | _ => none
-- ==== ReferenceIdeal.lean ====
abbrev S8x4096x2048 : Shape := ⟨3, ![8, 4096, 2048]⟩
abbrev S8x8x4096x64 : Shape := ⟨4, ![8, 8, 4096, 64]⟩
abbrev S8x8x4096 : Shape := ⟨3, ![8, 8, 4096]⟩
abbrev S8x8x32x64x128 : Shape := ⟨5, ![8, 8, 32, 64, 128]⟩
abbrev S8x1x512 : Shape := ⟨3, ![8, 1, 512]⟩
abbrev S8x32x4096 : Shape := ⟨3, ![8, 32, 4096]⟩
abbrev S8x4096x32x64 : Shape := ⟨4, ![8, 4096, 32, 64]⟩
abbrev S8x4096x32 : Shape := ⟨3, ![8, 4096, 32]⟩
abbrev S8x4096x32x1 : Shape := ⟨4, ![8, 4096, 32, 1]⟩
abbrev S8x32x4096x64 : Shape := ⟨4, ![8, 32, 4096, 64]⟩
abbrev S64x16384x64 : Shape := ⟨3, ![64, 16384, 64]⟩
abbrev S64x4096x64 : Shape := ⟨3, ![64, 4096, 64]⟩
abbrev S64x16384x4096 : Shape := ⟨3, ![64, 16384, 4096]⟩
abbrev S8x8x4x4096x4096 : Shape := ⟨5, ![8, 8, 4, 4096, 4096]⟩
abbrev S8x8x4x4096 : Shape := ⟨4, ![8, 8, 4, 4096]⟩
abbrev S8x8x4x4096x1 : Shape := ⟨5, ![8, 8, 4, 4096, 1]⟩
abbrev S8x8x1x1x4096 : Shape := ⟨5, ![8, 8, 1, 1, 4096]⟩
abbrev S4096x4096 : Shape := ⟨2, ![4096, 4096]⟩
abbrev S1x1x1x4096x4096 : Shape := ⟨5, ![1, 1, 1, 4096, 4096]⟩
abbrev S8x8x32x128x64 : Shape := ⟨5, ![8, 8, 32, 128, 64]⟩
abbrev S8x8x4x4096x64 : Shape := ⟨5, ![8, 8, 4, 4096, 64]⟩
abbrev S8x8x64 : Shape := ⟨3, ![8, 8, 64]⟩
abbrev S8x8x1x1x64 : Shape := ⟨5, ![8, 8, 1, 1, 64]⟩
abbrev S8x4096x8x4x64 : Shape := ⟨5, ![8, 4096, 8, 4, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x2048, .bf16⟩
  | .hbm, ⟨1, _⟩ => ⟨S8x8x4096x64, .fp8e4m3⟩
  | .hbm, ⟨2, _⟩ => ⟨S8x8x4096, .f32⟩
  | .hbm, ⟨3, _⟩ => ⟨S8x8x32x64x128, .fp8e4m3⟩
  | .hbm, ⟨4, _⟩ => ⟨S8x1x512, .f32⟩
  | .hbm, ⟨5, _⟩ => ⟨S8x4096x2048, .bf16⟩
  | .hbm, ⟨6, _⟩ => ⟨S8x4096x2048, .fp8e4m3⟩
  | .hbm, ⟨7, _⟩ => ⟨S8x32x4096, .f32⟩
  | .local _ .vmem, ⟨0, _⟩ => ⟨S8x4096x2048, .bf16⟩
  | .local _ .vmem, ⟨1, _⟩ => ⟨S8x8x4096x64, .fp8e4m3⟩
  | .local _ .vmem, ⟨2, _⟩ => ⟨S8x8x4096, .f32⟩
  | .local _ .vmem, ⟨3, _⟩ => ⟨S8x8x32x64x128, .fp8e4m3⟩
  | .local _ .vmem, ⟨4, _⟩ => ⟨S8x1x512, .f32⟩
  | .local _ .vmem, ⟨5, _⟩ => ⟨S8x4096x2048, .bf16⟩
  | .local _ .vmem, ⟨6, _⟩ => ⟨S8x4096x2048, .fp8e4m3⟩
  | .local _ .vmem, ⟨7, _⟩ => ⟨S8x32x4096, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_448" => some ((448⁻¹ : ℝ) : EReal)
  | "inv_ln2" => some (((Real.log 2)⁻¹ : ℝ) : EReal)
  | _ => none

abbrev grid0 : Pipeline.Grid := .none

abbrev stage0_0 : Fin 1 → Memref sig .tc .vmem S8x4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x4096x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x32x64x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Run.lean ====
/-
  Straight-line evaluation of a kernel body. `Ev P p r P'` says: run from the assertion `P`, the program `p` returns the
  value `r` and leaves `P'`. The rules below evaluate a sequence, a load, a store and a counted loop; each names what
  the step returns and leaves, so that going through a body by them computes its result as a function of what its
  buffers held. Assertions are lists `owns a x ∗ (owns b y ∗ …)`; `Ev.skip` passes over the first entry.
-/
module

public import Idealize.ShloMosaic.Lib.VecWindow
public import Idealize.ShloMosaic.Lib.Pipeline.Kit
public import Idealize.ShloMosaic.Lib.Tactic
public import Idealize.ShloMosaic.Lib.Pipeline.FrameBody

@[expose] public section

noncomputable section

namespace Cert.Proof

open Idealize.ShloMosaic Idealize.ShloMosaic.TcCoe
open Idealize.SL Idealize.SL.RA Idealize.SL.BI
open scoped Idealize.SL.BI

open Idealize.SL.BI.BIBase Idealize.SL.BI.Laws Idealize.SL.ProofMode Idealize.SL.Sem

/-- The values a counted loop carries after `n` of its trips, from `a`. -/
def iterTo {n : ℕ} {σ : Type} (f : Fin n → σ → σ) (a : σ) : ℕ → σ
  | 0 => a
  | k + 1 => if h : k < n then f ⟨k, h⟩ (iterTo f a k) else iterTo f a k

/-- The values a counted loop carries after all its trips. -/
def iter {n : ℕ} {σ : Type} (f : Fin n → σ → σ) (a : σ) : σ := iterTo f a n

theorem iterTo_succ {n : ℕ} {σ : Type} (f : Fin n → σ → σ) (a : σ) (k : Fin n) :
    iterTo f a (k.val + 1) = f k (iterTo f a k.val) := by
  show (if h : k.val < n then _ else _) = _
  rw [dif_pos k.isLt]

variable {nD : Nat} {τ : Topo} {sig : RefSig} {Val : EltTy → Type}
variable {Λ : Labels}

local notation "𝕄" => MT nD τ sig Unit Val ℕ (UR sig nD τ) ℕ

variable {defs : Defs nD τ sig Val Λ} {𝒱 : Variants} {c : Thread nD τ}

/-- From `P`, the program `p` returns `r` and leaves `P'`. -/
def Ev (defs : Defs nD τ sig Val Λ) (𝒱 : Variants) (c : Thread nD τ) {α : Type} (P : sProp 𝕄) (p : Prog (TpuEff nD τ sig Val Λ c.2) α)
    (r : α) (P' : sProp 𝕄) : Prop :=
  P ⊢ wp frame (wpE defs 𝒱 c none) Set.univ p (fun r' => iprop(⌜r' = r⌝ ∗ P'))

namespace Ev

variable {P P' P₁ R : sProp (MT nD τ sig Unit Val ℕ (UR sig nD τ) ℕ)} {α β : Type}

theorem ret (r : α) : Ev defs 𝒱 c P (pure r) r P := by
  unfold Ev; rw [wp_pure]
  iintro H; imodintro; isplitr
  · ipureintro; trivial
  · iexact H

theorem bind {p : Prog (TpuEff nD τ sig Val Λ c.2) α} {k : α → Prog (TpuEff nD τ sig Val Λ c.2) β} {r : α} {r' : β}
    (h₁ : Ev defs 𝒱 c P p r P₁) (h₂ : Ev defs 𝒱 c P₁ (k r) r' P') : Ev defs 𝒱 c P (p >>= k) r' P' := by
  unfold Ev at *
  rw [wp_bind]
  refine h₁.trans (wp_mono _ _ _ fun a => ?_)
  iintro ⟨%h, H⟩
  subst h
  iapply h₂; iexact H

theorem pre {P₀ : sProp (MT nD τ sig Unit Val ℕ (UR sig nD τ) ℕ)} {p : Prog (TpuEff nD τ sig Val Λ c.2) α} {r : α} (hP : P = P₀) (h : Ev defs 𝒱 c P₀ p r P') :
    Ev defs 𝒱 c P p r P' := hP ▸ h

theorem conv {p : Prog (TpuEff nD τ sig Val Λ c.2) α} {r r' : α} {P'' : sProp 𝕄}
    (h : Ev defs 𝒱 c P p r P') (hr : r = r') (hP : P' = P'') : Ev defs 𝒱 c P p r' P'' := hr ▸ hP ▸ h

theorem skip {p : Prog (TpuEff nD τ sig Val Λ c.2) α} {r : α} (h : Ev defs 𝒱 c P p r P') :
    Ev defs 𝒱 c iprop(R ∗ P) p r iprop(R ∗ P') := by
  unfold Ev at *
  refine (sep_mono .rfl h).trans ((wp_frame_l _ _ _).trans (wp_mono _ _ _ fun a => ?_))
  iintro ⟨HR, %h, H⟩
  isplitr
  · ipureintro; exact h
  · isplitl [HR] <;> iassumption

/-- `skip` for one operation, which a proof by these rules applies only there. -/
theorem skipLift {o : TpuEff nD τ sig Val Λ c.2 α} {r : α} (h : Ev defs 𝒱 c P (Prog.lift o) r P') :
    Ev defs 𝒱 c iprop(R ∗ P) (Prog.lift o) r iprop(R ∗ P') := skip h

variable {sp : CoreSpace} {s : Shape} {e : EltTy}

theorem load {m : Memref sig c.2.kind sp s e} {X : s.Idx → Val e} (r : Rect s) (hl : m.view.LoadsAt r) :
    Ev defs 𝒱 c iprop(owns c m fullShare X ∗ R) (Prog.lift (.load m r.toLoadRect hl)) (View.ld X r) iprop(owns c m fullShare X ∗ R) := by
  unfold Ev owns
  iintro ⟨⟨%f, %hf, H⟩, HR⟩
  iapply (wp_load_rect 𝒱 c none Set.univ (m := m) (r := r) (S := m.view.set) (View.set_slice_subset _ _)) $$ H
  iintro H
  rw [wp_ret]
  imodintro
  isplitr
  · ipureintro; subst hf; rfl
  · isplitl [H]
    · iexists f; isplitr
      · ipureintro; exact hf
      · iexact H
    · iexact HR

theorem store {m : Memref sig c.2.kind sp s e} {X : s.Idx → Val e} {off size : Fin s.rank → ℕ} (inb : ∀ a, off a + size a ≤ s.size a)
    (w : (Rect.unit off size inb).shape.Idx → Val e) (hx : (m.access (Rect.unit off size inb)).Stores Finset.univ) (hm) :
    Ev defs 𝒱 c iprop(owns c m fullShare X ∗ R) (Prog.lift (.store m (Rect.unit off size inb) w Finset.univ hx hm)) ⟨⟩
      iprop(owns c m fullShare (VecWindow.put X off size w) ∗ R) := by
  unfold Ev owns
  iintro ⟨⟨%f, %hf, H⟩, HR⟩
  iapply (wp_store 𝒱 c none Set.univ (m := m) (r := Rect.unit off size inb) (S := m.view.set) (by rw [View.setOn_univ]; exact View.set_slice_subset _ _)) $$ H
  iintro H
  rw [wp_ret]
  imodintro
  isplitr
  · ipureintro; trivial
  · isplitl [H]
    · iexists ((m.access (Rect.unit off size inb)).write Val f w Finset.univ); isplitr
      · ipureintro
        subst hf
        exact View.read_writes_cons_put m.view f inb w [] rfl
      · iexact H
    · iexact HR

/-- A counted loop whose trips leave the assertion as it was. -/
theorem loop {l : Scf.Loop 32} {hok : l.OK} {σ : Type} {init : σ} {body : Fin l.trips → σ → Prog (TpuEff nD τ sig Val Λ c.2) σ}
    {f : Fin l.trips → σ → σ} (h : ∀ k a, Ev defs 𝒱 c P (body k a) (f k a) P) :
    Ev defs 𝒱 c P (l.for hok init body) (iter f init) P := by
  unfold Ev at *
  have := Scf.wp_for frame (wpE defs 𝒱 c none) Set.univ l.lb l.ub l.st hok init body
    (fun k a => iprop(⌜a = iterTo f init k⌝ ∗ P)) (fun k a => by
      iintro ⟨%ha, H⟩
      subst ha
      rw [iterTo_succ]
      iapply (h k _); iexact H) (Q := fun r' => iprop(⌜r' = iter f init⌝ ∗ P))
  refine .trans ?_ this
  iintro H
  isplitl [H]
  · isplitr
    · ipureintro; rfl
    · iexact H
  · iintro %a H; iexact H

/-- The same, its trips carrying a pair. -/
theorem loopPair {l : Scf.Loop 32} {hok : l.OK} {σ₁ σ₂ : Type} {a₀ : σ₁} {b₀ : σ₂}
    {body : Fin l.trips → σ₁ × σ₂ → Prog (TpuEff nD τ sig Val Λ c.2) (σ₁ × σ₂)}
    {f : Fin l.trips → σ₁ → σ₂ → σ₁} {g : Fin l.trips → σ₁ → σ₂ → σ₂}
    (h : ∀ k a b, Ev defs 𝒱 c P (body k (a, b)) (f k a b, g k a b) P) :
    Ev defs 𝒱 c P (l.for hok (a₀, b₀) body)
      ((iter (fun k q => (f k q.1 q.2, g k q.1 q.2)) (a₀, b₀)).1, (iter (fun k q => (f k q.1 q.2, g k q.1 q.2)) (a₀, b₀)).2) P :=
  loop fun k a => h k a.1 a.2

/-- A counted loop whose trips rewrite the contents of the first buffer. -/
theorem loopStore {l : Scf.Loop 32} {hok : l.OK} {σ : Type} {init : σ} {body : Fin l.trips → σ → Prog (TpuEff nD τ sig Val Λ c.2) σ}
    {m : Memref sig c.2.kind sp s e} {X : s.Idx → Val e}
    {f : Fin l.trips → σ → (s.Idx → Val e) → σ} {g : Fin l.trips → σ → (s.Idx → Val e) → (s.Idx → Val e)}
    (h : ∀ k a Y, Ev defs 𝒱 c iprop(owns c m fullShare Y ∗ R) (body k a) (f k a Y) iprop(owns c m fullShare (g k a Y) ∗ R)) :
    Ev defs 𝒱 c iprop(owns c m fullShare X ∗ R) (l.for hok init body)
      (iter (fun k q => (f k q.1 q.2, g k q.1 q.2)) (init, X)).1
      iprop(owns c m fullShare (iter (fun k q => (f k q.1 q.2, g k q.1 q.2)) (init, X)).2 ∗ R) := by
  unfold Ev at *
  have := Scf.wp_for frame (wpE defs 𝒱 c none) Set.univ l.lb l.ub l.st hok init body
    (fun k a => iprop(∃ Y, ⌜(a, Y) = iterTo (fun k q => (f k q.1 q.2, g k q.1 q.2)) (init, X) k⌝ ∗ (owns c m fullShare Y ∗ R))) (fun k a => by
      iintro ⟨%Y, %ha, H⟩
      refine (h k a Y).trans (wp_mono _ _ _ fun a' => ?_)
      rw [iterTo_succ, ← ha]
      iintro ⟨%h', H⟩
      subst h'
      iexists (g k a Y)
      isplitr
      · ipureintro; rfl
      · iexact H) (Q := fun r' => iprop(⌜r' = (iter (fun k q => (f k q.1 q.2, g k q.1 q.2)) (init, X)).1⌝
        ∗ owns c m fullShare (iter (fun k q => (f k q.1 q.2, g k q.1 q.2)) (init, X)).2 ∗ R))
  refine .trans ?_ this
  iintro H
  isplitl [H]
  · iexists X; isplitr
    · ipureintro; rfl
    · iexact H
  · iintro %a ⟨%Y, %ha, H⟩
    have e : (a, Y) = iter (fun k q => (f k q.1 q.2, g k q.1 q.2)) (init, X) := ha
    rw [← e]
    isplitr
    · ipureintro; rfl
    · iexact H

/-- A counted loop without carried values, its trips taking the state `t` of the assertion `St t` to `g k t`. -/
theorem loopState {l : Scf.Loop 32} {hok : l.OK} {T : Type} (St : T → sProp 𝕄) {body : Fin l.trips → PUnit → Prog (TpuEff nD τ sig Val Λ c.2) PUnit}
    {t₀ : T} (g : Fin l.trips → T → T) (h : ∀ k t, Ev defs 𝒱 c (St t) (body k ⟨⟩) ⟨⟩ (St (g k t))) :
    Ev defs 𝒱 c (St t₀) (l.for hok ⟨⟩ body) ⟨⟩ (St (iter g t₀)) := by
  unfold Ev at *
  have := Scf.wp_for frame (wpE defs 𝒱 c none) Set.univ l.lb l.ub l.st hok ⟨⟩ body
    (fun k _ => St (iterTo g t₀ k)) (fun k a => by
      rw [iterTo_succ]
      refine (h k _).trans (wp_mono _ _ _ fun a' => ?_)
      iintro ⟨_, H⟩; iexact H) (Q := fun r' => iprop(⌜r' = ⟨⟩⌝ ∗ St (iter g t₀)))
  refine .trans ?_ this
  iintro H
  isplitl [H]
  · iapply (show St t₀ ⊢ St (iterTo g t₀ 0) from .rfl); iexact H
  · iintro %a H
    isplitr
    · ipureintro; rfl
    · iapply (show St (iterTo g t₀ (Scf.trips l.lb l.ub l.st)) ⊢ St (iter g t₀) from .rfl); iexact H

end Ev

end Cert.Proof

end
-- ==== Proof.Attn.lean ====
/-
  What one trip of the attention kernel's loop over query blocks computes, as plain functions of the buffers' contents:
  the quantiser of one tile of queries, the scores of one block of keys, one pair of query heads against the window's
  blocks (the scores kept in the scratch table, their running maximum, the weights, the weighted values and the
  row sums), and the eight key/value heads in order. The functions say operation by operation what the program does;
  what the numbers are is proved elsewhere.
-/
module

public import proofs.«01_k».proof.KernelIdeal
public import proofs.«01_k».proof.Proof.Run

@[expose] public section

set_option maxRecDepth 16384

noncomputable section

namespace Cert.Proof.KernelIdeal

open Cert.KernelIdeal
open Cert.KernelIdeal.Facts₀ Cert.KernelIdeal.Facts
open Idealize.ShloMosaic Idealize.ShloMosaic.TcCoe

variable {F : FTy → Type} [FloatOps F] [Named F] [Facts]

/-! ## The blocks of one query block -/

/-- The query block of trip `u` at the grid point. -/
abbrev qbV (i : grid0.Coords) (u : Fin k0_t1_loop.trips) : BitVec 32 :=
  Scalar.addi (Scalar.muli (BitVec.ofNat 32 (i 1).val) 4#32) (Scf.iv 0#32 1#32 u)
/-- The first key block of its window. -/
abbrev frV (i : grid0.Coords) (u : Fin k0_t1_loop.trips) : BitVec 32 := Scalar.maxsi (Scalar.subi (qbV i u) 8#32) 0#32
/-- The first key block that is visible whole. -/
abbrev f0V (i : grid0.Coords) (u : Fin k0_t1_loop.trips) : BitVec 32 :=
  Scalar.select (Scalar.cmpi .sge (qbV i u) 8#32) (Scalar.addi (frV i u) 1#32) (frV i u)
/-- The number of key blocks visible whole. -/
abbrev nfV (i : grid0.Coords) (u : Fin k0_t1_loop.trips) : BitVec 32 :=
  Scalar.subi (Scalar.subi (qbV i u) (frV i u)) (Scalar.select (Scalar.cmpi .sge (qbV i u) 8#32) 1#32 0#32)
/-- Where the unrolled loops over whole blocks end: all of them, the step being one. -/
abbrev endV (i : grid0.Coords) (u : Fin k0_t1_loop.trips) : BitVec 32 :=
  Scalar.addi 0#32 (Scalar.muli (Scalar.divsi (Scalar.subi (nfV i u) 0#32) 1#32) 1#32)

theorem inbK (h : Fin 8) (n : ℕ) (hn : n + 128 ≤ 4096) :
    ∀ a, (![0, h.val, n, 0] : Fin 4 → ℕ) a + S1x1x128x64.size a ≤ S1x8x4096x64.size a := by
  have := h.isLt
  intro a
  fin_cases a <;> simp <;> omega

theorem inbKs (h : Fin 8) (n : ℕ) (hn : n + 128 ≤ 4096) :
    ∀ a, (![h.val, n, 0] : Fin 3 → ℕ) a + S1x128x128.size a ≤ S8x4096x128.size a := by
  have := h.isLt
  intro a
  fin_cases a <;> simp <;> omega

theorem inbV (h : Fin 8) (n : ℕ) (hn : n + 1 ≤ 32) :
    ∀ a, (![0, h.val, n, 0, 0] : Fin 5 → ℕ) a + S1x1x1x64x128.size a ≤ S1x8x32x64x128.size a := by
  have := h.isLt
  intro a
  fin_cases a <;> simp <;> omega

theorem inbVs (h : Fin 8) : ∀ a, (![h.val, 0, 0] : Fin 3 → ℕ) a + S1x64x256.size a ≤ S8x64x256.size a := by
  have := h.isLt
  intro a
  fin_cases a <;> simp <;> omega

theorem inbS (n : ℕ) (hn : n + 1 ≤ 8) : ∀ a, (![n, 0, 0] : Fin 3 → ℕ) a + S1x128x256.size a ≤ S8x128x256.size a := by
  intro a
  fin_cases a <;> simp <;> omega

theorem inbQ (h : Fin 8) (n : ℕ) (hn : n + 128 ≤ 512) :
    ∀ a, (![0, n, 256 * h.val] : Fin 3 → ℕ) a + S1x128x256.size a ≤ S1x512x2048.size a := by
  have := h.isLt
  intro a
  fin_cases a <;> simp <;> omega

/-! ## The quantiser of one tile: four heads' queries of 128 rows -/

/-- The tile, heads first. -/
def qTile (w : Vec F S1x128x256 .bf16) : FVec F S4x64x128 .f32 :=
  shapeCast S4x64x128 (transpose S256x128 [1, 0] (extf .f32 (shapeCast S128x256 w shapeCasts_S1x128x256_S128x256 : FVec F S128x256 .bf16) bitsLt_bf16_f32)
    transposes_S128x256_p1_0_S256x128) shapeCasts_S256x128_S4x64x128

/-- The largest magnitude of each head's row. -/
def qAmax (w : Vec F S1x128x256 .bf16) : FVec F S4x128 .f32 :=
  multiReduction .maximumf [1] S4x128 (absf (qTile w)) 0xFF800000#32 reduces_S4x64x128_S4x128 (.inl rfl) rfl

/-- The exponent of its scale. -/
def qExp (w : Vec F S1x128x256 .bf16) : FVec F S4x128 .f32 :=
  select (cmpf .oeq (qAmax w) (broadcast S4x128 (Scalar.ofBits .f32 0x00000000#32))) (broadcast S4x128 (Scalar.ofBits .f32 0x00000000#32))
    (addf (floor (mulf (log (mulf (qAmax w) (broadcast S4x128 (Named.named κ "inv_448" 0x3B124925#32))))
      (broadcast S4x128 (Named.named κ "inv_ln2" 0x3FB8AA3B#32)))) (broadcast S4x128 (Scalar.ofBits .f32 0x3F800000#32)))

/-- Its scale. -/
def qScale (w : Vec F S1x128x256 .bf16) : FVec F S4x128 .f32 := exp2 (qExp w)

/-- The scaled and clipped tile. -/
def qClip (w : Vec F S1x128x256 .bf16) : FVec F S4x64x128 .f32 :=
  minimumf (broadcast S4x64x128 (Scalar.ofBits .f32 0x43E00000#32)) (maximumf (broadcast S4x64x128 (Scalar.ofBits .f32 0xC3E00000#32))
    (mulf (qTile w) (broadcastTo S4x64x128 (shapeCast S4x1x128 (exp2 (subf (broadcast S4x128 (Scalar.ofBits .f32 0x00000000#32)) (qExp w))) shapeCasts_S4x128_S4x1x128)
      broadcasts_S4x1x128_S4x64x128)))

/-- Its codes. -/
def qCode (w : Vec F S1x128x256 .bf16) : FVec F S4x64x128 .fp8e4m3 := truncf .fp8e4m3 (qClip w) bitsLt_fp8e4m3_f32

/-- The codes in the layout of the result. -/
def qOut (w : Vec F S1x128x256 .bf16) : FVec F S1x128x256 .fp8e4m3 :=
  shapeCast S1x128x256 (truncf .fp8e4m3 (transpose S128x256 [1, 0] (shapeCast S256x128 (qClip w) shapeCasts_S4x64x128_S256x128 : FVec F S256x128 .f32)
    transposes_S256x128_p1_0_S128x256) bitsLt_fp8e4m3_f32 : FVec F S128x256 .fp8e4m3) shapeCasts_S128x256_S1x128x256

/-- The codes of the first and of the second pair of heads, the two heads' rows side by side. -/
def qPair0 (w : Vec F S1x128x256 .bf16) : FVec F S64x256 .fp8e4m3 :=
  concatenate S64x256 1 [⟨S64x128, shapeCast S64x128 (extractStridedSlice S1x64x128 ![0, 0, 0] (qCode w) slices_S4x64x128_o0_0_0_S1x64x128) shapeCasts_S1x64x128_S64x128⟩,
    ⟨S64x128, shapeCast S64x128 (extractStridedSlice S1x64x128 ![1, 0, 0] (qCode w) slices_S4x64x128_o1_0_0_S1x64x128) shapeCasts_S1x64x128_S64x128⟩] concatenates_S64x128_S64x128_S64x256_d1
@[inherit_doc qPair0] def qPair1 (w : Vec F S1x128x256 .bf16) : FVec F S64x256 .fp8e4m3 :=
  concatenate S64x256 1 [⟨S64x128, shapeCast S64x128 (extractStridedSlice S1x64x128 ![2, 0, 0] (qCode w) slices_S4x64x128_o2_0_0_S1x64x128) shapeCasts_S1x64x128_S64x128⟩,
    ⟨S64x128, shapeCast S64x128 (extractStridedSlice S1x64x128 ![3, 0, 0] (qCode w) slices_S4x64x128_o3_0_0_S1x64x128) shapeCasts_S1x64x128_S64x128⟩] concatenates_S64x128_S64x128_S64x256_d1

/-- The factor of a pair's scores: its scale times the softmax scale over `log 2`. -/
def qFac0 (w : Vec F S1x128x256 .bf16) : FVec F S1x256 .f32 :=
  mulf (concatenate S1x256 1 [⟨S1x128, extractStridedSlice S1x128 ![0, 0] (qScale w) slices_S4x128_o0_0_S1x128⟩,
    ⟨S1x128, extractStridedSlice S1x128 ![1, 0] (qScale w) slices_S4x128_o1_0_S1x128⟩] concatenates_S1x128_S1x128_S1x256_d1) (broadcast S1x256 (Named.named κ "qk_log2e" 0x3E38AA3B#32))
@[inherit_doc qFac0] def qFac1 (w : Vec F S1x128x256 .bf16) : FVec F S1x256 .f32 :=
  mulf (concatenate S1x256 1 [⟨S1x128, extractStridedSlice S1x128 ![2, 0] (qScale w) slices_S4x128_o2_0_S1x128⟩,
    ⟨S1x128, extractStridedSlice S1x128 ![3, 0] (qScale w) slices_S4x128_o3_0_S1x128⟩] concatenates_S1x128_S1x128_S1x256_d1) (broadcast S1x256 (Named.named κ "qk_log2e" 0x3E38AA3B#32))

/-! ## Blocks of keys and values -/

section Pair

variable (x3 : Vec F S1x8x4096x64 .fp8e4m3) (x10 : Vec F S8x4096x128 .f32) (x5 : Vec F S1x8x32x64x128 .fp8e4m3) (x11 : Vec F S8x64x256 .f32)
variable (h : Fin 8) (q : FVec F S64x256 .fp8e4m3) (qc : FVec F S1x256 .f32)

/-- The 128 keys from row `n` against a pair's queries. -/
def kDot (n : ℕ) (hn : n + 128 ≤ 4096) : FVec F S128x256 .f32 :=
  matmul dot_S128x64_S64x256_S128x256_1_0_0_1_n_n none
    (shapeCast S128x64 (View.ld x3 (Rect.unit (s := S1x8x4096x64) ![0, h.val, n, 0] S1x1x128x64.size (inbK h n hn)) : Vec F S1x1x128x64 .fp8e4m3) shapeCasts_S1x1x128x64_S128x64 : FVec F S128x64 .fp8e4m3)
    q (constant S128x256 .f32 0x00000000#32)

/-- Those keys' scales, laid along the pair's queries. -/
def ksTile (n : ℕ) (hn : n + 128 ≤ 4096) : FVec F S128x256 .f32 :=
  concatenate S128x256 1
    [⟨S128x128, shapeCast S128x128 (View.ld x10 (Rect.unit (s := S8x4096x128) ![h.val, n, 0] S1x128x128.size (inbKs h n hn)) : Vec F S1x128x128 .f32) shapeCasts_S1x128x128_S128x128⟩,
     ⟨S128x128, shapeCast S128x128 (View.ld x10 (Rect.unit (s := S8x4096x128) ![h.val, n, 0] S1x128x128.size (inbKs h n hn)) : Vec F S1x128x128 .f32) shapeCasts_S1x128x128_S128x128⟩]
    concatenates_S128x128_S128x128_S128x256_d1

/-- Block `n` of the values against a block of weights. -/
def vDot (n : ℕ) (hn : n + 1 ≤ 32) (p : FVec F S128x256 .fp8e4m3) : FVec F S64x256 .f32 :=
  matmul dot_S64x128_S128x256_S64x256_1_0_0_1_n_n none
    (shapeCast S64x128 (View.ld x5 (Rect.unit (s := S1x8x32x64x128) ![0, h.val, n, 0, 0] S1x1x1x64x128.size (inbV h n hn)) : Vec F S1x1x1x64x128 .fp8e4m3) shapeCasts_S1x1x1x64x128_S64x128 : FVec F S64x128 .fp8e4m3)
    p (constant S64x256 .f32 0x00000000#32)

/-- Where a key of the query block's own diagonal block is visible: at or before the query. -/
def tri : IVec S128x256 1 :=
  cmpi .sle (concatenate S128x256 1 [⟨S128x128, iota .tc S128x128 32 [0] iota_S128x128_d0_w32⟩, ⟨S128x128, iota .tc S128x128 32 [0] iota_S128x128_d0_w32⟩] concatenates_S128x128_S128x128_S128x256_d1)
    (concatenate S128x256 1 [⟨S128x128, iota .tc S128x128 32 [1] iota_S128x128_d1_w32⟩, ⟨S128x128, iota .tc S128x128 32 [1] iota_S128x128_d1_w32⟩] concatenates_S128x128_S128x128_S128x256_d1)

/-- The scores of a block visible whole. -/
def sFull (n : ℕ) (hn : n + 128 ≤ 4096) : FVec F S128x256 .f32 := mulf (kDot x3 h q n hn) (ksTile x10 h n hn)

/-- The scores of the two half-visible blocks in one: the diagonal block where its keys are visible, the window's first elsewhere. -/
def sMix (b : BitVec 1) (n n' : ℕ) (hn : n + 128 ≤ 4096) (hn' : n' + 128 ≤ 4096) : FVec F S128x256 .f32 :=
  select (ori tri (broadcast S128x256 b))
    (mulf (select tri (kDot x3 h q n hn) (kDot x3 h q n' hn')) (select tri (ksTile x10 h n hn) (ksTile x10 h n' hn')))
    (broadcast S128x256 (Scalar.ofBits .f32 0xFF800000#32))

/-- The running maximum, over the rows congruent modulo eight. -/
def max8 (a : FVec F S8x256 .f32) (s : FVec F S128x256 .f32) : FVec F S8x256 .f32 :=
  maximumf a (multiReduction .maximumf [0] S8x256 (shapeCast S16x8x256 s shapeCasts_S128x256_S16x8x256 : FVec F S16x8x256 .f32) 0xFF800000#32 reduces_S16x8x256_S8x256 (.inl rfl) rfl)

/-- The sum over the rows congruent modulo eight. -/
def sum8 (s : FVec F S128x256 .f32) : FVec F S8x256 .f32 :=
  multiReduction .add [0] S8x256 (shapeCast S16x8x256 s shapeCasts_S128x256_S16x8x256 : FVec F S16x8x256 .f32) 0x00000000#32 reduces_S16x8x256_S8x256 (.inl rfl) rfl

/-- Block `n` of the table of scores. -/
def slot (x12 : Vec F S8x128x256 .f32) (n : ℕ) (hn : n + 1 ≤ 8) : FVec F S128x256 .f32 :=
  shapeCast S128x256 (View.ld x12 (Rect.unit (s := S8x128x256) ![n, 0, 0] S1x128x256.size (inbS n hn)) : Vec F S1x128x256 .f32) shapeCasts_S1x128x256_S128x256

/-- The table with block `n` replaced. -/
def setSlot (x12 : Vec F S8x128x256 .f32) (n : ℕ) (s : FVec F S128x256 .f32) : Vec F S8x128x256 .f32 :=
  VecWindow.put x12 ![n, 0, 0] S1x128x256.size (shapeCast S1x128x256 s shapeCasts_S128x256_S1x128x256 : FVec F S1x128x256 .f32)

/-- The scores' pass over the whole blocks `kn`, into the table's blocks `sn`. -/
def pass1 {n : ℕ} (kn sn : Fin n → ℕ) (hk : ∀ k, kn k + 128 ≤ 4096) (t : FVec F S8x256 .f32 × Vec F S8x128x256 .f32) : FVec F S8x256 .f32 × Vec F S8x128x256 .f32 :=
  iter (fun k t => (max8 t.1 (sFull x3 x10 h q (kn k) (hk k)), setSlot t.2 (sn k) (sFull x3 x10 h q (kn k) (hk k)))) t

/-- The exponent's offset of each query: its maximum less `log₂ 448`. -/
def mq (m : FVec F S8x256 .f32) : FVec F S1x256 .f32 :=
  subf (mulf (shapeCast S1x256 (multiReduction .maximumf [0] S256 m 0xFF800000#32 reduces_S8x256_S256 (.inl rfl) rfl : FVec F S256 .f32) shapeCasts_S256_S1x256) qc)
    (broadcast S1x256 (Named.named κ "log2_448" 0x410CEAED#32))

/-- The weights of a block of scores. -/
def wts (o : FVec F S1x256 .f32) (s : FVec F S128x256 .f32) : FVec F S128x256 .f32 :=
  exp2 (subf (mulf s (broadcastTo S128x256 qc broadcasts_S1x256_S128x256)) (broadcastTo S128x256 o broadcasts_S1x256_S128x256))

/-- The two half-visible blocks' weighted values. -/
def oMix (n n' : ℕ) (hn : n + 1 ≤ 32) (hn' : n' + 1 ≤ 32) (p : FVec F S128x256 .f32) : FVec F S64x256 .f32 :=
  addf (vDot x5 h n hn (truncf .fp8e4m3 (select tri p (broadcast S128x256 (Scalar.ofBits .f32 0x00000000#32))) bitsLt_fp8e4m3_f32))
    (vDot x5 h n' hn' (truncf .fp8e4m3 (select tri (broadcast S128x256 (Scalar.ofBits .f32 0x00000000#32)) p) bitsLt_fp8e4m3_f32))

/-- The values' pass over the whole blocks `vn`, their scores in the table's blocks `sn`. -/
def pass2 (o : FVec F S1x256 .f32) (x12 : Vec F S8x128x256 .f32) {n : ℕ} (vn sn : Fin n → ℕ) (hv : ∀ k, vn k + 1 ≤ 32) (hs : ∀ k, sn k + 1 ≤ 8)
    (t : FVec F S64x256 .f32 × FVec F S8x256 .f32) : FVec F S64x256 .f32 × FVec F S8x256 .f32 :=
  iter (fun k t => (addf t.1 (vDot x5 h (vn k) (hv k) (truncf .fp8e4m3 (wts qc o (slot x12 (sn k) (hs k))) bitsLt_fp8e4m3_f32)),
    addf t.2 (sum8 (wts qc o (slot x12 (sn k) (hs k)))))) t

/-- The pair's result: the weighted values times their scales over the row sums. -/
def norm (t : FVec F S64x256 .f32 × FVec F S8x256 .f32) : FVec F S64x256 .f32 :=
  divf (mulf t.1 (shapeCast S64x256 (View.ld x11 (Rect.unit (s := S8x64x256) ![h.val, 0, 0] S1x64x256.size (inbVs h)) : Vec F S1x64x256 .f32) shapeCasts_S1x64x256_S64x256))
    (broadcastTo S64x256 (shapeCast S1x256 (multiReduction .add [0] S256 t.2 0x00000000#32 reduces_S8x256_S256 (.inl rfl) rfl : FVec F S256 .f32) shapeCasts_S256_S1x256 : FVec F S1x256 .f32)
      broadcasts_S1x256_S64x256)

variable (i : grid0.Coords) (u : Fin k0_t1_loop.trips)

/-- The two half-visible blocks' scores at query block `u` of the grid point. -/
def pairS0 : FVec F S128x256 .f32 :=
  sMix x3 x10 h q (Scalar.cmpi .sge (qbV i u) 8#32) (Scalar.indexCast (Scalar.muli (qbV i u) 128#32)).toNat (Scalar.indexCast (Scalar.muli (frV i u) 128#32)).toNat
    (k0_off3_inb i u 2) (k0_off5_inb i u 2)

/-- The running maximum and the table after the scores' pass. -/
def pairM (x12 : Vec F S8x128x256 .f32) : FVec F S8x256 .f32 × Vec F S8x128x256 .f32 :=
  pass1 x3 x10 h q (n := (k0_t3_loop i u).trips) (fun k => (Scalar.indexCast (Scalar.muli (Scalar.addi (f0V i u) (Scf.iv (endV i u) 1#32 k)) 128#32)).toNat)
    (fun k => (Scalar.indexCast (Scalar.addi 1#32 (Scf.iv (endV i u) 1#32 k))).toNat) (fun k => k0_off10_inb i u k 2)
    (pass1 x3 x10 h q (n := (k0_t2_loop i u).trips) (fun k => (Scalar.indexCast (Scalar.muli (Scalar.addi (f0V i u) (Scf.iv 0#32 1#32 k)) 128#32)).toNat)
      (fun k => (Scalar.indexCast (Scalar.addi 1#32 (Scf.iv 0#32 1#32 k))).toNat) (fun k => k0_off7_inb i u k 2)
      (max8 (broadcast S8x256 (Scalar.ofBits .f32 0xFF800000#32)) (pairS0 x3 x10 h q i u), setSlot x12 0 (pairS0 x3 x10 h q i u)))

/-- The weighted values and the row sums after the values' pass, from a maximum and a table. -/
def pairO (t : FVec F S8x256 .f32 × Vec F S8x128x256 .f32) : FVec F S64x256 .f32 × FVec F S8x256 .f32 :=
  pass2 x5 h qc (mq qc t.1) t.2 (n := (k0_t5_loop i u).trips) (fun k => (Scalar.indexCast (Scalar.addi (f0V i u) (Scf.iv (endV i u) 1#32 k))).toNat)
    (fun k => (Scalar.indexCast (Scalar.addi 1#32 (Scf.iv (endV i u) 1#32 k))).toNat) (fun k => k0_off18_inb i u k 2) (fun k => k0_off17_inb i u k 0)
    (pass2 x5 h qc (mq qc t.1) t.2 (n := (k0_t4_loop i u).trips) (fun k => (Scalar.indexCast (Scalar.addi (f0V i u) (Scf.iv 0#32 1#32 k))).toNat)
      (fun k => (Scalar.indexCast (Scalar.addi 1#32 (Scf.iv 0#32 1#32 k))).toNat) (fun k => k0_off16_inb i u k 2) (fun k => k0_off15_inb i u k 0)
      (oMix x5 h (Scalar.indexCast (qbV i u)).toNat (Scalar.indexCast (frV i u)).toNat (k0_off13_inb i u 2) (k0_off14_inb i u 2)
        (wts qc (mq qc t.1) (slot t.2 0 (by decide))), sum8 (wts qc (mq qc t.1) (slot t.2 0 (by decide)))))

/-- The pair's result. -/
def pairR (x12 : Vec F S8x128x256 .f32) : FVec F S64x256 .f32 := norm x11 h (pairO x5 h qc i u (pairM x3 x10 h q i u x12))

end Pair

/-! ## One key/value head, and the eight in order -/

/-- What the trip's writable buffers hold: the table of scores, and the blocks of the three results. -/
structure Res (F : FTy → Type) where
  x12 : Vec F S8x128x256 .f32
  x7 : Vec F S1x512x2048 .bf16
  x8 : Vec F S1x512x2048 .fp8e4m3
  x9 : Vec F S1x32x512 .f32

section Head

variable (x2 : Vec F S1x512x2048 .bf16) (x3 : Vec F S1x8x4096x64 .fp8e4m3) (x10 : Vec F S8x4096x128 .f32) (x5 : Vec F S1x8x32x64x128 .fp8e4m3) (x11 : Vec F S8x64x256 .f32)
variable (i : grid0.Coords) (u : Fin k0_t1_loop.trips) (h : Fin 8)

/-- The first row of the trip's query block within the grid point's rows. -/
abbrev rowV (u : Fin k0_t1_loop.trips) : ℕ := (Scalar.indexCast (Scalar.muli (Scf.iv 0#32 1#32 u) 128#32)).toNat

/-- The queries of the head's four query heads. -/
def qLoad : Vec F S1x128x256 .bf16 :=
  View.ld x2 (Rect.unit (s := S1x512x2048) ![0, rowV u, 256 * h.val] S1x128x256.size (inbQ h _ (k0_off1_inb u 1)))

/-- The two pairs' results in the layout of the kernel's first result. -/
def outTile (r0 r1 : FVec F S64x256 .f32) : FVec F S1x128x256 .bf16 :=
  shapeCast S1x128x256 (truncf .bf16 (transpose S128x256 [1, 0]
    (concatenate S256x128 0 [⟨S64x128, extractStridedSlice S64x128 ![0, 0] r0 slices_S64x256_o0_0_S64x128⟩, ⟨S64x128, extractStridedSlice S64x128 ![0, 128] r0 slices_S64x256_o0_128_S64x128⟩,
      ⟨S64x128, extractStridedSlice S64x128 ![0, 0] r1 slices_S64x256_o0_0_S64x128⟩, ⟨S64x128, extractStridedSlice S64x128 ![0, 128] r1 slices_S64x256_o0_128_S64x128⟩]
      concatenates_S64x128_S64x128_S64x128_S64x128_S256x128_d0 : FVec F S256x128 .f32) transposes_S256x128_p1_0_S128x256 : FVec F S128x256 .f32) bitsLt_bf16_f32 : FVec F S128x256 .bf16) shapeCasts_S128x256_S1x128x256

/-- The table of scores after the head's first pair. -/
def mid12 (x12 : Vec F S8x128x256 .f32) : Vec F S8x128x256 .f32 := (pairM x3 x10 h (qPair0 (qLoad x2 u h)) i u x12).2

/-- The buffers after one head. -/
def headF (t : Res F) : Res F where
  x12 := (pairM x3 x10 h (qPair1 (qLoad x2 u h)) i u (mid12 x2 x3 x10 i u h t.x12)).2
  x7 := VecWindow.put t.x7 ![0, rowV u, 256 * h.val] S1x128x256.size
    (outTile (pairR x3 x10 x5 x11 h (qPair0 (qLoad x2 u h)) (qFac0 (qLoad x2 u h)) i u t.x12)
      (pairR x3 x10 x5 x11 h (qPair1 (qLoad x2 u h)) (qFac1 (qLoad x2 u h)) i u (mid12 x2 x3 x10 i u h t.x12)))
  x8 := VecWindow.put t.x8 ![0, rowV u, 256 * h.val] S1x128x256.size (qOut (qLoad x2 u h))
  x9 := VecWindow.put t.x9 ![0, 4 * h.val, rowV u] S1x4x128.size (shapeCast S1x4x128 (qScale (qLoad x2 u h)) shapeCasts_S4x128_S1x4x128 : FVec F S1x4x128 .f32)

/-- The buffers after the eight heads. -/
def tripF (t : Res F) : Res F :=
  headF x2 x3 x10 x5 x11 i u 7 (headF x2 x3 x10 x5 x11 i u 6 (headF x2 x3 x10 x5 x11 i u 5 (headF x2 x3 x10 x5 x11 i u 4
    (headF x2 x3 x10 x5 x11 i u 3 (headF x2 x3 x10 x5 x11 i u 2 (headF x2 x3 x10 x5 x11 i u 1 (headF x2 x3 x10 x5 x11 i u 0 t)))))))

end Head

end Cert.Proof.KernelIdeal

end
-- ==== Proof.Trip.lean ====
/-
  One trip of the attention kernel's loop over query blocks, run: it takes the buffers to the contents the plain functions give.
  Each of the eight heads is run by the rules of the straight-line operations and of the counted loops,
  and its buffers are then named by the function of the head before the next one starts.
-/
module

public import proofs.«01_k».proof.KernelIdeal
public import proofs.«01_k».proof.Proof.Attn

@[expose] public section

set_option maxRecDepth 16384

noncomputable section

namespace Cert.Proof.KernelIdeal

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]

local notation "𝕄" => MT nD τ sig Unit (Elt F) ℕ (UR sig nD τ) ℕ

/-- What the body's buffers hold: those it only reads, and the state `t` of those it writes. -/
abbrev St (c : Dev nD) (arg2 : Memref sig .tc .vmem S1x512x2048 .bf16) (arg3 : Memref sig .tc .vmem S1x8x4096x64 .fp8e4m3) (arg4 : Memref sig .tc .vmem S1x8x4096 .f32) (arg5 : Memref sig .tc .vmem S1x8x32x64x128 .fp8e4m3) (arg6 : Memref sig .tc .vmem S1x1x512 .f32) (arg7 : Memref sig .tc .vmem S1x512x2048 .bf16) (arg8 : Memref sig .tc .vmem S1x512x2048 .fp8e4m3) (arg9 : Memref sig .tc .vmem S1x32x512 .f32) (arg10 : Memref sig .tc .vmem S8x4096x128 .f32) (arg11 : Memref sig .tc .vmem S8x64x256 .f32) (arg12 : Memref sig .tc .vmem S8x128x256 .f32) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) : sProp 𝕄 :=
  iprop(owns c arg12 fullShare t.x12 ∗ owns c arg7 fullShare t.x7 ∗ owns c arg8 fullShare t.x8 ∗ owns c arg9 fullShare t.x9 ∗ owns c arg10 fullShare x10 ∗ owns c arg11 fullShare x11 ∗ owns c arg2 fullShare x2 ∗ owns c arg3 fullShare x3 ∗ owns c arg4 fullShare x4 ∗ owns c arg5 fullShare x5 ∗ owns c arg6 fullShare x6)

/-- Nothing new: the proof below stops before the stores to the first result by asking whether this applies. -/
theorem store7 {c : Dev nD} {P P' : sProp (MT nD τ sig Unit (Elt F) ℕ (UR sig nD τ) ℕ)} {m : Memref sig .tc .vmem S1x512x2048 .bf16} {r : Rect S1x512x2048}
    {w : r.shape.Idx → Elt F .bf16} {M} {hx : (m.access r).Stores M} {hm} {r' : PUnit}
    (h : Ev (Val := Elt F) defs₀ Variants.none (c : Thread nD τ) P (Prog.lift (.store m r w M hx hm)) r' P') :
    Ev (Val := Elt F) defs₀ Variants.none (c : Thread nD τ) P (Prog.lift (.store m r w M hx hm)) r' P' := h

/-- One head's buffers, from what its two pairs left: `m₀`, `m₁` the maxima and tables of the two pairs' scores, `q₀`, `q₁` their factors. -/
theorem St_head (c : Dev nD) (i : grid0.Coords) (u : Fin k0_t1_loop.trips) (arg2 : Memref sig .tc .vmem S1x512x2048 .bf16) (arg3 : Memref sig .tc .vmem S1x8x4096x64 .fp8e4m3) (arg4 : Memref sig .tc .vmem S1x8x4096 .f32) (arg5 : Memref sig .tc .vmem S1x8x32x64x128 .fp8e4m3) (arg6 : Memref sig .tc .vmem S1x1x512 .f32) (arg7 : Memref sig .tc .vmem S1x512x2048 .bf16) (arg8 : Memref sig .tc .vmem S1x512x2048 .fp8e4m3) (arg9 : Memref sig .tc .vmem S1x32x512 .f32) (arg10 : Memref sig .tc .vmem S8x4096x128 .f32) (arg11 : Memref sig .tc .vmem S8x64x256 .f32) (arg12 : Memref sig .tc .vmem S8x128x256 .f32) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (h : Fin 8) (t : Res F)
    {m₀ m₁ : FVec F S8x256 .f32 × Vec F S8x128x256 .f32} {q₀ q₁ : FVec F S1x256 .f32} {e₈ : FVec F S1x128x256 .fp8e4m3} {e₉ : FVec F S1x4x128 .f32}
    (h₀ : m₀ = pairM x3 x10 h (qPair0 (qLoad x2 u h)) i u t.x12) (h₁ : m₁ = pairM x3 x10 h (qPair1 (qLoad x2 u h)) i u (mid12 x2 x3 x10 i u h t.x12))
    (hq₀ : q₀ = qFac0 (qLoad x2 u h)) (hq₁ : q₁ = qFac1 (qLoad x2 u h)) (h₈ : e₈ = qOut (qLoad x2 u h))
    (h₉ : e₉ = shapeCast S1x4x128 (qScale (qLoad x2 u h)) shapeCasts_S4x128_S1x4x128) :
    (iprop(owns c arg12 fullShare m₁.2 ∗ owns c arg7 fullShare (VecWindow.put t.x7 ![0, rowV u, 256 * h.val] S1x128x256.size (outTile (norm x11 h (pairO x5 h q₀ i u m₀)) (norm x11 h (pairO x5 h q₁ i u m₁)))) ∗ owns c arg8 fullShare (VecWindow.put t.x8 ![0, rowV u, 256 * h.val] S1x128x256.size e₈) ∗ owns c arg9 fullShare (VecWindow.put t.x9 ![0, 4 * h.val, rowV u] S1x4x128.size e₉) ∗ owns c arg10 fullShare x10 ∗ owns c arg11 fullShare x11 ∗ owns c arg2 fullShare x2 ∗ owns c arg3 fullShare x3 ∗ owns c arg4 fullShare x4 ∗ owns c arg5 fullShare x5 ∗ owns c arg6 fullShare x6) : sProp 𝕄) =
      St c arg2 arg3 arg4 arg5 arg6 arg7 arg8 arg9 arg10 arg11 arg12 x10 x11 x2 x3 x4 x5 x6 (headF x2 x3 x10 x5 x11 i u h t) := by
  subst h₀ h₁ hq₀ hq₁ h₈ h₉
  rfl

set_option maxHeartbeats 8000000 in
/-- The loop over the grid point's query blocks. -/
theorem loop_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) :
    Ev (Val := Elt F) defs₀ Variants.none (c : Thread nD τ) (St c arg2 arg3 arg4 arg5 arg6 arg7 arg8 arg9 arg10 arg11 arg12 x10 x11 x2 x3 x4 x5 x6 t)
      (Scf.Loop.for k0_t1_loop k0_t1_ok PUnit.unit fun k0_t1 _ => do
          let ⟨v9, v1879, v1880, v1969_0, v1971, v1973⟩ : Σ' (v9 : BitVec 32) (v1879 : FVec F S64x128 .f32) (v1880 : FVec F S64x128 .f32) (v1969_0 : FVec F S64x256 .f32) (v1971 : FVec F S1x256 .f32), FVec F S64x256 .f32 ← k0_part118 i arg2 harg2 arg3 harg3 arg4 harg4 arg5 harg5 arg6 harg6 arg7 harg7 arg8 harg8 arg9 harg9 arg10 harg10 arg11 harg11 arg12 harg12 (BitVec.ofNat 32 (i 1).val) tri 0#32 1#32 k0_t1
          have v1974 : FVec F S64x256 .f32 := mulf v1969_0 v1973
          have v1975 : FVec F S64x256 .f32 := broadcastTo S64x256 v1971 broadcasts_S1x256_S64x256
          have v1976 : FVec F S64x256 .f32 := divf v1974 v1975
          have v1977 : FVec F S64x128 .f32 := extractStridedSlice S64x128 ![0, 0] v1976 slices_S64x256_o0_0_S64x128
          have v1978 : FVec F S64x128 .f32 := extractStridedSlice S64x128 ![0, 128] v1976 slices_S64x256_o0_128_S64x128
          have v1979 : FVec F S256x128 .f32 := concatenate S256x128 0 [⟨S64x128, v1879⟩, ⟨S64x128, v1880⟩, ⟨S64x128, v1977⟩, ⟨S64x128, v1978⟩] concatenates_S64x128_S64x128_S64x128_S64x128_S256x128_d0
          have v1980 : FVec F S128x256 .f32 := transpose S128x256 [1, 0] v1979 transposes_S256x128_p1_0_S128x256
          have v1981 : FVec F S128x256 .bf16 := truncf .bf16 v1980 bitsLt_bf16_f32
          let c0_984 : Index := 0#32
          let v1982 : Index := Scalar.indexCast v9
          let c1792_985 : Index := 1792#32
          let v1983 : Vec F S1x128x256 .bf16 ← Prog.lift (.load arg7 (Rect.unit (s := S1x512x2048) (k0_off197 k0_t1) S1x128x256.size (k0_off197_inb k0_t1)).toLoadRect (View.loadsAt_vmem h_S1x128x256))
          have v1984 : FVec F S128x256 .bf16 := shapeCast S128x256 v1983 shapeCasts_S1x128x256_S128x256
          have v1985 : FVec F S1x128x256 .bf16 := shapeCast S1x128x256 v1981 shapeCasts_S128x256_S1x128x256
          Prog.lift (.store arg7 (Rect.unit (s := S1x512x2048) (k0_off197 k0_t1) S1x128x256.size (k0_off197_inb k0_t1)) v1985 Finset.univ (View.stores_vmem h_S1x128x256 (harg7.storeExact_slice rfl _ (k0_off197_packedbf16 k0_t1)) (fun _ => rfl)) (.inl rfl))
          pure PUnit.unit)
      PUnit.unit (St c arg2 arg3 arg4 arg5 arg6 arg7 arg8 arg9 arg10 arg11 arg12 x10 x11 x2 x3 x4 x5 x6 (iter (fun u t => tripF x2 x3 x10 x5 x11 i u t) t)) := by
  apply Ev.loopState (St := St c arg2 arg3 arg4 arg5 arg6 arg7 arg8 arg9 arg10 arg11 arg12 x10 x11 x2 x3 x4 x5 x6)
  intro u t
  apply Ev.bind
  delta k0_part118
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 0 t ?m₀0 ?m₁0 ?q₀0 ?q₁0 ?e₈0 ?e₉0)
  case' m₀0 => rfl
  case' m₁0 => rfl
  case' q₀0 => rfl
  case' q₁0 => rfl
  case' e₈0 => rfl
  case' e₉0 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 1 (headF x2 x3 x10 x5 x11 i u 0 t) ?m₀1 ?m₁1 ?q₀1 ?q₁1 ?e₈1 ?e₉1)
  case' m₀1 => rfl
  case' m₁1 => rfl
  case' q₀1 => rfl
  case' q₁1 => rfl
  case' e₈1 => rfl
  case' e₉1 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 2 (headF x2 x3 x10 x5 x11 i u 1 (headF x2 x3 x10 x5 x11 i u 0 t)) ?m₀2 ?m₁2 ?q₀2 ?q₁2 ?e₈2 ?e₉2)
  case' m₀2 => rfl
  case' m₁2 => rfl
  case' q₀2 => rfl
  case' q₁2 => rfl
  case' e₈2 => rfl
  case' e₉2 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 3 (headF x2 x3 x10 x5 x11 i u 2 (headF x2 x3 x10 x5 x11 i u 1 (headF x2 x3 x10 x5 x11 i u 0 t))) ?m₀3 ?m₁3 ?q₀3 ?q₁3 ?e₈3 ?e₉3)
  case' m₀3 => rfl
  case' m₁3 => rfl
  case' q₀3 => rfl
  case' q₁3 => rfl
  case' e₈3 => rfl
  case' e₉3 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 4 (headF x2 x3 x10 x5 x11 i u 3 (headF x2 x3 x10 x5 x11 i u 2 (headF x2 x3 x10 x5 x11 i u 1 (headF x2 x3 x10 x5 x11 i u 0 t)))) ?m₀4 ?m₁4 ?q₀4 ?q₁4 ?e₈4 ?e₉4)
  case' m₀4 => rfl
  case' m₁4 => rfl
  case' q₀4 => rfl
  case' q₁4 => rfl
  case' e₈4 => rfl
  case' e₉4 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 5 (headF x2 x3 x10 x5 x11 i u 4 (headF x2 x3 x10 x5 x11 i u 3 (headF x2 x3 x10 x5 x11 i u 2 (headF x2 x3 x10 x5 x11 i u 1 (headF x2 x3 x10 x5 x11 i u 0 t))))) ?m₀5 ?m₁5 ?q₀5 ?q₁5 ?e₈5 ?e₉5)
  case' m₀5 => rfl
  case' m₁5 => rfl
  case' q₀5 => rfl
  case' q₁5 => rfl
  case' e₈5 => rfl
  case' e₉5 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 6 (headF x2 x3 x10 x5 x11 i u 5 (headF x2 x3 x10 x5 x11 i u 4 (headF x2 x3 x10 x5 x11 i u 3 (headF x2 x3 x10 x5 x11 i u 2 (headF x2 x3 x10 x5 x11 i u 1 (headF x2 x3 x10 x5 x11 i u 0 t)))))) ?m₀6 ?m₁6 ?q₀6 ?q₁6 ?e₈6 ?e₉6)
  case' m₀6 => rfl
  case' m₁6 => rfl
  case' q₀6 => rfl
  case' q₁6 => rfl
  case' e₈6 => rfl
  case' e₉6 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 7 (headF x2 x3 x10 x5 x11 i u 6 (headF x2 x3 x10 x5 x11 i u 5 (headF x2 x3 x10 x5 x11 i u 4 (headF x2 x3 x10 x5 x11 i u 3 (headF x2 x3 x10 x5 x11 i u 2 (headF x2 x3 x10 x5 x11 i u 1 (headF x2 x3 x10 x5 x11 i u 0 t))))))) ?m₀7 ?m₁7 ?q₀7 ?q₁7 ?e₈7 ?e₉7)
  case' m₀7 => rfl
  case' m₁7 => rfl
  case' q₀7 => rfl
  case' q₁7 => rfl
  case' e₈7 => rfl
  case' e₉7 => rfl
  exact Ev.ret _

end Cert.Proof.KernelIdeal

end
-- ==== Proof.Fill.lean ====
/-
  What the kernel does at the first grid point of a batch member: it fills two tables kept across the member's points,
  the keys' scales laid along the lanes and the values' scales laid along the queries.
-/
module

public import proofs.«01_k».proof.KernelIdeal
public import proofs.«01_k».proof.Proof.Attn
public import Idealize.ShloMosaic.Lib.ValueIdx
public import Idealize.ShloMosaic.Lib.Pointwise

@[expose] public section

set_option maxRecDepth 16384

noncomputable section

namespace Cert.Proof.KernelIdeal

open Cert.KernelIdeal
open Cert.KernelIdeal.Facts₀ Cert.KernelIdeal.Facts
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]

local notation "𝕄" => MT nD τ sig Unit (Elt F) ℕ (UR sig nD τ) ℕ

/-- The table of the keys' scales: every lane of row `n` of head `h` holds that key's scale. -/
def ksB (x4 : Vec F S1x8x4096 .f32) : Vec F S8x4096x128 .f32 := fun j => x4 (ValueIdx.ix3 0 (j 0) (j 1))

theorem vsB_lt (j : S8x64x256.Idx) : 64 * (j 0).val + (j 1).val < 512 := by
  have h0 : (j 0).val < 8 := (j 0).isLt
  have h1 : (j 1).val < 64 := (j 1).isLt
  omega

/-- The table of the values' scales: every lane of row `d` of head `h` holds the scale of the head's channel `d`. -/
def vsB (x6 : Vec F S1x1x512 .f32) : Vec F S8x64x256 .f32 := fun j => x6 (ValueIdx.ix3 0 0 ⟨64 * (j 0).val + (j 1).val, vsB_lt j⟩)

/-- The first table with its first `m` rows (of all heads, in order) filled. -/
def mixK (m : ℕ) (x4 : Vec F S1x8x4096 .f32) (X : Vec F S8x4096x128 .f32) : Vec F S8x4096x128 .f32 :=
  fun j => if (j 0).val * 4096 + (j 1).val < m then ksB x4 j else X j

/-- The second table with its first `m` heads filled. -/
def mixV (m : ℕ) (x6 : Vec F S1x1x512 .f32) (X : Vec F S8x64x256 .f32) : Vec F S8x64x256 .f32 :=
  fun j => if (j 0).val < m then vsB x6 j else X j

theorem mixK_zero (x4 : Vec F S1x8x4096 .f32) (X : Vec F S8x4096x128 .f32) : mixK 0 x4 X = X := rfl
theorem mixV_zero (x6 : Vec F S1x1x512 .f32) (X : Vec F S8x64x256 .f32) : mixV 0 x6 X = X := rfl

theorem mixK_all (x4 : Vec F S1x8x4096 .f32) (X : Vec F S8x4096x128 .f32) : mixK (7 * 4096 + 3968 + 128) x4 X = ksB x4 := by
  funext j
  have h0 : (j 0).val < 8 := (j 0).isLt
  have h1 : (j 1).val < 4096 := (j 1).isLt
  exact if_pos (by omega)

theorem mixV_all (x6 : Vec F S1x1x512 .f32) (X : Vec F S8x64x256 .f32) : mixV (7 + 1) x6 X = vsB x6 := by
  funext j
  exact if_pos (j 0).isLt

/-- The rows of one block of keys, as the kernel forms them, over a table filled up to them. -/
theorem mixK_put {h n m : ℕ} (hm : m = h * 4096 + n) (hn : n + 128 ≤ 4096) (x4 : Vec F S1x8x4096 .f32) (X : Vec F S8x4096x128 .f32)
    (inb : ∀ a, (![0, h, n] : Fin 3 → ℕ) a + S1x1x128.size a ≤ S1x8x4096.size a) :
    VecWindow.put (mixK m x4 X) ![h, n, 0] S1x128x128.size
      (shapeCast S1x128x128 (transpose S128x128 [1, 0] (broadcastTo S128x128 (shapeCast S1x128 (shapeCast S1x128
        (View.ld x4 (Rect.unit (s := S1x8x4096) ![0, h, n] S1x1x128.size inb) : Vec F S1x1x128 .f32) shapeCasts_S1x1x128_S1x128 : FVec F S1x128 .f32) shapeCasts_S1x128_S1x128 : FVec F S1x128 .f32)
        broadcasts_S1x128_S128x128 : FVec F S128x128 .f32) transposes_S128x128_p1_0_S128x128 : FVec F S128x128 .f32) shapeCasts_S128x128_S1x128x128 : FVec F S1x128x128 .f32)
      = mixK (h * 4096 + n + 128) x4 X := by
  subst hm
  funext j
  have h0 : (j 0).val < 8 := (j 0).isLt
  have h1 : (j 1).val < 4096 := (j 1).isLt
  have h2 : (j 2).val < 128 := (j 2).isLt
  unfold VecWindow.put
  split_ifs with hc
  · have c0 : h ≤ (j 0).val ∧ (j 0).val < h + 1 := hc 0
    have c1 : n ≤ (j 1).val ∧ (j 1).val < n + 128 := hc 1
    have e : mixK (h * 4096 + n + 128) x4 X j = ksB x4 j := if_pos (by omega)
    rw [e]
    pointwise
    refine congrArg x4 (funext fun a => Fin.ext ?_)
    match a with
    | ⟨0, _⟩ => rfl
    | ⟨1, _⟩ => show h = (j 0).val; omega
    | ⟨2, _⟩ => show n + ((j 1).val - n) = (j 1).val; omega
  · have e : ((j 0).val * 4096 + (j 1).val < h * 4096 + n) = ((j 0).val * 4096 + (j 1).val < h * 4096 + n + 128) := by
      apply propext
      constructor
      · omega
      · intro hlt
        by_contra hge
        apply hc
        intro a
        fin_cases a
        · show h ≤ (j 0).val ∧ (j 0).val < h + 1
          omega
        · show n ≤ (j 1).val ∧ (j 1).val < n + 128
          omega
        · show 0 ≤ (j 2).val ∧ (j 2).val < 0 + 128
          omega
    unfold mixK
    simp only [e]

/-- The rows of one head of values. -/
theorem mixV_put {h l : ℕ} (hl : l = 64 * h) (hh : h + 1 ≤ 8) (x6 : Vec F S1x1x512 .f32) (X : Vec F S8x64x256 .f32)
    (inb : ∀ a, (![0, 0, l] : Fin 3 → ℕ) a + S1x1x64.size a ≤ S1x1x512.size a) :
    VecWindow.put (mixV h x6 X) ![h, 0, 0] S1x64x256.size
      (shapeCast S1x64x256 (transpose S64x256 [1, 0] (broadcastTo S256x64 (shapeCast S1x64 (shapeCast S1x64
        (View.ld x6 (Rect.unit (s := S1x1x512) ![0, 0, l] S1x1x64.size inb) : Vec F S1x1x64 .f32) shapeCasts_S1x1x64_S1x64 : FVec F S1x64 .f32) shapeCasts_S1x64_S1x64 : FVec F S1x64 .f32)
        broadcasts_S1x64_S256x64 : FVec F S256x64 .f32) transposes_S256x64_p1_0_S64x256 : FVec F S64x256 .f32) shapeCasts_S64x256_S1x64x256 : FVec F S1x64x256 .f32)
      = mixV (h + 1) x6 X := by
  subst hl
  funext j
  have h0 : (j 0).val < 8 := (j 0).isLt
  have h1 : (j 1).val < 64 := (j 1).isLt
  have h2 : (j 2).val < 256 := (j 2).isLt
  unfold VecWindow.put
  split_ifs with hc
  · have c0 : h ≤ (j 0).val ∧ (j 0).val < h + 1 := hc 0
    have e : mixV (h + 1) x6 X j = vsB x6 j := if_pos (by omega)
    rw [e]
    pointwise
    refine congrArg x6 (funext fun a => Fin.ext ?_)
    match a with
    | ⟨0, _⟩ => rfl
    | ⟨1, _⟩ => rfl
    | ⟨2, _⟩ => show 64 * h + ((j 1).val - 0) = 64 * (j 0).val + (j 1).val; have : (j 0).val = h := by omega
                rw [this]; omega
  · have e : ((j 0).val < h) = ((j 0).val < h + 1) := by
      apply propext
      constructor
      · omega
      · intro hlt
        by_contra hge
        apply hc
        intro a
        fin_cases a
        · show h ≤ (j 0).val ∧ (j 0).val < h + 1
          omega
        · show 0 ≤ (j 1).val ∧ (j 1).val < 0 + 64
          omega
        · show 0 ≤ (j 2).val ∧ (j 2).val < 0 + 256
          omega
    unfold mixV
    simp only [e]

/-- The store of one block of keys' scales. -/
theorem store_ks {c : Dev nD} {R : sProp (MT nD τ sig Unit (Elt F) ℕ (UR sig nD τ) ℕ)} {a : Memref sig .tc .vmem S8x4096x128 .f32} {h n m : ℕ}
    {x4 : Vec F S1x8x4096 .f32} {X : Vec F S8x4096x128 .f32} {inb : ∀ a, (![h, n, 0] : Fin 3 → ℕ) a + S1x128x128.size a ≤ S8x4096x128.size a}
    {inb' : ∀ a, (![0, h, n] : Fin 3 → ℕ) a + S1x1x128.size a ≤ S1x8x4096.size a} {hx hm'} (hm : m = h * 4096 + n) :
    Ev (Val := Elt F) defs₀ Variants.none (c : Thread nD τ) iprop(owns c a fullShare (mixK m x4 X) ∗ R)
      (Prog.lift (.store a (Rect.unit (s := S8x4096x128) ![h, n, 0] S1x128x128.size inb)
        (shapeCast S1x128x128 (transpose S128x128 [1, 0] (broadcastTo S128x128 (shapeCast S1x128 (shapeCast S1x128
        (View.ld x4 (Rect.unit (s := S1x8x4096) ![0, h, n] S1x1x128.size inb') : Vec F S1x1x128 .f32) shapeCasts_S1x1x128_S1x128 : FVec F S1x128 .f32) shapeCasts_S1x128_S1x128 : FVec F S1x128 .f32)
        broadcasts_S1x128_S128x128 : FVec F S128x128 .f32) transposes_S128x128_p1_0_S128x128 : FVec F S128x128 .f32) shapeCasts_S128x128_S1x128x128 : FVec F S1x128x128 .f32) Finset.univ hx hm')) ⟨⟩
      iprop(owns c a fullShare (mixK (h * 4096 + n + 128) x4 X) ∗ R) :=
  (Ev.store inb _ hx hm').conv rfl (by rw [mixK_put hm (inb 1)])

/-- The store of one head of values' scales. -/
theorem store_vs {c : Dev nD} {R : sProp (MT nD τ sig Unit (Elt F) ℕ (UR sig nD τ) ℕ)} {a : Memref sig .tc .vmem S8x64x256 .f32} {h l m : ℕ}
    {x6 : Vec F S1x1x512 .f32} {X : Vec F S8x64x256 .f32} {inb : ∀ a, (![h, 0, 0] : Fin 3 → ℕ) a + S1x64x256.size a ≤ S8x64x256.size a}
    {inb' : ∀ a, (![0, 0, l] : Fin 3 → ℕ) a + S1x1x64.size a ≤ S1x1x512.size a} {hx hm'} (hm : m = h) (hl : l = 64 * h) :
    Ev (Val := Elt F) defs₀ Variants.none (c : Thread nD τ) iprop(owns c a fullShare (mixV m x6 X) ∗ R)
      (Prog.lift (.store a (Rect.unit (s := S8x64x256) ![h, 0, 0] S1x64x256.size inb)
        (shapeCast S1x64x256 (transpose S64x256 [1, 0] (broadcastTo S256x64 (shapeCast S1x64 (shapeCast S1x64
        (View.ld x6 (Rect.unit (s := S1x1x512) ![0, 0, l] S1x1x64.size inb') : Vec F S1x1x64 .f32) shapeCasts_S1x1x64_S1x64 : FVec F S1x64 .f32) shapeCasts_S1x64_S1x64 : FVec F S1x64 .f32)
        broadcasts_S1x64_S256x64 : FVec F S256x64 .f32) transposes_S256x64_p1_0_S64x256 : FVec F S64x256 .f32) shapeCasts_S64x256_S1x64x256 : FVec F S1x64x256 .f32) Finset.univ hx hm')) ⟨⟩
      iprop(owns c a fullShare (mixV (h + 1) x6 X) ∗ R) := by
  subst hm
  exact (Ev.store inb _ hx hm').conv rfl (by rw [mixV_put hl (inb 0)])

set_option maxHeartbeats 8000000 in
/-- The filling of both tables. -/
theorem fill_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x4 : Vec F S1x8x4096 .f32) (x6 : Vec F S1x1x512 .f32) (R : sProp (MT nD τ sig Unit (Elt F) ℕ (UR sig nD τ) ℕ)) :
    Ev (Val := Elt F) defs₀ Variants.none (c : Thread nD τ)
      iprop(owns c arg10 fullShare x10 ∗ owns c arg11 fullShare x11 ∗ owns c arg4 fullShare x4 ∗ owns c arg6 fullShare x6 ∗ R)
      (do
        k0_part67 i arg2 harg2 arg3 harg3 arg4 harg4 arg5 harg5 arg6 harg6 arg7 harg7 arg8 harg8 arg9 harg9 arg10 harg10 arg11 harg11 arg12 harg12
        k0_part61 i arg2 harg2 arg3 harg3 arg4 harg4 arg5 harg5 arg6 harg6 arg7 harg7 arg8 harg8 arg9 harg9 arg10 harg10 arg11 harg11 arg12 harg12
        k0_part62 i arg2 harg2 arg3 harg3 arg4 harg4 arg5 harg5 arg6 harg6 arg7 harg7 arg8 harg8 arg9 harg9 arg10 harg10 arg11 harg11 arg12 harg12
        k0_part63 i arg2 harg2 arg3 harg3 arg4 harg4 arg5 harg5 arg6 harg6 arg7 harg7 arg8 harg8 arg9 harg9 arg10 harg10 arg11 harg11 arg12 harg12
        k0_part64 i arg2 harg2 arg3 harg3 arg4 harg4 arg5 harg5 arg6 harg6 arg7 harg7 arg8 harg8 arg9 harg9 arg10 harg10 arg11 harg11 arg12 harg12
        k0_part65 i arg2 harg2 arg3 harg3 arg4 harg4 arg5 harg5 arg6 harg6 arg7 harg7 arg8 harg8 arg9 harg9 arg10 harg10 arg11 harg11 arg12 harg12
        k0_part66 i arg2 harg2 arg3 harg3 arg4 harg4 arg5 harg5 arg6 harg6 arg7 harg7 arg8 harg8 arg9 harg9 arg10 harg10 arg11 harg11 arg12 harg12
        pure PUnit.unit) PUnit.unit
      iprop(owns c arg10 fullShare (ksB x4) ∗ owns c arg11 fullShare (vsB x6) ∗ owns c arg4 fullShare x4 ∗ owns c arg6 fullShare x6 ∗ R) := by
  rw [← mixK_all x4 x10, ← mixV_all x6 x11]
  show Ev (Val := Elt F) defs₀ Variants.none (c : Thread nD τ) iprop(owns c arg10 fullShare (mixK 0 x4 x10) ∗ owns c arg11 fullShare (mixV 0 x6 x11) ∗ owns c arg4 fullShare x4 ∗ owns c arg6 fullShare x6 ∗ R) _ _ _
  repeat (first
    | with_reducible apply Ev.bind
    | with_reducible apply Ev.ret
    | with_reducible apply Ev.load
    | with_reducible apply store_ks
    | with_reducible apply store_vs
    | with_reducible apply Ev.skipLift
    | exact (rfl : (_ : ℕ) = _)
    | apply Ev.bind)

end Cert.Proof.KernelIdeal

end
-- ==== Proof.Table.lean ====
/-
  The pair's result without the table of scores: each block's scores are stored once and read once, so that the result
  is a function of the blocks themselves; and the loops' bounds, as numbers: at query block `qb` the blocks visible whole
  are the `nW qb` ones before it, and the loops that would take what the unrolled ones leave have no trips.
-/
module

public import proofs.«01_k».proof.KernelIdeal
public import proofs.«01_k».proof.Proof.Attn
public import Idealize.ShloMosaic.Lib.Pipeline.Value

@[expose] public section

set_option maxRecDepth 16384

noncomputable section

namespace Cert.Proof.KernelIdeal

open Cert.KernelIdeal
open Cert.KernelIdeal.Facts₀ Cert.KernelIdeal.Facts
open Idealize.ShloMosaic Idealize.ShloMosaic.TcCoe

variable {F : FTy → Type} [FloatOps F] [Named F] [Facts]

/-! ## Iteration -/

theorem iter_zero {n : ℕ} {σ : Type} (f : Fin n → σ → σ) (a : σ) (h : n = 0) : iter f a = a := by
  subst h; rfl

theorem iter_congr {n n' : ℕ} {σ : Type} (f : Fin n → σ → σ) (g : Fin n' → σ → σ) (a b : σ) (h : n = n') (hab : a = b)
    (hf : ∀ k (h : k < n) (h' : k < n') s, f ⟨k, h⟩ s = g ⟨k, h'⟩ s) : iter f a = iter g b := by
  subst h hab
  exact congrArg (fun f => iter f a) (funext fun k => funext fun s => hf k.val k.isLt k.isLt s)

/-! ## The blocks, as numbers -/

/-- How many blocks are visible whole at query block `qb`. -/
def nW (qb : ℕ) : ℕ := min qb 7

theorem nW_le (qb : ℕ) : nW qb ≤ qb := Nat.min_le_left _ _

section Num

variable (i : grid0.Coords) (u : Fin k0_t1_loop.trips)

/-- The query block of trip `u`. -/
def qbN : ℕ := 4 * (i 1).val + u.val

theorem i1_lt : (i 1).val < 8 := (i 1).isLt
theorem u_lt : u.val < 4 := u.isLt

theorem qbN_lt : qbN i u < 32 := by
  have := i1_lt i; have := u_lt u; unfold qbN; omega

theorem trips1 : k0_t1_loop.trips = 4 := by decide

theorem trips2 : (k0_t2_loop i u).trips = nW (qbN i u) := by
  have h1 := i1_lt i
  unfold k0_t2_loop Scf.Loop.trips qbN
  dsimp only
  generalize (i 1).val = a at *
  revert h1; revert a; revert u; decide

theorem trips3 : (k0_t3_loop i u).trips = 0 := by
  have h1 := i1_lt i
  unfold k0_t3_loop Scf.Loop.trips
  dsimp only
  generalize (i 1).val = a at *
  revert h1; revert a; revert u; decide

theorem trips4 : (k0_t4_loop i u).trips = nW (qbN i u) := trips2 i u

theorem trips5 : (k0_t5_loop i u).trips = 0 := trips3 i u

theorem qbV_toNat : (qbV i u).toNat = qbN i u := by
  have h1 := i1_lt i
  unfold qbV qbN
  generalize (i 1).val = a at *
  revert h1; revert a; revert u; decide

theorem qbV_row : (Scalar.indexCast (Scalar.muli (qbV i u) 128#32)).toNat = 128 * qbN i u := by
  have h1 := i1_lt i
  unfold qbV qbN
  generalize (i 1).val = a at *
  revert h1; revert a; revert u; decide

theorem frV_row : (Scalar.indexCast (Scalar.muli (frV i u) 128#32)).toNat = 128 * (qbN i u - 8) := by
  have h1 := i1_lt i
  unfold frV qbV qbN
  generalize (i 1).val = a at *
  revert h1; revert a; revert u; decide

theorem qbV_blk : (Scalar.indexCast (qbV i u)).toNat = qbN i u := by
  have h1 := i1_lt i
  unfold qbV qbN
  generalize (i 1).val = a at *
  revert h1; revert a; revert u; decide

theorem frV_blk : (Scalar.indexCast (frV i u)).toNat = qbN i u - 8 := by
  have h1 := i1_lt i
  unfold frV qbV qbN
  generalize (i 1).val = a at *
  revert h1; revert a; revert u; decide

theorem qbV_ge : Scalar.cmpi .sge (qbV i u) 8#32 = if 8 ≤ qbN i u then 1#1 else 0#1 := by
  have h1 := i1_lt i
  unfold qbV qbN
  generalize (i 1).val = a at *
  revert h1; revert a; revert u; decide

theorem kn_row (k : ℕ) (hk : k < nW (qbN i u)) :
    (Scalar.indexCast (Scalar.muli (Scalar.addi (f0V i u) (Scf.iv 0#32 1#32 k)) 128#32)).toNat = 128 * (qbN i u - nW (qbN i u) + k) := by
  have h1 := i1_lt i
  have h2 : k < 7 := hk.trans_le (Nat.min_le_right _ _)
  clear hk
  unfold f0V frV qbV qbN
  generalize (i 1).val = a at *
  revert h2; revert k; revert h1; revert a; revert u; decide

theorem kn_blk (k : ℕ) (hk : k < nW (qbN i u)) :
    (Scalar.indexCast (Scalar.addi (f0V i u) (Scf.iv 0#32 1#32 k))).toNat = qbN i u - nW (qbN i u) + k := by
  have h1 := i1_lt i
  have h2 : k < 7 := hk.trans_le (Nat.min_le_right _ _)
  clear hk
  unfold f0V frV qbV qbN
  generalize (i 1).val = a at *
  revert h2; revert k; revert h1; revert a; revert u; decide

theorem sn_blk (k : ℕ) (hk : k < 7) : (Scalar.indexCast (Scalar.addi 1#32 (Scf.iv 0#32 1#32 k))).toNat = k + 1 := by
  revert hk; revert k; decide

theorem rowV_eq : rowV u = 128 * u.val := by
  unfold rowV
  revert u; decide

end Num

/-! ## The table -/

theorem slot_setSlot (x : Vec F S8x128x256 .f32) (n : ℕ) (hn : n + 1 ≤ 8) (s : FVec F S128x256 .f32) : slot (setSlot x n s) n hn = s := by
  unfold slot setSlot
  rw [← VecWindow.window_eq_ld, VecWindow.window_put_same]
  exact shapeCast_shapeCast s _ _

theorem slot_setSlot_ne (x : Vec F S8x128x256 .f32) (n m : ℕ) (hm : m + 1 ≤ 8) (h : n ≠ m) (s : FVec F S128x256 .f32) :
    slot (setSlot x n s) m hm = slot x m hm := by
  unfold slot setSlot
  rw [← VecWindow.window_eq_ld, ← VecWindow.window_eq_ld, VecWindow.window_put_of_disjoint _ _ _ _ _ _ _ 0 (by
    show m + 1 ≤ n ∨ n + 1 ≤ m
    omega)]

section Pair

variable (x3 : Vec F S1x8x4096x64 .fp8e4m3) (x10 : Vec F S8x4096x128 .f32) (x5 : Vec F S1x8x32x64x128 .fp8e4m3) (x11 : Vec F S8x64x256 .f32)
variable (h : Fin 8) (q : FVec F S64x256 .fp8e4m3) (qc : FVec F S1x256 .f32)

/-- What the scores' pass leaves: the maximum over the blocks taken, and in the table the blocks' scores. -/
theorem pass1_to {n : ℕ} (kn sn : Fin n → ℕ) (hk : ∀ k, kn k + 128 ≤ 4096) (hs : ∀ k, sn k = k.val + 1) (hn : n ≤ 7)
    (t : FVec F S8x256 .f32 × Vec F S8x128x256 .f32) (j : ℕ) (hj : j ≤ n) :
    let r := iterTo (fun k t => (max8 t.1 (sFull x3 x10 h q (kn k) (hk k)), setSlot t.2 (sn k) (sFull x3 x10 h q (kn k) (hk k)))) t j
    r.1 = iterTo (fun k a => max8 a (sFull x3 x10 h q (kn k) (hk k))) t.1 j ∧ slot r.2 0 (by decide) = slot t.2 0 (by decide) ∧
      ∀ k : Fin n, k.val < j → ∀ hs', slot r.2 (k.val + 1) hs' = sFull x3 x10 h q (kn k) (hk k) := by
  induction j with
  | zero => exact ⟨rfl, rfl, fun k hk => absurd hk (Nat.not_lt_zero _)⟩
  | succ j ih =>
    obtain ⟨h1, h2, h3⟩ := ih (by omega)
    have e := iterTo_succ (fun k t => (max8 t.1 (sFull x3 x10 h q (kn k) (hk k)), setSlot t.2 (sn k) (sFull x3 x10 h q (kn k) (hk k)))) t ⟨j, hj⟩
    have e' := iterTo_succ (fun k a => max8 a (sFull x3 x10 h q (kn k) (hk k))) t.1 ⟨j, hj⟩
    dsimp only at e e' h1 h2 h3 ⊢
    rw [e, e']
    dsimp only
    refine ⟨by rw [h1], ?_, fun k hkj hs' => ?_⟩
    · rw [slot_setSlot_ne _ _ _ _ (by rw [hs]; omega), h2]
    · by_cases hkj' : k.val = j
      · have : k = ⟨j, hj⟩ := Fin.ext hkj'
        subst this
        generalize sFull x3 x10 h q _ _ = s
        have hh := hs ⟨j, hj⟩
        dsimp only at hh hs' ⊢
        generalize sn ⟨j, hj⟩ = a at hh ⊢
        subst hh
        exact slot_setSlot _ _ _ _
      · rw [slot_setSlot_ne _ _ _ _ (by rw [hs]; simp only; omega), h3 k (by omega)]

variable (qb : ℕ) (hqb : qb < 32)

theorem kn_ok (hqb : qb < 32) (k : Fin (nW qb)) : 128 * (qb - nW qb + k.val) + 128 ≤ 4096 := by
  have := nW_le qb; have := k.isLt; omega

theorem vn_ok (hqb : qb < 32) (k : Fin (nW qb)) : qb - nW qb + k.val + 1 ≤ 32 := by
  have := nW_le qb; have := k.isLt; omega

/-- The half-visible blocks' scores at query block `qb`. -/
def cS0 : FVec F S128x256 .f32 :=
  sMix x3 x10 h q (if 8 ≤ qb then 1#1 else 0#1) (128 * qb) (128 * (qb - 8)) (by omega) (by omega)

/-- The scores of the `k`-th block visible whole. -/
def cS (k : Fin (nW qb)) : FVec F S128x256 .f32 := sFull x3 x10 h q (128 * (qb - nW qb + k.val)) (kn_ok qb hqb k)

/-- The maximum of the scores, over the rows congruent modulo eight. -/
def cM : FVec F S8x256 .f32 :=
  iter (n := nW qb) (fun k a => max8 a (cS x3 x10 h q qb hqb k))
    (max8 (broadcast S8x256 (Scalar.ofBits .f32 0xFF800000#32)) (cS0 x3 x10 h q qb hqb))

/-- The weighted values and the row sums, from the offset of the exponents. -/
def cO (o : FVec F S1x256 .f32) : FVec F S64x256 .f32 × FVec F S8x256 .f32 :=
  iter (n := nW qb) (fun k t => (addf t.1 (vDot x5 h (qb - nW qb + k.val) (vn_ok qb hqb k) (truncf .fp8e4m3 (wts qc o (cS x3 x10 h q qb hqb k)) bitsLt_fp8e4m3_f32)),
      addf t.2 (sum8 (wts qc o (cS x3 x10 h q qb hqb k)))))
    (oMix x5 h qb (qb - 8) (by omega) (by omega) (wts qc o (cS0 x3 x10 h q qb hqb)), sum8 (wts qc o (cS0 x3 x10 h q qb hqb)))

/-- The pair's result. -/
def cR : FVec F S64x256 .f32 := norm x11 h (cO x3 x10 x5 h q qc qb hqb (mq qc (cM x3 x10 h q qb hqb)))

variable (i : grid0.Coords) (u : Fin k0_t1_loop.trips)

theorem sMix_congr {b b' : BitVec 1} {n n' m m' : ℕ} (hb : b = b') (h1 : n = m) (h2 : n' = m') (a1 a2 a3 a4) :
    sMix x3 x10 h q b n n' a1 a2 = sMix x3 x10 h q b' m m' a3 a4 := by
  subst hb h1 h2; rfl

theorem sFull_congr {n m : ℕ} (h1 : n = m) (a1 a2) : sFull x3 x10 h q n a1 = sFull x3 x10 h q m a2 := by
  subst h1; rfl

theorem vDot_congr {n m : ℕ} (h1 : n = m) (a1 a2) (p) : vDot x5 h n a1 p = vDot x5 h m a2 p := by
  subst h1; rfl

theorem slot_congr {x : Vec F S8x128x256 .f32} {n m : ℕ} (h1 : n = m) (a1 a2) : slot x n a1 = slot x m a2 := by
  subst h1; rfl

theorem oMix_congr {n n' m m' : ℕ} (h1 : n = m) (h2 : n' = m') (a1 a2 a3 a4) (p) : oMix x5 h n n' a1 a2 p = oMix x5 h m m' a3 a4 p := by
  subst h1 h2; rfl

theorem step_congr (o : FVec F S1x256 .f32) {n m : ℕ} (h1 : n = m) (a1 a2) {p p' : FVec F S128x256 .f32} (hp : p = p') (s : FVec F S64x256 .f32 × FVec F S8x256 .f32) :
    (addf s.1 (vDot x5 h n a1 (truncf .fp8e4m3 (wts qc o p) bitsLt_fp8e4m3_f32)), addf s.2 (sum8 (wts qc o p))) =
      (addf s.1 (vDot x5 h m a2 (truncf .fp8e4m3 (wts qc o p') bitsLt_fp8e4m3_f32)), addf s.2 (sum8 (wts qc o p'))) := by
  subst h1 hp; rfl

theorem pairS0_eq : pairS0 x3 x10 h q i u = cS0 x3 x10 h q (qbN i u) (qbN_lt i u) :=
  sMix_congr _ _ _ _ (qbV_ge i u) (qbV_row i u) (frV_row i u) _ _ _ _

theorem pairM_eq (x12 : Vec F S8x128x256 .f32) :
    let r := pairM x3 x10 h q i u x12
    r.1 = cM x3 x10 h q (qbN i u) (qbN_lt i u) ∧ slot r.2 0 (by decide) = cS0 x3 x10 h q (qbN i u) (qbN_lt i u) ∧
      ∀ k : Fin (nW (qbN i u)), ∀ hs', slot r.2 (k.val + 1) hs' = cS x3 x10 h q (qbN i u) (qbN_lt i u) k := by
  have ht := trips2 i u
  have h7 : nW (qbN i u) ≤ 7 := Nat.min_le_right _ _
  have hh := pass1_to x3 x10 h q (n := (k0_t2_loop i u).trips) (fun k => (Scalar.indexCast (Scalar.muli (Scalar.addi (f0V i u) (Scf.iv 0#32 1#32 k)) 128#32)).toNat)
    (fun k => (Scalar.indexCast (Scalar.addi 1#32 (Scf.iv 0#32 1#32 k))).toNat) (fun k => k0_off7_inb i u k 2)
    (fun k => sn_blk k.val (by have := k.isLt; omega)) (by omega)
    (max8 (broadcast S8x256 (Scalar.ofBits .f32 0xFF800000#32)) (pairS0 x3 x10 h q i u), setSlot x12 0 (pairS0 x3 x10 h q i u)) _ le_rfl
  obtain ⟨h1, h2, h3⟩ := hh
  intro r
  have hr : r = pass1 x3 x10 h q (n := (k0_t2_loop i u).trips) (fun k => (Scalar.indexCast (Scalar.muli (Scalar.addi (f0V i u) (Scf.iv 0#32 1#32 k)) 128#32)).toNat)
      (fun k => (Scalar.indexCast (Scalar.addi 1#32 (Scf.iv 0#32 1#32 k))).toNat) (fun k => k0_off7_inb i u k 2)
      (max8 (broadcast S8x256 (Scalar.ofBits .f32 0xFF800000#32)) (pairS0 x3 x10 h q i u), setSlot x12 0 (pairS0 x3 x10 h q i u)) :=
    iter_zero _ _ (trips3 i u)
  rw [hr]
  refine ⟨h1.trans ?_, h2.trans ?_, fun k hs' => (h3 ⟨k.val, by have := k.isLt; omega⟩ (by show k.val < _; have := k.isLt; omega) hs').trans ?_⟩
  · refine iter_congr _ _ _ _ ht (congrArg (max8 (broadcast S8x256 (Scalar.ofBits .f32 0xFF800000#32))) (pairS0_eq x3 x10 h q i u)) fun k hk hk' s => congrArg _ ?_
    exact sFull_congr _ _ _ _ (kn_row i u k hk') _ _
  · rw [slot_setSlot, pairS0_eq]
  · exact sFull_congr _ _ _ _ (kn_row i u k.val k.isLt) _ _

/-- The pair's result does not depend on what the table held. -/
theorem pairR_eq (x12 : Vec F S8x128x256 .f32) : pairR x3 x10 x5 x11 h q qc i u x12 = cR x3 x10 x5 x11 h q qc (qbN i u) (qbN_lt i u) := by
  obtain ⟨h1, h2, h3⟩ := pairM_eq x3 x10 h q i u x12
  unfold pairR cR
  generalize pairM x3 x10 h q i u x12 = r at h1 h2 h3 ⊢
  refine congrArg (norm x11 h) ?_
  unfold pairO
  rw [h1, h2]
  refine (iter_zero _ _ (trips5 i u)).trans (iter_congr _ _ _ _ (trips4 i u) ?_ fun k hk hk' s => ?_)
  · exact congrArg₂ Prod.mk (oMix_congr x5 h (qbV_blk i u) (frV_blk i u) _ _ _ _ _) rfl
  · have hk7 : k < 7 := hk'.trans_le (Nat.min_le_right _ _)
    exact step_congr x5 h qc _ (kn_blk i u k hk') _ _ ((slot_congr (sn_blk k hk7) _ (by omega)).trans (h3 ⟨k, hk'⟩ (by show k + 1 + 1 ≤ 8; omega))) s

end Pair

end Cert.Proof.KernelIdeal

end
-- ==== Proof.Out.lean ====
/-
  What one grid point leaves in the blocks of the three results: the tiles of its four query blocks and eight key/value
  heads lie side by side and fill the blocks, so that nothing of what the blocks held before is left.
-/
module

public import proofs.«01_k».proof.KernelIdeal
public import proofs.«01_k».proof.Proof.Table
public import Idealize.ShloMosaic.Lib.ValueIdx

@[expose] public section

set_option maxRecDepth 16384

noncomputable section

namespace Cert.Proof.KernelIdeal

open Cert.KernelIdeal
open Cert.KernelIdeal.Facts₀ Cert.KernelIdeal.Facts
open Idealize.ShloMosaic Idealize.ShloMosaic.TcCoe

variable {F : FTy → Type} [FloatOps F] [Named F] [Facts]

/-- A window put with the values of `G` adds it to where the contents are those of `G`. -/
theorem put_cover {s : Shape} {α : Type} (G x : s.Idx → α) (C C' : s.Idx → Prop) (off size : Fin s.rank → ℕ) (w : ((a : Fin s.rank) → Fin (size a)) → α)
    (hC : ∀ y, C y → x y = G y) (hw : ∀ y h, w (Rect.unitLocal (s := s) (off := off) (size := size) y h) = G y)
    (hC' : ∀ y, C' y → C y ∨ ∀ a, off a ≤ (y a).val ∧ (y a).val < off a + size a) (y : s.Idx) (hy : C' y) : VecWindow.put x off size w y = G y := by
  unfold VecWindow.put
  by_cases h : ∀ a, off a ≤ (y a).val ∧ (y a).val < off a + size a
  · rw [dif_pos h]; exact hw y h
  · rw [dif_neg h]; exact hC y ((hC' y hy).resolve_right h)

section

variable (x2 : Vec F S1x512x2048 .bf16) (x3 : Vec F S1x8x4096x64 .fp8e4m3) (x10 : Vec F S8x4096x128 .f32) (x5 : Vec F S1x8x32x64x128 .fp8e4m3) (x11 : Vec F S8x64x256 .f32)
variable (i : grid0.Coords)

/-- The tile of the first result at query block `u` and head `h`. -/
def tile7 (u : Fin k0_t1_loop.trips) (h : Fin 8) : FVec F S1x128x256 .bf16 :=
  outTile (cR x3 x10 x5 x11 h (qPair0 (qLoad x2 u h)) (qFac0 (qLoad x2 u h)) (qbN i u) (qbN_lt i u))
    (cR x3 x10 x5 x11 h (qPair1 (qLoad x2 u h)) (qFac1 (qLoad x2 u h)) (qbN i u) (qbN_lt i u))

/-- Its scales' tile. -/
def tile9 (u : Fin k0_t1_loop.trips) (h : Fin 8) : FVec F S1x4x128 .f32 :=
  shapeCast S1x4x128 (qScale (qLoad x2 u h)) shapeCasts_S4x128_S1x4x128

theorem blk_lt (a : Fin 512) : a.val / 128 < 4 := by omega
theorem head_lt (a : Fin 2048) : a.val / 256 < 8 := by omega
theorem head4_lt (a : Fin 32) : a.val / 4 < 8 := by omega

/-- The query block, within the grid point, of one of its rows. -/
def uOf (a : Fin 512) : Fin k0_t1_loop.trips := ⟨a.val / 128, blk_lt a⟩
/-- The key/value head of one of the results' columns. -/
def hOf (a : Fin 2048) : Fin 8 := ⟨a.val / 256, head_lt a⟩
/-- The key/value head of a query head. -/
def hOf4 (a : Fin 32) : Fin 8 := ⟨a.val / 4, head4_lt a⟩
/-- A row within its query block. -/
def rIn (a : Fin 512) : Fin 128 := ⟨a.val % 128, Nat.mod_lt _ (by decide)⟩
/-- A column within its head's. -/
def cIn (a : Fin 2048) : Fin 256 := ⟨a.val % 256, Nat.mod_lt _ (by decide)⟩
/-- A query head within its key/value head's. -/
def gIn (a : Fin 32) : Fin 4 := ⟨a.val % 4, Nat.mod_lt _ (by decide)⟩

/-- The first result's block after the grid point. -/
def out7 : Vec F S1x512x2048 .bf16 := fun y => tile7 x2 x3 x10 x5 x11 i (uOf (y 1)) (hOf (y 2)) (ValueIdx.ix3 0 (rIn (y 1)) (cIn (y 2)))
/-- The codes' block. -/
def out8 : Vec F S1x512x2048 .fp8e4m3 := fun y => qOut (qLoad x2 (uOf (y 1)) (hOf (y 2))) (ValueIdx.ix3 0 (rIn (y 1)) (cIn (y 2)))
/-- The scales' block. -/
def out9 : Vec F S1x32x512 .f32 := fun y => tile9 x2 (uOf (y 2)) (hOf4 (y 1)) (ValueIdx.ix3 0 (gIn (y 1)) (rIn (y 2)))

/-- Done up to head `m` of query block `k`. -/
structure Done (k m : ℕ) (t : Res F) : Prop where
  d7 : ∀ y : S1x512x2048.Idx, (y 1).val < 128 * k ∨ ((y 1).val < 128 * (k + 1) ∧ (y 2).val < 256 * m) → t.x7 y = out7 x2 x3 x10 x5 x11 i y
  d8 : ∀ y : S1x512x2048.Idx, (y 1).val < 128 * k ∨ ((y 1).val < 128 * (k + 1) ∧ (y 2).val < 256 * m) → t.x8 y = out8 x2 y
  d9 : ∀ y : S1x32x512.Idx, (y 2).val < 128 * k ∨ ((y 2).val < 128 * (k + 1) ∧ (y 1).val < 4 * m) → t.x9 y = out9 x2 y

theorem tileIdx (u : Fin k0_t1_loop.trips) (h : Fin 8) (y : S1x512x2048.Idx)
    (hy : ∀ a, (![0, rowV u, 256 * h.val] : Fin 3 → ℕ) a ≤ (y a).val ∧ (y a).val < (![0, rowV u, 256 * h.val] : Fin 3 → ℕ) a + S1x128x256.size a) :
    u = uOf (y 1) ∧ h = hOf (y 2) ∧
      Rect.unitLocal (s := S1x512x2048) (off := ![0, rowV u, 256 * h.val]) (size := S1x128x256.size) y hy = ValueIdx.ix3 0 (rIn (y 1)) (cIn (y 2)) := by
  have h0 := hy 0
  have h1 := hy 1
  have h2 := hy 2
  have hr := rowV_eq u
  simp only [Matrix.cons_val_zero, Matrix.cons_val_one, Matrix.cons_val] at h0 h1 h2
  rw [hr] at h1
  refine ⟨Fin.ext ?_, Fin.ext ?_, ?_⟩
  · show u.val = (y 1).val / 128; omega
  · show h.val = (y 2).val / 256; omega
  · funext a
    fin_cases a
    · refine Fin.ext ?_; show (y 0).val - 0 = 0; omega
    · refine Fin.ext ?_; show (y 1).val - rowV u = (y 1).val % 128; omega
    · refine Fin.ext ?_; show (y 2).val - 256 * h.val = (y 2).val % 256; omega

theorem tileIdx9 (u : Fin k0_t1_loop.trips) (h : Fin 8) (y : S1x32x512.Idx)
    (hy : ∀ a, (![0, 4 * h.val, rowV u] : Fin 3 → ℕ) a ≤ (y a).val ∧ (y a).val < (![0, 4 * h.val, rowV u] : Fin 3 → ℕ) a + S1x4x128.size a) :
    u = uOf (y 2) ∧ h = hOf4 (y 1) ∧
      Rect.unitLocal (s := S1x32x512) (off := ![0, 4 * h.val, rowV u]) (size := S1x4x128.size) y hy = ValueIdx.ix3 0 (gIn (y 1)) (rIn (y 2)) := by
  have h0 := hy 0
  have h1 := hy 1
  have h2 := hy 2
  have hr := rowV_eq u
  simp only [Matrix.cons_val_zero, Matrix.cons_val_one, Matrix.cons_val] at h0 h1 h2
  rw [hr] at h2
  refine ⟨Fin.ext ?_, Fin.ext ?_, ?_⟩
  · show u.val = (y 2).val / 128; omega
  · show h.val = (y 1).val / 4; omega
  · funext a
    fin_cases a
    · refine Fin.ext ?_; show (y 0).val - 0 = 0; omega
    · refine Fin.ext ?_; show (y 1).val - 4 * h.val = (y 1).val % 4; omega
    · refine Fin.ext ?_; show (y 2).val - rowV u = (y 2).val % 128; omega

theorem done_head (u : Fin k0_t1_loop.trips) (h : Fin 8) (t : Res F) (ht : Done x2 x3 x10 x5 x11 i u.val h.val t) :
    Done x2 x3 x10 x5 x11 i u.val (h.val + 1) (headF x2 x3 x10 x5 x11 i u h t) where
  d7 := by
    unfold headF
    dsimp only
    rw [pairR_eq, pairR_eq]
    refine put_cover (out7 x2 x3 x10 x5 x11 i) _ _ _ _ _ _ ht.d7 (fun y hy => ?_) (fun y hy => ?_)
    · obtain ⟨hu, hh, e⟩ := tileIdx u h y hy
      unfold out7
      rw [← hu, ← hh]
      exact congrArg (tile7 x2 x3 x10 x5 x11 i u h) e
    · have hr := rowV_eq u
      rcases hy with hy | hy
      · exact .inl (.inl hy)
      by_cases hl : (y 2).val < 256 * h.val
      · exact .inl (.inr ⟨hy.1, hl⟩)
      by_cases hl' : (y 1).val < 128 * u.val
      · exact .inl (.inl hl')
      refine .inr fun a => ?_
      fin_cases a
      · show 0 ≤ (y 0).val ∧ (y 0).val < 0 + 1
        have : (y 0).val < 1 := (y 0).isLt
        omega
      · show rowV u ≤ (y 1).val ∧ (y 1).val < rowV u + 128; omega
      · show 256 * h.val ≤ (y 2).val ∧ (y 2).val < 256 * h.val + 256; omega
  d8 := by
    unfold headF
    dsimp only
    refine put_cover (out8 x2) _ _ _ _ _ _ ht.d8 (fun y hy => ?_) (fun y hy => ?_)
    · obtain ⟨hu, hh, e⟩ := tileIdx u h y hy
      unfold out8
      rw [← hu, ← hh]
      exact congrArg (qOut (qLoad x2 u h)) e
    · have hr := rowV_eq u
      rcases hy with hy | hy
      · exact .inl (.inl hy)
      by_cases hl : (y 2).val < 256 * h.val
      · exact .inl (.inr ⟨hy.1, hl⟩)
      by_cases hl' : (y 1).val < 128 * u.val
      · exact .inl (.inl hl')
      refine .inr fun a => ?_
      fin_cases a
      · show 0 ≤ (y 0).val ∧ (y 0).val < 0 + 1
        have : (y 0).val < 1 := (y 0).isLt
        omega
      · show rowV u ≤ (y 1).val ∧ (y 1).val < rowV u + 128; omega
      · show 256 * h.val ≤ (y 2).val ∧ (y 2).val < 256 * h.val + 256; omega
  d9 := by
    unfold headF
    dsimp only
    refine put_cover (out9 x2) _ _ _ _ _ _ ht.d9 (fun y hy => ?_) (fun y hy => ?_)
    · obtain ⟨hu, hh, e⟩ := tileIdx9 u h y hy
      unfold out9
      rw [← hu, ← hh]
      exact congrArg (tile9 x2 u h) e
    · have hr := rowV_eq u
      rcases hy with hy | hy
      · exact .inl (.inl hy)
      by_cases hl : (y 1).val < 4 * h.val
      · exact .inl (.inr ⟨hy.1, hl⟩)
      by_cases hl' : (y 2).val < 128 * u.val
      · exact .inl (.inl hl')
      refine .inr fun a => ?_
      fin_cases a
      · show 0 ≤ (y 0).val ∧ (y 0).val < 0 + 1
        have : (y 0).val < 1 := (y 0).isLt
        omega
      · show 4 * h.val ≤ (y 1).val ∧ (y 1).val < 4 * h.val + 4; omega
      · show rowV u ≤ (y 2).val ∧ (y 2).val < rowV u + 128; omega

theorem done_trip (u : Fin k0_t1_loop.trips) (t : Res F) (ht : Done x2 x3 x10 x5 x11 i u.val 0 t) :
    Done x2 x3 x10 x5 x11 i (u.val + 1) 0 (tripF x2 x3 x10 x5 x11 i u t) := by
  have h1 := done_head x2 x3 x10 x5 x11 i u 7 _ (done_head x2 x3 x10 x5 x11 i u 6 _ (done_head x2 x3 x10 x5 x11 i u 5 _ (done_head x2 x3 x10 x5 x11 i u 4 _
    (done_head x2 x3 x10 x5 x11 i u 3 _ (done_head x2 x3 x10 x5 x11 i u 2 _ (done_head x2 x3 x10 x5 x11 i u 1 _ (done_head x2 x3 x10 x5 x11 i u 0 t ht)))))))
  have h8 : (7 : Fin 8).val + 1 = 8 := rfl
  rw [h8] at h1
  refine ⟨fun y hy => h1.d7 y ?_, fun y hy => h1.d8 y ?_, fun y hy => h1.d9 y ?_⟩
  · have : (y 2).val < 2048 := (y 2).isLt
    omega
  · have : (y 2).val < 2048 := (y 2).isLt
    omega
  · have : (y 1).val < 32 := (y 1).isLt
    omega

theorem done_to (t : Res F) (k : ℕ) (hk : k ≤ k0_t1_loop.trips) :
    Done x2 x3 x10 x5 x11 i k 0 (iterTo (fun u t => tripF x2 x3 x10 x5 x11 i u t) t k) := by
  induction k with
  | zero => exact ⟨fun y hy => by omega, fun y hy => by omega, fun y hy => by omega⟩
  | succ k ih =>
    rw [iterTo_succ _ _ ⟨k, hk⟩]
    exact done_trip x2 x3 x10 x5 x11 i ⟨k, hk⟩ _ (ih (by omega))

theorem iter_out (t : Res F) :
    (iter (fun u t => tripF x2 x3 x10 x5 x11 i u t) t).x7 = out7 x2 x3 x10 x5 x11 i ∧
    (iter (fun u t => tripF x2 x3 x10 x5 x11 i u t) t).x8 = out8 x2 ∧
    (iter (fun u t => tripF x2 x3 x10 x5 x11 i u t) t).x9 = out9 x2 := by
  have h := done_to x2 x3 x10 x5 x11 i t _ le_rfl
  have h4 : k0_t1_loop.trips = 4 := trips1
  refine ⟨funext fun y => h.d7 y (.inl ?_), funext fun y => h.d8 y (.inl ?_), funext fun y => h.d9 y (.inl ?_)⟩
  · have : (y 1).val < 512 := (y 1).isLt
    omega
  · have : (y 1).val < 512 := (y 1).isLt
    omega
  · have : (y 2).val < 512 := (y 2).isLt
    omega

end

end Cert.Proof.KernelIdeal

end
-- ==== Proof.Blocks.lean ====
/-
  The blocks of the five arguments at a grid point: the batch entry of the point's first coordinate, and of the queries
  the 512 rows of its second.
-/
module

public import proofs.«01_k».proof.Proof.Gen.KernelIdeal.Frame
public import Idealize.ShloMosaic.Lib.Pipeline.ValueKit
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]
variable (m : (ℓ : Loc nD τ sig) → Buf (Elt F) ℓ)

theorem cw (a : Fin 8) : (BitVec.ofNat 32 a.val).toNat = a.val := by revert a; decide

theorem index0 (t : Fin cfg0.N) : win0_0.index t = ![(grid0.coords t 0).val, (grid0.coords t 1).val, 0] := by
  show ![(BitVec.ofNat 32 (grid0.coords t 0).val).toNat, (BitVec.ofNat 32 (grid0.coords t 1).val).toNat, 0] = _
  rw [cw (grid0.coords t 0), cw (grid0.coords t 1)]

theorem index1 (t : Fin cfg0.N) : win0_1.index t = ![(grid0.coords t 0).val, 0, 0, 0] := by
  show ![(BitVec.ofNat 32 (grid0.coords t 0).val).toNat, 0, 0, 0] = _
  rw [cw (grid0.coords t 0)]

theorem index2 (t : Fin cfg0.N) : win0_2.index t = ![(grid0.coords t 0).val, 0, 0] := by
  show ![(BitVec.ofNat 32 (grid0.coords t 0).val).toNat, 0, 0] = _
  rw [cw (grid0.coords t 0)]

theorem index3 (t : Fin cfg0.N) : win0_3.index t = ![(grid0.coords t 0).val, 0, 0, 0, 0] := by
  show ![(BitVec.ofNat 32 (grid0.coords t 0).val).toNat, 0, 0, 0, 0] = _
  rw [cw (grid0.coords t 0)]

theorem index4 (t : Fin cfg0.N) : win0_4.index t = ![(grid0.coords t 0).val, 0, 0] := by
  show ![(BitVec.ofNat 32 (grid0.coords t 0).val).toNat, 0, 0] = _
  rw [cw (grid0.coords t 0)]

/-- Row `r` of the point's 512 within the sequence. -/
theorem row_lt (a : Fin 8) (r : Fin 512) : 512 * a.val + r.val < 4096 := by omega

theorem iblk0 (c : Dev nD) (t : Fin cfg0.N) (y : S1x512x2048.Idx) :
    (iblk m c 0 t : Vec F S1x512x2048 .bf16) y = (m ((c : Thread nD τ).loc main_arg0) : Vec F S8x4096x2048 .bf16) (ValueIdx.ix3 (grid0.coords t 0) ⟨512 * (grid0.coords t 1).val + (y 1).val, row_lt (grid0.coords t 1) (y 1)⟩ (y 2)) := by
  have h0 : (y 0).val < 1 := (y 0).isLt
  blk_simp [iblk]
  refine congrArg (m ((c : Thread nD τ).loc main_arg0)) (funext fun a => Fin.ext ?_)
  fin_cases a <;> blk_simp [index0] <;> simp [ValueIdx.ix3] <;> omega

theorem iblk1 (c : Dev nD) (t : Fin cfg0.N) (y : S1x8x4096x64.Idx) :
    (iblk m c 1 t : Vec F S1x8x4096x64 .fp8e4m3) y = (m ((c : Thread nD τ).loc main_arg1) : Vec F S8x8x4096x64 .fp8e4m3) (ValueIdx.ix4 (grid0.coords t 0) (y 1) (y 2) (y 3)) := by
  have h0 : (y 0).val < 1 := (y 0).isLt
  blk_simp [iblk]
  refine congrArg (m ((c : Thread nD τ).loc main_arg1)) (funext fun a => Fin.ext ?_)
  fin_cases a <;> blk_simp [index1] <;> simp [ValueIdx.ix4] <;> omega

theorem iblk2 (c : Dev nD) (t : Fin cfg0.N) (y : S1x8x4096.Idx) :
    (iblk m c 2 t : Vec F S1x8x4096 .f32) y = (m ((c : Thread nD τ).loc main_arg2) : Vec F S8x8x4096 .f32) (ValueIdx.ix3 (grid0.coords t 0) (y 1) (y 2)) := by
  have h0 : (y 0).val < 1 := (y 0).isLt
  blk_simp [iblk]
  refine congrArg (m ((c : Thread nD τ).loc main_arg2)) (funext fun a => Fin.ext ?_)
  fin_cases a <;> blk_simp [index2] <;> simp [ValueIdx.ix3] <;> omega

theorem iblk3 (c : Dev nD) (t : Fin cfg0.N) (y : S1x8x32x64x128.Idx) :
    (iblk m c 3 t : Vec F S1x8x32x64x128 .fp8e4m3) y = (m ((c : Thread nD τ).loc main_arg3) : Vec F S8x8x32x64x128 .fp8e4m3) (ValueIdx.ix5 (grid0.coords t 0) (y 1) (y 2) (y 3) (y 4)) := by
  have h0 : (y 0).val < 1 := (y 0).isLt
  blk_simp [iblk]
  refine congrArg (m ((c : Thread nD τ).loc main_arg3)) (funext fun a => Fin.ext ?_)
  fin_cases a <;> blk_simp [index3] <;> simp [ValueIdx.ix5] <;> omega

theorem iblk4 (c : Dev nD) (t : Fin cfg0.N) (y : S1x1x512.Idx) :
    (iblk m c 4 t : Vec F S1x1x512 .f32) y = (m ((c : Thread nD τ).loc main_arg4) : Vec F S8x1x512 .f32) (ValueIdx.ix3 (grid0.coords t 0) (y 1) (y 2)) := by
  have h0 : (y 0).val < 1 := (y 0).isLt
  blk_simp [iblk]
  refine congrArg (m ((c : Thread nD τ).loc main_arg4)) (funext fun a => Fin.ext ?_)
  fin_cases a <;> blk_simp [index4] <;> simp [ValueIdx.ix3] <;> omega

end Cert.Proof.KernelIdeal

end
-- ==== Proof.Body.lean ====
/-
  The attention kernel's body at a grid point: it fills the tables of the keys' and values' scales at the first point of
  a batch entry, finds them filled at the others, and runs the loop over its query blocks.
-/
module

public import proofs.«01_k».proof.KernelIdeal
public import proofs.«01_k».proof.Proof.Trip
public import proofs.«01_k».proof.Proof.Fill
public import proofs.«01_k».proof.Proof.Out
public import proofs.«01_k».proof.Proof.Blocks
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Ev

variable {F : FTy → Type} [FloatOps F] [Named F] [Facts]

local notation "𝕄" => MT nD τ sig Unit (Elt F) ℕ (UR sig nD τ) ℕ

theorem first_iff (i : grid0.Coords) : Scalar.cmpi .ne (Scalar.extui (Scalar.cmpi .eq (BitVec.ofNat 32 (i 1).val) 0#32) : BitVec 32) 0#32 = 1#1 ↔ (i 1).val = 0 := by
  have h1 := i1_lt i
  generalize (i 1).val = a at *
  revert h1; revert a; decide

/-- The tables' filling, among all the body's buffers. -/
theorem fill_st (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) :
    Ev (Val := Elt F) defs₀ Variants.none (c : Thread nD τ) (St c arg2 arg3 arg4 arg5 arg6 arg7 arg8 arg9 arg10 arg11 arg12 x10 x11 x2 x3 x4 x5 x6 t)
      (do
        k0_part67 i arg2 harg2 arg3 harg3 arg4 harg4 arg5 harg5 arg6 harg6 arg7 harg7 arg8 harg8 arg9 harg9 arg10 harg10 arg11 harg11 arg12 harg12
        k0_part61 i arg2 harg2 arg3 harg3 arg4 harg4 arg5 harg5 arg6 harg6 arg7 harg7 arg8 harg8 arg9 harg9 arg10 harg10 arg11 harg11 arg12 harg12
        k0_part62 i arg2 harg2 arg3 harg3 arg4 harg4 arg5 harg5 arg6 harg6 arg7 harg7 arg8 harg8 arg9 harg9 arg10 harg10 arg11 harg11 arg12 harg12
        k0_part63 i arg2 harg2 arg3 harg3 arg4 harg4 arg5 harg5 arg6 harg6 arg7 harg7 arg8 harg8 arg9 harg9 arg10 harg10 arg11 harg11 arg12 harg12
        k0_part64 i arg2 harg2 arg3 harg3 arg4 harg4 arg5 harg5 arg6 harg6 arg7 harg7 arg8 harg8 arg9 harg9 arg10 harg10 arg11 harg11 arg12 harg12
        k0_part65 i arg2 harg2 arg3 harg3 arg4 harg4 arg5 harg5 arg6 harg6 arg7 harg7 arg8 harg8 arg9 harg9 arg10 harg10 arg11 harg11 arg12 harg12
        k0_part66 i arg2 harg2 arg3 harg3 arg4 harg4 arg5 harg5 arg6 harg6 arg7 harg7 arg8 harg8 arg9 harg9 arg10 harg10 arg11 harg11 arg12 harg12
        pure PUnit.unit) PUnit.unit (St c arg2 arg3 arg4 arg5 arg6 arg7 arg8 arg9 arg10 arg11 arg12 (ksB x4) (vsB x6) x2 x3 x4 x5 x6 t) := by
  have h := fill_ev (F := F) c i arg2 harg2 arg3 harg3 arg4 harg4 arg5 harg5 arg6 harg6 arg7 harg7 arg8 harg8 arg9 harg9 arg10 harg10 arg11 harg11 arg12 harg12 x10 x11 x4 x6
    iprop(owns c arg12 fullShare t.x12 ∗ owns c arg7 fullShare t.x7 ∗ owns c arg8 fullShare t.x8 ∗ owns c arg9 fullShare t.x9 ∗ owns c arg2 fullShare x2 ∗ owns c arg3 fullShare x3 ∗ owns c arg5 fullShare x5)
  unfold Ev at h ⊢
  refine .trans ?_ (h.trans (wp_mono _ _ _ fun _ => ?_))
  · iintro ⟨A, B, C, D, E, G, H, I, J, K, L⟩
    isplitl [E]; · iexact E
    isplitl [G]; · iexact G
    isplitl [J]; · iexact J
    isplitl [L]; · iexact L
    isplitl [A]; · iexact A
    isplitl [B]; · iexact B
    isplitl [C]; · iexact C
    isplitl [D]; · iexact D
    isplitl [H]; · iexact H
    isplitl [I]; · iexact I
    iexact K
  · iintro ⟨%he, E, G, J, L, A, B, C, D, H, I, K⟩
    isplitr; · ipureintro; exact he
    isplitl [A]; · iexact A
    isplitl [B]; · iexact B
    isplitl [C]; · iexact C
    isplitl [D]; · iexact D
    isplitl [E]; · iexact E
    isplitl [G]; · iexact G
    isplitl [H]; · iexact H
    isplitl [I]; · iexact I
    isplitl [J]; · iexact J
    isplitl [K]; · iexact K
    iexact L

/-- The body: the tables are filled after it if they were or if the point is the first of its batch entry. -/
theorem body_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F)
    (hx : (i 1).val = 0 ∨ (x10 = ksB x4 ∧ x11 = vsB x6)) :
    Ev (Val := Elt F) defs₀ Variants.none (c : Thread nD τ) (St c arg2 arg3 arg4 arg5 arg6 arg7 arg8 arg9 arg10 arg11 arg12 x10 x11 x2 x3 x4 x5 x6 t) (cc0_attn i arg2 harg2 arg3 harg3 arg4 harg4 arg5 harg5 arg6 harg6 arg7 harg7 arg8 harg8 arg9 harg9 arg10 harg10 arg11 harg11 arg12 harg12) PUnit.unit
      (St c arg2 arg3 arg4 arg5 arg6 arg7 arg8 arg9 arg10 arg11 arg12 (ksB x4) (vsB x6) x2 x3 x4 x5 x6 (iter (fun u t => tripF x2 x3 (ksB x4) x5 (vsB x6) i u t) t)) := by
  have hl := Ev.bind (loop_ev (F := F) c i arg2 harg2 arg3 harg3 arg4 harg4 arg5 harg5 arg6 harg6 arg7 harg7 arg8 harg8 arg9 harg9 arg10 harg10 arg11 harg11 arg12 harg12 (ksB x4) (vsB x6) x2 x3 x4 x5 x6 t) (Ev.ret (PUnit.unit : PUnit))
  unfold cc0_attn
  dsimp only
  split
  · rename_i hi
    have hf := Ev.bind (fill_st (F := F) c i arg2 harg2 arg3 harg3 arg4 harg4 arg5 harg5 arg6 harg6 arg7 harg7 arg8 harg8 arg9 harg9 arg10 harg10 arg11 harg11 arg12 harg12 x10 x11 x2 x3 x4 x5 x6 t) (k := fun _ => _) hl
    simp only [bind_assoc, pure_bind] at hf
    exact hf
  · rename_i hi
    obtain ⟨rfl, rfl⟩ := hx.resolve_left fun h => hi ((first_iff i).mpr h)
    exact hl

end Ev

end Cert.Proof.KernelIdeal

end
-- ==== Proof.Region.lean ====
/-
  The attention kernel's run: over the grid, the tables of scales carried from each batch entry's first point to its others,
  each point leaving its blocks of the three results; the frame, and what the results' arrays hold.
-/
module

public import proofs.«01_k».proof.Proof.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tables carried over the grid -/

/-- The tables of a batch entry's keys' and values' scales, from the blocks at a point. -/
def ksT (c : Dev nD) (t : Fin cfg0.N) : Vec F S8x4096x128 .f32 := ksB (iblk m c 2 t)
@[inherit_doc ksT] def vsT (c : Dev nD) (t : Fin cfg0.N) : Vec F S8x64x256 .f32 := vsB (iblk m c 4 t)

theorem coord0 (t t' : Fin cfg0.N) (h : t'.val = t.val + 1) (h1 : (grid0.coords t' 1).val ≠ 0) : grid0.coords t' 0 = grid0.coords t 0 := by
  revert t t'; decide +kernel

theorem ksT_next (c : Dev nD) (t t' : Fin cfg0.N) (h : t'.val = t.val + 1) (h1 : (grid0.coords t' 1).val ≠ 0) : ksT m c t' = ksT m c t := by
  have e : (iblk m c 2 t' : Vec F S1x8x4096 .f32) = iblk m c 2 t := funext fun y => by rw [iblk2, iblk2, coord0 t t' h h1]
  exact congrArg ksB e

theorem vsT_next (c : Dev nD) (t t' : Fin cfg0.N) (h : t'.val = t.val + 1) (h1 : (grid0.coords t' 1).val ≠ 0) : vsT m c t' = vsT m c t := by
  have e : (iblk m c 4 t' : Vec F S1x1x512 .f32) = iblk m c 4 t := funext fun y => by rw [iblk4, iblk4, coord0 t t' h h1]
  exact congrArg vsB e

theorem first_point (t : Fin cfg0.N) (h : t.val = 0) : (grid0.coords t 1).val = 0 := by
  revert t; decide +kernel

/-- Before point `n`: the tables are the point's own if it is not its batch entry's first; the table of scores holds anything. -/
def PhiC (c : Dev nD) (n : ℕ) : sProp 𝕄 :=
  iprop(∃ X10 X11 X12, ⌜∀ t : Fin cfg0.N, t.val = n → (grid0.coords t 1).val ≠ 0 → X10 = ksT m c t ∧ X11 = vsT m c t⌝
    ∗ owns (c : Thread nD τ) (Memref.whole cc0_scratch0) fullShare X10 ∗ owns (c : Thread nD τ) (Memref.whole cc0_scratch1) fullShare X11
    ∗ owns (c : Thread nD τ) (Memref.whole cc0_scratch2) fullShare X12 ∗ ∃ r, prngReg c r)

/-- The proof data: after the body at a point each input's buffer holds its block and each result's what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out7 (iblk m c 0 t) (iblk m c 1 t) (ksT m c t) (iblk m c 3 t) (vsT m c t) (grid0.coords t)
    | ⟨6, _⟩ => out8 (iblk m c 0 t)
    | ⟨7, _⟩ => out9 (iblk m c 0 t)
  Φ t := PhiC m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out7 (iblk m c 0 t) (iblk m c 1 t) (ksT m c t) (iblk m c 3 t) (vsT m c t) (grid0.coords t) := by dsimp only [dats]
theorem after0_6 (c : Dev nD) (t : Fin cfg0.N) : (dats m 0 c).after 6 t = out8 (iblk m c 0 t) := by dsimp only [dats]
theorem after0_7 (c : Dev nD) (t : Fin cfg0.N) : (dats m 0 c).after 7 t = out9 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = PhiC m c t.val from by dsimp only [dats]; rfl,
    show (dats m 0 c).Φ t.succ = PhiC m c (t.val + 1) from by dsimp only [dats]; rfl,
    show (dats m 0 c).owesAt () t.succ = (dats m 0 c).owesAt () t.castSucc from rfl,
    after0_0, after0_1, after0_2, after0_3, after0_4, after0_5, after0_6, after0_7]
  unfold PhiC
  iintro ⟨⟨%X10, %X11, %X12, %hX, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hx : (grid0.coords t 1).val = 0 ∨ (X10 = ksB (iblk m c 2 t) ∧ X11 = vsB (iblk m c 4 t)) := by
    by_cases h1 : (grid0.coords t 1).val = 0
    · exact .inl h1
    · exact .inr (hX t rfl h1)
  have hev := Ev.skip (R := iprop((∃ r, prngReg c r) ∗ (dats m 0 c).owesAt () t.castSucc))
    (body_ev (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _) (Memref.whole cc0_scratch2) (Memref.isWhole_whole _)
      X10 X11 (iblk m c 0 t) (iblk m c 1 t) (iblk m c 2 t) (iblk m c 3 t) (iblk m c 4 t) ⟨X12, (dats m 0 c).before 5 t d5, (dats m 0 c).before 6 t d6, (dats m 0 c).before 7 t d7⟩ hx)
  obtain ⟨e7, e8, e9⟩ := iter_out (F := F) (iblk m c 0 t) (iblk m c 1 t) (ksT m c t) (iblk m c 3 t) (vsT m c t) (grid0.coords t) ⟨X12, (dats m 0 c).before 5 t d5, (dats m 0 c).before 6 t d6, (dats m 0 c).before 7 t d7⟩
  rw [← e7, ← e8, ← e9]
  unfold Ev at hev
  iapply (hev.trans (wp_mono _ _ _ fun _ => by
    iintro ⟨%hr, ⟨Hr, Ho⟩, S2, H5, H6, H7, S0, S1, H0, H1, H2, H3, H4⟩
    isplitl [S0 S1 S2 Hr]
    · iexists (ksT m c t); iexists (vsT m c t); iexists _
      isplitr
      · ipureintro
        intro t' ht' h1
        exact ⟨(ksT_next m c t t' ht' h1).symm, (vsT_next m c t t' ht' h1).symm⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7)) $$ [Hr Ho S2 H5 H6 H7 S0 S1 H0 H1 H2 H3 H4]
  · isplitl [Hr Ho]
    · isplitl [Hr]; · iexact Hr
      iexact Ho
    isplitl [S2]; · iexact S2
    isplitl [H5]; · iexact H5
    isplitl [H6]; · iexact H6
    isplitl [H7]; · iexact H7
    isplitl [S0]; · iexact S0
    isplitl [S1]; · iexact S1
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiC m c 0 := by
  unfold Pipeline.ΦA PhiC
  rw [scopedRest0_eq]
  simp only [owns_whole]
  iintro ⟨⟨⟨%f0, S0⟩, ⟨%f1, S1⟩, ⟨%f2, S2⟩⟩, Hr⟩
  iexists f0; iexists f1; iexists f2
  isplitr
  · ipureintro
    intro t ht h1
    exact absurd (first_point t ht) h1
  isplitl [S0]; · iexact S0
  isplitl [S1]; · iexact S1
  isplitl [S2]; · iexact S2
  iexact Hr

theorem phi_out (c : Dev nD) (n : ℕ) : PhiC m c n ⊢ (Pipeline.ΦA spec0 c : sProp 𝕄) := by
  unfold Pipeline.ΦA PhiC
  rw [scopedRest0_eq]
  simp only [owns_whole]
  iintro ⟨%X10, %X11, %X12, -, S0, S1, S2, Hr⟩
  isplitr [Hr]
  · isplitl [S0]; · iexists X10; iexact S0
    isplitl [S1]; · iexists X11; iexact S1
    iexists X12; iexact S2
  iexact Hr

set_option backward.isDefEq.respectTransparency.types false in
/-- The launch: every run ends, with the pipeline's arrays at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Bits.Attn.lean ====
/-
  What one trip of the attention kernel's loop over query blocks computes, as plain functions of the buffers' contents:
  the quantiser of one tile of queries, the scores of one block of keys, one pair of query heads against the window's
  blocks (the scores kept in the scratch table, their running maximum, the weights, the weighted values and the
  row sums), and the eight key/value heads in order. The functions say operation by operation what the program does;
  what the numbers are is proved elsewhere.
-/
module

public import proofs.«01_k».proof.Kernel
public import proofs.«01_k».proof.Proof.Run

@[expose] public section

set_option maxRecDepth 16384

noncomputable section

namespace Cert.Proof.Kernel

open Cert.Kernel
open Cert.Kernel.Facts₀ Cert.Kernel.Facts
open Idealize.ShloMosaic Idealize.ShloMosaic.TcCoe

variable {F : FTy → Type} [FloatOps F] [Facts]

/-! ## The blocks of one query block -/

/-- The query block of trip `u` at the grid point. -/
abbrev qbV (i : grid0.Coords) (u : Fin k0_t1_loop.trips) : BitVec 32 :=
  Scalar.addi (Scalar.muli (BitVec.ofNat 32 (i 1).val) 4#32) (Scf.iv 0#32 1#32 u)
/-- The first key block of its window. -/
abbrev frV (i : grid0.Coords) (u : Fin k0_t1_loop.trips) : BitVec 32 := Scalar.maxsi (Scalar.subi (qbV i u) 8#32) 0#32
/-- The first key block that is visible whole. -/
abbrev f0V (i : grid0.Coords) (u : Fin k0_t1_loop.trips) : BitVec 32 :=
  Scalar.select (Scalar.cmpi .sge (qbV i u) 8#32) (Scalar.addi (frV i u) 1#32) (frV i u)
/-- The number of key blocks visible whole. -/
abbrev nfV (i : grid0.Coords) (u : Fin k0_t1_loop.trips) : BitVec 32 :=
  Scalar.subi (Scalar.subi (qbV i u) (frV i u)) (Scalar.select (Scalar.cmpi .sge (qbV i u) 8#32) 1#32 0#32)
/-- Where the unrolled loops over whole blocks end: all of them, the step being one. -/
abbrev endV (i : grid0.Coords) (u : Fin k0_t1_loop.trips) : BitVec 32 :=
  Scalar.addi 0#32 (Scalar.muli (Scalar.divsi (Scalar.subi (nfV i u) 0#32) 1#32) 1#32)

theorem inbK (h : Fin 8) (n : ℕ) (hn : n + 128 ≤ 4096) :
    ∀ a, (![0, h.val, n, 0] : Fin 4 → ℕ) a + S1x1x128x64.size a ≤ S1x8x4096x64.size a := by
  have := h.isLt
  intro a
  fin_cases a <;> simp <;> omega

theorem inbKs (h : Fin 8) (n : ℕ) (hn : n + 128 ≤ 4096) :
    ∀ a, (![h.val, n, 0] : Fin 3 → ℕ) a + S1x128x128.size a ≤ S8x4096x128.size a := by
  have := h.isLt
  intro a
  fin_cases a <;> simp <;> omega

theorem inbV (h : Fin 8) (n : ℕ) (hn : n + 1 ≤ 32) :
    ∀ a, (![0, h.val, n, 0, 0] : Fin 5 → ℕ) a + S1x1x1x64x128.size a ≤ S1x8x32x64x128.size a := by
  have := h.isLt
  intro a
  fin_cases a <;> simp <;> omega

theorem inbVs (h : Fin 8) : ∀ a, (![h.val, 0, 0] : Fin 3 → ℕ) a + S1x64x256.size a ≤ S8x64x256.size a := by
  have := h.isLt
  intro a
  fin_cases a <;> simp <;> omega

theorem inbS (n : ℕ) (hn : n + 1 ≤ 8) : ∀ a, (![n, 0, 0] : Fin 3 → ℕ) a + S1x128x256.size a ≤ S8x128x256.size a := by
  intro a
  fin_cases a <;> simp <;> omega

theorem inbQ (h : Fin 8) (n : ℕ) (hn : n + 128 ≤ 512) :
    ∀ a, (![0, n, 256 * h.val] : Fin 3 → ℕ) a + S1x128x256.size a ≤ S1x512x2048.size a := by
  have := h.isLt
  intro a
  fin_cases a <;> simp <;> omega

/-! ## The quantiser of one tile: four heads' queries of 128 rows -/

/-- The tile, heads first. -/
def qTile (w : Vec F S1x128x256 .bf16) : FVec F S4x64x128 .f32 :=
  shapeCast S4x64x128 (transpose S256x128 [1, 0] (extf .f32 (shapeCast S128x256 w shapeCasts_S1x128x256_S128x256 : FVec F S128x256 .bf16) bitsLt_bf16_f32)
    transposes_S128x256_p1_0_S256x128) shapeCasts_S256x128_S4x64x128

/-- The largest magnitude of each head's row. -/
def qAmax (w : Vec F S1x128x256 .bf16) : FVec F S4x128 .f32 :=
  multiReduction .maximumf [1] S4x128 (absf (qTile w)) 0xFF800000#32 reduces_S4x64x128_S4x128 (.inl rfl) rfl

/-- The exponent of its scale. -/
def qExp (w : Vec F S1x128x256 .bf16) : FVec F S4x128 .f32 :=
  select (cmpf .oeq (qAmax w) (broadcast S4x128 (Scalar.ofBits .f32 0x00000000#32))) (broadcast S4x128 (Scalar.ofBits .f32 0x00000000#32))
    (addf (floor (mulf (log (mulf (qAmax w) (broadcast S4x128 (Scalar.ofBits .f32 0x3B124925#32))))
      (broadcast S4x128 (Scalar.ofBits .f32 0x3FB8AA3B#32)))) (broadcast S4x128 (Scalar.ofBits .f32 0x3F800000#32)))

/-- Its scale. -/
def qScale (w : Vec F S1x128x256 .bf16) : FVec F S4x128 .f32 := exp2 (qExp w)

/-- The scaled and clipped tile. -/
def qClip (w : Vec F S1x128x256 .bf16) : FVec F S4x64x128 .f32 :=
  minimumf (broadcast S4x64x128 (Scalar.ofBits .f32 0x43E00000#32)) (maximumf (broadcast S4x64x128 (Scalar.ofBits .f32 0xC3E00000#32))
    (mulf (qTile w) (broadcastTo S4x64x128 (shapeCast S4x1x128 (exp2 (subf (broadcast S4x128 (Scalar.ofBits .f32 0x00000000#32)) (qExp w))) shapeCasts_S4x128_S4x1x128)
      broadcasts_S4x1x128_S4x64x128)))

/-- Its codes. -/
def qCode (w : Vec F S1x128x256 .bf16) : FVec F S4x64x128 .fp8e4m3 := truncf .fp8e4m3 (qClip w) bitsLt_fp8e4m3_f32

/-- The codes in the layout of the result. -/
def qOut (w : Vec F S1x128x256 .bf16) : FVec F S1x128x256 .fp8e4m3 :=
  shapeCast S1x128x256 (truncf .fp8e4m3 (transpose S128x256 [1, 0] (shapeCast S256x128 (qClip w) shapeCasts_S4x64x128_S256x128 : FVec F S256x128 .f32)
    transposes_S256x128_p1_0_S128x256) bitsLt_fp8e4m3_f32 : FVec F S128x256 .fp8e4m3) shapeCasts_S128x256_S1x128x256

/-- The codes of the first and of the second pair of heads, the two heads' rows side by side. -/
def qPair0 (w : Vec F S1x128x256 .bf16) : FVec F S64x256 .fp8e4m3 :=
  concatenate S64x256 1 [⟨S64x128, shapeCast S64x128 (extractStridedSlice S1x64x128 ![0, 0, 0] (qCode w) slices_S4x64x128_o0_0_0_S1x64x128) shapeCasts_S1x64x128_S64x128⟩,
    ⟨S64x128, shapeCast S64x128 (extractStridedSlice S1x64x128 ![1, 0, 0] (qCode w) slices_S4x64x128_o1_0_0_S1x64x128) shapeCasts_S1x64x128_S64x128⟩] concatenates_S64x128_S64x128_S64x256_d1
@[inherit_doc qPair0] def qPair1 (w : Vec F S1x128x256 .bf16) : FVec F S64x256 .fp8e4m3 :=
  concatenate S64x256 1 [⟨S64x128, shapeCast S64x128 (extractStridedSlice S1x64x128 ![2, 0, 0] (qCode w) slices_S4x64x128_o2_0_0_S1x64x128) shapeCasts_S1x64x128_S64x128⟩,
    ⟨S64x128, shapeCast S64x128 (extractStridedSlice S1x64x128 ![3, 0, 0] (qCode w) slices_S4x64x128_o3_0_0_S1x64x128) shapeCasts_S1x64x128_S64x128⟩] concatenates_S64x128_S64x128_S64x256_d1

/-- The factor of a pair's scores: its scale times the softmax scale over `log 2`. -/
def qFac0 (w : Vec F S1x128x256 .bf16) : FVec F S1x256 .f32 :=
  mulf (concatenate S1x256 1 [⟨S1x128, extractStridedSlice S1x128 ![0, 0] (qScale w) slices_S4x128_o0_0_S1x128⟩,
    ⟨S1x128, extractStridedSlice S1x128 ![1, 0] (qScale w) slices_S4x128_o1_0_S1x128⟩] concatenates_S1x128_S1x128_S1x256_d1) (broadcast S1x256 (Scalar.ofBits .f32 0x3E38AA3B#32))
@[inherit_doc qFac0] def qFac1 (w : Vec F S1x128x256 .bf16) : FVec F S1x256 .f32 :=
  mulf (concatenate S1x256 1 [⟨S1x128, extractStridedSlice S1x128 ![2, 0] (qScale w) slices_S4x128_o2_0_S1x128⟩,
    ⟨S1x128, extractStridedSlice S1x128 ![3, 0] (qScale w) slices_S4x128_o3_0_S1x128⟩] concatenates_S1x128_S1x128_S1x256_d1) (broadcast S1x256 (Scalar.ofBits .f32 0x3E38AA3B#32))

/-! ## Blocks of keys and values -/

section Pair

variable (x3 : Vec F S1x8x4096x64 .fp8e4m3) (x10 : Vec F S8x4096x128 .f32) (x5 : Vec F S1x8x32x64x128 .fp8e4m3) (x11 : Vec F S8x64x256 .f32)
variable (h : Fin 8) (q : FVec F S64x256 .fp8e4m3) (qc : FVec F S1x256 .f32)

/-- The 128 keys from row `n` against a pair's queries. -/
def kDot (n : ℕ) (hn : n + 128 ≤ 4096) : FVec F S128x256 .f32 :=
  matmul dot_S128x64_S64x256_S128x256_1_0_0_1_n_n none
    (shapeCast S128x64 (View.ld x3 (Rect.unit (s := S1x8x4096x64) ![0, h.val, n, 0] S1x1x128x64.size (inbK h n hn)) : Vec F S1x1x128x64 .fp8e4m3) shapeCasts_S1x1x128x64_S128x64 : FVec F S128x64 .fp8e4m3)
    q (constant S128x256 .f32 0x00000000#32)

/-- Those keys' scales, laid along the pair's queries. -/
def ksTile (n : ℕ) (hn : n + 128 ≤ 4096) : FVec F S128x256 .f32 :=
  concatenate S128x256 1
    [⟨S128x128, shapeCast S128x128 (View.ld x10 (Rect.unit (s := S8x4096x128) ![h.val, n, 0] S1x128x128.size (inbKs h n hn)) : Vec F S1x128x128 .f32) shapeCasts_S1x128x128_S128x128⟩,
     ⟨S128x128, shapeCast S128x128 (View.ld x10 (Rect.unit (s := S8x4096x128) ![h.val, n, 0] S1x128x128.size (inbKs h n hn)) : Vec F S1x128x128 .f32) shapeCasts_S1x128x128_S128x128⟩]
    concatenates_S128x128_S128x128_S128x256_d1

/-- Block `n` of the values against a block of weights. -/
def vDot (n : ℕ) (hn : n + 1 ≤ 32) (p : FVec F S128x256 .fp8e4m3) : FVec F S64x256 .f32 :=
  matmul dot_S64x128_S128x256_S64x256_1_0_0_1_n_n none
    (shapeCast S64x128 (View.ld x5 (Rect.unit (s := S1x8x32x64x128) ![0, h.val, n, 0, 0] S1x1x1x64x128.size (inbV h n hn)) : Vec F S1x1x1x64x128 .fp8e4m3) shapeCasts_S1x1x1x64x128_S64x128 : FVec F S64x128 .fp8e4m3)
    p (constant S64x256 .f32 0x00000000#32)

/-- Where a key of the query block's own diagonal block is visible: at or before the query. -/
def tri : IVec S128x256 1 :=
  cmpi .sle (concatenate S128x256 1 [⟨S128x128, iota .tc S128x128 32 [0] iota_S128x128_d0_w32⟩, ⟨S128x128, iota .tc S128x128 32 [0] iota_S128x128_d0_w32⟩] concatenates_S128x128_S128x128_S128x256_d1)
    (concatenate S128x256 1 [⟨S128x128, iota .tc S128x128 32 [1] iota_S128x128_d1_w32⟩, ⟨S128x128, iota .tc S128x128 32 [1] iota_S128x128_d1_w32⟩] concatenates_S128x128_S128x128_S128x256_d1)

/-- The scores of a block visible whole. -/
def sFull (n : ℕ) (hn : n + 128 ≤ 4096) : FVec F S128x256 .f32 := mulf (kDot x3 h q n hn) (ksTile x10 h n hn)

/-- The scores of the two half-visible blocks in one: the diagonal block where its keys are visible, the window's first elsewhere. -/
def sMix (b : BitVec 1) (n n' : ℕ) (hn : n + 128 ≤ 4096) (hn' : n' + 128 ≤ 4096) : FVec F S128x256 .f32 :=
  select (ori tri (broadcast S128x256 b))
    (mulf (select tri (kDot x3 h q n hn) (kDot x3 h q n' hn')) (select tri (ksTile x10 h n hn) (ksTile x10 h n' hn')))
    (broadcast S128x256 (Scalar.ofBits .f32 0xFF800000#32))

/-- The running maximum, over the rows congruent modulo eight. -/
def max8 (a : FVec F S8x256 .f32) (s : FVec F S128x256 .f32) : FVec F S8x256 .f32 :=
  maximumf a (multiReduction .maximumf [0] S8x256 (shapeCast S16x8x256 s shapeCasts_S128x256_S16x8x256 : FVec F S16x8x256 .f32) 0xFF800000#32 reduces_S16x8x256_S8x256 (.inl rfl) rfl)

/-- The sum over the rows congruent modulo eight. -/
def sum8 (s : FVec F S128x256 .f32) : FVec F S8x256 .f32 :=
  multiReduction .add [0] S8x256 (shapeCast S16x8x256 s shapeCasts_S128x256_S16x8x256 : FVec F S16x8x256 .f32) 0x00000000#32 reduces_S16x8x256_S8x256 (.inl rfl) rfl

/-- Block `n` of the table of scores. -/
def slot (x12 : Vec F S8x128x256 .f32) (n : ℕ) (hn : n + 1 ≤ 8) : FVec F S128x256 .f32 :=
  shapeCast S128x256 (View.ld x12 (Rect.unit (s := S8x128x256) ![n, 0, 0] S1x128x256.size (inbS n hn)) : Vec F S1x128x256 .f32) shapeCasts_S1x128x256_S128x256

/-- The table with block `n` replaced. -/
def setSlot (x12 : Vec F S8x128x256 .f32) (n : ℕ) (s : FVec F S128x256 .f32) : Vec F S8x128x256 .f32 :=
  VecWindow.put x12 ![n, 0, 0] S1x128x256.size (shapeCast S1x128x256 s shapeCasts_S128x256_S1x128x256 : FVec F S1x128x256 .f32)

/-- The scores' pass over the whole blocks `kn`, into the table's blocks `sn`. -/
def pass1 {n : ℕ} (kn sn : Fin n → ℕ) (hk : ∀ k, kn k + 128 ≤ 4096) (t : FVec F S8x256 .f32 × Vec F S8x128x256 .f32) : FVec F S8x256 .f32 × Vec F S8x128x256 .f32 :=
  iter (fun k t => (max8 t.1 (sFull x3 x10 h q (kn k) (hk k)), setSlot t.2 (sn k) (sFull x3 x10 h q (kn k) (hk k)))) t

/-- The exponent's offset of each query: its maximum less `log₂ 448`. -/
def mq (m : FVec F S8x256 .f32) : FVec F S1x256 .f32 :=
  subf (mulf (shapeCast S1x256 (multiReduction .maximumf [0] S256 m 0xFF800000#32 reduces_S8x256_S256 (.inl rfl) rfl : FVec F S256 .f32) shapeCasts_S256_S1x256) qc)
    (broadcast S1x256 (Scalar.ofBits .f32 0x410CEAED#32))

/-- The weights of a block of scores. -/
def wts (o : FVec F S1x256 .f32) (s : FVec F S128x256 .f32) : FVec F S128x256 .f32 :=
  exp2 (subf (mulf s (broadcastTo S128x256 qc broadcasts_S1x256_S128x256)) (broadcastTo S128x256 o broadcasts_S1x256_S128x256))

/-- The two half-visible blocks' weighted values. -/
def oMix (n n' : ℕ) (hn : n + 1 ≤ 32) (hn' : n' + 1 ≤ 32) (p : FVec F S128x256 .f32) : FVec F S64x256 .f32 :=
  addf (vDot x5 h n hn (truncf .fp8e4m3 (select tri p (broadcast S128x256 (Scalar.ofBits .f32 0x00000000#32))) bitsLt_fp8e4m3_f32))
    (vDot x5 h n' hn' (truncf .fp8e4m3 (select tri (broadcast S128x256 (Scalar.ofBits .f32 0x00000000#32)) p) bitsLt_fp8e4m3_f32))

/-- The values' pass over the whole blocks `vn`, their scores in the table's blocks `sn`. -/
def pass2 (o : FVec F S1x256 .f32) (x12 : Vec F S8x128x256 .f32) {n : ℕ} (vn sn : Fin n → ℕ) (hv : ∀ k, vn k + 1 ≤ 32) (hs : ∀ k, sn k + 1 ≤ 8)
    (t : FVec F S64x256 .f32 × FVec F S8x256 .f32) : FVec F S64x256 .f32 × FVec F S8x256 .f32 :=
  iter (fun k t => (addf t.1 (vDot x5 h (vn k) (hv k) (truncf .fp8e4m3 (wts qc o (slot x12 (sn k) (hs k))) bitsLt_fp8e4m3_f32)),
    addf t.2 (sum8 (wts qc o (slot x12 (sn k) (hs k)))))) t

/-- The pair's result: the weighted values times their scales over the row sums. -/
def norm (t : FVec F S64x256 .f32 × FVec F S8x256 .f32) : FVec F S64x256 .f32 :=
  divf (mulf t.1 (shapeCast S64x256 (View.ld x11 (Rect.unit (s := S8x64x256) ![h.val, 0, 0] S1x64x256.size (inbVs h)) : Vec F S1x64x256 .f32) shapeCasts_S1x64x256_S64x256))
    (broadcastTo S64x256 (shapeCast S1x256 (multiReduction .add [0] S256 t.2 0x00000000#32 reduces_S8x256_S256 (.inl rfl) rfl : FVec F S256 .f32) shapeCasts_S256_S1x256 : FVec F S1x256 .f32)
      broadcasts_S1x256_S64x256)

variable (i : grid0.Coords) (u : Fin k0_t1_loop.trips)

/-- The two half-visible blocks' scores at query block `u` of the grid point. -/
def pairS0 : FVec F S128x256 .f32 :=
  sMix x3 x10 h q (Scalar.cmpi .sge (qbV i u) 8#32) (Scalar.indexCast (Scalar.muli (qbV i u) 128#32)).toNat (Scalar.indexCast (Scalar.muli (frV i u) 128#32)).toNat
    (k0_off3_inb i u 2) (k0_off5_inb i u 2)

/-- The running maximum and the table after the scores' pass. -/
def pairM (x12 : Vec F S8x128x256 .f32) : FVec F S8x256 .f32 × Vec F S8x128x256 .f32 :=
  pass1 x3 x10 h q (n := (k0_t3_loop i u).trips) (fun k => (Scalar.indexCast (Scalar.muli (Scalar.addi (f0V i u) (Scf.iv (endV i u) 1#32 k)) 128#32)).toNat)
    (fun k => (Scalar.indexCast (Scalar.addi 1#32 (Scf.iv (endV i u) 1#32 k))).toNat) (fun k => k0_off10_inb i u k 2)
    (pass1 x3 x10 h q (n := (k0_t2_loop i u).trips) (fun k => (Scalar.indexCast (Scalar.muli (Scalar.addi (f0V i u) (Scf.iv 0#32 1#32 k)) 128#32)).toNat)
      (fun k => (Scalar.indexCast (Scalar.addi 1#32 (Scf.iv 0#32 1#32 k))).toNat) (fun k => k0_off7_inb i u k 2)
      (max8 (broadcast S8x256 (Scalar.ofBits .f32 0xFF800000#32)) (pairS0 x3 x10 h q i u), setSlot x12 0 (pairS0 x3 x10 h q i u)))

/-- The weighted values and the row sums after the values' pass, from a maximum and a table. -/
def pairO (t : FVec F S8x256 .f32 × Vec F S8x128x256 .f32) : FVec F S64x256 .f32 × FVec F S8x256 .f32 :=
  pass2 x5 h qc (mq qc t.1) t.2 (n := (k0_t5_loop i u).trips) (fun k => (Scalar.indexCast (Scalar.addi (f0V i u) (Scf.iv (endV i u) 1#32 k))).toNat)
    (fun k => (Scalar.indexCast (Scalar.addi 1#32 (Scf.iv (endV i u) 1#32 k))).toNat) (fun k => k0_off18_inb i u k 2) (fun k => k0_off17_inb i u k 0)
    (pass2 x5 h qc (mq qc t.1) t.2 (n := (k0_t4_loop i u).trips) (fun k => (Scalar.indexCast (Scalar.addi (f0V i u) (Scf.iv 0#32 1#32 k))).toNat)
      (fun k => (Scalar.indexCast (Scalar.addi 1#32 (Scf.iv 0#32 1#32 k))).toNat) (fun k => k0_off16_inb i u k 2) (fun k => k0_off15_inb i u k 0)
      (oMix x5 h (Scalar.indexCast (qbV i u)).toNat (Scalar.indexCast (frV i u)).toNat (k0_off13_inb i u 2) (k0_off14_inb i u 2)
        (wts qc (mq qc t.1) (slot t.2 0 (by decide))), sum8 (wts qc (mq qc t.1) (slot t.2 0 (by decide)))))

/-- The pair's result. -/
def pairR (x12 : Vec F S8x128x256 .f32) : FVec F S64x256 .f32 := norm x11 h (pairO x5 h qc i u (pairM x3 x10 h q i u x12))

end Pair

/-! ## One key/value head, and the eight in order -/

/-- What the trip's writable buffers hold: the table of scores, and the blocks of the three results. -/
structure Res (F : FTy → Type) where
  x12 : Vec F S8x128x256 .f32
  x7 : Vec F S1x512x2048 .bf16
  x8 : Vec F S1x512x2048 .fp8e4m3
  x9 : Vec F S1x32x512 .f32

section Head

variable (x2 : Vec F S1x512x2048 .bf16) (x3 : Vec F S1x8x4096x64 .fp8e4m3) (x10 : Vec F S8x4096x128 .f32) (x5 : Vec F S1x8x32x64x128 .fp8e4m3) (x11 : Vec F S8x64x256 .f32)
variable (i : grid0.Coords) (u : Fin k0_t1_loop.trips) (h : Fin 8)

/-- The first row of the trip's query block within the grid point's rows. -/
abbrev rowV (u : Fin k0_t1_loop.trips) : ℕ := (Scalar.indexCast (Scalar.muli (Scf.iv 0#32 1#32 u) 128#32)).toNat

/-- The queries of the head's four query heads. -/
def qLoad : Vec F S1x128x256 .bf16 :=
  View.ld x2 (Rect.unit (s := S1x512x2048) ![0, rowV u, 256 * h.val] S1x128x256.size (inbQ h _ (k0_off1_inb u 1)))

/-- The two pairs' results in the layout of the kernel's first result. -/
def outTile (r0 r1 : FVec F S64x256 .f32) : FVec F S1x128x256 .bf16 :=
  shapeCast S1x128x256 (truncf .bf16 (transpose S128x256 [1, 0]
    (concatenate S256x128 0 [⟨S64x128, extractStridedSlice S64x128 ![0, 0] r0 slices_S64x256_o0_0_S64x128⟩, ⟨S64x128, extractStridedSlice S64x128 ![0, 128] r0 slices_S64x256_o0_128_S64x128⟩,
      ⟨S64x128, extractStridedSlice S64x128 ![0, 0] r1 slices_S64x256_o0_0_S64x128⟩, ⟨S64x128, extractStridedSlice S64x128 ![0, 128] r1 slices_S64x256_o0_128_S64x128⟩]
      concatenates_S64x128_S64x128_S64x128_S64x128_S256x128_d0 : FVec F S256x128 .f32) transposes_S256x128_p1_0_S128x256 : FVec F S128x256 .f32) bitsLt_bf16_f32 : FVec F S128x256 .bf16) shapeCasts_S128x256_S1x128x256

/-- The table of scores after the head's first pair. -/
def mid12 (x12 : Vec F S8x128x256 .f32) : Vec F S8x128x256 .f32 := (pairM x3 x10 h (qPair0 (qLoad x2 u h)) i u x12).2

/-- The buffers after one head. -/
def headF (t : Res F) : Res F where
  x12 := (pairM x3 x10 h (qPair1 (qLoad x2 u h)) i u (mid12 x2 x3 x10 i u h t.x12)).2
  x7 := VecWindow.put t.x7 ![0, rowV u, 256 * h.val] S1x128x256.size
    (outTile (pairR x3 x10 x5 x11 h (qPair0 (qLoad x2 u h)) (qFac0 (qLoad x2 u h)) i u t.x12)
      (pairR x3 x10 x5 x11 h (qPair1 (qLoad x2 u h)) (qFac1 (qLoad x2 u h)) i u (mid12 x2 x3 x10 i u h t.x12)))
  x8 := VecWindow.put t.x8 ![0, rowV u, 256 * h.val] S1x128x256.size (qOut (qLoad x2 u h))
  x9 := VecWindow.put t.x9 ![0, 4 * h.val, rowV u] S1x4x128.size (shapeCast S1x4x128 (qScale (qLoad x2 u h)) shapeCasts_S4x128_S1x4x128 : FVec F S1x4x128 .f32)

/-- The buffers after the eight heads. -/
def tripF (t : Res F) : Res F :=
  headF x2 x3 x10 x5 x11 i u 7 (headF x2 x3 x10 x5 x11 i u 6 (headF x2 x3 x10 x5 x11 i u 5 (headF x2 x3 x10 x5 x11 i u 4
    (headF x2 x3 x10 x5 x11 i u 3 (headF x2 x3 x10 x5 x11 i u 2 (headF x2 x3 x10 x5 x11 i u 1 (headF x2 x3 x10 x5 x11 i u 0 t)))))))

end Head

end Cert.Proof.Kernel

end
-- ==== Proof.Bits.Trip.lean ====
/-
  One trip of the attention kernel's loop over query blocks, run: it takes the buffers to the contents the plain functions give.
  Each of the eight heads is run by the rules of the straight-line operations and of the counted loops,
  and its buffers are then named by the function of the head before the next one starts.
-/
module

public import proofs.«01_k».proof.Kernel
public import proofs.«01_k».proof.Proof.Bits.Attn

@[expose] public section

set_option maxRecDepth 16384

noncomputable section

namespace Cert.Proof.Kernel

open Cert.Kernel
open Cert.Kernel.Facts₀ Cert.Kernel.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

/-- What the body's buffers hold: those it only reads, and the state `t` of those it writes. -/
abbrev St (c : Dev nD) (arg2 : Memref sig .tc .vmem S1x512x2048 .bf16) (arg3 : Memref sig .tc .vmem S1x8x4096x64 .fp8e4m3) (arg4 : Memref sig .tc .vmem S1x8x4096 .f32) (arg5 : Memref sig .tc .vmem S1x8x32x64x128 .fp8e4m3) (arg6 : Memref sig .tc .vmem S1x1x512 .f32) (arg7 : Memref sig .tc .vmem S1x512x2048 .bf16) (arg8 : Memref sig .tc .vmem S1x512x2048 .fp8e4m3) (arg9 : Memref sig .tc .vmem S1x32x512 .f32) (arg10 : Memref sig .tc .vmem S8x4096x128 .f32) (arg11 : Memref sig .tc .vmem S8x64x256 .f32) (arg12 : Memref sig .tc .vmem S8x128x256 .f32) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) : sProp 𝕄 :=
  iprop(owns c arg12 fullShare t.x12 ∗ owns c arg7 fullShare t.x7 ∗ owns c arg8 fullShare t.x8 ∗ owns c arg9 fullShare t.x9 ∗ owns c arg10 fullShare x10 ∗ owns c arg11 fullShare x11 ∗ owns c arg2 fullShare x2 ∗ owns c arg3 fullShare x3 ∗ owns c arg4 fullShare x4 ∗ owns c arg5 fullShare x5 ∗ owns c arg6 fullShare x6)

/-- Nothing new: the proof below stops before the stores to the first result by asking whether this applies. -/
theorem store7 {c : Dev nD} {P P' : sProp (MT nD τ sig Unit (Elt F) ℕ (UR sig nD τ) ℕ)} {m : Memref sig .tc .vmem S1x512x2048 .bf16} {r : Rect S1x512x2048}
    {w : r.shape.Idx → Elt F .bf16} {M} {hx : (m.access r).Stores M} {hm} {r' : PUnit}
    (h : Ev (Val := Elt F) defs₀ Variants.none (c : Thread nD τ) P (Prog.lift (.store m r w M hx hm)) r' P') :
    Ev (Val := Elt F) defs₀ Variants.none (c : Thread nD τ) P (Prog.lift (.store m r w M hx hm)) r' P' := h

/-- One head's buffers, from what its two pairs left: `m₀`, `m₁` the maxima and tables of the two pairs' scores, `q₀`, `q₁` their factors. -/
theorem St_head (c : Dev nD) (i : grid0.Coords) (u : Fin k0_t1_loop.trips) (arg2 : Memref sig .tc .vmem S1x512x2048 .bf16) (arg3 : Memref sig .tc .vmem S1x8x4096x64 .fp8e4m3) (arg4 : Memref sig .tc .vmem S1x8x4096 .f32) (arg5 : Memref sig .tc .vmem S1x8x32x64x128 .fp8e4m3) (arg6 : Memref sig .tc .vmem S1x1x512 .f32) (arg7 : Memref sig .tc .vmem S1x512x2048 .bf16) (arg8 : Memref sig .tc .vmem S1x512x2048 .fp8e4m3) (arg9 : Memref sig .tc .vmem S1x32x512 .f32) (arg10 : Memref sig .tc .vmem S8x4096x128 .f32) (arg11 : Memref sig .tc .vmem S8x64x256 .f32) (arg12 : Memref sig .tc .vmem S8x128x256 .f32) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (h : Fin 8) (t : Res F)
    {m₀ m₁ : FVec F S8x256 .f32 × Vec F S8x128x256 .f32} {q₀ q₁ : FVec F S1x256 .f32} {e₈ : FVec F S1x128x256 .fp8e4m3} {e₉ : FVec F S1x4x128 .f32}
    (h₀ : m₀ = pairM x3 x10 h (qPair0 (qLoad x2 u h)) i u t.x12) (h₁ : m₁ = pairM x3 x10 h (qPair1 (qLoad x2 u h)) i u (mid12 x2 x3 x10 i u h t.x12))
    (hq₀ : q₀ = qFac0 (qLoad x2 u h)) (hq₁ : q₁ = qFac1 (qLoad x2 u h)) (h₈ : e₈ = qOut (qLoad x2 u h))
    (h₉ : e₉ = shapeCast S1x4x128 (qScale (qLoad x2 u h)) shapeCasts_S4x128_S1x4x128) :
    (iprop(owns c arg12 fullShare m₁.2 ∗ owns c arg7 fullShare (VecWindow.put t.x7 ![0, rowV u, 256 * h.val] S1x128x256.size (outTile (norm x11 h (pairO x5 h q₀ i u m₀)) (norm x11 h (pairO x5 h q₁ i u m₁)))) ∗ owns c arg8 fullShare (VecWindow.put t.x8 ![0, rowV u, 256 * h.val] S1x128x256.size e₈) ∗ owns c arg9 fullShare (VecWindow.put t.x9 ![0, 4 * h.val, rowV u] S1x4x128.size e₉) ∗ owns c arg10 fullShare x10 ∗ owns c arg11 fullShare x11 ∗ owns c arg2 fullShare x2 ∗ owns c arg3 fullShare x3 ∗ owns c arg4 fullShare x4 ∗ owns c arg5 fullShare x5 ∗ owns c arg6 fullShare x6) : sProp 𝕄) =
      St c arg2 arg3 arg4 arg5 arg6 arg7 arg8 arg9 arg10 arg11 arg12 x10 x11 x2 x3 x4 x5 x6 (headF x2 x3 x10 x5 x11 i u h t) := by
  subst h₀ h₁ hq₀ hq₁ h₈ h₉
  rfl

set_option maxHeartbeats 8000000 in
/-- The loop over the grid point's query blocks. -/
theorem loop_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) :
    Ev (Val := Elt F) defs₀ Variants.none (c : Thread nD τ) (St c arg2 arg3 arg4 arg5 arg6 arg7 arg8 arg9 arg10 arg11 arg12 x10 x11 x2 x3 x4 x5 x6 t)
      (Scf.Loop.for k0_t1_loop k0_t1_ok PUnit.unit fun k0_t1 _ => do
          let ⟨v9, v1879, v1880, v1969_0, v1971, v1973⟩ : Σ' (v9 : BitVec 32) (v1879 : FVec F S64x128 .f32) (v1880 : FVec F S64x128 .f32) (v1969_0 : FVec F S64x256 .f32) (v1971 : FVec F S1x256 .f32), FVec F S64x256 .f32 ← k0_part118 i arg2 harg2 arg3 harg3 arg4 harg4 arg5 harg5 arg6 harg6 arg7 harg7 arg8 harg8 arg9 harg9 arg10 harg10 arg11 harg11 arg12 harg12 (BitVec.ofNat 32 (i 1).val) tri 0#32 1#32 k0_t1
          have v1974 : FVec F S64x256 .f32 := mulf v1969_0 v1973
          have v1975 : FVec F S64x256 .f32 := broadcastTo S64x256 v1971 broadcasts_S1x256_S64x256
          have v1976 : FVec F S64x256 .f32 := divf v1974 v1975
          have v1977 : FVec F S64x128 .f32 := extractStridedSlice S64x128 ![0, 0] v1976 slices_S64x256_o0_0_S64x128
          have v1978 : FVec F S64x128 .f32 := extractStridedSlice S64x128 ![0, 128] v1976 slices_S64x256_o0_128_S64x128
          have v1979 : FVec F S256x128 .f32 := concatenate S256x128 0 [⟨S64x128, v1879⟩, ⟨S64x128, v1880⟩, ⟨S64x128, v1977⟩, ⟨S64x128, v1978⟩] concatenates_S64x128_S64x128_S64x128_S64x128_S256x128_d0
          have v1980 : FVec F S128x256 .f32 := transpose S128x256 [1, 0] v1979 transposes_S256x128_p1_0_S128x256
          have v1981 : FVec F S128x256 .bf16 := truncf .bf16 v1980 bitsLt_bf16_f32
          let c0_984 : Index := 0#32
          let v1982 : Index := Scalar.indexCast v9
          let c1792_985 : Index := 1792#32
          let v1983 : Vec F S1x128x256 .bf16 ← Prog.lift (.load arg7 (Rect.unit (s := S1x512x2048) (k0_off197 k0_t1) S1x128x256.size (k0_off197_inb k0_t1)).toLoadRect (View.loadsAt_vmem h_S1x128x256))
          have v1984 : FVec F S128x256 .bf16 := shapeCast S128x256 v1983 shapeCasts_S1x128x256_S128x256
          have v1985 : FVec F S1x128x256 .bf16 := shapeCast S1x128x256 v1981 shapeCasts_S128x256_S1x128x256
          Prog.lift (.store arg7 (Rect.unit (s := S1x512x2048) (k0_off197 k0_t1) S1x128x256.size (k0_off197_inb k0_t1)) v1985 Finset.univ (View.stores_vmem h_S1x128x256 (harg7.storeExact_slice rfl _ (k0_off197_packedbf16 k0_t1)) (fun _ => rfl)) (.inl rfl))
          pure PUnit.unit)
      PUnit.unit (St c arg2 arg3 arg4 arg5 arg6 arg7 arg8 arg9 arg10 arg11 arg12 x10 x11 x2 x3 x4 x5 x6 (iter (fun u t => tripF x2 x3 x10 x5 x11 i u t) t)) := by
  apply Ev.loopState (St := St c arg2 arg3 arg4 arg5 arg6 arg7 arg8 arg9 arg10 arg11 arg12 x10 x11 x2 x3 x4 x5 x6)
  intro u t
  apply Ev.bind
  delta k0_part118
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 0 t ?m₀0 ?m₁0 ?q₀0 ?q₁0 ?e₈0 ?e₉0)
  case' m₀0 => rfl
  case' m₁0 => rfl
  case' q₀0 => rfl
  case' q₁0 => rfl
  case' e₈0 => rfl
  case' e₉0 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 1 (headF x2 x3 x10 x5 x11 i u 0 t) ?m₀1 ?m₁1 ?q₀1 ?q₁1 ?e₈1 ?e₉1)
  case' m₀1 => rfl
  case' m₁1 => rfl
  case' q₀1 => rfl
  case' q₁1 => rfl
  case' e₈1 => rfl
  case' e₉1 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 2 (headF x2 x3 x10 x5 x11 i u 1 (headF x2 x3 x10 x5 x11 i u 0 t)) ?m₀2 ?m₁2 ?q₀2 ?q₁2 ?e₈2 ?e₉2)
  case' m₀2 => rfl
  case' m₁2 => rfl
  case' q₀2 => rfl
  case' q₁2 => rfl
  case' e₈2 => rfl
  case' e₉2 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 3 (headF x2 x3 x10 x5 x11 i u 2 (headF x2 x3 x10 x5 x11 i u 1 (headF x2 x3 x10 x5 x11 i u 0 t))) ?m₀3 ?m₁3 ?q₀3 ?q₁3 ?e₈3 ?e₉3)
  case' m₀3 => rfl
  case' m₁3 => rfl
  case' q₀3 => rfl
  case' q₁3 => rfl
  case' e₈3 => rfl
  case' e₉3 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 4 (headF x2 x3 x10 x5 x11 i u 3 (headF x2 x3 x10 x5 x11 i u 2 (headF x2 x3 x10 x5 x11 i u 1 (headF x2 x3 x10 x5 x11 i u 0 t)))) ?m₀4 ?m₁4 ?q₀4 ?q₁4 ?e₈4 ?e₉4)
  case' m₀4 => rfl
  case' m₁4 => rfl
  case' q₀4 => rfl
  case' q₁4 => rfl
  case' e₈4 => rfl
  case' e₉4 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 5 (headF x2 x3 x10 x5 x11 i u 4 (headF x2 x3 x10 x5 x11 i u 3 (headF x2 x3 x10 x5 x11 i u 2 (headF x2 x3 x10 x5 x11 i u 1 (headF x2 x3 x10 x5 x11 i u 0 t))))) ?m₀5 ?m₁5 ?q₀5 ?q₁5 ?e₈5 ?e₉5)
  case' m₀5 => rfl
  case' m₁5 => rfl
  case' q₀5 => rfl
  case' q₁5 => rfl
  case' e₈5 => rfl
  case' e₉5 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 6 (headF x2 x3 x10 x5 x11 i u 5 (headF x2 x3 x10 x5 x11 i u 4 (headF x2 x3 x10 x5 x11 i u 3 (headF x2 x3 x10 x5 x11 i u 2 (headF x2 x3 x10 x5 x11 i u 1 (headF x2 x3 x10 x5 x11 i u 0 t)))))) ?m₀6 ?m₁6 ?q₀6 ?q₁6 ?e₈6 ?e₉6)
  case' m₀6 => rfl
  case' m₁6 => rfl
  case' q₀6 => rfl
  case' q₁6 => rfl
  case' e₈6 => rfl
  case' e₉6 => rfl
  repeat (first
    | with_reducible apply Ev.bind
    | with_reducible apply Ev.ret
    | with_reducible apply Ev.load
    | (fail_if_success (with_reducible apply store7)); with_reducible apply Ev.store
    | with_reducible (apply Ev.loopPair; intro k a b)
    | with_reducible (apply Ev.loopStore; intro k a Y)
    | (fail_if_success (with_reducible apply store7)); with_reducible apply Ev.skipLift
    | (fail_if_success (with_reducible apply store7)); apply Ev.bind)
  · apply Ev.skipLift; with_reducible apply Ev.store
  apply Ev.pre (St_head c i u arg2 arg3 arg4 arg5 arg6 arg7 arg8 arg9 arg10 arg11 arg12 x10 x11 x2 x3 x4 x5 x6 7 (headF x2 x3 x10 x5 x11 i u 6 (headF x2 x3 x10 x5 x11 i u 5 (headF x2 x3 x10 x5 x11 i u 4 (headF x2 x3 x10 x5 x11 i u 3 (headF x2 x3 x10 x5 x11 i u 2 (headF x2 x3 x10 x5 x11 i u 1 (headF x2 x3 x10 x5 x11 i u 0 t))))))) ?m₀7 ?m₁7 ?q₀7 ?q₁7 ?e₈7 ?e₉7)
  case' m₀7 => rfl
  case' m₁7 => rfl
  case' q₀7 => rfl
  case' q₁7 => rfl
  case' e₈7 => rfl
  case' e₉7 => rfl
  exact Ev.ret _

end Cert.Proof.Kernel

end
-- ==== Proof.Bits.Fill.lean ====
/-
  What the kernel does at the first grid point of a batch member: it fills two tables kept across the member's points,
  the keys' scales laid along the lanes and the values' scales laid along the queries.
-/
module

public import proofs.«01_k».proof.Kernel
public import proofs.«01_k».proof.Proof.Bits.Attn
public import Idealize.ShloMosaic.Lib.ValueIdx
public import Idealize.ShloMosaic.Lib.Pointwise

@[expose] public section

set_option maxRecDepth 16384

noncomputable section

namespace Cert.Proof.Kernel

open Cert.Kernel
open Cert.Kernel.Facts₀ Cert.Kernel.Facts
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

/-- The table of the keys' scales: every lane of row `n` of head `h` holds that key's scale. -/
def ksB (x4 : Vec F S1x8x4096 .f32) : Vec F S8x4096x128 .f32 := fun j => x4 (ValueIdx.ix3 0 (j 0) (j 1))

theorem vsB_lt (j : S8x64x256.Idx) : 64 * (j 0).val + (j 1).val < 512 := by
  have h0 : (j 0).val < 8 := (j 0).isLt
  have h1 : (j 1).val < 64 := (j 1).isLt
  omega

/-- The table of the values' scales: every lane of row `d` of head `h` holds the scale of the head's channel `d`. -/
def vsB (x6 : Vec F S1x1x512 .f32) : Vec F S8x64x256 .f32 := fun j => x6 (ValueIdx.ix3 0 0 ⟨64 * (j 0).val + (j 1).val, vsB_lt j⟩)

/-- The first table with its first `m` rows (of all heads, in order) filled. -/
def mixK (m : ℕ) (x4 : Vec F S1x8x4096 .f32) (X : Vec F S8x4096x128 .f32) : Vec F S8x4096x128 .f32 :=
  fun j => if (j 0).val * 4096 + (j 1).val < m then ksB x4 j else X j

/-- The second table with its first `m` heads filled. -/
def mixV (m : ℕ) (x6 : Vec F S1x1x512 .f32) (X : Vec F S8x64x256 .f32) : Vec F S8x64x256 .f32 :=
  fun j => if (j 0).val < m then vsB x6 j else X j

theorem mixK_zero (x4 : Vec F S1x8x4096 .f32) (X : Vec F S8x4096x128 .f32) : mixK 0 x4 X = X := rfl
theorem mixV_zero (x6 : Vec F S1x1x512 .f32) (X : Vec F S8x64x256 .f32) : mixV 0 x6 X = X := rfl

theorem mixK_all (x4 : Vec F S1x8x4096 .f32) (X : Vec F S8x4096x128 .f32) : mixK (7 * 4096 + 3968 + 128) x4 X = ksB x4 := by
  funext j
  have h0 : (j 0).val < 8 := (j 0).isLt
  have h1 : (j 1).val < 4096 := (j 1).isLt
  exact if_pos (by omega)

theorem mixV_all (x6 : Vec F S1x1x512 .f32) (X : Vec F S8x64x256 .f32) : mixV (7 + 1) x6 X = vsB x6 := by
  funext j
  exact if_pos (j 0).isLt

/-- The rows of one block of keys, as the kernel forms them, over a table filled up to them. -/
theorem mixK_put {h n m : ℕ} (hm : m = h * 4096 + n) (hn : n + 128 ≤ 4096) (x4 : Vec F S1x8x4096 .f32) (X : Vec F S8x4096x128 .f32)
    (inb : ∀ a, (![0, h, n] : Fin 3 → ℕ) a + S1x1x128.size a ≤ S1x8x4096.size a) :
    VecWindow.put (mixK m x4 X) ![h, n, 0] S1x128x128.size
      (shapeCast S1x128x128 (transpose S128x128 [1, 0] (broadcastTo S128x128 (shapeCast S1x128 (shapeCast S1x128
        (View.ld x4 (Rect.unit (s := S1x8x4096) ![0, h, n] S1x1x128.size inb) : Vec F S1x1x128 .f32) shapeCasts_S1x1x128_S1x128 : FVec F S1x128 .f32) shapeCasts_S1x128_S1x128 : FVec F S1x128 .f32)
        broadcasts_S1x128_S128x128 : FVec F S128x128 .f32) transposes_S128x128_p1_0_S128x128 : FVec F S128x128 .f32) shapeCasts_S128x128_S1x128x128 : FVec F S1x128x128 .f32)
      = mixK (h * 4096 + n + 128) x4 X := by
  subst hm
  funext j
  have h0 : (j 0).val < 8 := (j 0).isLt
  have h1 : (j 1).val < 4096 := (j 1).isLt
  have h2 : (j 2).val < 128 := (j 2).isLt
  unfold VecWindow.put
  split_ifs with hc
  · have c0 : h ≤ (j 0).val ∧ (j 0).val < h + 1 := hc 0
    have c1 : n ≤ (j 1).val ∧ (j 1).val < n + 128 := hc 1
    have e : mixK (h * 4096 + n + 128) x4 X j = ksB x4 j := if_pos (by omega)
    rw [e]
    pointwise
    refine congrArg x4 (funext fun a => Fin.ext ?_)
    match a with
    | ⟨0, _⟩ => rfl
    | ⟨1, _⟩ => show h = (j 0).val; omega
    | ⟨2, _⟩ => show n + ((j 1).val - n) = (j 1).val; omega
  · have e : ((j 0).val * 4096 + (j 1).val < h * 4096 + n) = ((j 0).val * 4096 + (j 1).val < h * 4096 + n + 128) := by
      apply propext
      constructor
      · omega
      · intro hlt
        by_contra hge
        apply hc
        intro a
        fin_cases a
        · show h ≤ (j 0).val ∧ (j 0).val < h + 1
          omega
        · show n ≤ (j 1).val ∧ (j 1).val < n + 128
          omega
        · show 0 ≤ (j 2).val ∧ (j 2).val < 0 + 128
          omega
    unfold mixK
    simp only [e]

/-- The rows of one head of values. -/
theorem mixV_put {h l : ℕ} (hl : l = 64 * h) (hh : h + 1 ≤ 8) (x6 : Vec F S1x1x512 .f32) (X : Vec F S8x64x256 .f32)
    (inb : ∀ a, (![0, 0, l] : Fin 3 → ℕ) a + S1x1x64.size a ≤ S1x1x512.size a) :
    VecWindow.put (mixV h x6 X) ![h, 0, 0] S1x64x256.size
      (shapeCast S1x64x256 (transpose S64x256 [1, 0] (broadcastTo S256x64 (shapeCast S1x64 (shapeCast S1x64
        (View.ld x6 (Rect.unit (s := S1x1x512) ![0, 0, l] S1x1x64.size inb) : Vec F S1x1x64 .f32) shapeCasts_S1x1x64_S1x64 : FVec F S1x64 .f32) shapeCasts_S1x64_S1x64 : FVec F S1x64 .f32)
        broadcasts_S1x64_S256x64 : FVec F S256x64 .f32) transposes_S256x64_p1_0_S64x256 : FVec F S64x256 .f32) shapeCasts_S64x256_S1x64x256 : FVec F S1x64x256 .f32)
      = mixV (h + 1) x6 X := by
  subst hl
  funext j
  have h0 : (j 0).val < 8 := (j 0).isLt
  have h1 : (j 1).val < 64 := (j 1).isLt
  have h2 : (j 2).val < 256 := (j 2).isLt
  unfold VecWindow.put
  split_ifs with hc
  · have c0 : h ≤ (j 0).val ∧ (j 0).val < h + 1 := hc 0
    have e : mixV (h + 1) x6 X j = vsB x6 j := if_pos (by omega)
    rw [e]
    pointwise
    refine congrArg x6 (funext fun a => Fin.ext ?_)
    match a with
    | ⟨0, _⟩ => rfl
    | ⟨1, _⟩ => rfl
    | ⟨2, _⟩ => show 64 * h + ((j 1).val - 0) = 64 * (j 0).val + (j 1).val; have : (j 0).val = h := by omega
                rw [this]; omega
  · have e : ((j 0).val < h) = ((j 0).val < h + 1) := by
      apply propext
      constructor
      · omega
      · intro hlt
        by_contra hge
        apply hc
        intro a
        fin_cases a
        · show h ≤ (j 0).val ∧ (j 0).val < h + 1
          omega
        · show 0 ≤ (j 1).val ∧ (j 1).val < 0 + 64
          omega
        · show 0 ≤ (j 2).val ∧ (j 2).val < 0 + 256
          omega
    unfold mixV
    simp only [e]

/-- The store of one block of keys' scales. -/
theorem store_ks {c : Dev nD} {R : sProp (MT nD τ sig Unit (Elt F) ℕ (UR sig nD τ) ℕ)} {a : Memref sig .tc .vmem S8x4096x128 .f32} {h n m : ℕ}
    {x4 : Vec F S1x8x4096 .f32} {X : Vec F S8x4096x128 .f32} {inb : ∀ a, (![h, n, 0] : Fin 3 → ℕ) a + S1x128x128.size a ≤ S8x4096x128.size a}
    {inb' : ∀ a, (![0, h, n] : Fin 3 → ℕ) a + S1x1x128.size a ≤ S1x8x4096.size a} {hx hm'} (hm : m = h * 4096 + n) :
    Ev (Val := Elt F) defs₀ Variants.none (c : Thread nD τ) iprop(owns c a fullShare (mixK m x4 X) ∗ R)
      (Prog.lift (.store a (Rect.unit (s := S8x4096x128) ![h, n, 0] S1x128x128.size inb)
        (shapeCast S1x128x128 (transpose S128x128 [1, 0] (broadcastTo S128x128 (shapeCast S1x128 (shapeCast S1x128
        (View.ld x4 (Rect.unit (s := S1x8x4096) ![0, h, n] S1x1x128.size inb') : Vec F S1x1x128 .f32) shapeCasts_S1x1x128_S1x128 : FVec F S1x128 .f32) shapeCasts_S1x128_S1x128 : FVec F S1x128 .f32)
        broadcasts_S1x128_S128x128 : FVec F S128x128 .f32) transposes_S128x128_p1_0_S128x128 : FVec F S128x128 .f32) shapeCasts_S128x128_S1x128x128 : FVec F S1x128x128 .f32) Finset.univ hx hm')) ⟨⟩
      iprop(owns c a fullShare (mixK (h * 4096 + n + 128) x4 X) ∗ R) :=
  (Ev.store inb _ hx hm').conv rfl (by rw [mixK_put hm (inb 1)])

/-- The store of one head of values' scales. -/
theorem store_vs {c : Dev nD} {R : sProp (MT nD τ sig Unit (Elt F) ℕ (UR sig nD τ) ℕ)} {a : Memref sig .tc .vmem S8x64x256 .f32} {h l m : ℕ}
    {x6 : Vec F S1x1x512 .f32} {X : Vec F S8x64x256 .f32} {inb : ∀ a, (![h, 0, 0] : Fin 3 → ℕ) a + S1x64x256.size a ≤ S8x64x256.size a}
    {inb' : ∀ a, (![0, 0, l] : Fin 3 → ℕ) a + S1x1x64.size a ≤ S1x1x512.size a} {hx hm'} (hm : m = h) (hl : l = 64 * h) :
    Ev (Val := Elt F) defs₀ Variants.none (c : Thread nD τ) iprop(owns c a fullShare (mixV m x6 X) ∗ R)
      (Prog.lift (.store a (Rect.unit (s := S8x64x256) ![h, 0, 0] S1x64x256.size inb)
        (shapeCast S1x64x256 (transpose S64x256 [1, 0] (broadcastTo S256x64 (shapeCast S1x64 (shapeCast S1x64
        (View.ld x6 (Rect.unit (s := S1x1x512) ![0, 0, l] S1x1x64.size inb') : Vec F S1x1x64 .f32) shapeCasts_S1x1x64_S1x64 : FVec F S1x64 .f32) shapeCasts_S1x64_S1x64 : FVec F S1x64 .f32)
        broadcasts_S1x64_S256x64 : FVec F S256x64 .f32) transposes_S256x64_p1_0_S64x256 : FVec F S64x256 .f32) shapeCasts_S64x256_S1x64x256 : FVec F S1x64x256 .f32) Finset.univ hx hm')) ⟨⟩
      iprop(owns c a fullShare (mixV (h + 1) x6 X) ∗ R) := by
  subst hm
  exact (Ev.store inb _ hx hm').conv rfl (by rw [mixV_put hl (inb 0)])

set_option maxHeartbeats 8000000 in
/-- The filling of both tables. -/
theorem fill_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x4 : Vec F S1x8x4096 .f32) (x6 : Vec F S1x1x512 .f32) (R : sProp (MT nD τ sig Unit (Elt F) ℕ (UR sig nD τ) ℕ)) :
    Ev (Val := Elt F) defs₀ Variants.none (c : Thread nD τ)
      iprop(owns c arg10 fullShare x10 ∗ owns c arg11 fullShare x11 ∗ owns c arg4 fullShare x4 ∗ owns c arg6 fullShare x6 ∗ R)
      (do
        k0_part67 i arg2 harg2 arg3 harg3 arg4 harg4 arg5 harg5 arg6 harg6 arg7 harg7 arg8 harg8 arg9 harg9 arg10 harg10 arg11 harg11 arg12 harg12
        k0_part61 i arg2 harg2 arg3 harg3 arg4 harg4 arg5 harg5 arg6 harg6 arg7 harg7 arg8 harg8 arg9 harg9 arg10 harg10 arg11 harg11 arg12 harg12
        k0_part62 i arg2 harg2 arg3 harg3 arg4 harg4 arg5 harg5 arg6 harg6 arg7 harg7 arg8 harg8 arg9 harg9 arg10 harg10 arg11 harg11 arg12 harg12
        k0_part63 i arg2 harg2 arg3 harg3 arg4 harg4 arg5 harg5 arg6 harg6 arg7 harg7 arg8 harg8 arg9 harg9 arg10 harg10 arg11 harg11 arg12 harg12
        k0_part64 i arg2 harg2 arg3 harg3 arg4 harg4 arg5 harg5 arg6 harg6 arg7 harg7 arg8 harg8 arg9 harg9 arg10 harg10 arg11 harg11 arg12 harg12
        k0_part65 i arg2 harg2 arg3 harg3 arg4 harg4 arg5 harg5 arg6 harg6 arg7 harg7 arg8 harg8 arg9 harg9 arg10 harg10 arg11 harg11 arg12 harg12
        k0_part66 i arg2 harg2 arg3 harg3 arg4 harg4 arg5 harg5 arg6 harg6 arg7 harg7 arg8 harg8 arg9 harg9 arg10 harg10 arg11 harg11 arg12 harg12
        pure PUnit.unit) PUnit.unit
      iprop(owns c arg10 fullShare (ksB x4) ∗ owns c arg11 fullShare (vsB x6) ∗ owns c arg4 fullShare x4 ∗ owns c arg6 fullShare x6 ∗ R) := by
  rw [← mixK_all x4 x10, ← mixV_all x6 x11]
  show Ev (Val := Elt F) defs₀ Variants.none (c : Thread nD τ) iprop(owns c arg10 fullShare (mixK 0 x4 x10) ∗ owns c arg11 fullShare (mixV 0 x6 x11) ∗ owns c arg4 fullShare x4 ∗ owns c arg6 fullShare x6 ∗ R) _ _ _
  repeat (first
    | with_reducible apply Ev.bind
    | with_reducible apply Ev.ret
    | with_reducible apply Ev.load
    | with_reducible apply store_ks
    | with_reducible apply store_vs
    | with_reducible apply Ev.skipLift
    | exact (rfl : (_ : ℕ) = _)
    | apply Ev.bind)

end Cert.Proof.Kernel

end
-- ==== Proof.Bits.Table.lean ====
/-
  The pair's result without the table of scores: each block's scores are stored once and read once, so that the result
  is a function of the blocks themselves; and the loops' bounds, as numbers: at query block `qb` the blocks visible whole
  are the `nW qb` ones before it, and the loops that would take what the unrolled ones leave have no trips.
-/
module

public import proofs.«01_k».proof.Kernel
public import proofs.«01_k».proof.Proof.Bits.Attn
public import Idealize.ShloMosaic.Lib.Pipeline.Value

@[expose] public section

set_option maxRecDepth 16384

noncomputable section

namespace Cert.Proof.Kernel

open Cert.Kernel
open Cert.Kernel.Facts₀ Cert.Kernel.Facts
open Idealize.ShloMosaic Idealize.ShloMosaic.TcCoe

variable {F : FTy → Type} [FloatOps F] [Facts]

/-! ## Iteration -/

theorem iter_zero {n : ℕ} {σ : Type} (f : Fin n → σ → σ) (a : σ) (h : n = 0) : iter f a = a := by
  subst h; rfl

theorem iter_congr {n n' : ℕ} {σ : Type} (f : Fin n → σ → σ) (g : Fin n' → σ → σ) (a b : σ) (h : n = n') (hab : a = b)
    (hf : ∀ k (h : k < n) (h' : k < n') s, f ⟨k, h⟩ s = g ⟨k, h'⟩ s) : iter f a = iter g b := by
  subst h hab
  exact congrArg (fun f => iter f a) (funext fun k => funext fun s => hf k.val k.isLt k.isLt s)

/-! ## The blocks, as numbers -/

/-- How many blocks are visible whole at query block `qb`. -/
def nW (qb : ℕ) : ℕ := min qb 7

theorem nW_le (qb : ℕ) : nW qb ≤ qb := Nat.min_le_left _ _

section Num

variable (i : grid0.Coords) (u : Fin k0_t1_loop.trips)

/-- The query block of trip `u`. -/
def qbN : ℕ := 4 * (i 1).val + u.val

theorem i1_lt : (i 1).val < 8 := (i 1).isLt
theorem u_lt : u.val < 4 := u.isLt

theorem qbN_lt : qbN i u < 32 := by
  have := i1_lt i; have := u_lt u; unfold qbN; omega

theorem trips1 : k0_t1_loop.trips = 4 := by decide

theorem trips2 : (k0_t2_loop i u).trips = nW (qbN i u) := by
  have h1 := i1_lt i
  unfold k0_t2_loop Scf.Loop.trips qbN
  dsimp only
  generalize (i 1).val = a at *
  revert h1; revert a; revert u; decide

theorem trips3 : (k0_t3_loop i u).trips = 0 := by
  have h1 := i1_lt i
  unfold k0_t3_loop Scf.Loop.trips
  dsimp only
  generalize (i 1).val = a at *
  revert h1; revert a; revert u; decide

theorem trips4 : (k0_t4_loop i u).trips = nW (qbN i u) := trips2 i u

theorem trips5 : (k0_t5_loop i u).trips = 0 := trips3 i u

theorem qbV_toNat : (qbV i u).toNat = qbN i u := by
  have h1 := i1_lt i
  unfold qbV qbN
  generalize (i 1).val = a at *
  revert h1; revert a; revert u; decide

theorem qbV_row : (Scalar.indexCast (Scalar.muli (qbV i u) 128#32)).toNat = 128 * qbN i u := by
  have h1 := i1_lt i
  unfold qbV qbN
  generalize (i 1).val = a at *
  revert h1; revert a; revert u; decide

theorem frV_row : (Scalar.indexCast (Scalar.muli (frV i u) 128#32)).toNat = 128 * (qbN i u - 8) := by
  have h1 := i1_lt i
  unfold frV qbV qbN
  generalize (i 1).val = a at *
  revert h1; revert a; revert u; decide

theorem qbV_blk : (Scalar.indexCast (qbV i u)).toNat = qbN i u := by
  have h1 := i1_lt i
  unfold qbV qbN
  generalize (i 1).val = a at *
  revert h1; revert a; revert u; decide

theorem frV_blk : (Scalar.indexCast (frV i u)).toNat = qbN i u - 8 := by
  have h1 := i1_lt i
  unfold frV qbV qbN
  generalize (i 1).val = a at *
  revert h1; revert a; revert u; decide

theorem qbV_ge : Scalar.cmpi .sge (qbV i u) 8#32 = if 8 ≤ qbN i u then 1#1 else 0#1 := by
  have h1 := i1_lt i
  unfold qbV qbN
  generalize (i 1).val = a at *
  revert h1; revert a; revert u; decide

theorem kn_row (k : ℕ) (hk : k < nW (qbN i u)) :
    (Scalar.indexCast (Scalar.muli (Scalar.addi (f0V i u) (Scf.iv 0#32 1#32 k)) 128#32)).toNat = 128 * (qbN i u - nW (qbN i u) + k) := by
  have h1 := i1_lt i
  have h2 : k < 7 := hk.trans_le (Nat.min_le_right _ _)
  clear hk
  unfold f0V frV qbV qbN
  generalize (i 1).val = a at *
  revert h2; revert k; revert h1; revert a; revert u; decide

theorem kn_blk (k : ℕ) (hk : k < nW (qbN i u)) :
    (Scalar.indexCast (Scalar.addi (f0V i u) (Scf.iv 0#32 1#32 k))).toNat = qbN i u - nW (qbN i u) + k := by
  have h1 := i1_lt i
  have h2 : k < 7 := hk.trans_le (Nat.min_le_right _ _)
  clear hk
  unfold f0V frV qbV qbN
  generalize (i 1).val = a at *
  revert h2; revert k; revert h1; revert a; revert u; decide

theorem sn_blk (k : ℕ) (hk : k < 7) : (Scalar.indexCast (Scalar.addi 1#32 (Scf.iv 0#32 1#32 k))).toNat = k + 1 := by
  revert hk; revert k; decide

theorem rowV_eq : rowV u = 128 * u.val := by
  unfold rowV
  revert u; decide

end Num

/-! ## The table -/

theorem slot_setSlot (x : Vec F S8x128x256 .f32) (n : ℕ) (hn : n + 1 ≤ 8) (s : FVec F S128x256 .f32) : slot (setSlot x n s) n hn = s := by
  unfold slot setSlot
  rw [← VecWindow.window_eq_ld, VecWindow.window_put_same]
  exact shapeCast_shapeCast s _ _

theorem slot_setSlot_ne (x : Vec F S8x128x256 .f32) (n m : ℕ) (hm : m + 1 ≤ 8) (h : n ≠ m) (s : FVec F S128x256 .f32) :
    slot (setSlot x n s) m hm = slot x m hm := by
  unfold slot setSlot
  rw [← VecWindow.window_eq_ld, ← VecWindow.window_eq_ld, VecWindow.window_put_of_disjoint _ _ _ _ _ _ _ 0 (by
    show m + 1 ≤ n ∨ n + 1 ≤ m
    omega)]

section Pair

variable (x3 : Vec F S1x8x4096x64 .fp8e4m3) (x10 : Vec F S8x4096x128 .f32) (x5 : Vec F S1x8x32x64x128 .fp8e4m3) (x11 : Vec F S8x64x256 .f32)
variable (h : Fin 8) (q : FVec F S64x256 .fp8e4m3) (qc : FVec F S1x256 .f32)

/-- What the scores' pass leaves: the maximum over the blocks taken, and in the table the blocks' scores. -/
theorem pass1_to {n : ℕ} (kn sn : Fin n → ℕ) (hk : ∀ k, kn k + 128 ≤ 4096) (hs : ∀ k, sn k = k.val + 1) (hn : n ≤ 7)
    (t : FVec F S8x256 .f32 × Vec F S8x128x256 .f32) (j : ℕ) (hj : j ≤ n) :
    let r := iterTo (fun k t => (max8 t.1 (sFull x3 x10 h q (kn k) (hk k)), setSlot t.2 (sn k) (sFull x3 x10 h q (kn k) (hk k)))) t j
    r.1 = iterTo (fun k a => max8 a (sFull x3 x10 h q (kn k) (hk k))) t.1 j ∧ slot r.2 0 (by decide) = slot t.2 0 (by decide) ∧
      ∀ k : Fin n, k.val < j → ∀ hs', slot r.2 (k.val + 1) hs' = sFull x3 x10 h q (kn k) (hk k) := by
  induction j with
  | zero => exact ⟨rfl, rfl, fun k hk => absurd hk (Nat.not_lt_zero _)⟩
  | succ j ih =>
    obtain ⟨h1, h2, h3⟩ := ih (by omega)
    have e := iterTo_succ (fun k t => (max8 t.1 (sFull x3 x10 h q (kn k) (hk k)), setSlot t.2 (sn k) (sFull x3 x10 h q (kn k) (hk k)))) t ⟨j, hj⟩
    have e' := iterTo_succ (fun k a => max8 a (sFull x3 x10 h q (kn k) (hk k))) t.1 ⟨j, hj⟩
    dsimp only at e e' h1 h2 h3 ⊢
    rw [e, e']
    dsimp only
    refine ⟨by rw [h1], ?_, fun k hkj hs' => ?_⟩
    · rw [slot_setSlot_ne _ _ _ _ (by rw [hs]; omega), h2]
    · by_cases hkj' : k.val = j
      · have : k = ⟨j, hj⟩ := Fin.ext hkj'
        subst this
        generalize sFull x3 x10 h q _ _ = s
        have hh := hs ⟨j, hj⟩
        dsimp only at hh hs' ⊢
        generalize sn ⟨j, hj⟩ = a at hh ⊢
        subst hh
        exact slot_setSlot _ _ _ _
      · rw [slot_setSlot_ne _ _ _ _ (by rw [hs]; simp only; omega), h3 k (by omega)]

variable (qb : ℕ) (hqb : qb < 32)

theorem kn_ok (hqb : qb < 32) (k : Fin (nW qb)) : 128 * (qb - nW qb + k.val) + 128 ≤ 4096 := by
  have := nW_le qb; have := k.isLt; omega

theorem vn_ok (hqb : qb < 32) (k : Fin (nW qb)) : qb - nW qb + k.val + 1 ≤ 32 := by
  have := nW_le qb; have := k.isLt; omega

/-- The half-visible blocks' scores at query block `qb`. -/
def cS0 : FVec F S128x256 .f32 :=
  sMix x3 x10 h q (if 8 ≤ qb then 1#1 else 0#1) (128 * qb) (128 * (qb - 8)) (by omega) (by omega)

/-- The scores of the `k`-th block visible whole. -/
def cS (k : Fin (nW qb)) : FVec F S128x256 .f32 := sFull x3 x10 h q (128 * (qb - nW qb + k.val)) (kn_ok qb hqb k)

/-- The maximum of the scores, over the rows congruent modulo eight. -/
def cM : FVec F S8x256 .f32 :=
  iter (n := nW qb) (fun k a => max8 a (cS x3 x10 h q qb hqb k))
    (max8 (broadcast S8x256 (Scalar.ofBits .f32 0xFF800000#32)) (cS0 x3 x10 h q qb hqb))

/-- The weighted values and the row sums, from the offset of the exponents. -/
def cO (o : FVec F S1x256 .f32) : FVec F S64x256 .f32 × FVec F S8x256 .f32 :=
  iter (n := nW qb) (fun k t => (addf t.1 (vDot x5 h (qb - nW qb + k.val) (vn_ok qb hqb k) (truncf .fp8e4m3 (wts qc o (cS x3 x10 h q qb hqb k)) bitsLt_fp8e4m3_f32)),
      addf t.2 (sum8 (wts qc o (cS x3 x10 h q qb hqb k)))))
    (oMix x5 h qb (qb - 8) (by omega) (by omega) (wts qc o (cS0 x3 x10 h q qb hqb)), sum8 (wts qc o (cS0 x3 x10 h q qb hqb)))

/-- The pair's result. -/
def cR : FVec F S64x256 .f32 := norm x11 h (cO x3 x10 x5 h q qc qb hqb (mq qc (cM x3 x10 h q qb hqb)))

variable (i : grid0.Coords) (u : Fin k0_t1_loop.trips)

theorem sMix_congr {b b' : BitVec 1} {n n' m m' : ℕ} (hb : b = b') (h1 : n = m) (h2 : n' = m') (a1 a2 a3 a4) :
    sMix x3 x10 h q b n n' a1 a2 = sMix x3 x10 h q b' m m' a3 a4 := by
  subst hb h1 h2; rfl

theorem sFull_congr {n m : ℕ} (h1 : n = m) (a1 a2) : sFull x3 x10 h q n a1 = sFull x3 x10 h q m a2 := by
  subst h1; rfl

theorem vDot_congr {n m : ℕ} (h1 : n = m) (a1 a2) (p) : vDot x5 h n a1 p = vDot x5 h m a2 p := by
  subst h1; rfl

theorem slot_congr {x : Vec F S8x128x256 .f32} {n m : ℕ} (h1 : n = m) (a1 a2) : slot x n a1 = slot x m a2 := by
  subst h1; rfl

theorem oMix_congr {n n' m m' : ℕ} (h1 : n = m) (h2 : n' = m') (a1 a2 a3 a4) (p) : oMix x5 h n n' a1 a2 p = oMix x5 h m m' a3 a4 p := by
  subst h1 h2; rfl

theorem step_congr (o : FVec F S1x256 .f32) {n m : ℕ} (h1 : n = m) (a1 a2) {p p' : FVec F S128x256 .f32} (hp : p = p') (s : FVec F S64x256 .f32 × FVec F S8x256 .f32) :
    (addf s.1 (vDot x5 h n a1 (truncf .fp8e4m3 (wts qc o p) bitsLt_fp8e4m3_f32)), addf s.2 (sum8 (wts qc o p))) =
      (addf s.1 (vDot x5 h m a2 (truncf .fp8e4m3 (wts qc o p') bitsLt_fp8e4m3_f32)), addf s.2 (sum8 (wts qc o p'))) := by
  subst h1 hp; rfl

theorem pairS0_eq : pairS0 x3 x10 h q i u = cS0 x3 x10 h q (qbN i u) (qbN_lt i u) :=
  sMix_congr _ _ _ _ (qbV_ge i u) (qbV_row i u) (frV_row i u) _ _ _ _

theorem pairM_eq (x12 : Vec F S8x128x256 .f32) :
    let r := pairM x3 x10 h q i u x12
    r.1 = cM x3 x10 h q (qbN i u) (qbN_lt i u) ∧ slot r.2 0 (by decide) = cS0 x3 x10 h q (qbN i u) (qbN_lt i u) ∧
      ∀ k : Fin (nW (qbN i u)), ∀ hs', slot r.2 (k.val + 1) hs' = cS x3 x10 h q (qbN i u) (qbN_lt i u) k := by
  have ht := trips2 i u
  have h7 : nW (qbN i u) ≤ 7 := Nat.min_le_right _ _
  have hh := pass1_to x3 x10 h q (n := (k0_t2_loop i u).trips) (fun k => (Scalar.indexCast (Scalar.muli (Scalar.addi (f0V i u) (Scf.iv 0#32 1#32 k)) 128#32)).toNat)
    (fun k => (Scalar.indexCast (Scalar.addi 1#32 (Scf.iv 0#32 1#32 k))).toNat) (fun k => k0_off7_inb i u k 2)
    (fun k => sn_blk k.val (by have := k.isLt; omega)) (by omega)
    (max8 (broadcast S8x256 (Scalar.ofBits .f32 0xFF800000#32)) (pairS0 x3 x10 h q i u), setSlot x12 0 (pairS0 x3 x10 h q i u)) _ le_rfl
  obtain ⟨h1, h2, h3⟩ := hh
  intro r
  have hr : r = pass1 x3 x10 h q (n := (k0_t2_loop i u).trips) (fun k => (Scalar.indexCast (Scalar.muli (Scalar.addi (f0V i u) (Scf.iv 0#32 1#32 k)) 128#32)).toNat)
      (fun k => (Scalar.indexCast (Scalar.addi 1#32 (Scf.iv 0#32 1#32 k))).toNat) (fun k => k0_off7_inb i u k 2)
      (max8 (broadcast S8x256 (Scalar.ofBits .f32 0xFF800000#32)) (pairS0 x3 x10 h q i u), setSlot x12 0 (pairS0 x3 x10 h q i u)) :=
    iter_zero _ _ (trips3 i u)
  rw [hr]
  refine ⟨h1.trans ?_, h2.trans ?_, fun k hs' => (h3 ⟨k.val, by have := k.isLt; omega⟩ (by show k.val < _; have := k.isLt; omega) hs').trans ?_⟩
  · refine iter_congr _ _ _ _ ht (congrArg (max8 (broadcast S8x256 (Scalar.ofBits .f32 0xFF800000#32))) (pairS0_eq x3 x10 h q i u)) fun k hk hk' s => congrArg _ ?_
    exact sFull_congr _ _ _ _ (kn_row i u k hk') _ _
  · rw [slot_setSlot, pairS0_eq]
  · exact sFull_congr _ _ _ _ (kn_row i u k.val k.isLt) _ _

/-- The pair's result does not depend on what the table held. -/
theorem pairR_eq (x12 : Vec F S8x128x256 .f32) : pairR x3 x10 x5 x11 h q qc i u x12 = cR x3 x10 x5 x11 h q qc (qbN i u) (qbN_lt i u) := by
  obtain ⟨h1, h2, h3⟩ := pairM_eq x3 x10 h q i u x12
  unfold pairR cR
  generalize pairM x3 x10 h q i u x12 = r at h1 h2 h3 ⊢
  refine congrArg (norm x11 h) ?_
  unfold pairO
  rw [h1, h2]
  refine (iter_zero _ _ (trips5 i u)).trans (iter_congr _ _ _ _ (trips4 i u) ?_ fun k hk hk' s => ?_)
  · exact congrArg₂ Prod.mk (oMix_congr x5 h (qbV_blk i u) (frV_blk i u) _ _ _ _ _) rfl
  · have hk7 : k < 7 := hk'.trans_le (Nat.min_le_right _ _)
    exact step_congr x5 h qc _ (kn_blk i u k hk') _ _ ((slot_congr (sn_blk k hk7) _ (by omega)).trans (h3 ⟨k, hk'⟩ (by show k + 1 + 1 ≤ 8; omega))) s

end Pair

end Cert.Proof.Kernel

end
-- ==== Proof.Bits.Out.lean ====
/-
  What one grid point leaves in the blocks of the three results: the tiles of its four query blocks and eight key/value
  heads lie side by side and fill the blocks, so that nothing of what the blocks held before is left.
-/
module

public import proofs.«01_k».proof.Kernel
public import proofs.«01_k».proof.Proof.Bits.Table
public import Idealize.ShloMosaic.Lib.ValueIdx

@[expose] public section

set_option maxRecDepth 16384

noncomputable section

namespace Cert.Proof.Kernel

open Cert.Kernel
open Cert.Kernel.Facts₀ Cert.Kernel.Facts
open Idealize.ShloMosaic Idealize.ShloMosaic.TcCoe

variable {F : FTy → Type} [FloatOps F] [Facts]

/-- A window put with the values of `G` adds it to where the contents are those of `G`. -/
theorem put_cover {s : Shape} {α : Type} (G x : s.Idx → α) (C C' : s.Idx → Prop) (off size : Fin s.rank → ℕ) (w : ((a : Fin s.rank) → Fin (size a)) → α)
    (hC : ∀ y, C y → x y = G y) (hw : ∀ y h, w (Rect.unitLocal (s := s) (off := off) (size := size) y h) = G y)
    (hC' : ∀ y, C' y → C y ∨ ∀ a, off a ≤ (y a).val ∧ (y a).val < off a + size a) (y : s.Idx) (hy : C' y) : VecWindow.put x off size w y = G y := by
  unfold VecWindow.put
  by_cases h : ∀ a, off a ≤ (y a).val ∧ (y a).val < off a + size a
  · rw [dif_pos h]; exact hw y h
  · rw [dif_neg h]; exact hC y ((hC' y hy).resolve_right h)

section

variable (x2 : Vec F S1x512x2048 .bf16) (x3 : Vec F S1x8x4096x64 .fp8e4m3) (x10 : Vec F S8x4096x128 .f32) (x5 : Vec F S1x8x32x64x128 .fp8e4m3) (x11 : Vec F S8x64x256 .f32)
variable (i : grid0.Coords)

/-- The tile of the first result at query block `u` and head `h`. -/
def tile7 (u : Fin k0_t1_loop.trips) (h : Fin 8) : FVec F S1x128x256 .bf16 :=
  outTile (cR x3 x10 x5 x11 h (qPair0 (qLoad x2 u h)) (qFac0 (qLoad x2 u h)) (qbN i u) (qbN_lt i u))
    (cR x3 x10 x5 x11 h (qPair1 (qLoad x2 u h)) (qFac1 (qLoad x2 u h)) (qbN i u) (qbN_lt i u))

/-- Its scales' tile. -/
def tile9 (u : Fin k0_t1_loop.trips) (h : Fin 8) : FVec F S1x4x128 .f32 :=
  shapeCast S1x4x128 (qScale (qLoad x2 u h)) shapeCasts_S4x128_S1x4x128

theorem blk_lt (a : Fin 512) : a.val / 128 < 4 := by omega
theorem head_lt (a : Fin 2048) : a.val / 256 < 8 := by omega
theorem head4_lt (a : Fin 32) : a.val / 4 < 8 := by omega

/-- The query block, within the grid point, of one of its rows. -/
def uOf (a : Fin 512) : Fin k0_t1_loop.trips := ⟨a.val / 128, blk_lt a⟩
/-- The key/value head of one of the results' columns. -/
def hOf (a : Fin 2048) : Fin 8 := ⟨a.val / 256, head_lt a⟩
/-- The key/value head of a query head. -/
def hOf4 (a : Fin 32) : Fin 8 := ⟨a.val / 4, head4_lt a⟩
/-- A row within its query block. -/
def rIn (a : Fin 512) : Fin 128 := ⟨a.val % 128, Nat.mod_lt _ (by decide)⟩
/-- A column within its head's. -/
def cIn (a : Fin 2048) : Fin 256 := ⟨a.val % 256, Nat.mod_lt _ (by decide)⟩
/-- A query head within its key/value head's. -/
def gIn (a : Fin 32) : Fin 4 := ⟨a.val % 4, Nat.mod_lt _ (by decide)⟩

/-- The first result's block after the grid point. -/
def out7 : Vec F S1x512x2048 .bf16 := fun y => tile7 x2 x3 x10 x5 x11 i (uOf (y 1)) (hOf (y 2)) (ValueIdx.ix3 0 (rIn (y 1)) (cIn (y 2)))
/-- The codes' block. -/
def out8 : Vec F S1x512x2048 .fp8e4m3 := fun y => qOut (qLoad x2 (uOf (y 1)) (hOf (y 2))) (ValueIdx.ix3 0 (rIn (y 1)) (cIn (y 2)))
/-- The scales' block. -/
def out9 : Vec F S1x32x512 .f32 := fun y => tile9 x2 (uOf (y 2)) (hOf4 (y 1)) (ValueIdx.ix3 0 (gIn (y 1)) (rIn (y 2)))

/-- Done up to head `m` of query block `k`. -/
structure Done (k m : ℕ) (t : Res F) : Prop where
  d7 : ∀ y : S1x512x2048.Idx, (y 1).val < 128 * k ∨ ((y 1).val < 128 * (k + 1) ∧ (y 2).val < 256 * m) → t.x7 y = out7 x2 x3 x10 x5 x11 i y
  d8 : ∀ y : S1x512x2048.Idx, (y 1).val < 128 * k ∨ ((y 1).val < 128 * (k + 1) ∧ (y 2).val < 256 * m) → t.x8 y = out8 x2 y
  d9 : ∀ y : S1x32x512.Idx, (y 2).val < 128 * k ∨ ((y 2).val < 128 * (k + 1) ∧ (y 1).val < 4 * m) → t.x9 y = out9 x2 y

theorem tileIdx (u : Fin k0_t1_loop.trips) (h : Fin 8) (y : S1x512x2048.Idx)
    (hy : ∀ a, (![0, rowV u, 256 * h.val] : Fin 3 → ℕ) a ≤ (y a).val ∧ (y a).val < (![0, rowV u, 256 * h.val] : Fin 3 → ℕ) a + S1x128x256.size a) :
    u = uOf (y 1) ∧ h = hOf (y 2) ∧
      Rect.unitLocal (s := S1x512x2048) (off := ![0, rowV u, 256 * h.val]) (size := S1x128x256.size) y hy = ValueIdx.ix3 0 (rIn (y 1)) (cIn (y 2)) := by
  have h0 := hy 0
  have h1 := hy 1
  have h2 := hy 2
  have hr := rowV_eq u
  simp only [Matrix.cons_val_zero, Matrix.cons_val_one, Matrix.cons_val] at h0 h1 h2
  rw [hr] at h1
  refine ⟨Fin.ext ?_, Fin.ext ?_, ?_⟩
  · show u.val = (y 1).val / 128; omega
  · show h.val = (y 2).val / 256; omega
  · funext a
    fin_cases a
    · refine Fin.ext ?_; show (y 0).val - 0 = 0; omega
    · refine Fin.ext ?_; show (y 1).val - rowV u = (y 1).val % 128; omega
    · refine Fin.ext ?_; show (y 2).val - 256 * h.val = (y 2).val % 256; omega

theorem tileIdx9 (u : Fin k0_t1_loop.trips) (h : Fin 8) (y : S1x32x512.Idx)
    (hy : ∀ a, (![0, 4 * h.val, rowV u] : Fin 3 → ℕ) a ≤ (y a).val ∧ (y a).val < (![0, 4 * h.val, rowV u] : Fin 3 → ℕ) a + S1x4x128.size a) :
    u = uOf (y 2) ∧ h = hOf4 (y 1) ∧
      Rect.unitLocal (s := S1x32x512) (off := ![0, 4 * h.val, rowV u]) (size := S1x4x128.size) y hy = ValueIdx.ix3 0 (gIn (y 1)) (rIn (y 2)) := by
  have h0 := hy 0
  have h1 := hy 1
  have h2 := hy 2
  have hr := rowV_eq u
  simp only [Matrix.cons_val_zero, Matrix.cons_val_one, Matrix.cons_val] at h0 h1 h2
  rw [hr] at h2
  refine ⟨Fin.ext ?_, Fin.ext ?_, ?_⟩
  · show u.val = (y 2).val / 128; omega
  · show h.val = (y 1).val / 4; omega
  · funext a
    fin_cases a
    · refine Fin.ext ?_; show (y 0).val - 0 = 0; omega
    · refine Fin.ext ?_; show (y 1).val - 4 * h.val = (y 1).val % 4; omega
    · refine Fin.ext ?_; show (y 2).val - rowV u = (y 2).val % 128; omega

theorem done_head (u : Fin k0_t1_loop.trips) (h : Fin 8) (t : Res F) (ht : Done x2 x3 x10 x5 x11 i u.val h.val t) :
    Done x2 x3 x10 x5 x11 i u.val (h.val + 1) (headF x2 x3 x10 x5 x11 i u h t) where
  d7 := by
    unfold headF
    dsimp only
    rw [pairR_eq, pairR_eq]
    refine put_cover (out7 x2 x3 x10 x5 x11 i) _ _ _ _ _ _ ht.d7 (fun y hy => ?_) (fun y hy => ?_)
    · obtain ⟨hu, hh, e⟩ := tileIdx u h y hy
      unfold out7
      rw [← hu, ← hh]
      exact congrArg (tile7 x2 x3 x10 x5 x11 i u h) e
    · have hr := rowV_eq u
      rcases hy with hy | hy
      · exact .inl (.inl hy)
      by_cases hl : (y 2).val < 256 * h.val
      · exact .inl (.inr ⟨hy.1, hl⟩)
      by_cases hl' : (y 1).val < 128 * u.val
      · exact .inl (.inl hl')
      refine .inr fun a => ?_
      fin_cases a
      · show 0 ≤ (y 0).val ∧ (y 0).val < 0 + 1
        have : (y 0).val < 1 := (y 0).isLt
        omega
      · show rowV u ≤ (y 1).val ∧ (y 1).val < rowV u + 128; omega
      · show 256 * h.val ≤ (y 2).val ∧ (y 2).val < 256 * h.val + 256; omega
  d8 := by
    unfold headF
    dsimp only
    refine put_cover (out8 x2) _ _ _ _ _ _ ht.d8 (fun y hy => ?_) (fun y hy => ?_)
    · obtain ⟨hu, hh, e⟩ := tileIdx u h y hy
      unfold out8
      rw [← hu, ← hh]
      exact congrArg (qOut (qLoad x2 u h)) e
    · have hr := rowV_eq u
      rcases hy with hy | hy
      · exact .inl (.inl hy)
      by_cases hl : (y 2).val < 256 * h.val
      · exact .inl (.inr ⟨hy.1, hl⟩)
      by_cases hl' : (y 1).val < 128 * u.val
      · exact .inl (.inl hl')
      refine .inr fun a => ?_
      fin_cases a
      · show 0 ≤ (y 0).val ∧ (y 0).val < 0 + 1
        have : (y 0).val < 1 := (y 0).isLt
        omega
      · show rowV u ≤ (y 1).val ∧ (y 1).val < rowV u + 128; omega
      · show 256 * h.val ≤ (y 2).val ∧ (y 2).val < 256 * h.val + 256; omega
  d9 := by
    unfold headF
    dsimp only
    refine put_cover (out9 x2) _ _ _ _ _ _ ht.d9 (fun y hy => ?_) (fun y hy => ?_)
    · obtain ⟨hu, hh, e⟩ := tileIdx9 u h y hy
      unfold out9
      rw [← hu, ← hh]
      exact congrArg (tile9 x2 u h) e
    · have hr := rowV_eq u
      rcases hy with hy | hy
      · exact .inl (.inl hy)
      by_cases hl : (y 1).val < 4 * h.val
      · exact .inl (.inr ⟨hy.1, hl⟩)
      by_cases hl' : (y 2).val < 128 * u.val
      · exact .inl (.inl hl')
      refine .inr fun a => ?_
      fin_cases a
      · show 0 ≤ (y 0).val ∧ (y 0).val < 0 + 1
        have : (y 0).val < 1 := (y 0).isLt
        omega
      · show 4 * h.val ≤ (y 1).val ∧ (y 1).val < 4 * h.val + 4; omega
      · show rowV u ≤ (y 2).val ∧ (y 2).val < rowV u + 128; omega

theorem done_trip (u : Fin k0_t1_loop.trips) (t : Res F) (ht : Done x2 x3 x10 x5 x11 i u.val 0 t) :
    Done x2 x3 x10 x5 x11 i (u.val + 1) 0 (tripF x2 x3 x10 x5 x11 i u t) := by
  have h1 := done_head x2 x3 x10 x5 x11 i u 7 _ (done_head x2 x3 x10 x5 x11 i u 6 _ (done_head x2 x3 x10 x5 x11 i u 5 _ (done_head x2 x3 x10 x5 x11 i u 4 _
    (done_head x2 x3 x10 x5 x11 i u 3 _ (done_head x2 x3 x10 x5 x11 i u 2 _ (done_head x2 x3 x10 x5 x11 i u 1 _ (done_head x2 x3 x10 x5 x11 i u 0 t ht)))))))
  have h8 : (7 : Fin 8).val + 1 = 8 := rfl
  rw [h8] at h1
  refine ⟨fun y hy => h1.d7 y ?_, fun y hy => h1.d8 y ?_, fun y hy => h1.d9 y ?_⟩
  · have : (y 2).val < 2048 := (y 2).isLt
    omega
  · have : (y 2).val < 2048 := (y 2).isLt
    omega
  · have : (y 1).val < 32 := (y 1).isLt
    omega

theorem done_to (t : Res F) (k : ℕ) (hk : k ≤ k0_t1_loop.trips) :
    Done x2 x3 x10 x5 x11 i k 0 (iterTo (fun u t => tripF x2 x3 x10 x5 x11 i u t) t k) := by
  induction k with
  | zero => exact ⟨fun y hy => by omega, fun y hy => by omega, fun y hy => by omega⟩
  | succ k ih =>
    rw [iterTo_succ _ _ ⟨k, hk⟩]
    exact done_trip x2 x3 x10 x5 x11 i ⟨k, hk⟩ _ (ih (by omega))

theorem iter_out (t : Res F) :
    (iter (fun u t => tripF x2 x3 x10 x5 x11 i u t) t).x7 = out7 x2 x3 x10 x5 x11 i ∧
    (iter (fun u t => tripF x2 x3 x10 x5 x11 i u t) t).x8 = out8 x2 ∧
    (iter (fun u t => tripF x2 x3 x10 x5 x11 i u t) t).x9 = out9 x2 := by
  have h := done_to x2 x3 x10 x5 x11 i t _ le_rfl
  have h4 : k0_t1_loop.trips = 4 := trips1
  refine ⟨funext fun y => h.d7 y (.inl ?_), funext fun y => h.d8 y (.inl ?_), funext fun y => h.d9 y (.inl ?_)⟩
  · have : (y 1).val < 512 := (y 1).isLt
    omega
  · have : (y 1).val < 512 := (y 1).isLt
    omega
  · have : (y 2).val < 512 := (y 2).isLt
    omega

end

end Cert.Proof.Kernel

end
-- ==== Proof.Bits.Blocks.lean ====
/-
  The blocks of the five arguments at a grid point: the batch entry of the point's first coordinate, and of the queries
  the 512 rows of its second.
-/
module

public import proofs.«01_k».proof.Proof.Gen.Kernel.Frame
public import Idealize.ShloMosaic.Lib.Pipeline.ValueKit
public import Idealize.ShloMosaic.Lib.ValueIdx

@[expose] public section

set_option maxRecDepth 16384

noncomputable section

namespace Cert.Proof.Kernel

open Cert.Kernel Cert.Kernel.Gen
open Idealize.ShloMosaic Idealize.ShloMosaic.TcCoe

variable {F : FTy → Type} [FloatOps F]
variable (m : (ℓ : Loc nD τ sig) → Buf (Elt F) ℓ)

theorem cw (a : Fin 8) : (BitVec.ofNat 32 a.val).toNat = a.val := by revert a; decide

theorem index0 (t : Fin cfg0.N) : win0_0.index t = ![(grid0.coords t 0).val, (grid0.coords t 1).val, 0] := by
  show ![(BitVec.ofNat 32 (grid0.coords t 0).val).toNat, (BitVec.ofNat 32 (grid0.coords t 1).val).toNat, 0] = _
  rw [cw (grid0.coords t 0), cw (grid0.coords t 1)]

theorem index1 (t : Fin cfg0.N) : win0_1.index t = ![(grid0.coords t 0).val, 0, 0, 0] := by
  show ![(BitVec.ofNat 32 (grid0.coords t 0).val).toNat, 0, 0, 0] = _
  rw [cw (grid0.coords t 0)]

theorem index2 (t : Fin cfg0.N) : win0_2.index t = ![(grid0.coords t 0).val, 0, 0] := by
  show ![(BitVec.ofNat 32 (grid0.coords t 0).val).toNat, 0, 0] = _
  rw [cw (grid0.coords t 0)]

theorem index3 (t : Fin cfg0.N) : win0_3.index t = ![(grid0.coords t 0).val, 0, 0, 0, 0] := by
  show ![(BitVec.ofNat 32 (grid0.coords t 0).val).toNat, 0, 0, 0, 0] = _
  rw [cw (grid0.coords t 0)]

theorem index4 (t : Fin cfg0.N) : win0_4.index t = ![(grid0.coords t 0).val, 0, 0] := by
  show ![(BitVec.ofNat 32 (grid0.coords t 0).val).toNat, 0, 0] = _
  rw [cw (grid0.coords t 0)]

/-- Row `r` of the point's 512 within the sequence. -/
theorem row_lt (a : Fin 8) (r : Fin 512) : 512 * a.val + r.val < 4096 := by omega

theorem iblk0 (c : Dev nD) (t : Fin cfg0.N) (y : S1x512x2048.Idx) :
    (iblk m c 0 t : Vec F S1x512x2048 .bf16) y = (m ((c : Thread nD τ).loc main_arg0) : Vec F S8x4096x2048 .bf16) (ValueIdx.ix3 (grid0.coords t 0) ⟨512 * (grid0.coords t 1).val + (y 1).val, row_lt (grid0.coords t 1) (y 1)⟩ (y 2)) := by
  have h0 : (y 0).val < 1 := (y 0).isLt
  blk_simp [iblk]
  refine congrArg (m ((c : Thread nD τ).loc main_arg0)) (funext fun a => Fin.ext ?_)
  fin_cases a <;> blk_simp [index0] <;> simp [ValueIdx.ix3] <;> omega

theorem iblk1 (c : Dev nD) (t : Fin cfg0.N) (y : S1x8x4096x64.Idx) :
    (iblk m c 1 t : Vec F S1x8x4096x64 .fp8e4m3) y = (m ((c : Thread nD τ).loc main_arg1) : Vec F S8x8x4096x64 .fp8e4m3) (ValueIdx.ix4 (grid0.coords t 0) (y 1) (y 2) (y 3)) := by
  have h0 : (y 0).val < 1 := (y 0).isLt
  blk_simp [iblk]
  refine congrArg (m ((c : Thread nD τ).loc main_arg1)) (funext fun a => Fin.ext ?_)
  fin_cases a <;> blk_simp [index1] <;> simp [ValueIdx.ix4] <;> omega

theorem iblk2 (c : Dev nD) (t : Fin cfg0.N) (y : S1x8x4096.Idx) :
    (iblk m c 2 t : Vec F S1x8x4096 .f32) y = (m ((c : Thread nD τ).loc main_arg2) : Vec F S8x8x4096 .f32) (ValueIdx.ix3 (grid0.coords t 0) (y 1) (y 2)) := by
  have h0 : (y 0).val < 1 := (y 0).isLt
  blk_simp [iblk]
  refine congrArg (m ((c : Thread nD τ).loc main_arg2)) (funext fun a => Fin.ext ?_)
  fin_cases a <;> blk_simp [index2] <;> simp [ValueIdx.ix3] <;> omega

theorem iblk3 (c : Dev nD) (t : Fin cfg0.N) (y : S1x8x32x64x128.Idx) :
    (iblk m c 3 t : Vec F S1x8x32x64x128 .fp8e4m3) y = (m ((c : Thread nD τ).loc main_arg3) : Vec F S8x8x32x64x128 .fp8e4m3) (ValueIdx.ix5 (grid0.coords t 0) (y 1) (y 2) (y 3) (y 4)) := by
  have h0 : (y 0).val < 1 := (y 0).isLt
  blk_simp [iblk]
  refine congrArg (m ((c : Thread nD τ).loc main_arg3)) (funext fun a => Fin.ext ?_)
  fin_cases a <;> blk_simp [index3] <;> simp [ValueIdx.ix5] <;> omega

theorem iblk4 (c : Dev nD) (t : Fin cfg0.N) (y : S1x1x512.Idx) :
    (iblk m c 4 t : Vec F S1x1x512 .f32) y = (m ((c : Thread nD τ).loc main_arg4) : Vec F S8x1x512 .f32) (ValueIdx.ix3 (grid0.coords t 0) (y 1) (y 2)) := by
  have h0 : (y 0).val < 1 := (y 0).isLt
  blk_simp [iblk]
  refine congrArg (m ((c : Thread nD τ).loc main_arg4)) (funext fun a => Fin.ext ?_)
  fin_cases a <;> blk_simp [index4] <;> simp [ValueIdx.ix3] <;> omega

end Cert.Proof.Kernel

end
-- ==== Proof.Bits.Body.lean ====
/-
  The attention kernel's body at a grid point: it fills the tables of the keys' and values' scales at the first point of
  a batch entry, finds them filled at the others, and runs the loop over its query blocks.
-/
module

public import proofs.«01_k».proof.Kernel
public import proofs.«01_k».proof.Proof.Bits.Trip
public import proofs.«01_k».proof.Proof.Bits.Fill
public import proofs.«01_k».proof.Proof.Bits.Out
public import proofs.«01_k».proof.Proof.Bits.Blocks
public import proofs.«01_k».proof.Proof.Gen.Kernel.Frame
public import Idealize.ShloMosaic.Lib.Claim

@[expose] public section

set_option maxRecDepth 16384

noncomputable section

namespace Cert.Proof.Kernel

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Ev

variable {F : FTy → Type} [FloatOps F] [Facts]

local notation "𝕄" => MT nD τ sig Unit (Elt F) ℕ (UR sig nD τ) ℕ

theorem first_iff (i : grid0.Coords) : Scalar.cmpi .ne (Scalar.extui (Scalar.cmpi .eq (BitVec.ofNat 32 (i 1).val) 0#32) : BitVec 32) 0#32 = 1#1 ↔ (i 1).val = 0 := by
  have h1 := i1_lt i
  generalize (i 1).val = a at *
  revert h1; revert a; decide

/-- The tables' filling, among all the body's buffers. -/
theorem fill_st (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F) :
    Ev (Val := Elt F) defs₀ Variants.none (c : Thread nD τ) (St c arg2 arg3 arg4 arg5 arg6 arg7 arg8 arg9 arg10 arg11 arg12 x10 x11 x2 x3 x4 x5 x6 t)
      (do
        k0_part67 i arg2 harg2 arg3 harg3 arg4 harg4 arg5 harg5 arg6 harg6 arg7 harg7 arg8 harg8 arg9 harg9 arg10 harg10 arg11 harg11 arg12 harg12
        k0_part61 i arg2 harg2 arg3 harg3 arg4 harg4 arg5 harg5 arg6 harg6 arg7 harg7 arg8 harg8 arg9 harg9 arg10 harg10 arg11 harg11 arg12 harg12
        k0_part62 i arg2 harg2 arg3 harg3 arg4 harg4 arg5 harg5 arg6 harg6 arg7 harg7 arg8 harg8 arg9 harg9 arg10 harg10 arg11 harg11 arg12 harg12
        k0_part63 i arg2 harg2 arg3 harg3 arg4 harg4 arg5 harg5 arg6 harg6 arg7 harg7 arg8 harg8 arg9 harg9 arg10 harg10 arg11 harg11 arg12 harg12
        k0_part64 i arg2 harg2 arg3 harg3 arg4 harg4 arg5 harg5 arg6 harg6 arg7 harg7 arg8 harg8 arg9 harg9 arg10 harg10 arg11 harg11 arg12 harg12
        k0_part65 i arg2 harg2 arg3 harg3 arg4 harg4 arg5 harg5 arg6 harg6 arg7 harg7 arg8 harg8 arg9 harg9 arg10 harg10 arg11 harg11 arg12 harg12
        k0_part66 i arg2 harg2 arg3 harg3 arg4 harg4 arg5 harg5 arg6 harg6 arg7 harg7 arg8 harg8 arg9 harg9 arg10 harg10 arg11 harg11 arg12 harg12
        pure PUnit.unit) PUnit.unit (St c arg2 arg3 arg4 arg5 arg6 arg7 arg8 arg9 arg10 arg11 arg12 (ksB x4) (vsB x6) x2 x3 x4 x5 x6 t) := by
  have h := fill_ev (F := F) c i arg2 harg2 arg3 harg3 arg4 harg4 arg5 harg5 arg6 harg6 arg7 harg7 arg8 harg8 arg9 harg9 arg10 harg10 arg11 harg11 arg12 harg12 x10 x11 x4 x6
    iprop(owns c arg12 fullShare t.x12 ∗ owns c arg7 fullShare t.x7 ∗ owns c arg8 fullShare t.x8 ∗ owns c arg9 fullShare t.x9 ∗ owns c arg2 fullShare x2 ∗ owns c arg3 fullShare x3 ∗ owns c arg5 fullShare x5)
  unfold Ev at h ⊢
  refine .trans ?_ (h.trans (wp_mono _ _ _ fun _ => ?_))
  · iintro ⟨A, B, C, D, E, G, H, I, J, K, L⟩
    isplitl [E]; · iexact E
    isplitl [G]; · iexact G
    isplitl [J]; · iexact J
    isplitl [L]; · iexact L
    isplitl [A]; · iexact A
    isplitl [B]; · iexact B
    isplitl [C]; · iexact C
    isplitl [D]; · iexact D
    isplitl [H]; · iexact H
    isplitl [I]; · iexact I
    iexact K
  · iintro ⟨%he, E, G, J, L, A, B, C, D, H, I, K⟩
    isplitr; · ipureintro; exact he
    isplitl [A]; · iexact A
    isplitl [B]; · iexact B
    isplitl [C]; · iexact C
    isplitl [D]; · iexact D
    isplitl [E]; · iexact E
    isplitl [G]; · iexact G
    isplitl [H]; · iexact H
    isplitl [I]; · iexact I
    isplitl [J]; · iexact J
    isplitl [K]; · iexact K
    iexact L

/-- The body: the tables are filled after it if they were or if the point is the first of its batch entry. -/
theorem body_ev (c : Dev nD) (i : grid0.Coords) (arg2 : Memref sig .tc .vmem S1x512x2048 .bf16) (harg2 : arg2.IsWhole) (arg3 : Memref sig .tc .vmem S1x8x4096x64 .fp8e4m3) (harg3 : arg3.IsWhole) (arg4 : Memref sig .tc .vmem S1x8x4096 .f32) (harg4 : arg4.IsWhole) (arg5 : Memref sig .tc .vmem S1x8x32x64x128 .fp8e4m3) (harg5 : arg5.IsWhole) (arg6 : Memref sig .tc .vmem S1x1x512 .f32) (harg6 : arg6.IsWhole) (arg7 : Memref sig .tc .vmem S1x512x2048 .bf16) (harg7 : arg7.IsWhole) (arg8 : Memref sig .tc .vmem S1x512x2048 .fp8e4m3) (harg8 : arg8.IsWhole) (arg9 : Memref sig .tc .vmem S1x32x512 .f32) (harg9 : arg9.IsWhole) (arg10 : Memref sig .tc .vmem S8x4096x128 .f32) (harg10 : arg10.IsWhole) (arg11 : Memref sig .tc .vmem S8x64x256 .f32) (harg11 : arg11.IsWhole) (arg12 : Memref sig .tc .vmem S8x128x256 .f32) (harg12 : arg12.IsWhole) (x10 : Vec F S8x4096x128 .f32) (x11 : Vec F S8x64x256 .f32) (x2 : Vec F S1x512x2048 .bf16) (x3 : Vec F S1x8x4096x64 .fp8e4m3) (x4 : Vec F S1x8x4096 .f32) (x5 : Vec F S1x8x32x64x128 .fp8e4m3) (x6 : Vec F S1x1x512 .f32) (t : Res F)
    (hx : (i 1).val = 0 ∨ (x10 = ksB x4 ∧ x11 = vsB x6)) :
    Ev (Val := Elt F) defs₀ Variants.none (c : Thread nD τ) (St c arg2 arg3 arg4 arg5 arg6 arg7 arg8 arg9 arg10 arg11 arg12 x10 x11 x2 x3 x4 x5 x6 t) (cc0_attn i arg2 harg2 arg3 harg3 arg4 harg4 arg5 harg5 arg6 harg6 arg7 harg7 arg8 harg8 arg9 harg9 arg10 harg10 arg11 harg11 arg12 harg12) PUnit.unit
      (St c arg2 arg3 arg4 arg5 arg6 arg7 arg8 arg9 arg10 arg11 arg12 (ksB x4) (vsB x6) x2 x3 x4 x5 x6 (iter (fun u t => tripF x2 x3 (ksB x4) x5 (vsB x6) i u t) t)) := by
  have hl := Ev.bind (loop_ev (F := F) c i arg2 harg2 arg3 harg3 arg4 harg4 arg5 harg5 arg6 harg6 arg7 harg7 arg8 harg8 arg9 harg9 arg10 harg10 arg11 harg11 arg12 harg12 (ksB x4) (vsB x6) x2 x3 x4 x5 x6 t) (Ev.ret (PUnit.unit : PUnit))
  unfold cc0_attn
  dsimp only
  split
  · rename_i hi
    have hf := Ev.bind (fill_st (F := F) c i arg2 harg2 arg3 harg3 arg4 harg4 arg5 harg5 arg6 harg6 arg7 harg7 arg8 harg8 arg9 harg9 arg10 harg10 arg11 harg11 arg12 harg12 x10 x11 x2 x3 x4 x5 x6 t) (k := fun _ => _) hl
    simp only [bind_assoc, pure_bind] at hf
    exact hf
  · rename_i hi
    obtain ⟨rfl, rfl⟩ := hx.resolve_left fun h => hi ((first_iff i).mpr h)
    exact hl

end Ev

end Cert.Proof.Kernel

end
-- ==== Proof.Bits.Region.lean ====
/-
  The attention kernel's run: over the grid, the tables of scales carried from each batch entry's first point to its others,
  each point leaving its blocks of the three results; the frame, and what the results' arrays hold.
-/
module

public import proofs.«01_k».proof.Proof.Bits.Body

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables carried over the grid -/

/-- The tables of a batch entry's keys' and values' scales, from the blocks at a point. -/
def ksT (c : Dev nD) (t : Fin cfg0.N) : Vec F S8x4096x128 .f32 := ksB (iblk m c 2 t)
@[inherit_doc ksT] def vsT (c : Dev nD) (t : Fin cfg0.N) : Vec F S8x64x256 .f32 := vsB (iblk m c 4 t)

theorem coord0 (t t' : Fin cfg0.N) (h : t'.val = t.val + 1) (h1 : (grid0.coords t' 1).val ≠ 0) : grid0.coords t' 0 = grid0.coords t 0 := by
  revert t t'; decide +kernel

theorem ksT_next (c : Dev nD) (t t' : Fin cfg0.N) (h : t'.val = t.val + 1) (h1 : (grid0.coords t' 1).val ≠ 0) : ksT m c t' = ksT m c t := by
  have e : (iblk m c 2 t' : Vec F S1x8x4096 .f32) = iblk m c 2 t := funext fun y => by rw [iblk2, iblk2, coord0 t t' h h1]
  exact congrArg ksB e

theorem vsT_next (c : Dev nD) (t t' : Fin cfg0.N) (h : t'.val = t.val + 1) (h1 : (grid0.coords t' 1).val ≠ 0) : vsT m c t' = vsT m c t := by
  have e : (iblk m c 4 t' : Vec F S1x1x512 .f32) = iblk m c 4 t := funext fun y => by rw [iblk4, iblk4, coord0 t t' h h1]
  exact congrArg vsB e

theorem first_point (t : Fin cfg0.N) (h : t.val = 0) : (grid0.coords t 1).val = 0 := by
  revert t; decide +kernel

/-- Before point `n`: the tables are the point's own if it is not its batch entry's first; the table of scores holds anything. -/
def PhiC (c : Dev nD) (n : ℕ) : sProp 𝕄 :=
  iprop(∃ X10 X11 X12, ⌜∀ t : Fin cfg0.N, t.val = n → (grid0.coords t 1).val ≠ 0 → X10 = ksT m c t ∧ X11 = vsT m c t⌝
    ∗ owns (c : Thread nD τ) (Memref.whole cc0_scratch0) fullShare X10 ∗ owns (c : Thread nD τ) (Memref.whole cc0_scratch1) fullShare X11
    ∗ owns (c : Thread nD τ) (Memref.whole cc0_scratch2) fullShare X12 ∗ ∃ r, prngReg c r)

/-- The proof data: after the body at a point each input's buffer holds its block and each result's what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out7 (iblk m c 0 t) (iblk m c 1 t) (ksT m c t) (iblk m c 3 t) (vsT m c t) (grid0.coords t)
    | ⟨6, _⟩ => out8 (iblk m c 0 t)
    | ⟨7, _⟩ => out9 (iblk m c 0 t)
  Φ t := PhiC m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out7 (iblk m c 0 t) (iblk m c 1 t) (ksT m c t) (iblk m c 3 t) (vsT m c t) (grid0.coords t) := by dsimp only [dats]
theorem after0_6 (c : Dev nD) (t : Fin cfg0.N) : (dats m 0 c).after 6 t = out8 (iblk m c 0 t) := by dsimp only [dats]
theorem after0_7 (c : Dev nD) (t : Fin cfg0.N) : (dats m 0 c).after 7 t = out9 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = PhiC m c t.val from by dsimp only [dats]; rfl,
    show (dats m 0 c).Φ t.succ = PhiC m c (t.val + 1) from by dsimp only [dats]; rfl,
    show (dats m 0 c).owesAt () t.succ = (dats m 0 c).owesAt () t.castSucc from rfl,
    after0_0, after0_1, after0_2, after0_3, after0_4, after0_5, after0_6, after0_7]
  unfold PhiC
  iintro ⟨⟨%X10, %X11, %X12, %hX, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hx : (grid0.coords t 1).val = 0 ∨ (X10 = ksB (iblk m c 2 t) ∧ X11 = vsB (iblk m c 4 t)) := by
    by_cases h1 : (grid0.coords t 1).val = 0
    · exact .inl h1
    · exact .inr (hX t rfl h1)
  have hev := Ev.skip (R := iprop((∃ r, prngReg c r) ∗ (dats m 0 c).owesAt () t.castSucc))
    (body_ev (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _) (Memref.whole cc0_scratch2) (Memref.isWhole_whole _)
      X10 X11 (iblk m c 0 t) (iblk m c 1 t) (iblk m c 2 t) (iblk m c 3 t) (iblk m c 4 t) ⟨X12, (dats m 0 c).before 5 t d5, (dats m 0 c).before 6 t d6, (dats m 0 c).before 7 t d7⟩ hx)
  obtain ⟨e7, e8, e9⟩ := iter_out (F := F) (iblk m c 0 t) (iblk m c 1 t) (ksT m c t) (iblk m c 3 t) (vsT m c t) (grid0.coords t) ⟨X12, (dats m 0 c).before 5 t d5, (dats m 0 c).before 6 t d6, (dats m 0 c).before 7 t d7⟩
  rw [← e7, ← e8, ← e9]
  unfold Ev at hev
  iapply (hev.trans (wp_mono _ _ _ fun _ => by
    iintro ⟨%hr, ⟨Hr, Ho⟩, S2, H5, H6, H7, S0, S1, H0, H1, H2, H3, H4⟩
    isplitl [S0 S1 S2 Hr]
    · iexists (ksT m c t); iexists (vsT m c t); iexists _
      isplitr
      · ipureintro
        intro t' ht' h1
        exact ⟨(ksT_next m c t t' ht' h1).symm, (vsT_next m c t t' ht' h1).symm⟩
      isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7)) $$ [Hr Ho S2 H5 H6 H7 S0 S1 H0 H1 H2 H3 H4]
  · isplitl [Hr Ho]
    · isplitl [Hr]; · iexact Hr
      iexact Ho
    isplitl [S2]; · iexact S2
    isplitl [H5]; · iexact H5
    isplitl [H6]; · iexact H6
    isplitl [H7]; · iexact H7
    isplitl [S0]; · iexact S0
    isplitl [S1]; · iexact S1
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ PhiC m c 0 := by
  unfold Pipeline.ΦA PhiC
  rw [scopedRest0_eq]
  simp only [owns_whole]
  iintro ⟨⟨⟨%f0, S0⟩, ⟨%f1, S1⟩, ⟨%f2, S2⟩⟩, Hr⟩
  iexists f0; iexists f1; iexists f2
  isplitr
  · ipureintro
    intro t ht h1
    exact absurd (first_point t ht) h1
  isplitl [S0]; · iexact S0
  isplitl [S1]; · iexact S1
  isplitl [S2]; · iexact S2
  iexact Hr

theorem phi_out (c : Dev nD) (n : ℕ) : PhiC m c n ⊢ (Pipeline.ΦA spec0 c : sProp 𝕄) := by
  unfold Pipeline.ΦA PhiC
  rw [scopedRest0_eq]
  simp only [owns_whole]
  iintro ⟨%X10, %X11, %X12, -, S0, S1, S2, Hr⟩
  isplitr [Hr]
  · isplitl [S0]; · iexists X10; iexact S0
    isplitl [S1]; · iexists X11; iexact S1
    iexists X12; iexact S2
  iexact Hr

set_option backward.isDefEq.respectTransparency.types false in
/-- The launch: every run ends, with the pipeline's arrays at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.Scal.lean ====
/-
  The scalar mathematics of the attention row, over the extended reals: what the printed constants denote, the quantiser's
  exponent and scale, and that a row of weights taken as powers of two, 448 times too large and divided by their own sum,
  gives what the plain softmax gives.
-/
module

public import Idealize.ShloMosaic.PureOps.Ideal
public import Idealize.ShloMosaic.PureOps.Ideal.Laws

@[expose] public section

noncomputable section

namespace Cert.Proof.Scal

open Idealize.ShloMosaic

/-! ## Constants -/

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_eighth : Ideal.ofBits .f32 0x3E000000#32 = ((8⁻¹ : ℝ) : EReal) := by
  simp [Ideal.ofBits, Ideal.ieee, -EReal.coe_mul]; norm_num

theorem ofBits_bot : Ideal.ofBits .f32 0xFF800000#32 = ⊥ := by
  simp [Ideal.ofBits, Ideal.ieee]

/-! ## The quantiser -/

/-- A maximum, as the fold that the reductions are. -/
theorem fold_max {n : ℕ} (f : Fin n → EReal) : Finset.univ.fold max ⊥ f = Finset.univ.sup f := rfl

/-- The exponent of a row's scale. -/
def qe (f : Fin 64 → EReal) : EReal :=
  if (Finset.univ.fold max ⊥ fun d => max (f d) (-f d)) = 0 then 0
  else Ideal.liftRound Int.floor (Ideal.log ((Finset.univ.fold max ⊥ fun d => max (f d) (-f d)) * ((448⁻¹ : ℝ) : EReal)) * (((Real.log 2)⁻¹ : ℝ) : EReal)) + 1

/-- One of the row's codes. -/
def code (f : Fin 64 → EReal) (d : Fin 64) : EReal :=
  min ((448 : ℝ) : EReal) (max ((-448 : ℝ) : EReal) (f d * Ideal.exp2 (0 - qe f)))

theorem exp2_pos (x : EReal) (h : x ≠ ⊥) : 0 < Ideal.exp2 x := by
  induction x with
  | bot => exact absurd rfl h
  | top => exact EReal.zero_lt_top
  | coe r =>
    rw [Ideal.exp2_coe]
    exact EReal.coe_pos.mpr (Real.rpow_pos_of_pos (by norm_num) r)

/-- The scale of a row is positive: its largest magnitude is no less than zero. -/
theorem scale_pos (f : Fin 64 → EReal) : 0 < Ideal.exp2 (qe f) := by
  refine exp2_pos _ ?_
  unfold qe
  have hA : (0 : EReal) ≤ Finset.univ.fold max ⊥ fun d => max (f d) (-f d) := by
    rw [fold_max]
    refine le_trans ?_ (Finset.le_sup (f := fun d => max (f d) (-f d)) (Finset.mem_univ (0 : Fin 64)))
    rcases le_total 0 (f 0) with h | h
    · exact le_max_of_le_left h
    · exact le_max_of_le_right (EReal.neg_nonneg.mpr h)
  generalize (Finset.univ.fold max ⊥ fun d => max (f d) (-f d)) = a at hA ⊢
  have hl : (0 : ℝ) < (Real.log 2)⁻¹ := inv_pos.mpr (Real.log_pos (by norm_num))
  by_cases h0 : a = 0
  · rw [if_pos h0]; exact EReal.zero_ne_bot
  rw [if_neg h0]
  have ha : 0 < a := lt_of_le_of_ne hA (Ne.symm h0)
  clear hA h0
  induction a with
  | bot => exact absurd ha (by simp)
  | top =>
    rw [EReal.top_mul_coe_of_pos (by norm_num), Ideal.log_top, EReal.top_mul_coe_of_pos hl]
    have ht : Ideal.liftRound Int.floor ⊤ = ⊤ := rfl
    rw [ht, EReal.top_add_of_ne_bot (x := 1) (EReal.coe_ne_bot 1)]
    exact top_ne_bot
  | coe r =>
    have hr : 0 < r := EReal.coe_pos.mp ha
    rw [← EReal.coe_mul, Ideal.log_coe, if_neg (not_le.mpr (mul_pos hr (by norm_num))), ← EReal.coe_mul]
    show ((_ : ℝ) : EReal) + ((1 : ℝ) : EReal) ≠ ⊥
    rw [← EReal.coe_add]
    exact EReal.coe_ne_bot _

/-! ## The row of weights -/

theorem exp_nonneg (x : EReal) : 0 ≤ Ideal.exp x := by
  induction x with
  | bot => exact le_refl _
  | top => exact le_top
  | coe r => exact EReal.coe_nonneg.mpr (Real.exp_pos r).le

theorem exp_le_one (x : EReal) (h : x ≤ 0) : Ideal.exp x ≤ 1 := by
  induction x with
  | bot => exact (zero_le_one : (0 : EReal) ≤ 1)
  | top => exact absurd h (by simp)
  | coe r =>
    have : Real.exp r ≤ 1 := Real.exp_le_one_iff.mpr (EReal.coe_nonpos.mp h)
    exact (EReal.coe_le_coe_iff.mpr this : ((Real.exp r : ℝ) : EReal) ≤ ((1 : ℝ) : EReal))

theorem exp_bot : Ideal.exp ⊥ = 0 := rfl
theorem exp2_bot : Ideal.exp2 ⊥ = 0 := rfl

/-- The reciprocal of `log 2`, and `log 448` over `log 2`. -/
abbrev rl : ℝ := (Real.log 2)⁻¹
abbrev lq : ℝ := Real.log 448 * (Real.log 2)⁻¹

theorem rl_pos : 0 < rl := inv_pos.mpr (Real.log_pos (by norm_num))

/-- A weight, as a power of two 448 times too large. -/
theorem weight_eq (A B : EReal) (h : A ≤ B) :
    Ideal.exp2 (A * (rl : EReal) - (B * (rl : EReal) - (lq : EReal))) = ((448 : ℝ) : EReal) * Ideal.exp (A - B) := by
  induction A with
  | bot => rw [EReal.bot_mul_coe_of_pos rl_pos, sub_eq_add_neg, EReal.bot_add, sub_eq_add_neg, EReal.bot_add, exp_bot, exp2_bot, mul_zero]
  | top =>
    obtain rfl : B = ⊤ := top_le_iff.mp h
    rw [EReal.top_mul_coe_of_pos rl_pos, EReal.top_sub_coe, EReal.sub_top, exp_bot, exp2_bot, mul_zero]
  | coe a =>
    induction B with
    | bot => exact absurd h (by simp)
    | top => rw [EReal.top_mul_coe_of_pos rl_pos, EReal.top_sub_coe, EReal.sub_top, EReal.sub_top, exp_bot, exp2_bot, mul_zero]
    | coe b =>
      rw [← EReal.coe_mul, ← EReal.coe_mul, ← EReal.coe_sub, ← EReal.coe_sub, ← EReal.coe_sub, Ideal.exp2_coe]
      show _ = _ * ((Real.exp (a - b) : ℝ) : EReal)
      rw [← EReal.coe_mul]
      congr 1
      show (2 : ℝ) ^ (a * rl - (b * rl - lq)) = _
      have hl : Real.log 2 ≠ 0 := (Real.log_pos (by norm_num)).ne'
      rw [Real.rpow_def_of_pos (by norm_num : (0 : ℝ) < 2)]
      have : Real.log 2 * (a * rl - (b * rl - lq)) = Real.log 448 + (a - b) := by
        unfold rl lq; field_simp; ring
      rw [this, Real.exp_add, Real.exp_log (by norm_num)]

/-- The exponent of a weight does not exceed zero, so neither does the weight 448. -/
theorem clip_eq (A B : EReal) (h : A ≤ B) :
    min ((448 : ℝ) : EReal) (max ((-448 : ℝ) : EReal) (Ideal.exp (A - B) * ((448 : ℝ) : EReal))) = Ideal.exp (A - B) * ((448 : ℝ) : EReal) := by
  have h1 : Ideal.exp (A - B) ≤ 1 := exp_le_one _ (by
    rcases eq_or_ne B ⊤ with rfl | hB
    · simp
    rcases eq_or_ne B ⊥ with rfl | hB'
    · obtain rfl : A = ⊥ := le_bot_iff.mp h
      simp
    exact EReal.sub_nonpos.mpr h)
  have h0 := exp_nonneg (A - B)
  have h448 : (0 : EReal) ≤ ((448 : ℝ) : EReal) := EReal.coe_nonneg.mpr (by norm_num)
  rw [max_eq_right, min_eq_right]
  · simpa using mul_le_mul_of_nonneg_right h1 h448
  · exact le_trans (EReal.coe_nonpos.mpr (by norm_num)) (mul_nonneg h0 h448)

theorem mul_sum (c : ℝ) (hc : 0 ≤ c) {ι : Type} (s : Finset ι) (f : ι → EReal) : ((c : ℝ) : EReal) * ∑ i ∈ s, f i = ∑ i ∈ s, ((c : ℝ) : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top _)]

theorem sup_mul {n : ℕ} (u : Fin n → EReal) (g : EReal) (hg : 0 < g) : Finset.univ.sup u * g = Finset.univ.sup fun k => u k * g :=
  Finset.comp_sup_eq_sup_comp_of_is_total (fun x => x * g) (fun a b h => mul_le_mul_of_nonneg_right h hg.le) (EReal.bot_mul_of_pos hg)

/-- One row: the kernel's weights over their sum and the plain softmax, whose weights are made codes. -/
theorem row {n : ℕ} (u v : Fin n → EReal) (vs g : EReal) (hg : 0 < g) :
    Ideal.div ((∑ k, v k * Ideal.exp2 (u k * (g * (rl : EReal)) - (Finset.univ.sup u * (g * (rl : EReal)) - (lq : EReal)))) * vs)
        (∑ k, Ideal.exp2 (u k * (g * (rl : EReal)) - (Finset.univ.sup u * (g * (rl : EReal)) - (lq : EReal)))) =
      Ideal.div ((∑ k, min ((448 : ℝ) : EReal) (max ((-448 : ℝ) : EReal) (Ideal.exp (u k * g - Finset.univ.sup fun k => u k * g) * ((448 : ℝ) : EReal))) * v k)
          * ((448⁻¹ : ℝ) : EReal) * vs)
        (∑ k, Ideal.exp (u k * g - Finset.univ.sup fun k => u k * g)) := by
  have hle : ∀ k, u k * g ≤ Finset.univ.sup fun k => u k * g := fun k => Finset.le_sup (f := fun k => u k * g) (Finset.mem_univ k)
  have hw : ∀ k, Ideal.exp2 (u k * (g * (rl : EReal)) - (Finset.univ.sup u * (g * (rl : EReal)) - (lq : EReal))) =
      ((448 : ℝ) : EReal) * Ideal.exp (u k * g - Finset.univ.sup fun k => u k * g) := fun k => by
    rw [← mul_assoc, ← mul_assoc, sup_mul u g hg]
    exact weight_eq _ _ (hle k)
  have hc : ∀ k, min ((448 : ℝ) : EReal) (max ((-448 : ℝ) : EReal) (Ideal.exp (u k * g - Finset.univ.sup fun k => u k * g) * ((448 : ℝ) : EReal))) =
      Ideal.exp (u k * g - Finset.univ.sup fun k => u k * g) * ((448 : ℝ) : EReal) := fun k => clip_eq _ _ (hle k)
  simp only [hw, hc]
  generalize hp : (fun k => Ideal.exp (u k * g - Finset.univ.sup fun k => u k * g)) = p
  have hpk : ∀ k, Ideal.exp (u k * g - Finset.univ.sup fun k => u k * g) = p k := fun k => congrFun hp k
  have hp0 : ∀ k, 0 ≤ p k := fun k => by rw [← hpk]; exact exp_nonneg _
  simp only [hpk]
  rw [← mul_sum 448 (by norm_num)]
  have ho : ∑ k, v k * (((448 : ℝ) : EReal) * p k) = ∑ k, p k * ((448 : ℝ) : EReal) * v k :=
    Finset.sum_congr rfl fun k _ => by rw [mul_comm, mul_comm (((448 : ℝ) : EReal)) (p k)]
  rw [ho]
  by_cases hS : ∑ k, p k = 0
  · have hz : ∀ k, p k = 0 := fun k => (Finset.sum_eq_zero_iff_of_nonneg fun k _ => hp0 k).mp hS k (Finset.mem_univ k)
    simp [hz]
  · have hS' : ((448 : ℝ) : EReal) * ∑ k, p k ≠ 0 := mul_ne_zero (by norm_num) hS
    unfold Ideal.div
    rw [if_neg hS', if_neg hS, EReal.mul_inv, ← EReal.coe_inv]
    ac_rfl

end Cert.Proof.Scal

end
-- ==== Proof.Tile.lean ====
/-
  The functions of the kernel's tiles read at an index, as extended reals: the quantiser, the products with keys and values, the
  scores, maxima, weights and sums of one pair of query heads.
-/
module

public import proofs.«01_k».proof.KernelIdeal
public import proofs.«01_k».proof.Proof.Attn
public import proofs.«01_k».proof.Proof.Scal
public import Idealize.ShloMosaic.Lib.Pointwise

@[expose] public section

set_option maxRecDepth 16384
set_option maxHeartbeats 400000

noncomputable section

namespace Cert.Proof.KernelIdeal

open Cert.KernelIdeal
open Cert.KernelIdeal.Facts₀ Cert.KernelIdeal.Facts
open Idealize.ShloMosaic Idealize.ShloMosaic.TcCoe
open Cert.Proof.Scal

variable [Facts]

theorem named_448 : (Named.named κ "inv_448" (0x3B124925#32 : BitVec (FTy.bits .f32)) : Ideal .f32) = ((448⁻¹ : ℝ) : EReal) := IdealRules.named_const.ideal_named_scalar _ _ _ _ rfl
theorem named_ln2 : (Named.named κ "inv_ln2" (0x3FB8AA3B#32 : BitVec (FTy.bits .f32)) : Ideal .f32) = (((Real.log 2)⁻¹ : ℝ) : EReal) := IdealRules.named_const.ideal_named_scalar _ _ _ _ rfl
theorem named_qk : (Named.named κ "qk_log2e" (0x3E38AA3B#32 : BitVec (FTy.bits .f32)) : Ideal .f32) = ((8⁻¹ * (Real.log 2)⁻¹ : ℝ) : EReal) := IdealRules.named_const.ideal_named_scalar _ _ _ _ rfl
theorem named_lq : (Named.named κ "log2_448" (0x410CEAED#32 : BitVec (FTy.bits .f32)) : Ideal .f32) = (((Real.log 448) * (Real.log 2)⁻¹ : ℝ) : EReal) := IdealRules.named_const.ideal_named_scalar _ _ _ _ rfl

/-! ## The quantiser -/

section Quant

variable (w : Vec Ideal S1x128x256 .bf16)

/-- The row of one head's query within the tile. -/
def qRow (g : Fin 4) (r : Fin 128) (d : Fin 64) : EReal := w (ix3 0 r ⟨g.val * 64 + d.val, by omega⟩)

theorem qExp_ap (g : Fin 4) (r : Fin 128) : qExp w (ix2 g r) = qe (qRow w g r) := by
  pointwise [qExp, qAmax, qTile]
  rw [named_448, named_ln2, ofBits_bot]
  rfl

theorem qScale_ap (g : Fin 4) (r : Fin 128) : qScale w (ix2 g r) = Ideal.exp2 (qe (qRow w g r)) := by
  unfold qScale
  pointwise
  rw [qExp_ap]
  rfl

theorem qClip_ap (g : Fin 4) (d : Fin 64) (r : Fin 128) : qClip w (ix3 g d r) = code (qRow w g r) d := by
  pointwise [qClip, qTile]
  rw [qExp_ap, ofBits_448, ofBits_neg448]
  rfl

theorem qOut_ap (r : Fin 128) (a : Fin 256) : qOut w (ix3 0 r a) = code (qRow w ⟨a.val / 64, by omega⟩ r) ⟨a.val % 64, by omega⟩ := by
  pointwise [qOut]
  exact qClip_ap _ _ _ _

theorem qPair0_ap (g : Fin 2) (d : Fin 64) (r : Fin 128) (c : Fin 256) (hc : c.val = 128 * g.val + r.val) :
    qPair0 w (ix2 d c) = code (qRow w ⟨g.val, by omega⟩ r) d := by
  pointwise [qPair0, qCode]
  split
  · rename_i h
    obtain rfl : g = 0 := Fin.ext (by show g.val = 0; omega)
    obtain rfl : r = ⟨c.val, h⟩ := Fin.ext (by simp at hc; simp [hc])
    exact qClip_ap _ _ _ _
  · rename_i h
    obtain rfl : g = 1 := Fin.ext (by show g.val = 1; omega)
    have hr : (⟨c.val - 128, by omega⟩ : Fin 128) = r := Fin.ext (by simp at hc; simp [hc])
    exact (congrArg (fun r => qClip w (ix3 1 d r)) hr).trans (qClip_ap _ _ _ _)

theorem qPair1_ap (g : Fin 2) (d : Fin 64) (r : Fin 128) (c : Fin 256) (hc : c.val = 128 * g.val + r.val) :
    qPair1 w (ix2 d c) = code (qRow w ⟨2 + g.val, by omega⟩ r) d := by
  pointwise [qPair1, qCode]
  split
  · rename_i h
    obtain rfl : g = 0 := Fin.ext (by show g.val = 0; omega)
    obtain rfl : r = ⟨c.val, h⟩ := Fin.ext (by simp at hc; simp [hc])
    exact qClip_ap _ _ _ _
  · rename_i h
    obtain rfl : g = 1 := Fin.ext (by show g.val = 1; omega)
    have hr : (⟨c.val - 128, by omega⟩ : Fin 128) = r := Fin.ext (by simp at hc; simp [hc])
    exact (congrArg (fun r => qClip w (ix3 3 d r)) hr).trans (qClip_ap _ _ _ _)

theorem qFac0_ap (g : Fin 2) (r : Fin 128) (c : Fin 256) (hc : c.val = 128 * g.val + r.val) :
    qFac0 w (ix2 0 c) = Ideal.exp2 (qe (qRow w ⟨g.val, by omega⟩ r)) * ((8⁻¹ * (Real.log 2)⁻¹ : ℝ) : EReal) := by
  pointwise [qFac0]
  rw [named_qk]
  congr 1
  split
  · rename_i h
    obtain rfl : g = 0 := Fin.ext (by show g.val = 0; omega)
    obtain rfl : r = ⟨c.val, h⟩ := Fin.ext (by simp at hc; simp [hc])
    exact qScale_ap _ _ _
  · rename_i h
    obtain rfl : g = 1 := Fin.ext (by show g.val = 1; omega)
    have hr : (⟨c.val - 128, by omega⟩ : Fin 128) = r := Fin.ext (by simp at hc; simp [hc])
    exact (congrArg (fun r => qScale w (ix2 1 r)) hr).trans (qScale_ap _ _ _)

theorem qFac1_ap (g : Fin 2) (r : Fin 128) (c : Fin 256) (hc : c.val = 128 * g.val + r.val) :
    qFac1 w (ix2 0 c) = Ideal.exp2 (qe (qRow w ⟨2 + g.val, by omega⟩ r)) * ((8⁻¹ * (Real.log 2)⁻¹ : ℝ) : EReal) := by
  pointwise [qFac1]
  rw [named_qk]
  congr 1
  split
  · rename_i h
    obtain rfl : g = 0 := Fin.ext (by show g.val = 0; omega)
    obtain rfl : r = ⟨c.val, h⟩ := Fin.ext (by simp at hc; simp [hc])
    exact qScale_ap _ _ _
  · rename_i h
    obtain rfl : g = 1 := Fin.ext (by show g.val = 1; omega)
    have hr : (⟨c.val - 128, by omega⟩ : Fin 128) = r := Fin.ext (by simp at hc; simp [hc])
    exact (congrArg (fun r => qScale w (ix2 3 r)) hr).trans (qScale_ap _ _ _)

theorem outTile_ap (r0 r1 : FVec Ideal S64x256 .f32) (g : Fin 4) (d : Fin 64) (r : Fin 128) (a : Fin 256) (ha : a.val = 64 * g.val + d.val) :
    outTile r0 r1 (ix3 0 r a) =
      if g.val < 2 then r0 (ix2 d ⟨128 * (g.val % 2) + r.val, by omega⟩) else r1 (ix2 d ⟨128 * (g.val % 2) + r.val, by omega⟩) := by
  pointwise [outTile]
  have hd := d.isLt
  fin_vals g with hg
  · rw [if_pos (show g.val < 2 by omega)]
    split_ifs <;> first
      | (exfalso; omega)
      | (refine congrArg₂ (fun x y => r0 (ix2 x y)) (Fin.ext ?_) (Fin.ext ?_) <;> dsimp only <;> omega)
  · rw [if_pos (show g.val < 2 by omega)]
    split_ifs <;> first
      | (exfalso; omega)
      | (refine congrArg₂ (fun x y => r0 (ix2 x y)) (Fin.ext ?_) (Fin.ext ?_) <;> dsimp only <;> omega)
  · rw [if_neg (show ¬ g.val < 2 by omega)]
    split_ifs <;> first
      | (exfalso; omega)
      | (refine congrArg₂ (fun x y => r1 (ix2 x y)) (Fin.ext ?_) (Fin.ext ?_) <;> dsimp only <;> omega)
  · rw [if_neg (show ¬ g.val < 2 by omega)]
    split_ifs <;> first
      | (exfalso; omega)
      | (refine congrArg₂ (fun x y => r1 (ix2 x y)) (Fin.ext ?_) (Fin.ext ?_) <;> dsimp only <;> omega)

end Quant

end Cert.Proof.KernelIdeal

end
-- ==== Proof.Tile2.lean ====
/-
  The functions of one pair of query heads read at an index, as extended reals: the products with keys and values, the
  scores, their maxima, the weights and the sums.
-/
module

public import proofs.«01_k».proof.KernelIdeal
public import proofs.«01_k».proof.Proof.Table
public import proofs.«01_k».proof.Proof.Tile
public import Idealize.ShloMosaic.Lib.Pointwise

@[expose] public section

set_option maxRecDepth 16384
set_option maxHeartbeats 400000

noncomputable section

namespace Cert.Proof.KernelIdeal

open Cert.KernelIdeal
open Cert.KernelIdeal.Facts₀ Cert.KernelIdeal.Facts
open Idealize.ShloMosaic Idealize.ShloMosaic.TcCoe
open Cert.Proof.Scal

variable [Facts]

/-! ## Loaded blocks -/

section Load

theorem kLd_ap (x3 : Vec Ideal S1x8x4096x64 .fp8e4m3) (h : Fin 8) (n : ℕ) (hn : n + 128 ≤ 4096) (a : Fin 128) (d : Fin 64) :
    (View.ld x3 (Rect.unit (s := S1x8x4096x64) ![0, h.val, n, 0] S1x1x128x64.size (inbK h n hn)) : Vec Ideal S1x1x128x64 .fp8e4m3) (ix4 0 0 a d) =
      x3 (ix4 0 h ⟨n + a.val, by omega⟩ d) := by
  refine congrArg x3 (funext fun b => ?_)
  fin_cases b
  · exact Fin.ext rfl
  · exact Fin.ext (Nat.add_zero _)
  · exact Fin.ext (congrArg (n + ·) (one_mul _))
  · exact Fin.ext ((Nat.zero_add _).trans (one_mul _))

theorem ksLd_ap (x10 : Vec Ideal S8x4096x128 .f32) (h : Fin 8) (n : ℕ) (hn : n + 128 ≤ 4096) (a r : Fin 128) :
    (View.ld x10 (Rect.unit (s := S8x4096x128) ![h.val, n, 0] S1x128x128.size (inbKs h n hn)) : Vec Ideal S1x128x128 .f32) (ix3 0 a r) =
      x10 (ix3 h ⟨n + a.val, by omega⟩ r) := by
  refine congrArg x10 (funext fun b => ?_)
  fin_cases b
  · exact Fin.ext (Nat.add_zero _)
  · exact Fin.ext (congrArg (n + ·) (one_mul _))
  · exact Fin.ext ((Nat.zero_add _).trans (one_mul _))

theorem vLd_ap (x5 : Vec Ideal S1x8x32x64x128 .fp8e4m3) (h : Fin 8) (n : ℕ) (hn : n + 1 ≤ 32) (d : Fin 64) (a : Fin 128) :
    (View.ld x5 (Rect.unit (s := S1x8x32x64x128) ![0, h.val, n, 0, 0] S1x1x1x64x128.size (inbV h n hn)) : Vec Ideal S1x1x1x64x128 .fp8e4m3) (ix5 0 0 0 d a) =
      x5 (ix5 0 h ⟨n, by omega⟩ d a) := by
  refine congrArg x5 (funext fun b => ?_)
  fin_cases b
  · exact Fin.ext rfl
  · exact Fin.ext (Nat.add_zero _)
  · exact Fin.ext (Nat.add_zero _)
  · exact Fin.ext ((Nat.zero_add _).trans (one_mul _))
  · exact Fin.ext ((Nat.zero_add _).trans (one_mul _))

theorem vsLd_ap (x11 : Vec Ideal S8x64x256 .f32) (h : Fin 8) (d : Fin 64) (c : Fin 256) :
    (View.ld x11 (Rect.unit (s := S8x64x256) ![h.val, 0, 0] S1x64x256.size (inbVs h)) : Vec Ideal S1x64x256 .f32) (ix3 0 d c) = x11 (ix3 h d c) := by
  refine congrArg x11 (funext fun b => ?_)
  fin_cases b
  · exact Fin.ext (Nat.add_zero _)
  · exact Fin.ext ((Nat.zero_add _).trans (one_mul _))
  · exact Fin.ext ((Nat.zero_add _).trans (one_mul _))

end Load

/-! ## The products, on a loaded block -/

theorem kMul_ap (w : Vec Ideal S1x1x128x64 .fp8e4m3) (q : FVec Ideal S64x256 .fp8e4m3) (a : Fin 128) (c : Fin 256) :
    matmul dot_S128x64_S64x256_S128x256_1_0_0_1_n_n none (shapeCast S128x64 w shapeCasts_S1x1x128x64_S128x64 : FVec Ideal S128x64 .fp8e4m3)
      q (constant S128x256 .f32 0x00000000#32) (ix2 a c) = ∑ d : Fin 64, w (ix4 0 0 a d) * q (ix2 d c) := by
  pointwise

theorem ksCat_ap (w : Vec Ideal S1x128x128 .f32) (a : Fin 128) (c : Fin 256) :
    concatenate S128x256 1 [⟨S128x128, shapeCast S128x128 w shapeCasts_S1x128x128_S128x128⟩, ⟨S128x128, shapeCast S128x128 w shapeCasts_S1x128x128_S128x128⟩]
      concatenates_S128x128_S128x128_S128x256_d1 (ix2 a c) = w (ix3 0 a ⟨c.val % 128, by omega⟩) := by
  pointwise
  split <;> refine congrArg (fun r => w (ix3 0 a r)) (Fin.ext ?_) <;> dsimp only <;> omega

theorem vMul_ap (w : Vec Ideal S1x1x1x64x128 .fp8e4m3) (p : FVec Ideal S128x256 .fp8e4m3) (d : Fin 64) (c : Fin 256) :
    matmul dot_S64x128_S128x256_S64x256_1_0_0_1_n_n none (shapeCast S64x128 w shapeCasts_S1x1x1x64x128_S64x128 : FVec Ideal S64x128 .fp8e4m3)
      p (constant S64x256 .f32 0x00000000#32) (ix2 d c) = ∑ a : Fin 128, w (ix5 0 0 0 d a) * p (ix2 a c) := by
  pointwise

theorem norm_aux (w : Vec Ideal S1x64x256 .f32) (t : FVec Ideal S64x256 .f32) (l : FVec Ideal S8x256 .f32) (d : Fin 64) (c : Fin 256) :
    divf (mulf t (shapeCast S64x256 w shapeCasts_S1x64x256_S64x256))
      (broadcastTo S64x256 (shapeCast S1x256 (multiReduction .add [0] S256 l 0x00000000#32 reduces_S8x256_S256 (.inl rfl) rfl : FVec Ideal S256 .f32) shapeCasts_S256_S1x256 : FVec Ideal S1x256 .f32)
        broadcasts_S1x256_S64x256) (ix2 d c) = Ideal.div (t (ix2 d c) * w (ix3 0 d c)) (∑ j : Fin 8, l (ix2 j c)) := by
  pointwise

theorem tri_ap (a : Fin 128) (c : Fin 256) : tri (ix2 a c) = if a.val ≤ c.val % 128 then 1#1 else 0#1 := by
  pointwise [tri]
  rw [show (if h : c.val < 128 then BitVec.ofNat 32 a.val else BitVec.ofNat 32 a.val) = BitVec.ofNat 32 a.val from by split <;> rfl,
    show (if h : c.val < 128 then BitVec.ofNat 32 c.val else BitVec.ofNat 32 (c.val - 128)) = BitVec.ofNat 32 (c.val % 128) from by
      split
      · rw [Nat.mod_eq_of_lt (by assumption)]
      · exact congrArg _ (by omega)]
  have h2 : c.val % 128 < 128 := Nat.mod_lt _ (by decide)
  have h1 := a.isLt
  unfold IntOp.cmpi
  simp only [BitVec.sle]
  have e : ∀ n : ℕ, n < 128 → (BitVec.ofNat 32 n).toInt = n := fun n hn => by
    rw [BitVec.toInt_ofNat']
    simp only [Int.bmod_def]
    split <;> omega
  rw [e _ h1, e _ h2]
  by_cases hh : a.val ≤ c.val % 128
  · rw [if_pos hh, show decide ((a.val : ℤ) ≤ ((c.val % 128 : ℕ) : ℤ)) = true from decide_eq_true (by exact_mod_cast hh)]; rfl
  · rw [if_neg hh, show decide ((a.val : ℤ) ≤ ((c.val % 128 : ℕ) : ℤ)) = false from decide_eq_false (by exact_mod_cast hh)]; rfl

theorem sel_ap (T : IVec S128x256 1) (A B : FVec Ideal S128x256 .f32) (j : S128x256.Idx) : select T A B j = if T j = 1#1 then A j else B j := rfl

theorem mix_aux (T : IVec S128x256 1) (b : BitVec 1) (A B C D : FVec Ideal S128x256 .f32) (j : S128x256.Idx) :
    select (ori T (broadcast S128x256 b)) (mulf (select T A B) (select T C D)) (broadcast S128x256 (Scalar.ofBits .f32 0xFF800000#32)) j =
      if IntOp.ori (T j) b = 1#1 then (if T j = 1#1 then A j else B j) * (if T j = 1#1 then C j else D j) else ⊥ := by
  pointwise
  rw [ofBits_bot]
  rfl

theorem max8_ap (a : FVec Ideal S8x256 .f32) (s : FVec Ideal S128x256 .f32) (j : Fin 8) (c : Fin 256) :
    max8 a s (ix2 j c) = max (a (ix2 j c)) (Finset.univ.sup fun x : Fin 16 => s (ix2 ⟨x.val * 8 + j.val, by omega⟩ c)) := by
  pointwise [max8]
  rw [ofBits_bot, fold_max]

theorem sum8_ap (s : FVec Ideal S128x256 .f32) (j : Fin 8) (c : Fin 256) : sum8 s (ix2 j c) = ∑ x : Fin 16, s (ix2 ⟨x.val * 8 + j.val, by omega⟩ c) := by
  pointwise [sum8]

theorem mq_ap (qc : FVec Ideal S1x256 .f32) (m : FVec Ideal S8x256 .f32) (c : Fin 256) :
    mq qc m (ix2 0 c) = (Finset.univ.sup fun j : Fin 8 => m (ix2 j c)) * qc (ix2 0 c) - (lq : EReal) := by
  pointwise [mq]
  rw [ofBits_bot, named_lq, fold_max]

theorem wts_ap (qc o : FVec Ideal S1x256 .f32) (s : FVec Ideal S128x256 .f32) (a : Fin 128) (c : Fin 256) :
    wts qc o s (ix2 a c) = Ideal.exp2 (s (ix2 a c) * qc (ix2 0 c) - o (ix2 0 c)) := by
  pointwise [wts]
  rfl

/-! ## One pair -/

section Pair

variable (x3 : Vec Ideal S1x8x4096x64 .fp8e4m3) (x10 : Vec Ideal S8x4096x128 .f32) (x5 : Vec Ideal S1x8x32x64x128 .fp8e4m3) (x11 : Vec Ideal S8x64x256 .f32)
variable (h : Fin 8) (q : FVec Ideal S64x256 .fp8e4m3) (qc : FVec Ideal S1x256 .f32)

/-- The score, before the query's factor, of key `k` and the query in column `c`. -/
def tK (c : Fin 256) (k : ℕ) : EReal :=
  if hk : k < 4096 then (∑ d : Fin 64, x3 (ix4 0 h ⟨k, hk⟩ d) * q (ix2 d c)) * x10 (ix3 h ⟨k, hk⟩ ⟨c.val % 128, by omega⟩) else ⊥

/-- The value of key `k` in row `d`. -/
def vK (d : Fin 64) (k : ℕ) : EReal :=
  if hk : k < 4096 then x5 (ix5 0 h ⟨k / 128, by omega⟩ d ⟨k % 128, by omega⟩) else 0

theorem kDot_ap (n : ℕ) (hn : n + 128 ≤ 4096) (a : Fin 128) (c : Fin 256) :
    kDot x3 h q n hn (ix2 a c) = ∑ d : Fin 64, x3 (ix4 0 h ⟨n + a.val, by omega⟩ d) * q (ix2 d c) :=
  (kMul_ap _ q a c).trans (Finset.sum_congr rfl fun d _ => by rw [kLd_ap x3 h n hn])

theorem ksTile_ap (n : ℕ) (hn : n + 128 ≤ 4096) (a : Fin 128) (c : Fin 256) :
    ksTile x10 h n hn (ix2 a c) = x10 (ix3 h ⟨n + a.val, by omega⟩ ⟨c.val % 128, by omega⟩) :=
  (ksCat_ap _ a c).trans (ksLd_ap x10 h n hn a _)

theorem vDot_ap (n : ℕ) (hn : n + 1 ≤ 32) (p : FVec Ideal S128x256 .fp8e4m3) (d : Fin 64) (c : Fin 256) :
    vDot x5 h n hn p (ix2 d c) = ∑ a : Fin 128, vK x5 h d (128 * n + a.val) * p (ix2 a c) :=
  (vMul_ap _ p d c).trans (Finset.sum_congr rfl fun a _ => by
    rw [vLd_ap x5 h n hn]
    unfold vK
    rw [dif_pos (show 128 * n + a.val < 4096 by omega)]
    refine congrArg (· * p (ix2 a c)) ?_
    congr 2 <;> refine Fin.ext ?_ <;> dsimp only <;> omega)

theorem sFull_ap (n : ℕ) (hn : n + 128 ≤ 4096) (a : Fin 128) (c : Fin 256) : sFull x3 x10 h q n hn (ix2 a c) = tK x3 x10 h q c (n + a.val) := by
  unfold tK
  rw [dif_pos (show n + a.val < 4096 by omega)]
  show kDot x3 h q n hn (ix2 a c) * ksTile x10 h n hn (ix2 a c) = _
  rw [kDot_ap, ksTile_ap]

theorem cS0_ap (qb : ℕ) (hqb : qb < 32) (a : Fin 128) (c : Fin 256) :
    cS0 x3 x10 h q qb hqb (ix2 a c) =
      if a.val ≤ c.val % 128 then tK x3 x10 h q c (128 * qb + a.val) else if 8 ≤ qb then tK x3 x10 h q c (128 * (qb - 8) + a.val) else ⊥ := by
  unfold cS0 sMix
  rw [mix_aux, tri_ap, kDot_ap, kDot_ap, ksTile_ap, ksTile_ap]
  unfold tK
  rw [dif_pos (show 128 * qb + a.val < 4096 by omega), dif_pos (show 128 * (qb - 8) + a.val < 4096 by omega)]
  by_cases ha : a.val ≤ c.val % 128 <;> by_cases h8 : 8 ≤ qb <;> simp [ha, h8, IntOp.ori]

theorem oMix_ap (n n' : ℕ) (hn : n + 1 ≤ 32) (hn' : n' + 1 ≤ 32) (p : FVec Ideal S128x256 .f32) (d : Fin 64) (c : Fin 256) :
    oMix x5 h n n' hn hn' p (ix2 d c) =
      ∑ a : Fin 128, if a.val ≤ c.val % 128 then vK x5 h d (128 * n + a.val) * p (ix2 a c) else vK x5 h d (128 * n' + a.val) * p (ix2 a c) := by
  show vDot x5 h n hn _ (ix2 d c) + vDot x5 h n' hn' _ (ix2 d c) = _
  rw [vDot_ap, vDot_ap, ← Finset.sum_add_distrib]
  refine Finset.sum_congr rfl fun a _ => ?_
  have e0 : (Ideal.ofBits .f32 0x00000000#32 : EReal) = 0 := by simp [Ideal.ofBits, Ideal.ieee]
  show _ * (select tri p (broadcast S128x256 (Ideal.ofBits .f32 0x00000000#32)) (ix2 a c)) + _ * (select tri (broadcast S128x256 (Ideal.ofBits .f32 0x00000000#32)) p (ix2 a c)) = _
  rw [sel_ap, sel_ap, tri_ap]
  show _ * (if _ then _ else Ideal.ofBits .f32 0x00000000#32) + _ * (if _ then Ideal.ofBits .f32 0x00000000#32 else _) = _
  rw [e0]
  by_cases ha : a.val ≤ c.val % 128 <;> simp [ha]

theorem norm_ap (t : FVec Ideal S64x256 .f32 × FVec Ideal S8x256 .f32) (d : Fin 64) (c : Fin 256) :
    norm x11 h t (ix2 d c) = Ideal.div (t.1 (ix2 d c) * x11 (ix3 h d c)) (∑ j : Fin 8, t.2 (ix2 j c)) := by
  refine (norm_aux _ t.1 t.2 d c).trans ?_
  rw [vsLd_ap]

end Pair

end Cert.Proof.KernelIdeal

end
-- ==== Proof.Sum.lean ====
/-
  One pair of query heads as a whole: the blocks' maxima and sums taken together are those of the whole row of keys, so that
  each entry of the pair's result is the weighted mean of the values over all keys, those not visible having weight zero.
-/
module

public import proofs.«01_k».proof.Proof.Tile2

@[expose] public section

set_option maxRecDepth 16384
set_option maxHeartbeats 400000

noncomputable section

namespace Cert.Proof.KernelIdeal

open Cert.KernelIdeal
open Cert.KernelIdeal.Facts₀ Cert.KernelIdeal.Facts
open Idealize.ShloMosaic Idealize.ShloMosaic.TcCoe
open Cert.Proof.Scal

variable [Facts]

/-! ## Blocks and rows -/

/-- The row of the query block `qb` sees the key. -/
abbrev Vis (qb r k : ℕ) : Prop := k ≤ 128 * qb + r ∧ 128 * qb + r < k + 1024

theorem sum_keys (f : ℕ → EReal) : ∑ k : Fin 4096, f k.val = ∑ a : Fin 128, ∑ b ∈ Finset.range 32, f (128 * b + a.val) := by
  have e : ∑ k : Fin 4096, f k.val = ∑ p : Fin 32 × Fin 128, f (128 * p.1.val + p.2.val) := by
    refine (Fintype.sum_equiv (finProdFinEquiv (m := 32) (n := 128)) _ (fun k : Fin (32 * 128) => f k.val) fun p => ?_).symm
    rw [finProdFinEquiv_apply_val, add_comm]
  rw [e, Fintype.sum_prod_type, Finset.sum_comm]
  exact Finset.sum_congr rfl fun a _ => (Finset.sum_range fun b => f (128 * b + a.val)).symm

/-- A sum over all keys, zero off the visible ones, by the blocks that the kernel takes. -/
theorem sum_blocks (f : ℕ → EReal) (qb r : ℕ) (hqb : qb < 32) (hr : r < 128) (hf : ∀ k, k < 4096 → ¬ Vis qb r k → f k = 0) :
    ∑ k : Fin 4096, f k.val =
      (∑ a : Fin 128, if a.val ≤ r then f (128 * qb + a.val) else if 8 ≤ qb then f (128 * (qb - 8) + a.val) else 0) +
        ∑ j : Fin (nW qb), ∑ a : Fin 128, f (128 * (qb - nW qb + j.val) + a.val) := by
  rw [sum_keys, Finset.sum_comm (s := (Finset.univ : Finset (Fin (nW qb)))), ← Finset.sum_add_distrib]
  refine Finset.sum_congr rfl fun a _ => ?_
  have ha := a.isLt
  have hn : nW qb = min qb 7 := rfl
  have hI : ∑ j : Fin (nW qb), f (128 * (qb - nW qb + j.val) + a.val) = ∑ b ∈ Finset.Ico (qb - nW qb) qb, f (128 * b + a.val) := by
    rw [Finset.sum_Ico_eq_sum_range, show qb - (qb - nW qb) = nW qb by omega]
    exact (Finset.sum_range fun j => f (128 * (qb - nW qb + j) + a.val)).symm
  rw [hI]
  have sub : ∀ lo hi : ℕ, hi ≤ 32 → (∀ b, b < 32 → ¬ (lo ≤ b ∧ b < hi) → ¬ Vis qb r (128 * b + a.val)) →
      ∑ b ∈ Finset.range 32, f (128 * b + a.val) = ∑ b ∈ Finset.Ico lo hi, f (128 * b + a.val) := fun lo hi hh h => by
    refine (Finset.sum_subset (fun b hb => ?_) fun b hb hb' => ?_).symm
    · rw [Finset.mem_Ico] at hb; rw [Finset.mem_range]; omega
    · rw [Finset.mem_Ico] at hb'; rw [Finset.mem_range] at hb
      exact hf _ (by omega) (h b hb hb')
  by_cases har : a.val ≤ r
  · rw [if_pos har, sub (qb - nW qb) (qb + 1) (by omega) (fun b hb h => by unfold Vis; omega), Finset.sum_Ico_succ_top (by omega), add_comm]
  · rw [if_neg har]
    by_cases h8 : 8 ≤ qb
    · rw [if_pos h8, sub (qb - 8) qb (by omega) (fun b hb h => by unfold Vis; omega), Finset.sum_eq_sum_Ico_succ_bot (by omega),
        show qb - 8 + 1 = qb - nW qb by omega]
    · rw [if_neg h8, sub (qb - nW qb) qb (by omega) (fun b hb h => by unfold Vis; omega), zero_add]

/-- The maximum over all keys, by the blocks that the kernel takes. -/
theorem sup_blocks (t : ℕ → EReal) (qb r : ℕ) (hqb : qb < 32) (hr : r < 128) (B : EReal) :
    (Finset.univ.sup fun k : Fin 4096 => if Vis qb r k.val then t k.val else ⊥) ≤ B ↔
      (∀ a : Fin 128, (if a.val ≤ r then t (128 * qb + a.val) else if 8 ≤ qb then t (128 * (qb - 8) + a.val) else ⊥) ≤ B) ∧
        ∀ j : Fin (nW qb), ∀ a : Fin 128, t (128 * (qb - nW qb + j.val) + a.val) ≤ B := by
  have hn : nW qb = min qb 7 := rfl
  rw [Finset.sup_le_iff]
  constructor
  · intro h
    have g : ∀ k, k < 4096 → Vis qb r k → t k ≤ B := fun k hk hv => by
      have := h ⟨k, hk⟩ (Finset.mem_univ _)
      rwa [if_pos hv] at this
    refine ⟨fun a => ?_, fun j a => ?_⟩
    · have ha := a.isLt
      split
      · exact g _ (by omega) (by unfold Vis; omega)
      · split
        · exact g _ (by omega) (by unfold Vis; omega)
        · exact bot_le
    · have ha := a.isLt
      have hj := j.isLt
      exact g _ (by omega) (by unfold Vis; omega)
  · rintro ⟨h0, h1⟩ k _
    have hk := k.isLt
    split
    · rename_i hv
      unfold Vis at hv
      have ek : 128 * (k.val / 128) + k.val % 128 = k.val := Nat.div_add_mod _ _
      have hm : k.val % 128 < 128 := Nat.mod_lt _ (by decide)
      by_cases hb : k.val / 128 = qb
      · have := h0 ⟨k.val % 128, hm⟩
        rw [if_pos (show k.val % 128 ≤ r by omega)] at this
        dsimp only at this
        rwa [← hb, ek] at this
      by_cases hb' : k.val / 128 < qb - nW qb
      · have := h0 ⟨k.val % 128, hm⟩
        rw [if_neg (show ¬ k.val % 128 ≤ r by omega), if_pos (show 8 ≤ qb by omega)] at this
        dsimp only at this
        rwa [show qb - 8 = k.val / 128 by omega, ek] at this
      · have := h1 ⟨k.val / 128 - (qb - nW qb), by omega⟩ ⟨k.val % 128, hm⟩
        dsimp only at this
        rwa [show qb - nW qb + (k.val / 128 - (qb - nW qb)) = k.val / 128 by omega, ek] at this
    · exact bot_le

/-! ## The eight rows of a partial sum and of a partial maximum -/

theorem sum_rows (f : Fin 128 → EReal) : ∑ j : Fin 8, ∑ x : Fin 16, f ⟨x.val * 8 + j.val, by omega⟩ = ∑ a : Fin 128, f a := by
  rw [Finset.sum_comm, ← Fintype.sum_prod_type (f := fun p : Fin 16 × Fin 8 => f ⟨p.1.val * 8 + p.2.val, by omega⟩)]
  refine Fintype.sum_equiv (finProdFinEquiv (m := 16) (n := 8)) _ (fun a : Fin (16 * 8) => f a) fun p => congrArg f (Fin.ext ?_)
  rw [finProdFinEquiv_apply_val]
  show p.1.val * 8 + p.2.val = _
  rw [add_comm, mul_comm]

theorem rows_le (f : Fin 128 → EReal) (B : EReal) : (∀ j : Fin 8, ∀ x : Fin 16, f ⟨x.val * 8 + j.val, by omega⟩ ≤ B) ↔ ∀ a, f a ≤ B := by
  refine ⟨fun h a => ?_, fun h j x => h _⟩
  have := h ⟨a.val % 8, by omega⟩ ⟨a.val / 8, by omega⟩
  rwa [show (⟨a.val / 8 * 8 + a.val % 8, by omega⟩ : Fin 128) = a from Fin.ext (by show a.val / 8 * 8 + a.val % 8 = a.val; omega)] at this

/-! ## The loops -/

theorem iter_max {n : ℕ} (S : Fin n → FVec Ideal S128x256 .f32) (a : FVec Ideal S8x256 .f32) (c : Fin 256) (j : Fin 8) (B : EReal) :
    iter (fun k a => max8 a (S k)) a (ix2 j c) ≤ B ↔ a (ix2 j c) ≤ B ∧ ∀ k : Fin n, ∀ x : Fin 16, S k (ix2 ⟨x.val * 8 + j.val, by omega⟩ c) ≤ B := by
  have h : ∀ m, m ≤ n → (iterTo (fun k a => max8 a (S k)) a m (ix2 j c) ≤ B ↔
      a (ix2 j c) ≤ B ∧ ∀ k : Fin n, k.val < m → ∀ x : Fin 16, S k (ix2 ⟨x.val * 8 + j.val, by omega⟩ c) ≤ B) := by
    intro m
    induction m with
    | zero => exact fun _ => ⟨fun h => ⟨h, fun k hk => absurd hk (Nat.not_lt_zero _)⟩, fun h => h.1⟩
    | succ m ih =>
      intro hm
      have e := iterTo_succ (fun k a => max8 a (S k)) a ⟨m, hm⟩
      dsimp only at e
      rw [e, max8_ap, max_le_iff, ih (by omega), Finset.sup_le_iff]
      constructor
      · rintro ⟨⟨h0, h1⟩, h2⟩
        refine ⟨h0, fun k hk x => ?_⟩
        rcases Nat.lt_succ_iff_lt_or_eq.mp hk with hk | hk
        · exact h1 k hk x
        · obtain rfl : k = ⟨m, hm⟩ := Fin.ext hk
          exact h2 x (Finset.mem_univ _)
      · rintro ⟨h0, h1⟩
        exact ⟨⟨h0, fun k hk x => h1 k (by omega) x⟩, fun x _ => h1 ⟨m, hm⟩ (Nat.lt_succ_self m) x⟩
  exact (h n le_rfl).trans ⟨fun h => ⟨h.1, fun k => h.2 k k.isLt⟩, fun h => ⟨h.1, fun k _ => h.2 k⟩⟩

theorem iter_add {n : ℕ} {s s' : Shape} (A : Fin n → FVec Ideal s .f32) (B : Fin n → FVec Ideal s' .f32) (t : FVec Ideal s .f32 × FVec Ideal s' .f32) :
    (∀ i, (iter (fun k t => (addf t.1 (A k), addf t.2 (B k))) t).1 i = t.1 i + ∑ k, A k i) ∧
      ∀ i, (iter (fun k t => (addf t.1 (A k), addf t.2 (B k))) t).2 i = t.2 i + ∑ k, B k i := by
  have h : ∀ m, m ≤ n → (∀ i, (iterTo (fun k t => (addf t.1 (A k), addf t.2 (B k))) t m).1 i = t.1 i + ∑ k ∈ Finset.range m, if h : k < n then A ⟨k, h⟩ i else 0) ∧
      ∀ i, (iterTo (fun k t => (addf t.1 (A k), addf t.2 (B k))) t m).2 i = t.2 i + ∑ k ∈ Finset.range m, if h : k < n then B ⟨k, h⟩ i else 0 := by
    intro m
    induction m with
    | zero => exact fun _ => ⟨fun i => by simp [iterTo], fun i => by simp [iterTo]⟩
    | succ m ih =>
      intro hm
      have e := iterTo_succ (fun k t => (addf t.1 (A k), addf t.2 (B k))) t ⟨m, hm⟩
      dsimp only at e
      rw [e]
      refine ⟨fun i => ?_, fun i => ?_⟩
      · show (iterTo (fun k t => (addf t.1 (A k), addf t.2 (B k))) t m).1 i + A ⟨m, hm⟩ i = _
        rw [(ih (by omega)).1, Finset.sum_range_succ, dif_pos (show m < n from hm), add_assoc]
      · show (iterTo (fun k t => (addf t.1 (A k), addf t.2 (B k))) t m).2 i + B ⟨m, hm⟩ i = _
        rw [(ih (by omega)).2, Finset.sum_range_succ, dif_pos (show m < n from hm), add_assoc]
  refine ⟨fun i => ((h n le_rfl).1 i).trans ?_, fun i => ((h n le_rfl).2 i).trans ?_⟩
  · rw [Finset.sum_range]
    exact congrArg _ (Finset.sum_congr rfl fun k _ => dif_pos k.isLt)
  · rw [Finset.sum_range]
    exact congrArg _ (Finset.sum_congr rfl fun k _ => dif_pos k.isLt)

/-! ## The pair -/

section Pair

variable (x3 : Vec Ideal S1x8x4096x64 .fp8e4m3) (x10 : Vec Ideal S8x4096x128 .f32) (x5 : Vec Ideal S1x8x32x64x128 .fp8e4m3) (x11 : Vec Ideal S8x64x256 .f32)
variable (h : Fin 8) (q : FVec Ideal S64x256 .fp8e4m3) (qc : FVec Ideal S1x256 .f32) (qb : ℕ) (hqb : qb < 32)

/-- The row of scores of the query in column `c`. -/
def uK (c : Fin 256) (k : Fin 4096) : EReal := if Vis qb (c.val % 128) k.val then tK x3 x10 h q c k.val else ⊥

theorem cS_ap (k : Fin (nW qb)) (a : Fin 128) (c : Fin 256) :
    cS x3 x10 h q qb hqb k (ix2 a c) = tK x3 x10 h q c (128 * (qb - nW qb + k.val) + a.val) := sFull_ap _ _ _ _ _ _ _ _

theorem cM_sup (c : Fin 256) : (Finset.univ.sup fun j : Fin 8 => cM x3 x10 h q qb hqb (ix2 j c)) = Finset.univ.sup (uK x3 x10 h q qb c) := by
  refine eq_of_forall_ge_iff fun B => ?_
  refine Iff.trans ?_ (sup_blocks (tK x3 x10 h q c) qb (c.val % 128) hqb (Nat.mod_lt _ (by decide)) B).symm
  rw [Finset.sup_le_iff]
  have e : ∀ j : Fin 8, cM x3 x10 h q qb hqb (ix2 j c) ≤ B ↔
      (∀ x : Fin 16, cS0 x3 x10 h q qb hqb (ix2 ⟨x.val * 8 + j.val, by omega⟩ c) ≤ B) ∧
        ∀ k : Fin (nW qb), ∀ x : Fin 16, cS x3 x10 h q qb hqb k (ix2 ⟨x.val * 8 + j.val, by omega⟩ c) ≤ B := fun j => by
    unfold cM
    rw [iter_max, max8_ap, max_le_iff, Finset.sup_le_iff]
    refine and_congr_left fun _ => ⟨fun hh x => hh.2 x (Finset.mem_univ _), fun hh => ⟨?_, fun x _ => hh x⟩⟩
    show Ideal.ofBits .f32 0xFF800000#32 ≤ B
    rw [ofBits_bot]
    exact bot_le
  constructor
  · intro hh
    refine ⟨fun a => ?_, fun k a => ?_⟩
    · have := (rows_le (fun a => cS0 x3 x10 h q qb hqb (ix2 a c)) B).mp (fun j x => ((e j).mp (hh j (Finset.mem_univ _))).1 x) a
      rwa [cS0_ap] at this
    · have := (rows_le (fun a => cS x3 x10 h q qb hqb k (ix2 a c)) B).mp (fun j x => ((e j).mp (hh j (Finset.mem_univ _))).2 k x) a
      rwa [cS_ap] at this
  · rintro ⟨h0, h1⟩ j _
    refine (e j).mpr ⟨fun x => ?_, fun k x => ?_⟩
    · rw [cS0_ap]; exact h0 _
    · rw [cS_ap]; exact h1 _ _

/-- The weight of a score. -/
abbrev wt (g o s : EReal) : EReal := Ideal.exp2 (s * g - o)

theorem wt_bot (g o : EReal) (hg : 0 < g) : wt g o ⊥ = 0 := by
  unfold wt
  rw [EReal.bot_mul_of_pos hg, sub_eq_add_neg, EReal.bot_add, exp2_bot]

variable (hq : ∀ c, 0 < qc (ix2 0 c)) (o : FVec Ideal S1x256 .f32)

include hq in
theorem cO_ap (d : Fin 64) (c : Fin 256) :
    (cO x3 x10 x5 h q qc qb hqb o).1 (ix2 d c) = ∑ k : Fin 4096, vK x5 h d k.val * wt (qc (ix2 0 c)) (o (ix2 0 c)) (uK x3 x10 h q qb c k) ∧
      ∑ j : Fin 8, (cO x3 x10 x5 h q qc qb hqb o).2 (ix2 j c) = ∑ k : Fin 4096, wt (qc (ix2 0 c)) (o (ix2 0 c)) (uK x3 x10 h q qb c k) := by
  have hr : c.val % 128 < 128 := Nat.mod_lt _ (by decide)
  have h0 := wt_bot (qc (ix2 0 c)) (o (ix2 0 c)) (hq c)
  obtain ⟨h1, h2⟩ := iter_add (n := nW qb)
    (fun k => vDot x5 h (qb - nW qb + k.val) (vn_ok qb hqb k) (truncf .fp8e4m3 (wts qc o (cS x3 x10 h q qb hqb k)) bitsLt_fp8e4m3_f32))
    (fun k => sum8 (wts qc o (cS x3 x10 h q qb hqb k)))
    (oMix x5 h qb (qb - 8) (by omega) (by omega) (wts qc o (cS0 x3 x10 h q qb hqb)), sum8 (wts qc o (cS0 x3 x10 h q qb hqb)))
  have e1 : ∀ k : Fin (nW qb), ∀ a, wts qc o (cS x3 x10 h q qb hqb k) (ix2 a c) =
      wt (qc (ix2 0 c)) (o (ix2 0 c)) (tK x3 x10 h q c (128 * (qb - nW qb + k.val) + a.val)) := fun k a => by
    rw [wts_ap, cS_ap]
  have e0 : ∀ a, wts qc o (cS0 x3 x10 h q qb hqb) (ix2 a c) = wt (qc (ix2 0 c)) (o (ix2 0 c))
      (if a.val ≤ c.val % 128 then tK x3 x10 h q c (128 * qb + a.val) else if 8 ≤ qb then tK x3 x10 h q c (128 * (qb - 8) + a.val) else ⊥) := fun a => by
    rw [wts_ap, cS0_ap]
  have hn : nW qb = min qb 7 := rfl
  have uV : ∀ k, k < 4096 → Vis qb (c.val % 128) k → (if Vis qb (c.val % 128) k then tK x3 x10 h q c k else ⊥) = tK x3 x10 h q c k := fun k _ hv => if_pos hv
  constructor
  · refine (h1 (ix2 d c)).trans ?_
    show oMix x5 h qb (qb - 8) _ _ _ (ix2 d c) + _ = _
    refine Eq.trans ?_ (sum_blocks (fun k => vK x5 h d k * wt (qc (ix2 0 c)) (o (ix2 0 c)) (if Vis qb (c.val % 128) k then tK x3 x10 h q c k else ⊥)) qb (c.val % 128) hqb hr
      (fun k hk hv => by rw [if_neg hv, h0, mul_zero])).symm
    rw [oMix_ap]
    refine congrArg₂ (· + ·) (Finset.sum_congr rfl fun a _ => ?_) (Finset.sum_congr rfl fun k _ => ?_)
    · have ha := a.isLt
      rw [e0]
      by_cases har : a.val ≤ c.val % 128
      · simp only [if_pos har]
        rw [uV _ (by omega) (by unfold Vis; omega)]
      · simp only [if_neg har]
        by_cases h8 : 8 ≤ qb
        · simp only [if_pos h8]
          rw [uV _ (by omega) (by unfold Vis; omega)]
        · simp only [if_neg h8]
          rw [h0, mul_zero]
    · rw [vDot_ap]
      refine Finset.sum_congr rfl fun a _ => ?_
      have ha := a.isLt
      have hk := k.isLt
      rw [uV _ (by omega) (by unfold Vis; omega)]
      exact congrArg _ (e1 k a)
  · simp only [cO]
    simp only [h2]
    rw [Finset.sum_add_distrib]
    refine Eq.trans ?_ (sum_blocks (fun k => wt (qc (ix2 0 c)) (o (ix2 0 c)) (if Vis qb (c.val % 128) k then tK x3 x10 h q c k else ⊥)) qb (c.val % 128) hqb hr
      (fun k hk hv => by rw [if_neg hv, h0])).symm
    rw [Finset.sum_comm]
    simp only [sum8_ap]
    refine congrArg₂ (· + ·) ?_ (Finset.sum_congr rfl fun k _ => ?_)
    · rw [sum_rows (fun a => wts qc o (cS0 x3 x10 h q qb hqb) (ix2 a c))]
      refine Finset.sum_congr rfl fun a _ => ?_
      have ha := a.isLt
      rw [e0]
      by_cases har : a.val ≤ c.val % 128
      · simp only [if_pos har]
        rw [uV _ (by omega) (by unfold Vis; omega)]
      · simp only [if_neg har]
        by_cases h8 : 8 ≤ qb
        · simp only [if_pos h8]
          rw [uV _ (by omega) (by unfold Vis; omega)]
        · simp only [if_neg h8]
          rw [h0]
    · rw [sum_rows (fun a => wts qc o (cS x3 x10 h q qb hqb k) (ix2 a c))]
      refine Finset.sum_congr rfl fun a _ => ?_
      have ha := a.isLt
      have hk := k.isLt
      rw [uV _ (by omega) (by unfold Vis; omega)]
      exact e1 k a

include hq in
/-- An entry of the pair's result. -/
theorem cR_ap (d : Fin 64) (c : Fin 256) :
    cR x3 x10 x5 x11 h q qc qb hqb (ix2 d c) =
      Ideal.div ((∑ k : Fin 4096, vK x5 h d k.val * Ideal.exp2 (uK x3 x10 h q qb c k * qc (ix2 0 c) - (Finset.univ.sup (uK x3 x10 h q qb c) * qc (ix2 0 c) - (lq : EReal)))) * x11 (ix3 h d c))
        (∑ k : Fin 4096, Ideal.exp2 (uK x3 x10 h q qb c k * qc (ix2 0 c) - (Finset.univ.sup (uK x3 x10 h q qb c) * qc (ix2 0 c) - (lq : EReal)))) := by
  unfold cR
  obtain ⟨h1, h2⟩ := cO_ap x3 x10 x5 h q qc qb hqb hq (mq qc (cM x3 x10 h q qb hqb)) d c
  rw [norm_ap, h1, h2, mq_ap, cM_sup]

end Pair

end Cert.Proof.KernelIdeal

end
-- ==== Proof.RefVal.lean ====
/-
  The reference's arrays read at an index, as extended reals: the quantised queries, the masked scores, their softmax, and the result.
-/
module

public import proofs.«01_k».proof.Proof.Gen.ReferenceIdeal.Skeleton
public import proofs.«01_k».proof.Proof.Scal
public import Idealize.ShloMosaic.Lib.Pointwise

@[expose] public section

set_option maxRecDepth 16384
set_option maxHeartbeats 400000

noncomputable section

namespace Cert.Proof.ReferenceIdeal

open Cert.ReferenceIdeal Cert.ReferenceIdeal.Gen
open Idealize.ShloMosaic Idealize.ShloMosaic.TcCoe
open Cert.Proof.Scal

theorem named_448 : (Named.named κ "inv_448" (0x3B124925#32 : BitVec (FTy.bits .f32)) : Ideal .f32) = ((448⁻¹ : ℝ) : EReal) := IdealRules.named_const.ideal_named_scalar _ _ _ _ rfl
theorem named_ln2 : (Named.named κ "inv_ln2" (0x3FB8AA3B#32 : BitVec (FTy.bits .f32)) : Ideal .f32) = (((Real.log 2)⁻¹ : ℝ) : EReal) := IdealRules.named_const.ideal_named_scalar _ _ _ _ rfl

/-! ## The quantiser -/

section Quant

variable (x : Vec Ideal S8x4096x2048 .bf16)

/-- The query of one row and head. -/
def rowX (b : Fin 8) (s : Fin 4096) (n : Fin 32) (d : Fin 64) : EReal := x (ix3 b s ⟨n.val * 64 + d.val, by omega⟩)

theorem pay2_ap (b : Fin 8) (s : Fin 4096) (n : Fin 32) (d : Fin 64) : k0_pay2 (F := Ideal) x (ix4 b s n d) = rowX x b s n d := by
  unfold k0_pay2
  pointwise
  rfl

theorem amax_ap (v : FVec Ideal S8x4096x32x64 .f32) (b : Fin 8) (s : Fin 4096) (n : Fin 32) :
    multiReduction .maximumf [3] S8x4096x32 (absf v) 0xFF800000#32 reduces_S8x4096x32x64_S8x4096x32 (.inl rfl) rfl (ix3 b s n) =
      Finset.univ.fold max ⊥ fun d : Fin 64 => max (v (ix4 b s n d)) (-v (ix4 b s n d)) := by
  pointwise
  rw [ofBits_bot]
  rfl

theorem exp_ap (A : FVec Ideal S8x4096x32 .f32) (j : S8x4096x32.Idx) :
    select (cmpf .oeq A (broadcast S8x4096x32 (Scalar.ofBits .f32 0x00000000#32))) (broadcast S8x4096x32 (Scalar.ofBits .f32 0x00000000#32))
      (addf (floor (mulf (log (mulf A (broadcast S8x4096x32 (Named.named κ "inv_448" 0x3B124925#32))))
        (broadcast S8x4096x32 (Named.named κ "inv_ln2" 0x3FB8AA3B#32)))) (broadcast S8x4096x32 (Scalar.ofBits .f32 0x3F800000#32))) j =
      if A j = 0 then 0 else Ideal.liftRound Int.floor (Ideal.log (A j * ((448⁻¹ : ℝ) : EReal)) * (((Real.log 2)⁻¹ : ℝ) : EReal)) + 1 := by
  pointwise
  rw [named_448, named_ln2]

theorem pay3_ap (b : Fin 8) (s : Fin 4096) (n : Fin 32) : k0_pay3 (F := Ideal) x (ix3 b s n) = qe (rowX x b s n) := by
  have h := exp_ap (multiReduction .maximumf [3] S8x4096x32 (absf (k0_pay2 x)) 0xFF800000#32 reduces_S8x4096x32x64_S8x4096x32 (.inl rfl) rfl) (ix3 b s n)
  rw [amax_ap] at h
  refine Eq.trans ?_ (h.trans ?_)
  · rfl
  · simp only [pay2_ap]
    rfl

theorem clip_ap (A : FVec Ideal S8x4096x32 .f32) (B : FVec Ideal S8x4096x32x64 .f32) (b : Fin 8) (s : Fin 4096) (n : Fin 32) (d : Fin 64) :
    truncf .fp8e4m3 (minimumf (broadcast S8x4096x32x64 (Scalar.ofBits .f32 0x43E00000#32)) (maximumf (broadcast S8x4096x32x64 (Scalar.ofBits .f32 0xC3E00000#32))
      (mulf B (broadcastTo S8x4096x32x64 (shapeCast S8x4096x32x1 (exp2 (subf (broadcast S8x4096x32 (Scalar.ofBits .f32 0x00000000#32)) A)) shapeCasts_S8x4096x32_S8x4096x32x1)
        broadcasts_S8x4096x32x1_S8x4096x32x64)))) bitsLt_fp8e4m3_f32 (ix4 b s n d) =
      min ((448 : ℝ) : EReal) (max ((-448 : ℝ) : EReal) (B (ix4 b s n d) * Ideal.exp2 (0 - A (ix3 b s n)))) := by
  pointwise
  rw [ofBits_448, ofBits_neg448]
  rfl

theorem pay4_ap (b : Fin 8) (s : Fin 4096) (n : Fin 32) (d : Fin 64) : k0_pay4 (F := Ideal) x (ix4 b s n d) = code (rowX x b s n) d := by
  have h := clip_ap (k0_pay3 (F := Ideal) x) (k0_pay2 (F := Ideal) x) b s n d
  rw [pay3_ap, pay2_ap] at h
  exact h

theorem pay5_ap (b : Fin 8) (s : Fin 4096) (c : Fin 2048) :
    k0_pay5 (F := Ideal) x (ix3 b s c) = code (rowX x b s ⟨c.val / 64, by omega⟩) ⟨c.val % 64, by omega⟩ := by
  unfold k0_pay5
  generalize hA : k0_pay4 (F := Ideal) x = A
  pointwise
  rw [← hA]
  exact pay4_ap _ _ _ _ _

theorem scale_ap (A : FVec Ideal S8x4096x32 .f32) (b : Fin 8) (n : Fin 32) (s : Fin 4096) :
    transpose S8x32x4096 [0, 2, 1] (exp2 A) transposes_S8x4096x32_p0_2_1_S8x32x4096 (ix3 b n s) = Ideal.exp2 (A (ix3 b s n)) := by
  pointwise
  rfl

theorem pay6_ap (b : Fin 8) (n : Fin 32) (s : Fin 4096) : k0_pay6 (F := Ideal) x (ix3 b n s) = Ideal.exp2 (qe (rowX x b s n)) := by
  have h := scale_ap (k0_pay3 (F := Ideal) x) b n s
  rw [pay3_ap] at h
  exact h

theorem pay7_ap (p : Fin 64) (m : Fin 16384) (d : Fin 64) :
    k0_pay7 (F := Ideal) x (ix3 p m d) =
      code (rowX x ⟨p.val / 8, by omega⟩ ⟨m.val % 4096, by omega⟩ ⟨p.val % 8 * 4 + m.val / 4096, by omega⟩) d := by
  unfold k0_pay7
  generalize hA : k0_pay4 (F := Ideal) x = A
  pointwise
  rw [← hA]
  exact pay4_ap _ _ _ _ _

end Quant

/-! ## The softmax -/

section Soft

variable (v31 : FVec Ideal S8x32x4096 .f32) (v34 : FVec Ideal S64x16384x64 .fp8e4m3) (v35 : Vec Ideal S8x8x4096x64 .fp8e4m3) (v43 : Vec Ideal S8x8x4096 .f32)

/-- The products of queries and keys. -/
def acc : FVec Ideal S8x8x4x4096x4096 .f32 :=
  shapeCast S8x8x4x4096x4096 (matmul dot_S64x16384x64_S64x4096x64_S64x16384x4096_2_2_1_1_0_0 none v34
    (shapeCast S64x4096x64 v35 shapeCasts_S8x8x4096x64_S64x4096x64 : FVec Ideal S64x4096x64 .fp8e4m3) (constant S64x16384x4096 .f32 0x00000000#32)) shapeCasts_S64x16384x4096_S8x8x4x4096x4096

/-- The queries' scales over the scores. -/
def qsB : FVec Ideal S8x8x4x4096x4096 .f32 :=
  broadcastTo S8x8x4x4096x4096 (shapeCast S8x8x4x4096x1 (shapeCast S8x8x4x4096 v31 shapeCasts_S8x32x4096_S8x8x4x4096 : FVec Ideal S8x8x4x4096 .f32) shapeCasts_S8x8x4x4096_S8x8x4x4096x1 : FVec Ideal S8x8x4x4096x1 .f32)
    broadcasts_S8x8x4x4096x1_S8x8x4x4096x4096

/-- The keys' scales over the scores. -/
def ksB : FVec Ideal S8x8x4x4096x4096 .f32 :=
  broadcastTo S8x8x4x4096x4096 (shapeCast S8x8x1x1x4096 v43 shapeCasts_S8x8x4096_S8x8x1x1x4096 : FVec Ideal S8x8x1x1x4096 .f32) broadcasts_S8x8x1x1x4096_S8x8x4x4096x4096

/-- Where a key is visible. -/
def vis : IVec S4096x4096 1 :=
  andi (cmpi .sge (subi (iota .tc S4096x4096 32 [0] iota_S4096x4096_d0_w32) (iota .tc S4096x4096 32 [1] iota_S4096x4096_d1_w32)) (broadcast S4096x4096 0#32))
    (cmpi .slt (subi (iota .tc S4096x4096 32 [0] iota_S4096x4096_d0_w32) (iota .tc S4096x4096 32 [1] iota_S4096x4096_d1_w32)) (broadcast S4096x4096 1024#32))

/-- The mask over the scores. -/
def visB : IVec S8x8x4x4096x4096 1 :=
  broadcastTo S8x8x4x4096x4096 (shapeCast S1x1x1x4096x4096 (shapeCast S1x1x1x4096x4096 vis shapeCasts_S4096x4096_S1x1x1x4096x4096 : IVec S1x1x1x4096x4096 1) shapeCasts_S1x1x1x4096x4096_S1x1x1x4096x4096 : IVec S1x1x1x4096x4096 1)
    broadcasts_S1x1x1x4096x4096_S8x8x4x4096x4096

/-- The masked scores. -/
def score : FVec Ideal S8x8x4x4096x4096 .f32 :=
  select visB (mulf (mulf (mulf (acc v34 v35) (qsB v31)) (ksB v43)) (broadcast S8x8x4x4096x4096 (Scalar.ofBits .f32 0x3E000000#32)))
    (broadcast S8x8x4x4096x4096 (Scalar.ofBits .f32 0xFF800000#32))

theorem pay8_eq : k0_pay8 (F := Ideal) v31 v34 v35 v43 =
    exp (subf (score v31 v34 v35 v43) (broadcastTo S8x8x4x4096x4096 (shapeCast S8x8x4x4096x1 (multiReduction .maximumf [4] S8x8x4x4096 (score v31 v34 v35 v43) 0xFF800000#32
      reduces_S8x8x4x4096x4096_S8x8x4x4096 (.inl rfl) rfl : FVec Ideal S8x8x4x4096 .f32) shapeCasts_S8x8x4x4096_S8x8x4x4096x1 : FVec Ideal S8x8x4x4096x1 .f32) broadcasts_S8x8x4x4096x1_S8x8x4x4096x4096)) := rfl

theorem acc_ap (b h : Fin 8) (g : Fin 4) (q k : Fin 4096) :
    acc v34 v35 (ix5 b h g q k) = ∑ d : Fin 64, v34 (ix3 ⟨b.val * 8 + h.val, by omega⟩ ⟨g.val * 4096 + q.val, by omega⟩ d) * v35 (ix4 b h k d) := by
  unfold acc
  pointwise

theorem qsB_ap (b h : Fin 8) (g : Fin 4) (q k : Fin 4096) : qsB v31 (ix5 b h g q k) = v31 (ix3 b ⟨h.val * 4 + g.val, by omega⟩ q) := by
  unfold qsB
  pointwise

theorem ksB_ap (b h : Fin 8) (g : Fin 4) (q k : Fin 4096) : ksB v43 (ix5 b h g q k) = v43 (ix3 b h k) := by
  unfold ksB
  pointwise

theorem vis_ap (q k : Fin 4096) : vis (ix2 q k) = if k.val ≤ q.val ∧ q.val < k.val + 1024 then 1#1 else 0#1 := by
  unfold vis
  pointwise
  have hi : (IntOp.subi (BitVec.ofNat 32 q.val) (BitVec.ofNat 32 k.val)).toInt = (q.val : ℤ) - k.val := by
    have := q.isLt; have := k.isLt
    unfold IntOp.subi
    rw [BitVec.toInt_sub, BitVec.toInt_ofNat', BitVec.toInt_ofNat']
    simp only [Int.bmod_def]
    split <;> split <;> split <;> omega
  unfold IntOp.cmpi
  simp only [BitVec.sle, BitVec.slt, hi]
  rw [show decide ((0#32).toInt ≤ (q.val : ℤ) - k.val) = decide (k.val ≤ q.val) from decide_eq_decide.mpr (by rw [show (0#32).toInt = 0 from rfl]; omega),
    show decide ((q.val : ℤ) - k.val < (1024#32).toInt) = decide (q.val < k.val + 1024) from decide_eq_decide.mpr (by rw [show (1024#32).toInt = 1024 from rfl]; omega)]
  by_cases h1 : k.val ≤ q.val <;> by_cases h2 : q.val < k.val + 1024 <;> simp [h1, h2] <;> rfl

theorem visB_ap (b h : Fin 8) (g : Fin 4) (q k : Fin 4096) : visB (ix5 b h g q k) = vis (ix2 q k) := by
  unfold visB
  generalize vis = V
  pointwise

theorem max_ap (v : FVec Ideal S8x8x4x4096x4096 .f32) (b h : Fin 8) (g : Fin 4) (q k : Fin 4096) :
    broadcastTo S8x8x4x4096x4096 (shapeCast S8x8x4x4096x1 (multiReduction .maximumf [4] S8x8x4x4096 v 0xFF800000#32
      reduces_S8x8x4x4096x4096_S8x8x4x4096 (.inl rfl) rfl : FVec Ideal S8x8x4x4096 .f32) shapeCasts_S8x8x4x4096_S8x8x4x4096x1 : FVec Ideal S8x8x4x4096x1 .f32) broadcasts_S8x8x4x4096x1_S8x8x4x4096x4096 (ix5 b h g q k)
      = Finset.univ.sup fun k : Fin 4096 => v (ix5 b h g q k) := by
  pointwise
  rw [ofBits_bot, fold_max]

theorem pay9_ap (v : FVec Ideal S8x8x4x4096x4096 .f32) (b h : Fin 8) (g : Fin 4) (q : Fin 4096) :
    multiReduction .add [4] S8x8x4x4096 v 0x00000000#32 reduces_S8x8x4x4096x4096_S8x8x4x4096 (.inl rfl) rfl (ix4 b h g q) = ∑ k : Fin 4096, v (ix5 b h g q k) := by
  pointwise

theorem pay10_ap (v : FVec Ideal S8x8x4x4096x4096 .f32) (j : S8x8x4x4096x4096.Idx) :
    truncf .fp8e4m3 (minimumf (broadcast S8x8x4x4096x4096 (Scalar.ofBits .f32 0x43E00000#32)) (maximumf (broadcast S8x8x4x4096x4096 (Scalar.ofBits .f32 0xC3E00000#32))
      (mulf v (broadcast S8x8x4x4096x4096 (Scalar.ofBits .f32 0x43E00000#32))))) bitsLt_fp8e4m3_f32 j =
      min ((448 : ℝ) : EReal) (max ((-448 : ℝ) : EReal) (v j * ((448 : ℝ) : EReal))) := by
  pointwise
  rw [ofBits_448, ofBits_neg448]

theorem pay11_ap (v75 : Vec Ideal S8x8x32x64x128 .fp8e4m3) (p : Fin 64) (k : Fin 4096) (d : Fin 64) :
    k0_pay11 (F := Ideal) v75 (ix3 p k d) = v75 (ix5 ⟨p.val / 8, by omega⟩ ⟨p.val % 8, by omega⟩ ⟨k.val / 128, by omega⟩ d ⟨k.val % 128, by omega⟩) := by
  unfold k0_pay11
  pointwise

theorem pay1_dot (v74 : FVec Ideal S8x8x4x4096x4096 .fp8e4m3) (v77 : FVec Ideal S64x4096x64 .fp8e4m3) (b h : Fin 8) (g : Fin 4) (q : Fin 4096) (d : Fin 64) :
    shapeCast S8x8x4x4096x64 (matmul dot_S64x16384x4096_S64x4096x64_S64x16384x64_2_1_1_2_0_0 none
      (shapeCast S64x16384x4096 v74 shapeCasts_S8x8x4x4096x4096_S64x16384x4096 : FVec Ideal S64x16384x4096 .fp8e4m3) v77 (constant S64x16384x64 .f32 0x00000000#32)) shapeCasts_S64x16384x64_S8x8x4x4096x64 (ix5 b h g q d)
      = ∑ k : Fin 4096, v74 (ix5 b h g q k) * v77 (ix3 ⟨b.val * 8 + h.val, by omega⟩ k d) := by
  pointwise

theorem pay1_tail (v80 : FVec Ideal S8x8x4x4096x64 .f32) (v67 : FVec Ideal S8x8x4x4096 .f32) (v83 : Vec Ideal S8x1x512 .f32) (b h : Fin 8) (g : Fin 4) (q : Fin 4096) (d : Fin 64) :
    divf (mulf (mulf v80 (broadcast S8x8x4x4096x64 (Named.named κ "inv_448" 0x3B124925#32)))
      (broadcastTo S8x8x4x4096x64 (shapeCast S8x8x1x1x64 (shapeCast S8x8x64 v83 shapeCasts_S8x1x512_S8x8x64 : FVec Ideal S8x8x64 .f32) shapeCasts_S8x8x64_S8x8x1x1x64 : FVec Ideal S8x8x1x1x64 .f32) broadcasts_S8x8x1x1x64_S8x8x4x4096x64))
      (broadcastTo S8x8x4x4096x64 (shapeCast S8x8x4x4096x1 v67 shapeCasts_S8x8x4x4096_S8x8x4x4096x1 : FVec Ideal S8x8x4x4096x1 .f32) broadcasts_S8x8x4x4096x1_S8x8x4x4096x64) (ix5 b h g q d)
      = Ideal.div (v80 (ix5 b h g q d) * ((448⁻¹ : ℝ) : EReal) * v83 (ix3 b 0 ⟨h.val * 64 + d.val, by omega⟩)) (v67 (ix4 b h g q)) := by
  pointwise
  rw [named_448]

theorem sel_ap (V : IVec S8x8x4x4096x4096 1) (A Q K : FVec Ideal S8x8x4x4096x4096 .f32) (j : S8x8x4x4096x4096.Idx) :
    select V (mulf (mulf (mulf A Q) K) (broadcast S8x8x4x4096x4096 (Scalar.ofBits .f32 0x3E000000#32)))
      (broadcast S8x8x4x4096x4096 (Scalar.ofBits .f32 0xFF800000#32)) j = if V j = 1#1 then A j * Q j * K j * ((8⁻¹ : ℝ) : EReal) else ⊥ := by
  pointwise
  rw [ofBits_eighth, ofBits_bot]
  rfl

theorem expsub_ap (S M : FVec Ideal S8x8x4x4096x4096 .f32) (j : S8x8x4x4096x4096.Idx) : exp (subf S M) j = Ideal.exp (S j - M j) := by
  pointwise

theorem pay8_ap (b h : Fin 8) (g : Fin 4) (q k : Fin 4096) : k0_pay8 (F := Ideal) v31 v34 v35 v43 (ix5 b h g q k) =
    Ideal.exp (score v31 v34 v35 v43 (ix5 b h g q k) - Finset.univ.sup fun k : Fin 4096 => score v31 v34 v35 v43 (ix5 b h g q k)) := by
  rw [pay8_eq, expsub_ap, max_ap]

theorem perm_ap (v : FVec Ideal S8x8x4x4096x64 .f32) (b h : Fin 8) (g : Fin 4) (q : Fin 4096) (d : Fin 64) :
    shapeCast S8x4096x2048 (transpose S8x4096x8x4x64 [0, 3, 1, 2, 4] (truncf .bf16 v bitsLt_bf16_f32 : FVec Ideal S8x8x4x4096x64 .bf16) transposes_S8x8x4x4096x64_p0_3_1_2_4_S8x4096x8x4x64 : FVec Ideal S8x4096x8x4x64 .bf16)
      shapeCasts_S8x4096x8x4x64_S8x4096x2048 (ix3 b q ⟨h.val * 256 + g.val * 64 + d.val, by omega⟩) = v (ix5 b h g q d) := by
  pointwise

end Soft

/-! ## The results -/

/-- One entry of the plain attention: from a row of scores, a column of values and the column's scale. -/
def att {n : ℕ} (S V : Fin n → EReal) (w : EReal) : EReal :=
  Ideal.div ((∑ k, min ((448 : ℝ) : EReal) (max ((-448 : ℝ) : EReal) (Ideal.exp (S k - Finset.univ.sup S) * ((448 : ℝ) : EReal))) * V k) * ((448⁻¹ : ℝ) : EReal) * w)
    (∑ k, Ideal.exp (S k - Finset.univ.sup S))

section Result

variable (x : Vec Ideal S8x4096x2048 .bf16) (kc : Vec Ideal S8x8x4096x64 .fp8e4m3) (ks : Vec Ideal S8x8x4096 .f32)
  (vt : Vec Ideal S8x8x32x64x128 .fp8e4m3) (vs : Vec Ideal S8x1x512 .f32)

/-- One masked score. -/
def sc (b h : Fin 8) (g : Fin 4) (q k : Fin 4096) : EReal :=
  if k.val ≤ q.val ∧ q.val < k.val + 1024 then
    (∑ d : Fin 64, code (rowX x b q ⟨h.val * 4 + g.val, by omega⟩) d * kc (ix4 b h k d)) * Ideal.exp2 (qe (rowX x b q ⟨h.val * 4 + g.val, by omega⟩)) * ks (ix3 b h k) * ((8⁻¹ : ℝ) : EReal)
  else ⊥

theorem score_ap (b h : Fin 8) (g : Fin 4) (q k : Fin 4096) :
    score (k0_pay6 (F := Ideal) x) (k0_pay7 (F := Ideal) x) kc ks (ix5 b h g q k) = sc x kc ks b h g q k := by
  unfold score sc
  rw [sel_ap, visB_ap, vis_ap, acc_ap, qsB_ap, ksB_ap, pay6_ap]
  have e : ∀ d : Fin 64, k0_pay7 (F := Ideal) x (ix3 ⟨b.val * 8 + h.val, by omega⟩ ⟨g.val * 4096 + q.val, by omega⟩ d) = code (rowX x b q ⟨h.val * 4 + g.val, by omega⟩) d := fun d => by
    rw [pay7_ap]
    congr 2 <;> refine Fin.ext ?_ <;> dsimp only <;> omega
  simp only [e]
  by_cases hv : k.val ≤ q.val ∧ q.val < k.val + 1024
  · rw [if_pos hv, if_pos hv, if_pos rfl]
  · rw [if_neg hv, if_neg hv, if_neg (by decide)]

theorem out_ap (b h : Fin 8) (g : Fin 4) (q : Fin 4096) (d : Fin 64) :
    k0_pay1 (F := Ideal) (k0_pay9 (k0_pay6 x) (k0_pay7 x) kc ks) (k0_pay10 (k0_pay6 x) (k0_pay7 x) kc ks) (k0_pay11 vt) vs (ix3 b q ⟨h.val * 256 + g.val * 64 + d.val, by omega⟩) =
      att (sc x kc ks b h g q) (fun k => vt (ix5 b h ⟨k.val / 128, by omega⟩ d ⟨k.val % 128, by omega⟩)) (vs (ix3 b 0 ⟨h.val * 64 + d.val, by omega⟩)) := by
  have e9 : k0_pay9 (F := Ideal) (k0_pay6 x) (k0_pay7 x) kc ks (ix4 b h g q) = ∑ k, Ideal.exp (sc x kc ks b h g q k - Finset.univ.sup (sc x kc ks b h g q)) := by
    refine (pay9_ap (k0_pay8 (k0_pay6 x) (k0_pay7 x) kc ks) b h g q).trans ?_
    simp only [pay8_ap, score_ap]
  have e10 : ∀ k, k0_pay10 (F := Ideal) (k0_pay6 x) (k0_pay7 x) kc ks (ix5 b h g q k) =
      min ((448 : ℝ) : EReal) (max ((-448 : ℝ) : EReal) (Ideal.exp (sc x kc ks b h g q k - Finset.univ.sup (sc x kc ks b h g q)) * ((448 : ℝ) : EReal))) := fun k => by
    refine (pay10_ap (k0_pay8 (k0_pay6 x) (k0_pay7 x) kc ks) (ix5 b h g q k)).trans ?_
    simp only [pay8_ap, score_ap]
  generalize k0_pay9 (F := Ideal) (k0_pay6 x) (k0_pay7 x) kc ks = A at e9 ⊢
  generalize k0_pay10 (F := Ideal) (k0_pay6 x) (k0_pay7 x) kc ks = B at e10 ⊢
  have e11 := pay11_ap vt
  generalize k0_pay11 (F := Ideal) vt = C at e11 ⊢
  refine (perm_ap _ b h g q d).trans ?_
  refine (pay1_tail _ A vs b h g q d).trans ?_
  unfold att
  rw [pay1_dot, e9]
  simp only [e10, e11]
  have hb : ∀ k : Fin 4096, (ix5 (⟨(b.val * 8 + h.val) / 8, by omega⟩ : Fin 8) (⟨(b.val * 8 + h.val) % 8, by omega⟩ : Fin 8) (⟨k.val / 128, by omega⟩ : Fin 32) d (⟨k.val % 128, by omega⟩ : Fin 128) : S8x8x32x64x128.Idx)
      = ix5 b h ⟨k.val / 128, by omega⟩ d ⟨k.val % 128, by omega⟩ := fun k => by
    congr 1 <;> refine Fin.ext ?_ <;> dsimp only <;> omega
  simp only [hb]

end Result

end Cert.Proof.ReferenceIdeal

end
-- ==== Proof.Point.lean ====
/-
  What a grid point leaves in its blocks of the three results, as the reference's entries at the places of the blocks.
-/
module

public import proofs.«01_k».proof.Proof.Sum
public import proofs.«01_k».proof.Proof.RefVal
public import proofs.«01_k».proof.Proof.Out
public import proofs.«01_k».proof.Proof.Fill

@[expose] public section

set_option maxRecDepth 16384
set_option maxHeartbeats 400000
set_option backward.proofsInPublic true

noncomputable section

namespace Cert.Proof.KernelIdeal

open Cert.KernelIdeal
open Cert.KernelIdeal.Facts₀ Cert.KernelIdeal.Facts
open Idealize.ShloMosaic Idealize.ShloMosaic.TcCoe
open Cert.Proof.Scal
open Cert.Proof.ReferenceIdeal (rowX att sc)

variable [Facts]

variable (x : Vec Ideal S8x4096x2048 .bf16) (kc : Vec Ideal S8x8x4096x64 .fp8e4m3) (ks : Vec Ideal S8x8x4096 .f32)
  (vt : Vec Ideal S8x8x32x64x128 .fp8e4m3) (vs : Vec Ideal S8x1x512 .f32)
variable (x2 : Vec Ideal S1x512x2048 .bf16) (x3 : Vec Ideal S1x8x4096x64 .fp8e4m3) (x10 : Vec Ideal S8x4096x128 .f32) (x5 : Vec Ideal S1x8x32x64x128 .fp8e4m3) (x11 : Vec Ideal S8x64x256 .f32)
variable (b : Fin 8) (i : grid0.Coords)

/-! ## The queries -/

theorem qLoad_ap (u : Fin k0_t1_loop.trips) (h : Fin 8) (r : Fin 128) (a : Fin 256) :
    qLoad x2 u h (ix3 0 r a) = x2 (ix3 0 ⟨128 * u.val + r.val, by have := u_lt u; omega⟩ ⟨256 * h.val + a.val, by omega⟩) := by
  unfold qLoad
  refine congrArg x2 (funext fun e => ?_)
  fin_cases e
  · exact Fin.ext rfl
  · refine Fin.ext ?_
    show rowV u + 1 * r.val = 128 * u.val + r.val
    rw [rowV_eq, one_mul]
  · exact Fin.ext (congrArg (256 * h.val + ·) (one_mul _))

/-- Row `r` of query block `u` in the sequence. -/
def qPos (u : Fin k0_t1_loop.trips) (r : Fin 128) : Fin 4096 := ⟨128 * qbN i u + r.val, by have := qbN_lt i u; omega⟩

/-- The point's block of the queries is that of the batch entry and the point's rows. -/
def HasQ : Prop := ∀ (r : Fin 512) (a : Fin 2048), x2 (ix3 0 r a) = x (ix3 b ⟨512 * (i 1).val + r.val, by have := i1_lt i; omega⟩ a)

variable (h2 : HasQ x x2 b i)

include h2 in
theorem qRow_eq (u : Fin k0_t1_loop.trips) (h : Fin 8) (g : Fin 4) (r : Fin 128) :
    qRow (qLoad x2 u h) g r = rowX x b (qPos i u r) ⟨h.val * 4 + g.val, by omega⟩ := by
  funext d
  unfold qRow rowX
  rw [qLoad_ap, h2]
  refine congrArg x (funext fun e => ?_)
  fin_cases e
  · exact Fin.ext rfl
  · refine Fin.ext ?_
    show 512 * (i 1).val + (128 * u.val + r.val) = 128 * qbN i u + r.val
    unfold qbN; omega
  · refine Fin.ext ?_
    show 256 * h.val + (g.val * 64 + d.val) = (h.val * 4 + g.val) * 64 + d.val
    omega

/-! ## One entry of a pair -/

variable (h3 : ∀ (h : Fin 8) (k : Fin 4096) (d : Fin 64), x3 (ix4 0 h k d) = kc (ix4 b h k d))
variable (h10 : ∀ (h : Fin 8) (k : Fin 4096) (r : Fin 128), x10 (ix3 h k r) = ks (ix3 b h k))
variable (h5 : ∀ (h : Fin 8) (n : Fin 32) (d : Fin 64) (a : Fin 128), x5 (ix5 0 h n d a) = vt (ix5 b h n d a))
variable (h11 : ∀ (h : Fin 8) (d : Fin 64) (c : Fin 256), x11 (ix3 h d c) = vs (ix3 b 0 ⟨h.val * 64 + d.val, by omega⟩))

include h3 h10 in
/-- A masked score times its row's factor is the reference's. -/
theorem uK_mul (h : Fin 8) (g : Fin 4) (q : FVec Ideal S64x256 .bf16) (qb : ℕ) (c : Fin 256) (s k : Fin 4096) (hs : s.val = 128 * qb + c.val % 128)
    (hq : ∀ d, q (ix2 d c) = code (rowX x b s ⟨h.val * 4 + g.val, by omega⟩) d) :
    uK x3 x10 h q qb c k * (Ideal.exp2 (qe (rowX x b s ⟨h.val * 4 + g.val, by omega⟩)) * ((8⁻¹ : ℝ) : EReal)) = sc x kc ks b h g s k := by
  unfold uK sc
  by_cases hv : Vis qb (c.val % 128) k.val
  · rw [if_pos hv, if_pos (by rw [hs]; exact hv)]
    unfold tK
    rw [dif_pos k.isLt, h10]
    have e : (∑ d : Fin 64, x3 (ix4 0 h ⟨k.val, k.isLt⟩ d) * q (ix2 d c)) = ∑ d : Fin 64, code (rowX x b s ⟨h.val * 4 + g.val, by omega⟩) d * kc (ix4 b h k d) :=
      Finset.sum_congr rfl fun d _ => by rw [h3, hq, mul_comm]
    rw [e]
    generalize (∑ d : Fin 64, code (rowX x b s ⟨h.val * 4 + g.val, by omega⟩) d * kc (ix4 b h k d)) = A
    generalize Ideal.exp2 (qe (rowX x b s ⟨h.val * 4 + g.val, by omega⟩)) = E
    show A * ks (ix3 b h k) * (E * _) = A * E * ks (ix3 b h k) * _
    generalize ks (ix3 b h k) = K
    rw [mul_assoc, mul_assoc, mul_assoc, mul_left_comm K E]
  · rw [if_neg hv, if_neg (by rw [hs]; exact hv)]
    exact EReal.bot_mul_of_pos (EReal.mul_pos (scale_pos _) (EReal.coe_pos.mpr (by norm_num)))

include h3 h10 h5 h11 in
theorem pair_ap (h : Fin 8) (g : Fin 4) (q : FVec Ideal S64x256 .bf16) (qc : FVec Ideal S1x256 .f32) (qb : ℕ) (hqb : qb < 32) (hpos : ∀ c, 0 < qc (ix2 0 c))
    (d : Fin 64) (c : Fin 256) (s : Fin 4096) (hs : s.val = 128 * qb + c.val % 128)
    (hq : ∀ d, q (ix2 d c) = code (rowX x b s ⟨h.val * 4 + g.val, by omega⟩) d)
    (hqc : qc (ix2 0 c) = Ideal.exp2 (qe (rowX x b s ⟨h.val * 4 + g.val, by omega⟩)) * ((8⁻¹ * (Real.log 2)⁻¹ : ℝ) : EReal)) :
    cR x3 x10 x5 x11 h q qc qb hqb (ix2 d c) =
      att (sc x kc ks b h g s) (fun k => vt (ix5 b h ⟨k.val / 128, by omega⟩ d ⟨k.val % 128, by omega⟩)) (vs (ix3 b 0 ⟨h.val * 64 + d.val, by omega⟩)) := by
  have hg : 0 < Ideal.exp2 (qe (rowX x b s ⟨h.val * 4 + g.val, by omega⟩)) * ((8⁻¹ : ℝ) : EReal) :=
    EReal.mul_pos (scale_pos _) (EReal.coe_pos.mpr (by norm_num))
  have e : qc (ix2 0 c) = Ideal.exp2 (qe (rowX x b s ⟨h.val * 4 + g.val, by omega⟩)) * ((8⁻¹ : ℝ) : EReal) * (rl : EReal) := by
    rw [hqc, EReal.coe_mul, mul_assoc]
  have ev : (fun k : Fin 4096 => vK x5 h d k.val) = fun k => vt (ix5 b h ⟨k.val / 128, by omega⟩ d ⟨k.val % 128, by omega⟩) := by
    funext k
    unfold vK
    rw [dif_pos k.isLt, h5]
  have es : (fun k => uK x3 x10 h q qb c k * (Ideal.exp2 (qe (rowX x b s ⟨h.val * 4 + g.val, by omega⟩)) * ((8⁻¹ : ℝ) : EReal))) = sc x kc ks b h g s :=
    funext fun k => uK_mul x kc ks x3 x10 b h3 h10 h g q qb c s k hs hq
  rw [cR_ap x3 x10 x5 x11 h q qc qb hqb hpos d c, e, h11]
  refine (row (uK x3 x10 h q qb c) (fun k : Fin 4096 => vK x5 h d k.val) _ _ hg).trans ?_
  rw [← es, ← ev]
  rfl

/-! ## The pairs of a tile -/

theorem fac_pos (f : Fin 64 → EReal) : 0 < Ideal.exp2 (qe f) * ((8⁻¹ * (Real.log 2)⁻¹ : ℝ) : EReal) :=
  EReal.mul_pos (scale_pos _) (EReal.coe_pos.mpr (mul_pos (by norm_num) (inv_pos.mpr (Real.log_pos (by norm_num)))))

theorem fac0_pos (w : Vec Ideal S1x128x256 .bf16) (c : Fin 256) : 0 < qFac0 w (ix2 0 c) := by
  rw [qFac0_ap w ⟨c.val / 128, by omega⟩ ⟨c.val % 128, by omega⟩ c (by show c.val = 128 * (c.val / 128) + c.val % 128; omega)]
  exact fac_pos _

theorem fac1_pos (w : Vec Ideal S1x128x256 .bf16) (c : Fin 256) : 0 < qFac1 w (ix2 0 c) := by
  rw [qFac1_ap w ⟨c.val / 128, by omega⟩ ⟨c.val % 128, by omega⟩ c (by show c.val = 128 * (c.val / 128) + c.val % 128; omega)]
  exact fac_pos _

include h2 h3 h10 h5 h11 in
theorem tile7_ap (u : Fin k0_t1_loop.trips) (h : Fin 8) (g : Fin 4) (d : Fin 64) (r : Fin 128) (a : Fin 256) (ha : a.val = 64 * g.val + d.val) :
    tile7 x2 x3 x10 x5 x11 i u h (ix3 0 r a) =
      att (sc x kc ks b h g (qPos i u r)) (fun k => vt (ix5 b h ⟨k.val / 128, by omega⟩ d ⟨k.val % 128, by omega⟩)) (vs (ix3 b 0 ⟨h.val * 64 + d.val, by omega⟩)) := by
  unfold tile7
  rw [outTile_ap _ _ g d r a ha]
  have hs : (qPos i u r).val = 128 * qbN i u + (128 * (g.val % 2) + r.val) % 128 := by
    show 128 * qbN i u + r.val = _
    omega
  by_cases hg : g.val < 2
  · rw [if_pos hg]
    have hc : (⟨128 * (g.val % 2) + r.val, by omega⟩ : Fin 256).val = 128 * (⟨g.val, hg⟩ : Fin 2).val + r.val := by
      show 128 * (g.val % 2) + r.val = 128 * g.val + r.val
      omega
    refine pair_ap x kc ks vt vs x3 x10 x5 x11 b h3 h10 h5 h11 h g _ _ _ _ (fac0_pos _) d _ (qPos i u r) hs (fun d' => ?_) ?_
    · rw [qPair0_ap _ ⟨g.val, hg⟩ d' r _ hc, qRow_eq x x2 b i h2]
    · rw [qFac0_ap _ ⟨g.val, hg⟩ r _ hc, qRow_eq x x2 b i h2]
  · rw [if_neg hg]
    have hg' : g.val - 2 < 2 := by omega
    have hc : (⟨128 * (g.val % 2) + r.val, by omega⟩ : Fin 256).val = 128 * (⟨g.val - 2, hg'⟩ : Fin 2).val + r.val := by
      show 128 * (g.val % 2) + r.val = 128 * (g.val - 2) + r.val
      omega
    have eg : (⟨2 + (⟨g.val - 2, hg'⟩ : Fin 2).val, by omega⟩ : Fin 4) = g := Fin.ext (by show 2 + (g.val - 2) = g.val; omega)
    refine pair_ap x kc ks vt vs x3 x10 x5 x11 b h3 h10 h5 h11 h g _ _ _ _ (fac1_pos _) d _ (qPos i u r) hs (fun d' => ?_) ?_
    · rw [qPair1_ap _ ⟨g.val - 2, hg'⟩ d' r _ hc, eg, qRow_eq x x2 b i h2]
    · rw [qFac1_ap _ ⟨g.val - 2, hg'⟩ r _ hc, eg, qRow_eq x x2 b i h2]

/-! ## The blocks -/

theorem tile9_ap (u : Fin k0_t1_loop.trips) (h : Fin 8) (g : Fin 4) (r : Fin 128) :
    tile9 x2 u h (ix3 0 g r) = qScale (qLoad x2 u h) (ix2 g r) := by
  unfold tile9
  pointwise

theorem qPos_eq (a : Fin 512) (s : Fin 4096) (hs : s.val = 512 * (i 1).val + a.val) : qPos i (uOf a) (rIn a) = s := by
  refine Fin.ext ?_
  rw [hs]
  show 128 * (4 * (i 1).val + a.val / 128) + a.val % 128 = _
  omega

include h2 h3 h10 h5 h11 in
/-- An entry of the first result's block. -/
theorem out7_ap (y : S1x512x2048.Idx) (s : Fin 4096) (hs : s.val = 512 * (i 1).val + (y 1).val) (h : Fin 8) (g : Fin 4) (d : Fin 64)
    (hy : (y 2).val = h.val * 256 + g.val * 64 + d.val) :
    out7 x2 x3 x10 x5 x11 i y =
      att (sc x kc ks b h g s) (fun k => vt (ix5 b h ⟨k.val / 128, by omega⟩ d ⟨k.val % 128, by omega⟩)) (vs (ix3 b 0 ⟨h.val * 64 + d.val, by omega⟩)) := by
  have eh : hOf (y 2) = h := Fin.ext (by show (y 2).val / 256 = h.val; omega)
  unfold out7
  rw [eh]
  refine (tile7_ap x kc ks vt vs x2 x3 x10 x5 x11 b i h2 h3 h10 h5 h11 (uOf (y 1)) h g d (rIn (y 1)) (cIn (y 2)) (by show (y 2).val % 256 = _; omega)).trans ?_
  rw [qPos_eq i (y 1) s hs]

include h2 in
/-- An entry of the second result's block. -/
theorem out8_ap (y : S1x512x2048.Idx) (s : Fin 4096) (hs : s.val = 512 * (i 1).val + (y 1).val) (a : Fin 2048) (hy : a = y 2) :
    out8 x2 y = code (rowX x b s ⟨a.val / 64, by omega⟩) ⟨a.val % 64, by omega⟩ := by
  subst hy
  unfold out8
  have h2048 : (y 2).val < 2048 := (y 2).isLt
  refine (qOut_ap (qLoad x2 (uOf (y 1)) (hOf (y 2))) (rIn (y 1)) (cIn (y 2))).trans ?_
  rw [qRow_eq x x2 b i h2, qPos_eq i (y 1) s hs]
  have e1 : (⟨(hOf (y 2)).val * 4 + (cIn (y 2)).val / 64, by have := (hOf (y 2)).isLt; have := (cIn (y 2)).isLt; omega⟩ : Fin 32) = ⟨(y 2).val / 64, by omega⟩ :=
    Fin.ext (by show (y 2).val / 256 * 4 + (y 2).val % 256 / 64 = (y 2).val / 64; omega)
  have e2 : (⟨(cIn (y 2)).val % 64, by omega⟩ : Fin 64) = ⟨(y 2).val % 64, by omega⟩ :=
    Fin.ext (by show (y 2).val % 256 % 64 = (y 2).val % 64; omega)
  exact congrArg₂ (fun n d => code (rowX x b s n) d) e1 e2

include h2 in
/-- An entry of the third result's block. -/
theorem out9_ap (y : S1x32x512.Idx) (s : Fin 4096) (hs : s.val = 512 * (i 1).val + (y 2).val) (n : Fin 32) (hy : n = y 1) :
    out9 x2 y = Ideal.exp2 (qe (rowX x b s n)) := by
  subst hy
  unfold out9
  have h32 : (y 1).val < 32 := (y 1).isLt
  refine (tile9_ap x2 (uOf (y 2)) (hOf4 (y 1)) (gIn (y 1)) (rIn (y 2))).trans ?_
  rw [qScale_ap, qRow_eq x x2 b i h2, qPos_eq i (y 2) s hs]
  have e1 : (⟨(hOf4 (y 1)).val * 4 + (gIn (y 1)).val, by have := (hOf4 (y 1)).isLt; have := (gIn (y 1)).isLt; omega⟩ : Fin 32) = y 1 :=
    Fin.ext (by show (y 1).val / 4 * 4 + (y 1).val % 4 = (y 1).val; omega)
  exact congrArg (fun n => Ideal.exp2 (qe (rowX x b s n))) e1

end Cert.Proof.KernelIdeal

end
-- ==== Proof.Final.lean ====
/-
  The attention kernel's three results are the reference's: each point's blocks are the reference's at their places, and
  the blocks cover the arrays.
-/
module

public import proofs.«01_k».proof.Defs
public import proofs.«01_k».proof.Proof.Gen.ReferenceIdeal.Value
public import proofs.«01_k».proof.Proof.Region
public import proofs.«01_k».proof.Proof.Point

@[expose] public section

set_option maxRecDepth 16384
set_option maxHeartbeats 400000

noncomputable section

namespace Cert.Proof.KernelIdeal

open Cert.KernelIdeal Cert.KernelIdeal.Gen
open Idealize.ShloMosaic Idealize.ShloMosaic.TcCoe
open Idealize.SL.Sem
open Cert.Proof.Scal
open Cert.Proof.ReferenceIdeal (rowX att sc)

variable (m : (ℓ : Loc nD τ sig) → Buf (Elt Ideal) ℓ) (ρ : Dev nD → PrngReg)

/-- The arguments as launched. -/
abbrev a0 (c : Dev nD) : Vec Ideal S8x4096x2048 .bf16 := m ((c : Thread nD τ).loc main_arg0)
@[inherit_doc a0] abbrev a1 (c : Dev nD) : Vec Ideal S8x8x4096x64 .fp8e4m3 := m ((c : Thread nD τ).loc main_arg1)
@[inherit_doc a0] abbrev a2 (c : Dev nD) : Vec Ideal S8x8x4096 .f32 := m ((c : Thread nD τ).loc main_arg2)
@[inherit_doc a0] abbrev a3 (c : Dev nD) : Vec Ideal S8x8x32x64x128 .fp8e4m3 := m ((c : Thread nD τ).loc main_arg3)
@[inherit_doc a0] abbrev a4 (c : Dev nD) : Vec Ideal S8x1x512 .f32 := m ((c : Thread nD τ).loc main_arg4)

/-- The reference's results of those arguments. -/
def R5 (c : Dev nD) : Vec Ideal S8x4096x2048 .bf16 := Cert.ReferenceIdeal.Value.G5 (F := Ideal) (a0 m c) (a1 m c) (a2 m c) (a3 m c) (a4 m c)
@[inherit_doc R5] def R6 (c : Dev nD) : Vec Ideal S8x4096x2048 .fp8e4m3 := Cert.ReferenceIdeal.Value.G6 (F := Ideal) (a0 m c) (a1 m c) (a2 m c) (a3 m c) (a4 m c)
@[inherit_doc R5] def R7 (c : Dev nD) : Vec Ideal S8x32x4096 .f32 := Cert.ReferenceIdeal.Value.G7 (F := Ideal) (a0 m c) (a1 m c) (a2 m c) (a3 m c) (a4 m c)

theorem pay12_eq (x : Vec Ideal S8x4096x2048 .bf16) (kc : Vec Ideal S8x8x4096x64 .fp8e4m3) (ks : Vec Ideal S8x8x4096 .f32)
    (vt : Vec Ideal S8x8x32x64x128 .fp8e4m3) (vs : Vec Ideal S8x1x512 .f32) :
    Cert.ReferenceIdeal.Gen.k0_pay12 (F := Ideal) x kc ks vt vs = Cert.ReferenceIdeal.Gen.k0_pay6 x := by
  unfold Cert.ReferenceIdeal.Gen.k0_pay12
  exact congrArg Cert.ReferenceIdeal.Gen.k0_pay6 (View.ld_unit_zero (S := Cert.ReferenceIdeal.S8x4096x2048) Cert.ReferenceIdeal.Value.hz0 _ x)

theorem pay13_eq (x : Vec Ideal S8x4096x2048 .bf16) (kc : Vec Ideal S8x8x4096x64 .fp8e4m3) (ks : Vec Ideal S8x8x4096 .f32)
    (vt : Vec Ideal S8x8x32x64x128 .fp8e4m3) (vs : Vec Ideal S8x1x512 .f32) :
    Cert.ReferenceIdeal.Gen.k0_pay13 (F := Ideal) x kc ks vt vs = Cert.ReferenceIdeal.Gen.k0_pay7 x := by
  unfold Cert.ReferenceIdeal.Gen.k0_pay13
  exact congrArg Cert.ReferenceIdeal.Gen.k0_pay7 (View.ld_unit_zero (S := Cert.ReferenceIdeal.S8x4096x2048) Cert.ReferenceIdeal.Value.hz0 _ x)

theorem R5_ap (c : Dev nD) (b h : Fin 8) (g : Fin 4) (s : Fin 4096) (d : Fin 64) :
    R5 m c (ix3 b s ⟨h.val * 256 + g.val * 64 + d.val, by omega⟩) =
      att (sc (a0 m c) (a1 m c) (a2 m c) b h g s) (fun k => a3 m c (ix5 b h ⟨k.val / 128, by omega⟩ d ⟨k.val % 128, by omega⟩)) (a4 m c (ix3 b 0 ⟨h.val * 64 + d.val, by omega⟩)) := by
  unfold R5 Cert.ReferenceIdeal.Value.G5
  rw [pay12_eq, pay13_eq]
  exact Cert.Proof.ReferenceIdeal.out_ap (a0 m c) (a1 m c) (a2 m c) (a3 m c) (a4 m c) b h g s d

/-! ## The blocks' places -/

theorem index5 (t : Fin cfg0.N) : win0_5.index t = ![(grid0.coords t 0).val, (grid0.coords t 1).val, 0] := by
  show ![(BitVec.ofNat 32 (grid0.coords t 0).val).toNat, (BitVec.ofNat 32 (grid0.coords t 1).val).toNat, 0] = _
  rw [cw (grid0.coords t 0), cw (grid0.coords t 1)]

theorem index6 (t : Fin cfg0.N) : win0_6.index t = ![(grid0.coords t 0).val, (grid0.coords t 1).val, 0] := by
  show ![(BitVec.ofNat 32 (grid0.coords t 0).val).toNat, (BitVec.ofNat 32 (grid0.coords t 1).val).toNat, 0] = _
  rw [cw (grid0.coords t 0), cw (grid0.coords t 1)]

theorem index7 (t : Fin cfg0.N) : win0_7.index t = ![(grid0.coords t 0).val, 0, (grid0.coords t 1).val] := by
  show ![(BitVec.ofNat 32 (grid0.coords t 0).val).toNat, 0, (BitVec.ofNat 32 (grid0.coords t 1).val).toNat] = _
  rw [cw (grid0.coords t 0), cw (grid0.coords t 1)]

/-! ## The blocks' contents -/

section Point

variable (c : Dev nD) (t : Fin cfg0.N)

theorem hasQ : HasQ (a0 m c) (iblk m c 0 t) (grid0.coords t 0) (grid0.coords t) := fun r a => iblk0 m c t (ix3 0 r a)

theorem h3 (h : Fin 8) (k : Fin 4096) (d : Fin 64) : (iblk m c 1 t : Vec Ideal S1x8x4096x64 .fp8e4m3) (ix4 0 h k d) = a1 m c (ix4 (grid0.coords t 0) h k d) :=
  iblk1 m c t (ix4 0 h k d)

theorem h10 (h : Fin 8) (k : Fin 4096) (r : Fin 128) : ksT m c t (ix3 h k r) = a2 m c (ix3 (grid0.coords t 0) h k) :=
  iblk2 m c t (ix3 0 h k)

theorem h5 (h : Fin 8) (n : Fin 32) (d : Fin 64) (a : Fin 128) :
    (iblk m c 3 t : Vec Ideal S1x8x32x64x128 .fp8e4m3) (ix5 0 h n d a) = a3 m c (ix5 (grid0.coords t 0) h n d a) :=
  iblk3 m c t (ix5 0 h n d a)

theorem h11 (h : Fin 8) (d : Fin 64) (e : Fin 256) : vsT m c t (ix3 h d e) = a4 m c (ix3 (grid0.coords t 0) 0 ⟨h.val * 64 + d.val, by omega⟩) := by
  refine (iblk4 m c t (ix3 0 0 ⟨64 * h.val + d.val, by omega⟩)).trans (congrArg (a4 m c) (funext fun x => ?_))
  fin_cases x
  · rfl
  · rfl
  · exact Fin.ext (congrArg (· + d.val) (Nat.mul_comm 64 h.val))

/-- Where an entry of the point's blocks lies. -/
def at5 (y : S1x512x2048.Idx) : S8x4096x2048.Idx := ix3 (grid0.coords t 0) ⟨512 * (grid0.coords t 1).val + (y 1).val, row_lt (grid0.coords t 1) (y 1)⟩ (y 2)
@[inherit_doc at5] def at7 (y : S1x32x512.Idx) : S8x32x4096.Idx := ix3 (grid0.coords t 0) (y 1) ⟨512 * (grid0.coords t 1).val + (y 2).val, row_lt (grid0.coords t 1) (y 2)⟩

theorem point5 (y : S1x512x2048.Idx) :
    out7 (iblk m c 0 t) (iblk m c 1 t) (ksT m c t) (iblk m c 3 t) (vsT m c t) (grid0.coords t) y = R5 m c (at5 t y) := by
  have hy : (y 2).val < 2048 := (y 2).isLt
  have e := R5_ap m c (grid0.coords t 0) ⟨(y 2).val / 256, by omega⟩ ⟨(y 2).val % 256 / 64, by omega⟩
    ⟨512 * (grid0.coords t 1).val + (y 1).val, row_lt (grid0.coords t 1) (y 1)⟩ ⟨(y 2).val % 64, by omega⟩
  have ey : (⟨(y 2).val / 256 * 256 + (y 2).val % 256 / 64 * 64 + (y 2).val % 64, by omega⟩ : Fin 2048) = y 2 := Fin.ext (by show (y 2).val / 256 * 256 + (y 2).val % 256 / 64 * 64 + (y 2).val % 64 = (y 2).val; omega)
  refine (out7_ap (a0 m c) (a1 m c) (a2 m c) (a3 m c) (a4 m c) _ _ _ _ _ _ _ (hasQ m c t) (h3 m c t) (h10 m c t) (h5 m c t) (h11 m c t) y _ rfl _ _ _ ?_).trans (e.symm.trans ?_)
  · show (y 2).val = (y 2).val / 256 * 256 + (y 2).val % 256 / 64 * 64 + (y 2).val % 64
    omega
  · exact congrArg (fun z => R5 m c (ix3 _ _ z)) ey

theorem point6 (y : S1x512x2048.Idx) : out8 (iblk m c 0 t) y = R6 m c (at5 t y) :=
  (out8_ap (a0 m c) _ _ _ (hasQ m c t) y _ rfl _ rfl).trans (Cert.Proof.ReferenceIdeal.pay5_ap (a0 m c) _ _ _).symm

theorem point7 (y : S1x32x512.Idx) : out9 (iblk m c 0 t) y = R7 m c (at7 t y) :=
  (out9_ap (a0 m c) _ _ _ (hasQ m c t) y _ rfl _ rfl).trans (Cert.Proof.ReferenceIdeal.pay6_ap (a0 m c) _ _ _).symm

end Point

/-! ## The arrays -/

theorem final5 (c : Dev nD) : (dats m 0 c).arrAt 5 cfg0.N = R5 m c := by
  refine (dats m 0 c).arrAt_eq_of_covers 5 (R5 m c) (by decide +kernel) fun t hf y => ?_
  blk_simp
  rw [after0_5]
  refine (point5 m c t y).trans (congrArg (R5 m c) (funext fun a => Fin.ext ?_))
  have h0 : (y 0).val < 1 := (y 0).isLt
  fin_cases a <;> blk_simp [index5] <;> simp [at5, ix3] <;> omega

theorem final6 (c : Dev nD) : (dats m 0 c).arrAt 6 cfg0.N = R6 m c := by
  refine (dats m 0 c).arrAt_eq_of_covers 6 (R6 m c) (by decide +kernel) fun t hf y => ?_
  blk_simp
  rw [after0_6]
  refine (point6 m c t y).trans (congrArg (R6 m c) (funext fun a => Fin.ext ?_))
  have h0 : (y 0).val < 1 := (y 0).isLt
  fin_cases a <;> blk_simp [index6] <;> simp [at5, ix3] <;> omega

theorem final7 (c : Dev nD) : (dats m 0 c).arrAt 7 cfg0.N = R7 m c := by
  refine (dats m 0 c).arrAt_eq_of_covers 7 (R7 m c) (by decide +kernel) fun t hf y => ?_
  blk_simp
  rw [after0_7]
  refine (point7 m c t y).trans (congrArg (R7 m c) (funext fun a => Fin.ext ?_))
  have h0 : (y 0).val < 1 := (y 0).isLt
  fin_cases a <;> blk_simp [index7] <;> simp [at7, ix3] <;> omega

/-- The kernel's results are the reference's, the arguments unchanged. -/
theorem run : θ_run (defs (F := Ideal)) (onTc (τ := τ) (main (F := Ideal))) ⟨m, fun _ => 0, ρ⟩ fun r => ∀ c : Dev nD,
      r.2.mem ((c.tc : Thread nD τ).loc main_v0_0) = R5 m c
      ∧ r.2.mem ((c.tc : Thread nD τ).loc main_v0_1) = R6 m c
      ∧ r.2.mem ((c.tc : Thread nD τ).loc main_v0_2) = R7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

theorem g_congr {α : Type} (G : Vec Ideal S8x4096x2048 .bf16 → Vec Ideal S8x8x4096x64 .fp8e4m3 → Vec Ideal S8x8x4096 .f32 → Vec Ideal S8x8x32x64x128 .fp8e4m3 → Vec Ideal S8x1x512 .f32 → α)
    {x x' kc kc' ks ks' vt vt' vs vs'} (h0 : x = x') (h1 : kc = kc') (h2 : ks = ks') (h3 : vt = vt') (h4 : vs = vs') : G x kc ks vt vs = G x' kc' ks' vt' vs' := by
  rw [h0, h1, h2, h3, h4]

/-- From the same arguments the kernel and the reference end with the same results. -/
theorem algebraic : Cert.algebraic_KernelIdeal_ReferenceIdeal (hKernelIdeal := Cert.KernelIdeal.Gen.facts) (hReferenceIdeal := Cert.ReferenceIdeal.Gen.facts) := by
  intro m g m' g' _ hm
  refine ⟨R5 m, R6 m, R7 m, run m g, ?_⟩
  refine (θ_run _ _ _).mono (fun _ h c => ?_) (Cert.ReferenceIdeal.Value.run (F := Ideal) m' g')
  obtain ⟨e0, e1, e2, e3, e4⟩ := hm c
  obtain ⟨r0, r1, r2, k⟩ := h c
  exact ⟨r0.trans (g_congr (Cert.ReferenceIdeal.Value.G5 (F := Ideal)) e0 e1 e2 e3 e4), r1.trans (g_congr (Cert.ReferenceIdeal.Value.G6 (F := Ideal)) e0 e1 e2 e3 e4),
    r2.trans (g_congr (Cert.ReferenceIdeal.Value.G7 (F := Ideal)) e0 e1 e2 e3 e4), k⟩

end Cert.Proof.KernelIdeal

end
-- ==== Proof.lean ====
module

public import proofs.«01_k».proof.Defs
public import proofs.«01_k».proof.Proof.Region
public import proofs.«01_k».proof.Proof.Bits.Region
public import proofs.«01_k».proof.Proof.Final

@[expose] public section

noncomputable section

namespace Cert.Proof

open Idealize.ShloMosaic Idealize.SL.Sem

/-- Each program runs and leaves its arguments as they were; each named constant denotes the real it names; from the same
    arguments the kernel and the reference end with the same results. -/
theorem claim : Cert.Claim := ⟨Cert.Kernel.Gen.facts, Cert.KernelIdeal.Gen.facts, Cert.ReferenceIdeal.Gen.facts,
  fun m ρ _ => Cert.Proof.Kernel.frame m ρ,
  fun m ρ _ => Cert.Proof.KernelIdeal.frame m ρ,
  fun m ρ _ => Cert.ReferenceIdeal.Gen.frame m ρ,
  ⟨IdealRules.named_const.statement Cert.KernelIdeal.κ "inv_448" .f32 0x3B124925#32 ((448⁻¹ : ℝ) : EReal) rfl,
  IdealRules.named_const.statement Cert.KernelIdeal.κ "inv_ln2" .f32 0x3FB8AA3B#32 (((Real.log 2)⁻¹ : ℝ) : EReal) rfl,
  IdealRules.named_const.statement Cert.KernelIdeal.κ "qk_log2e" .f32 0x3E38AA3B#32 ((8⁻¹ * (Real.log 2)⁻¹ : ℝ) : EReal) rfl,
  IdealRules.named_const.statement Cert.KernelIdeal.κ "log2_448" .f32 0x410CEAED#32 (((Real.log 448) * (Real.log 2)⁻¹ : ℝ) : EReal) rfl⟩,
  Cert.Proof.KernelIdeal.algebraic⟩

end Cert.Proof

end
